-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 [hPre_routed : Cert.Pre_routed.Facts] (m : (ℓ : Loc Cert.Kernel6.nD Cert.Kernel6.τ Cert.Kernel6.sig) → Buf (Elt Bits) ℓ) : Prop :=
  ∀ c : Dev Cert.Kernel6.nD,
    (Cert.Pre_routed.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3)) (m ((c.tc : Thread Cert.Kernel6.nD Cert.Kernel6.τ).loc Cert.Kernel6.main_arg4)) (m ((c.tc : Thread Cert.Kernel6.nD Cert.Kernel6.τ).loc Cert.Kernel6.main_arg5))) = (fun _ => 1#1)

def Pre_Kernel6Ideal [hPre_routed : Cert.Pre_routed.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_routed.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_routed [hPre_routed : Cert.Pre_routed.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_routed.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))) = (fun _ => 1#1)

def Pre_Kernel7 [hPre_routed : Cert.Pre_routed.Facts] (m : (ℓ : Loc Cert.Kernel7.nD Cert.Kernel7.τ Cert.Kernel7.sig) → Buf (Elt Bits) ℓ) : Prop :=
  ∀ c : Dev Cert.Kernel7.nD,
    (Cert.Pre_routed.fn (F := Bits) (m ((c.tc : Thread Cert.Kernel7.nD Cert.Kernel7.τ).loc Cert.Kernel7.main_arg0)) (m ((c.tc : Thread Cert.Kernel7.nD Cert.Kernel7.τ).loc Cert.Kernel7.main_arg1)) (m ((c.tc : Thread Cert.Kernel7.nD Cert.Kernel7.τ).loc Cert.Kernel7.main_arg2)) (m ((c.tc : Thread Cert.Kernel7.nD Cert.Kernel7.τ).loc Cert.Kernel7.main_arg3)) (m ((c.tc : Thread Cert.Kernel7.nD Cert.Kernel7.τ).loc Cert.Kernel7.main_arg4)) (m ((c.tc : Thread Cert.Kernel7.nD Cert.Kernel7.τ).loc Cert.Kernel7.main_arg5))) = (fun _ => 1#1)

def Pre_Kernel7Ideal [hPre_routed : Cert.Pre_routed.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_routed.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_routed [hPre_routed : Cert.Pre_routed.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_routed.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] [hPre_routed : Cert.Pre_routed.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] [hPre_routed : Cert.Pre_routed.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_routed [hReference6Ideal : Cert.Reference6Ideal.Facts] [hPre_routed : Cert.Pre_routed.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_routed m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] [hPre_routed : Cert.Pre_routed.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] [hPre_routed : Cert.Pre_routed.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Reference7Ideal_pre_routed [hReference7Ideal : Cert.Reference7Ideal.Facts] [hPre_routed : Cert.Pre_routed.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_routed m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] [hPre_routed : Cert.Pre_routed.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v52) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] [hPre_routed : Cert.Pre_routed.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v52) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v19) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v10)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v10) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v15) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v6)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v6) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v31) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v4_0)) (v1 : (c : Dev Cert.Kernel11Ideal.nD) → Buf (Elt Ideal) ((c.tc : Thread Cert.Kernel11Ideal.nD Cert.Kernel11Ideal.τ).loc Cert.Kernel11Ideal.main_v4_1)) (v2 : (c : Dev Cert.Kernel11Ideal.nD) → Buf (Elt Ideal) ((c.tc : Thread Cert.Kernel11Ideal.nD Cert.Kernel11Ideal.τ).loc Cert.Kernel11Ideal.main_v4_2)) (v3 : (c : Dev Cert.Kernel11Ideal.nD) → Buf (Elt Ideal) ((c.tc : Thread Cert.Kernel11Ideal.nD Cert.Kernel11Ideal.τ).loc Cert.Kernel11Ideal.main_v4_3)) (v4 : (c : Dev Cert.Kernel11Ideal.nD) → Buf (Elt Ideal) ((c.tc : Thread Cert.Kernel11Ideal.nD Cert.Kernel11Ideal.τ).loc Cert.Kernel11Ideal.main_v4_4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4_0) = v0 c
          ∧ r.2.mem ((c.tc : Thread Cert.Kernel11Ideal.nD Cert.Kernel11Ideal.τ).loc Cert.Kernel11Ideal.main_v4_1) = v1 c
          ∧ r.2.mem ((c.tc : Thread Cert.Kernel11Ideal.nD Cert.Kernel11Ideal.τ).loc Cert.Kernel11Ideal.main_v4_2) = v2 c
          ∧ r.2.mem ((c.tc : Thread Cert.Kernel11Ideal.nD Cert.Kernel11Ideal.τ).loc Cert.Kernel11Ideal.main_v4_3) = v3 c
          ∧ r.2.mem ((c.tc : Thread Cert.Kernel11Ideal.nD Cert.Kernel11Ideal.τ).loc Cert.Kernel11Ideal.main_v4_4) = v4 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v25) = v0 c
          ∧ r.2.mem ((c.tc : Thread Cert.Reference11Ideal.nD Cert.Reference11Ideal.τ).loc Cert.Reference11Ideal.main_v27) = v1 c
          ∧ r.2.mem ((c.tc : Thread Cert.Reference11Ideal.nD Cert.Reference11Ideal.τ).loc Cert.Reference11Ideal.main_v29) = v2 c
          ∧ r.2.mem ((c.tc : Thread Cert.Reference11Ideal.nD Cert.Reference11Ideal.τ).loc Cert.Reference11Ideal.main_v31) = v3 c
          ∧ r.2.mem ((c.tc : Thread Cert.Reference11Ideal.nD Cert.Reference11Ideal.τ).loc Cert.Reference11Ideal.main_v35) = v4 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite_scores : Cert.Pre_finite_scores.Facts) (hPre_routed : Cert.Pre_routed.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6) (hPre_routed := hPre_routed)
    ∧ quiescent_Kernel6Ideal (hKernel6Ideal := hKernel6Ideal) (hPre_routed := hPre_routed)
    ∧ quiescent_Reference6Ideal (hReference6Ideal := hReference6Ideal)
    ∧ quiescent_Reference6Ideal_pre_routed (hReference6Ideal := hReference6Ideal) (hPre_routed := hPre_routed)
    ∧ quiescent_Kernel7 (hKernel7 := hKernel7) (hPre_routed := hPre_routed)
    ∧ quiescent_Kernel7Ideal (hKernel7Ideal := hKernel7Ideal) (hPre_routed := hPre_routed)
    ∧ quiescent_Reference7Ideal (hReference7Ideal := hReference7Ideal)
    ∧ quiescent_Reference7Ideal_pre_routed (hReference7Ideal := hReference7Ideal) (hPre_routed := hPre_routed)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal) (hPre_routed := hPre_routed)
    ∧ preserves_Kernel7_Kernel7Ideal
    ∧ algebraic_Kernel7Ideal_Reference7Ideal (hKernel7Ideal := hKernel7Ideal) (hReference7Ideal := hReference7Ideal) (hPre_routed := hPre_routed)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_finite_scores.lean ====
abbrev S8x2048x10240 : Shape := ⟨3, ![8, 2048, 10240]⟩
abbrev S8x16x2048 : Shape := ⟨3, ![8, 16, 2048]⟩
abbrev S8x2048x4096 : Shape := ⟨3, ![8, 2048, 4096]⟩
abbrev S_ : Shape := ⟨0, ![]⟩

class Facts : Prop where
  slices_S8x2048x10240_S8x2048x4096_0_0_0 : S8x2048x10240.Slices ![0, 0, 0] S8x2048x4096
  bitsLt_bf16_f32 : FTy.bits .bf16 < FTy.bits .f32
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S8x16x2048 : S_.BroadcastsInDim S8x16x2048 (![] : Fin 0 → Fin S8x16x2048.rank)
  reducesTo_S8x16x2048_S_d0_1_2 : S8x16x2048.ReducesTo [0, 1, 2] S_

variable [Facts]

def fn {F : FTy → Type} [FloatOps F] (main_arg0 : FVec F S8x2048x10240 .bf16) (main_arg1 : FVec F S8x16x2048 .f32) : IVec S_ 1 :=
  let main_v0 : FVec F S8x2048x4096 .bf16 := (extractStridedSlice S8x2048x4096 ![0, 0, 0] · slices_S8x2048x10240_S8x2048x4096_0_0_0) main_arg0
  let main_v1 : FVec F S8x2048x4096 .f32 := (extf .f32 · bitsLt_bf16_f32) main_v0
  let main_v2 : FVec F S8x2048x4096 .f32 := Host.absf main_v1
  let main_cst : FVec F S_ .f32 := constant S_ .f32 0x7F800000#32
  let main_v3 : FVec F S8x2048x4096 .f32 := broadcastInDim S8x2048x4096 ![] bcast_S_S8x2048x4096 main_cst
  let main_v4 : IVec S8x2048x4096 1 := cmpf .olt main_v2 main_v3
  let main_c : IVec S_ 1 := constantI S_ 1 1#1
  let main_v5 : IVec S_ 1 := (fun x v => Host.reduce IntOp.andi x v reducesTo_S8x2048x4096_S_d0_1_2 h_S_) main_v4 main_c
  let main_v6 : FVec F S8x16x2048 .f32 := Host.absf main_arg1
  let main_cst_0 : FVec F S_ .f32 := constant S_ .f32 0x7F800000#32
  let main_v7 : FVec F S8x16x2048 .f32 := broadcastInDim S8x16x2048 ![] bcast_S_S8x16x2048 main_cst_0
  let main_v8 : IVec S8x16x2048 1 := cmpf .olt main_v6 main_v7
  let main_c_1 : IVec S_ 1 := constantI S_ 1 1#1
  let main_v9 : IVec S_ 1 := (fun x v => Host.reduce IntOp.andi x v reducesTo_S8x16x2048_S_d0_1_2 h_S_) main_v8 main_c_1
  let main_v10 : IVec S_ 1 := andi main_v5 main_v9
  main_v10
-- ==== Pre_routed.lean ====
abbrev S144 : Shape := ⟨1, ![144]⟩
abbrev S1 : Shape := ⟨1, ![1]⟩
abbrev S36864x2048 : Shape := ⟨2, ![36864, 2048]⟩
abbrev S2x16x4096x1024 : Shape := ⟨4, ![2, 16, 4096, 1024]⟩
abbrev S2x16x1024x4096 : Shape := ⟨4, ![2, 16, 1024, 4096]⟩
abbrev S_ : Shape := ⟨0, ![]⟩

class Facts : Prop where
  shapeCasts_S1_S_ : S1.ShapeCasts S_
  bcast_S_S144 : S_.BroadcastsInDim S144 (![] : Fin 0 → Fin S144.rank)
  reducesTo_S144_S_d0 : S144.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S144 32) (main_arg1 : IVec S1 32) (main_arg2 : IVec S36864x2048 32) (main_arg3 : FVec F S2x16x4096x1024 .f32) (main_arg4 : FVec F S2x16x4096x1024 .f32) (main_arg5 : FVec F S2x16x1024x4096 .f32) : IVec S_ 1 :=
  let main_v0 : IVec S144 32 := iotaInDim S144 32 0
  let main_v1 : IVec S_ 32 := shapeCast S_ main_arg1 shapeCasts_S1_S_
  let main_v2 : IVec S144 32 := broadcastInDim S144 ![] bcast_S_S144 main_v1
  let main_v3 : IVec S144 1 := cmpi .sge main_v0 main_v2
  let main_c : IVec S_ 32 := constantI S_ 32 0#32
  let main_v4 : IVec S144 32 := broadcastInDim S144 ![] bcast_S_S144 main_c
  let main_v5 : IVec S144 1 := cmpi .sge main_arg0 main_v4
  let main_c_0 : IVec S_ 32 := constantI S_ 32 16#32
  let main_v6 : IVec S144 32 := broadcastInDim S144 ![] bcast_S_S144 main_c_0
  let main_v7 : IVec S144 1 := cmpi .slt main_arg0 main_v6
  let main_v8 : IVec S144 1 := andi main_v5 main_v7
  let main_v9 : IVec S144 1 := ori main_v3 main_v8
  let main_c_1 : IVec S_ 1 := constantI S_ 1 1#1
  let main_v10 : IVec S_ 1 := (fun x v => Host.reduce IntOp.andi x v reducesTo_S144_S_d0 h_S_) main_v9 main_c_1
  let main_c_2 : IVec S_ 32 := constantI S_ 32 1#32
  let main_v11 : IVec S1 32 := broadcastInDim S1 ![] bcast_S_S1 main_c_2
  let main_v12 : IVec S1 1 := cmpi .sge main_arg1 main_v11
  let main_c_3 : IVec S_ 1 := constantI S_ 1 1#1
  let main_v13 : IVec S_ 1 := (fun x v => Host.reduce IntOp.andi x v reducesTo_S1_S_d0 h_S_) main_v12 main_c_3
  let main_v14 : IVec S_ 1 := andi main_v10 main_v13
  main_v14
-- ==== Kernel.lean ====
abbrev S8x2048x10240 : Shape := ⟨3, ![8, 2048, 10240]⟩
abbrev S8x16x2048 : Shape := ⟨3, ![8, 16, 2048]⟩
abbrev S8x16x4x512 : Shape := ⟨4, ![8, 16, 4, 512]⟩
abbrev S8x2048x2048 : Shape := ⟨3, ![8, 2048, 2048]⟩
abbrev S1x2048x512 : Shape := ⟨3, ![1, 2048, 512]⟩
abbrev S1x4x4x512 : Shape := ⟨4, ![1, 4, 4, 512]⟩
abbrev S512x512 : Shape := ⟨2, ![512, 512]⟩
abbrev S1x512x128 : Shape := ⟨3, ![1, 512, 128]⟩
abbrev S512x128 : Shape := ⟨2, ![512, 128]⟩
abbrev S512x1 : Shape := ⟨2, ![512, 1]⟩
abbrev S1x1x1x512 : Shape := ⟨4, ![1, 1, 1, 512]⟩
abbrev S1x512 : Shape := ⟨2, ![1, 512]⟩
abbrev S512 : Shape := ⟨1, ![512]⟩

abbrev nBuf : Space → Nat
  | .hbm => 4
  | .vmem => 10
  | .smem => 0
  | _ => 0

abbrev bufTy : (tb : Table) → Fin (tcTables nBuf tb) → BufTy
  | .hbm, ⟨0, _⟩ => ⟨S8x2048x10240, .bf16⟩
  | .hbm, ⟨1, _⟩ => ⟨S8x16x2048, .f32⟩
  | .hbm, ⟨2, _⟩ => ⟨S8x16x4x512, .f32⟩
  | .hbm, ⟨3, _⟩ => ⟨S8x2048x2048, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x4x4x512, .f32⟩
  | .local _ .vmem, ⟨7, _⟩ => ⟨S1x4x4x512, .f32⟩
  | .local _ .vmem, ⟨8, _⟩ => ⟨S1x2048x512, .bf16⟩
  | .local _ .vmem, ⟨9, _⟩ => ⟨S1x2048x512, .bf16⟩
  | _, _ => ⟨S8x2048x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32 : BitVec 32 := 0#32
  let c4_i32 : BitVec 32 := 4#32
  let v3 : BitVec 32 := Scalar.addi c0_i32 c4_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c512_i32 : BitVec 32 := 512#32
  let v4 : BitVec 32 := Scalar.muli arg7 c512_i32
  v4
def k0_off1 (k0_t1 : Fin k0_t1_loop.trips) : Fin 3 → Nat :=
  let c0 : Index := 0#32
  let c0_i32 : BitVec 32 := 0#32
  let c1_i32 : BitVec 32 := 1#32
  let arg7 : BitVec 32 := Scf.iv c0_i32 c1_i32 k0_t1
  let c512_i32 : BitVec 32 := 512#32
  let v4 : BitVec 32 := Scalar.muli arg7 c512_i32
  let v5 : BitVec 32 := v4
  let v6 : Index := Scalar.indexCast v5
  let c0_1 : Index := 0#32
  ![0, v6.toNat, 0]
def k0_off2 (k0_t1 : Fin k0_t1_loop.trips) : Fin 3 → Nat :=
  let c0_2 : Index := 0#32
  let c0_i32 : BitVec 32 := 0#32
  let c1_i32 : BitVec 32 := 1#32
  let arg7 : BitVec 32 := Scf.iv c0_i32 c1_i32 k0_t1
  let c512_i32 : BitVec 32 := 512#32
  let v4 : BitVec 32 := Scalar.muli arg7 c512_i32
  let v5 : BitVec 32 := v4
  let v9 : Index := Scalar.indexCast v5
  let c128 : Index := 128#32
  ![0, v9.toNat, 128]
def k0_off3 (k0_t1 : Fin k0_t1_loop.trips) : Fin 3 → Nat :=
  let c0_3 : Index := 0#32
  let c0_i32 : BitVec 32 := 0#32
  let c1_i32 : BitVec 32 := 1#32
  let arg7 : BitVec 32 := Scf.iv c0_i32 c1_i32 k0_t1
  let c512_i32 : BitVec 32 := 512#32
  let v4 : BitVec 32 := Scalar.muli arg7 c512_i32
  let v5 : BitVec 32 := v4
  let v12 : Index := Scalar.indexCast v5
  let c256 : Index := 256#32
  ![0, v12.toNat, 256]
def k0_off4 (k0_t1 : Fin k0_t1_loop.trips) : Fin 3 → Nat :=
  let c0_4 : Index := 0#32
  let c0_i32 : BitVec 32 := 0#32
  let c1_i32 : BitVec 32 := 1#32
  let arg7 : BitVec 32 := Scf.iv c0_i32 c1_i32 k0_t1
  let c512_i32 : BitVec 32 := 512#32
  let v4 : BitVec 32 := Scalar.muli arg7 c512_i32
  let v5 : BitVec 32 := v4
  let v15 : Index := Scalar.indexCast v5
  let c384 : Index := 384#32
  ![0, v15.toNat, 384]
@[reducible] def k0_t2_loop (k0_t1 : Fin k0_t1_loop.trips) : Scf.Loop 32 :=
  let c0_i32_16 : BitVec 32 := 0#32
  let c0_i32 : BitVec 32 := 0#32
  let c1_i32 : BitVec 32 := 1#32
  let arg7 : BitVec 32 := Scf.iv c0_i32 c1_i32 k0_t1
  let v30 : BitVec 32 := Scalar.subi arg7 c0_i32_16
  let c1_i32_17 : BitVec 32 := 1#32
  let v32 : BitVec 32 := Scalar.divsi v30 c1_i32_17
  let v33 : BitVec 32 := Scalar.muli v32 c1_i32_17
  let v34 : BitVec 32 := Scalar.addi c0_i32_16 v33
  let c1_i32_18 : BitVec 32 := 1#32
  ⟨c0_i32_16, v34, c1_i32_18⟩
def k0_mult2 (k0_t1 : Fin k0_t1_loop.trips) (k0_t2 : Fin (k0_t2_loop k0_t1).trips) : BitVec 32 :=
  let c0_i32_16 : BitVec 32 := 0#32
  let c1_i32_18 : BitVec 32 := 1#32
  let arg8 : BitVec 32 := Scf.iv c0_i32_16 c1_i32_18 k0_t2
  let c512_i32_78 : BitVec 32 := 512#32
  let v199 : BitVec 32 := Scalar.muli arg8 c512_i32_78
  v199
def k0_off5 (k0_t1 : Fin k0_t1_loop.trips) (k0_t2 : Fin (k0_t2_loop k0_t1).trips) : Fin 3 → Nat :=
  let c0_79 : Index := 0#32
  let c0_i32_16 : BitVec 32 := 0#32
  let c1_i32_18 : BitVec 32 := 1#32
  let arg8 : BitVec 32 := Scf.iv c0_i32_16 c1_i32_18 k0_t2
  let c512_i32_78 : BitVec 32 := 512#32
  let v199 : BitVec 32 := Scalar.muli arg8 c512_i32_78
  let v200 : BitVec 32 := v199
  let v201 : Index := Scalar.indexCast v200
  let c0_80 : Index := 0#32
  ![0, v201.toNat, 0]
def k0_off6 (k0_t1 : Fin k0_t1_loop.trips) (k0_t2 : Fin (k0_t2_loop k0_t1).trips) : Fin 4 → Nat :=
  let c0_85 : Index := 0#32
  let c0_86 : Index := 0#32
  let c0_i32_16 : BitVec 32 := 0#32
  let c1_i32_18 : BitVec 32 := 1#32
  let arg8 : BitVec 32 := Scf.iv c0_i32_16 c1_i32_18 k0_t2
  let v210 : Index := Scalar.indexCast arg8
  let c0_87 : Index := 0#32
  ![0, 0, v210.toNat, 0]
def k0_off7 (k0_t1 : Fin k0_t1_loop.trips) (k0_t2 : Fin (k0_t2_loop k0_t1).trips) : Fin 3 → Nat :=
  let c0_91 : Index := 0#32
  let c0_i32_16 : BitVec 32 := 0#32
  let c1_i32_18 : BitVec 32 := 1#32
  let arg8 : BitVec 32 := Scf.iv c0_i32_16 c1_i32_18 k0_t2
  let c512_i32_78 : BitVec 32 := 512#32
  let v199 : BitVec 32 := Scalar.muli arg8 c512_i32_78
  let v200 : BitVec 32 := v199
  let v232 : Index := Scalar.indexCast v200
  let c128_92 : Index := 128#32
  ![0, v232.toNat, 128]
def k0_off8 (k0_t1 : Fin k0_t1_loop.trips) (k0_t2 : Fin (k0_t2_loop k0_t1).trips) : Fin 4 → Nat :=
  let c0_97 : Index := 0#32
  let c1_98 : Index := 1#32
  let c0_i32_16 : BitVec 32 := 0#32
  let c1_i32_18 : BitVec 32 := 1#32
  let arg8 : BitVec 32 := Scf.iv c0_i32_16 c1_i32_18 k0_t2
  let v241 : Index := Scalar.indexCast arg8
  let c0_99 : Index := 0#32
  ![0, 1, v241.toNat, 0]
def k0_off9 (k0_t1 : Fin k0_t1_loop.trips) (k0_t2 : Fin (k0_t2_loop k0_t1).trips) : Fin 3 → Nat :=
  let c0_103 : Index := 0#32
  let c0_i32_16 : BitVec 32 := 0#32
  let c1_i32_18 : BitVec 32 := 1#32
  let arg8 : BitVec 32 := Scf.iv c0_i32_16 c1_i32_18 k0_t2
  let c512_i32_78 : BitVec 32 := 512#32
  let v199 : BitVec 32 := Scalar.muli arg8 c512_i32_78
  let v200 : BitVec 32 := v199
  let v263 : Index := Scalar.indexCast v200
  let c256_104 : Index := 256#32
  ![0, v263.toNat, 256]
def k0_off10 (k0_t1 : Fin k0_t1_loop.trips) (k0_t2 : Fin (k0_t2_loop k0_t1).trips) : Fin 4 → Nat :=
  let c0_109 : Index := 0#32
  let c2_110 : Index := 2#32
  let c0_i32_16 : BitVec 32 := 0#32
  let c1_i32_18 : BitVec 32 := 1#32
  let arg8 : BitVec 32 := Scf.iv c0_i32_16 c1_i32_18 k0_t2
  let v272 : Index := Scalar.indexCast arg8
  let c0_111 : Index := 0#32
  ![0, 2, v272.toNat, 0]
def k0_off11 (k0_t1 : Fin k0_t1_loop.trips) (k0_t2 : Fin (k0_t2_loop k0_t1).trips) : Fin 3 → Nat :=
  let c0_115 : Index := 0#32
  let c0_i32_16 : BitVec 32 := 0#32
  let c1_i32_18 : BitVec 32 := 1#32
  let arg8 : BitVec 32 := Scf.iv c0_i32_16 c1_i32_18 k0_t2
  let c512_i32_78 : BitVec 32 := 512#32
  let v199 : BitVec 32 := Scalar.muli arg8 c512_i32_78
  let v200 : BitVec 32 := v199
  let v294 : Index := Scalar.indexCast v200
  let c384_116 : Index := 384#32
  ![0, v294.toNat, 384]
def k0_off12 (k0_t1 : Fin k0_t1_loop.trips) (k0_t2 : Fin (k0_t2_loop k0_t1).trips) : Fin 4 → Nat :=
  let c0_121 : Index := 0#32
  let c3_122 : Index := 3#32
  let c0_i32_16 : BitVec 32 := 0#32
  let c1_i32_18 : BitVec 32 := 1#32
  let arg8 : BitVec 32 := Scf.iv c0_i32_16 c1_i32_18 k0_t2
  let v303 : Index := Scalar.indexCast arg8
  let c0_123 : Index := 0#32
  ![0, 3, v303.toNat, 0]
@[reducible] def k0_t3_loop (k0_t1 : Fin k0_t1_loop.trips) : Scf.Loop 32 :=
  let c0_i32_16 : BitVec 32 := 0#32
  let c0_i32 : BitVec 32 := 0#32
  let c1_i32 : BitVec 32 := 1#32
  let arg7 : BitVec 32 := Scf.iv c0_i32 c1_i32 k0_t1
  let v30 : BitVec 32 := Scalar.subi arg7 c0_i32_16
  let c1_i32_17 : BitVec 32 := 1#32
  let v32 : BitVec 32 := Scalar.divsi v30 c1_i32_17
  let v33 : BitVec 32 := Scalar.muli v32 c1_i32_17
  let v34 : BitVec 32 := Scalar.addi c0_i32_16 v33
  let v31 : BitVec 32 := Scalar.addi c0_i32_16 v30
  let c1_i32_19 : BitVec 32 := 1#32
  ⟨v34, v31, c1_i32_19⟩
def k0_mult3 (k0_t1 : Fin k0_t1_loop.trips) (k0_t3 : Fin (k0_t3_loop k0_t1).trips) : BitVec 32 :=
  let c0_i32_16 : BitVec 32 := 0#32
  let c0_i32 : BitVec 32 := 0#32
  let c1_i32 : BitVec 32 := 1#32
  let arg7 : BitVec 32 := Scf.iv c0_i32 c1_i32 k0_t1
  let v30 : BitVec 32 := Scalar.subi arg7 c0_i32_16
  let c1_i32_17 : BitVec 32 := 1#32
  let v32 : BitVec 32 := Scalar.divsi v30 c1_i32_17
  let v33 : BitVec 32 := Scalar.muli v32 c1_i32_17
  let v34 : BitVec 32 := Scalar.addi c0_i32_16 v33
  let c1_i32_19 : BitVec 32 := 1#32
  let arg8 : BitVec 32 := Scf.iv v34 c1_i32_19 k0_t3
  let c512_i32_78 : BitVec 32 := 512#32
  let v199 : BitVec 32 := Scalar.muli arg8 c512_i32_78
  v199
def k0_off13 (k0_t1 : Fin k0_t1_loop.trips) (k0_t3 : Fin (k0_t3_loop k0_t1).trips) : Fin 3 → Nat :=
  let c0_79 : Index := 0#32
  let c0_i32_16 : BitVec 32 := 0#32
  let c0_i32 : BitVec 32 := 0#32
  let c1_i32 : BitVec 32 := 1#32
  let arg7 : BitVec 32 := Scf.iv c0_i32 c1_i32 k0_t1
  let v30 : BitVec 32 := Scalar.subi arg7 c0_i32_16
  let c1_i32_17 : BitVec 32 := 1#32
  let v32 : BitVec 32 := Scalar.divsi v30 c1_i32_17
  let v33 : BitVec 32 := Scalar.muli v32 c1_i32_17
  let v34 : BitVec 32 := Scalar.addi c0_i32_16 v33
  let c1_i32_19 : BitVec 32 := 1#32
  let arg8 : BitVec 32 := Scf.iv v34 c1_i32_19 k0_t3
  let c512_i32_78 : BitVec 32 := 512#32
  let v199 : BitVec 32 := Scalar.muli arg8 c512_i32_78
  let v200 : BitVec 32 := v199
  let v201 : Index := Scalar.indexCast v200
  let c0_80 : Index := 0#32
  ![0, v201.toNat, 0]
def k0_off14 (k0_t1 : Fin k0_t1_loop.trips) (k0_t3 : Fin (k0_t3_loop k0_t1).trips) : Fin 4 → Nat :=
  let c0_85 : Index := 0#32
  let c0_86 : Index := 0#32
  let c0_i32_16 : BitVec 32 := 0#32
  let c0_i32 : BitVec 32 := 0#32
  let c1_i32 : BitVec 32 := 1#32
  let arg7 : BitVec 32 := Scf.iv c0_i32 c1_i32 k0_t1
  let v30 : BitVec 32 := Scalar.subi arg7 c0_i32_16
  let c1_i32_17 : BitVec 32 := 1#32
  let v32 : BitVec 32 := Scalar.divsi v30 c1_i32_17
  let v33 : BitVec 32 := Scalar.muli v32 c1_i32_17
  let v34 : BitVec 32 := Scalar.addi c0_i32_16 v33
  let c1_i32_19 : BitVec 32 := 1#32
  let arg8 : BitVec 32 := Scf.iv v34 c1_i32_19 k0_t3
  let v210 : Index := Scalar.indexCast arg8
  let c0_87 : Index := 0#32
  ![0, 0, v210.toNat, 0]
def k0_off15 (k0_t1 : Fin k0_t1_loop.trips) (k0_t3 : Fin (k0_t3_loop k0_t1).trips) : Fin 3 → Nat :=
  let c0_91 : Index := 0#32
  let c0_i32_16 : BitVec 32 := 0#32
  let c0_i32 : BitVec 32 := 0#32
  let c1_i32 : BitVec 32 := 1#32
  let arg7 : BitVec 32 := Scf.iv c0_i32 c1_i32 k0_t1
  let v30 : BitVec 32 := Scalar.subi arg7 c0_i32_16
  let c1_i32_17 : BitVec 32 := 1#32
  let v32 : BitVec 32 := Scalar.divsi v30 c1_i32_17
  let v33 : BitVec 32 := Scalar.muli v32 c1_i32_17
  let v34 : BitVec 32 := Scalar.addi c0_i32_16 v33
  let c1_i32_19 : BitVec 32 := 1#32
  let arg8 : BitVec 32 := Scf.iv v34 c1_i32_19 k0_t3
  let c512_i32_78 : BitVec 32 := 512#32
  let v199 : BitVec 32 := Scalar.muli arg8 c512_i32_78
  let v200 : BitVec 32 := v199
  let v232 : Index := Scalar.indexCast v200
  let c128_92 : Index := 128#32
  ![0, v232.toNat, 128]
def k0_off16 (k0_t1 : Fin k0_t1_loop.trips) (k0_t3 : Fin (k0_t3_loop k0_t1).trips) : Fin 4 → Nat :=
  let c0_97 : Index := 0#32
  let c1_98 : Index := 1#32
  let c0_i32_16 : BitVec 32 := 0#32
  let c0_i32 : BitVec 32 := 0#32
  let c1_i32 : BitVec 32 := 1#32
  let arg7 : BitVec 32 := Scf.iv c0_i32 c1_i32 k0_t1
  let v30 : BitVec 32 := Scalar.subi arg7 c0_i32_16
  let c1_i32_17 : BitVec 32 := 1#32
  let v32 : BitVec 32 := Scalar.divsi v30 c1_i32_17
  let v33 : BitVec 32 := Scalar.muli v32 c1_i32_17
  let v34 : BitVec 32 := Scalar.addi c0_i32_16 v33
  let c1_i32_19 : BitVec 32 := 1#32
  let arg8 : BitVec 32 := Scf.iv v34 c1_i32_19 k0_t3
  let v241 : Index := Scalar.indexCast arg8
  let c0_99 : Index := 0#32
  ![0, 1, v241.toNat, 0]
def k0_off17 (k0_t1 : Fin k0_t1_loop.trips) (k0_t3 : Fin (k0_t3_loop k0_t1).trips) : Fin 3 → Nat :=
  let c0_103 : Index := 0#32
  let c0_i32_16 : BitVec 32 := 0#32
  let c0_i32 : BitVec 32 := 0#32
  let c1_i32 : BitVec 32 := 1#32
  let arg7 : BitVec 32 := Scf.iv c0_i32 c1_i32 k0_t1
  let v30 : BitVec 32 := Scalar.subi arg7 c0_i32_16
  let c1_i32_17 : BitVec 32 := 1#32
  let v32 : BitVec 32 := Scalar.divsi v30 c1_i32_17
  let v33 : BitVec 32 := Scalar.muli v32 c1_i32_17
  let v34 : BitVec 32 := Scalar.addi c0_i32_16 v33
  let c1_i32_19 : BitVec 32 := 1#32
  let arg8 : BitVec 32 := Scf.iv v34 c1_i32_19 k0_t3
  let c512_i32_78 : BitVec 32 := 512#32
  let v199 : BitVec 32 := Scalar.muli arg8 c512_i32_78
  let v200 : BitVec 32 := v199
  let v263 : Index := Scalar.indexCast v200
  let c256_104 : Index := 256#32
  ![0, v263.toNat, 256]
def k0_off18 (k0_t1 : Fin k0_t1_loop.trips) (k0_t3 : Fin (k0_t3_loop k0_t1).trips) : Fin 4 → Nat :=
  let c0_109 : Index := 0#32
  let c2_110 : Index := 2#32
  let c0_i32_16 : BitVec 32 := 0#32
  let c0_i32 : BitVec 32 := 0#32
  let c1_i32 : BitVec 32 := 1#32
  let arg7 : BitVec 32 := Scf.iv c0_i32 c1_i32 k0_t1
  let v30 : BitVec 32 := Scalar.subi arg7 c0_i32_16
  let c1_i32_17 : BitVec 32 := 1#32
  let v32 : BitVec 32 := Scalar.divsi v30 c1_i32_17
  let v33 : BitVec 32 := Scalar.muli v32 c1_i32_17
  let v34 : BitVec 32 := Scalar.addi c0_i32_16 v33
  let c1_i32_19 : BitVec 32 := 1#32
  let arg8 : BitVec 32 := Scf.iv v34 c1_i32_19 k0_t3
  let v272 : Index := Scalar.indexCast arg8
  let c0_111 : Index := 0#32
  ![0, 2, v272.toNat, 0]
def k0_off19 (k0_t1 : Fin k0_t1_loop.trips) (k0_t3 : Fin (k0_t3_loop k0_t1).trips) : Fin 3 → Nat :=
  let c0_115 : Index := 0#32
  let c0_i32_16 : BitVec 32 := 0#32
  let c0_i32 : BitVec 32 := 0#32
  let c1_i32 : BitVec 32 := 1#32
  let arg7 : BitVec 32 := Scf.iv c0_i32 c1_i32 k0_t1
  let v30 : BitVec 32 := Scalar.subi arg7 c0_i32_16
  let c1_i32_17 : BitVec 32 := 1#32
  let v32 : BitVec 32 := Scalar.divsi v30 c1_i32_17
  let v33 : BitVec 32 := Scalar.muli v32 c1_i32_17
  let v34 : BitVec 32 := Scalar.addi c0_i32_16 v33
  let c1_i32_19 : BitVec 32 := 1#32
  let arg8 : BitVec 32 := Scf.iv v34 c1_i32_19 k0_t3
  let c512_i32_78 : BitVec 32 := 512#32
  let v199 : BitVec 32 := Scalar.muli arg8 c512_i32_78
  let v200 : BitVec 32 := v199
  let v294 : Index := Scalar.indexCast v200
  let c384_116 : Index := 384#32
  ![0, v294.toNat, 384]
def k0_off20 (k0_t1 : Fin k0_t1_loop.trips) (k0_t3 : Fin (k0_t3_loop k0_t1).trips) : Fin 4 → Nat :=
  let c0_121 : Index := 0#32
  let c3_122 : Index := 3#32
  let c0_i32_16 : BitVec 32 := 0#32
  let c0_i32 : BitVec 32 := 0#32
  let c1_i32 : BitVec 32 := 1#32
  let arg7 : BitVec 32 := Scf.iv c0_i32 c1_i32 k0_t1
  let v30 : BitVec 32 := Scalar.subi arg7 c0_i32_16
  let c1_i32_17 : BitVec 32 := 1#32
  let v32 : BitVec 32 := Scalar.divsi v30 c1_i32_17
  let v33 : BitVec 32 := Scalar.muli v32 c1_i32_17
  let v34 : BitVec 32 := Scalar.addi c0_i32_16 v33
  let c1_i32_19 : BitVec 32 := 1#32
  let arg8 : BitVec 32 := Scf.iv v34 c1_i32_19 k0_t3
  let v303 : Index := Scalar.indexCast arg8
  let c0_123 : Index := 0#32
  ![0, 3, v303.toNat, 0]
def k0_mult4 (k0_t1 : Fin k0_t1_loop.trips) : BitVec 32 :=
  let c0_i32 : BitVec 32 := 0#32
  let c1_i32 : BitVec 32 := 1#32
  let arg7 : BitVec 32 := Scf.iv c0_i32 c1_i32 k0_t1
  let c512_i32_20 : BitVec 32 := 512#32
  let v37 : BitVec 32 := Scalar.muli arg7 c512_i32_20
  v37
def k0_off21 (k0_t1 : Fin k0_t1_loop.trips) : Fin 4 → Nat :=
  let c0_27 : Index := 0#32
  let c0_28 : Index := 0#32
  let c0_i32 : BitVec 32 := 0#32
  let c1_i32 : BitVec 32 := 1#32
  let arg7 : BitVec 32 := Scf.iv c0_i32 c1_i32 k0_t1
  let v48 : Index := Scalar.indexCast arg7
  let c0_29 : Index := 0#32
  ![0, 0, v48.toNat, 0]
def k0_off22 (k0_t1 : Fin k0_t1_loop.trips) : Fin 4 → Nat :=
  let c0_40 : Index := 0#32
  let c1 : Index := 1#32
  let c0_i32 : BitVec 32 := 0#32
  let c1_i32 : BitVec 32 := 1#32
  let arg7 : BitVec 32 := Scf.iv c0_i32 c1_i32 k0_t1
  let v81 : Index := Scalar.indexCast arg7
  let c0_41 : Index := 0#32
  ![0, 1, v81.toNat, 0]
def k0_off23 (k0_t1 : Fin k0_t1_loop.trips) : Fin 4 → Nat :=
  let c0_52 : Index := 0#32
  let c2 : Index := 2#32
  let c0_i32 : BitVec 32 := 0#32
  let c1_i32 : BitVec 32 := 1#32
  let arg7 : BitVec 32 := Scf.iv c0_i32 c1_i32 k0_t1
  let v114 : Index := Scalar.indexCast arg7
  let c0_53 : Index := 0#32
  ![0, 2, v114.toNat, 0]
def k0_off24 (k0_t1 : Fin k0_t1_loop.trips) : Fin 4 → Nat :=
  let c0_64 : Index := 0#32
  let c3 : Index := 3#32
  let c0_i32 : BitVec 32 := 0#32
  let c1_i32 : BitVec 32 := 1#32
  let arg7 : BitVec 32 := Scf.iv c0_i32 c1_i32 k0_t1
  let v147 : Index := Scalar.indexCast arg7
  let c0_65 : Index := 0#32
  ![0, 3, v147.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x4x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S8x2048x10240 : Shape := ⟨3, ![8, 2048, 10240]⟩
abbrev S8x16x2048 : Shape := ⟨3, ![8, 16, 2048]⟩
abbrev S8x2048x2048 : Shape := ⟨3, ![8, 2048, 2048]⟩
abbrev S8x2048x16x128 : Shape := ⟨4, ![8, 2048, 16, 128]⟩
abbrev S2048 : Shape := ⟨1, ![2048]⟩
abbrev S8x16x2048x2048 : Shape := ⟨4, ![8, 16, 2048, 2048]⟩
abbrev S_ : Shape := ⟨0, ![]⟩
abbrev S8x16x2048x1 : Shape := ⟨4, ![8, 16, 2048, 1]⟩
abbrev S8x16x1x2048 : Shape := ⟨4, ![8, 16, 1, 2048]⟩
abbrev S2048x1 : Shape := ⟨2, ![2048, 1]⟩
abbrev S1x2048 : Shape := ⟨2, ![1, 2048]⟩
abbrev S2048x2048 : Shape := ⟨2, ![2048, 2048]⟩
abbrev S8x16x128x2048 : Shape := ⟨4, ![8, 16, 128, 2048]⟩

abbrev nBuf : Space → Nat
  | .hbm => 49
  | .vmem => 0
  | .smem => 0
  | _ => 0

abbrev bufTy : (tb : Table) → Fin (tcTables nBuf tb) → BufTy
  | .hbm, ⟨0, _⟩ => ⟨S8x2048x10240, .bf16⟩
  | .hbm, ⟨1, _⟩ => ⟨S8x16x2048, .f32⟩
  | .hbm, ⟨2, _⟩ => ⟨S8x2048x10240, .f32⟩
  | .hbm, ⟨3, _⟩ => ⟨S8x2048x2048, .f32⟩
  | .hbm, ⟨4, _⟩ => ⟨S8x2048x16x128, .f32⟩
  | .hbm, ⟨5, _⟩ => ⟨S8x2048x2048, .f32⟩
  | .hbm, ⟨6, _⟩ => ⟨S8x2048x16x128, .f32⟩
  | .hbm, ⟨7, _⟩ => ⟨S8x2048x2048, .f32⟩
  | .hbm, ⟨8, _⟩ => ⟨S8x2048x16x128, .f32⟩
  | .hbm, ⟨9, _⟩ => ⟨S8x16x2048, .f32⟩
  | .hbm, ⟨10, _⟩ => ⟨S2048, .i32⟩
  | .hbm, ⟨11, _⟩ => ⟨S8x16x2048x2048, .f32⟩
  | .hbm, ⟨12, _⟩ => ⟨S_, .f32⟩
  | .hbm, ⟨13, _⟩ => ⟨S8x16x2048x2048, .f32⟩
  | .hbm, ⟨14, _⟩ => ⟨S8x16x2048x2048, .f32⟩
  | .hbm, ⟨15, _⟩ => ⟨S8x16x2048x1, .f32⟩
  | .hbm, ⟨16, _⟩ => ⟨S8x16x2048x2048, .f32⟩
  | .hbm, ⟨17, _⟩ => ⟨S8x16x2048x2048, .f32⟩
  | .hbm, ⟨18, _⟩ => ⟨S8x16x1x2048, .f32⟩
  | .hbm, ⟨19, _⟩ => ⟨S8x16x2048x2048, .f32⟩
  | .hbm, ⟨20, _⟩ => ⟨S8x16x2048x2048, .f32⟩
  | .hbm, ⟨21, _⟩ => ⟨S2048x1, .i32⟩
  | .hbm, ⟨22, _⟩ => ⟨S1x2048, .i32⟩
  | .hbm, ⟨23, _⟩ => ⟨S2048x2048, .i32⟩
  | .hbm, ⟨24, _⟩ => ⟨S2048x2048, .i32⟩
  | .hbm, ⟨25, _⟩ => ⟨S2048x2048, .i1⟩
  | .hbm, ⟨26, _⟩ => ⟨S_, .f32⟩
  | .hbm, ⟨27, _⟩ => ⟨S_, .f32⟩
  | .hbm, ⟨28, _⟩ => ⟨S8x16x2048x2048, .i1⟩
  | .hbm, ⟨29, _⟩ => ⟨S8x16x2048x2048, .f32⟩
  | .hbm, ⟨30, _⟩ => ⟨S8x16x2048x2048, .f32⟩
  | .hbm, ⟨31, _⟩ => ⟨S_, .f32⟩
  | .hbm, ⟨32, _⟩ => ⟨S8x16x2048, .f32⟩
  | .hbm, ⟨33, _⟩ => ⟨S_, .f32⟩
  | .hbm, ⟨34, _⟩ => ⟨S8x16x2048, .f32⟩
  | .hbm, ⟨35, _⟩ => ⟨S8x16x2048, .f32⟩
  | .hbm, ⟨36, _⟩ => ⟨S8x16x2048x1, .f32⟩
  | .hbm, ⟨37, _⟩ => ⟨S8x16x2048x2048, .f32⟩
  | .hbm, ⟨38, _⟩ => ⟨S8x16x2048x2048, .f32⟩
  | .hbm, ⟨39, _⟩ => ⟨S8x16x2048x2048, .f32⟩
  | .hbm, ⟨40, _⟩ => ⟨S_, .f32⟩
  | .hbm, ⟨41, _⟩ => ⟨S8x16x2048, .f32⟩
  | .hbm, ⟨42, _⟩ => ⟨S8x16x2048x1, .f32⟩
  | .hbm, ⟨43, _⟩ => ⟨S8x16x2048x2048, .f32⟩
  | .hbm, ⟨44, _⟩ => ⟨S8x16x2048x2048, .f32⟩
  | .hbm, ⟨45, _⟩ => ⟨S8x16x128x2048, .f32⟩
  | .hbm, ⟨46, _⟩ => ⟨S8x2048x16x128, .f32⟩
  | .hbm, ⟨47, _⟩ => ⟨S8x2048x2048, .f32⟩
  | .hbm, ⟨48, _⟩ => ⟨S8x2048x2048, .bf16⟩
  | _, _ => ⟨S8x2048x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩

abbrev nD : Nat := 1
abbrev τ : Topo := Topo.v7x

variable {F : FTy → Type} [FloatOps F]
-- ==== Kernel2.lean ====
abbrev S8x2048x4096 : Shape := ⟨3, ![8, 2048, 4096]⟩
abbrev S1x4096x12288 : Shape := ⟨3, ![1, 4096, 12288]⟩
abbrev S1x3x4096 : Shape := ⟨3, ![1, 3, 4096]⟩
abbrev S4096x12288 : Shape := ⟨2, ![4096, 12288]⟩
abbrev S3x4096 : Shape := ⟨2, ![3, 4096]⟩
abbrev S1x2048x4096 : Shape := ⟨3, ![1, 2048, 4096]⟩
abbrev S4096x256 : Shape := ⟨2, ![4096, 256]⟩
abbrev S3x256 : Shape := ⟨2, ![3, 256]⟩
abbrev S1x2048x256 : Shape := ⟨3, ![1, 2048, 256]⟩
abbrev S2048x4096 : Shape := ⟨2, ![2048, 4096]⟩
abbrev S2048x256 : Shape := ⟨2, ![2048, 256]⟩
abbrev S1x256 : Shape := ⟨2, ![1, 256]⟩

abbrev nBuf : Space → Nat
  | .hbm => 7
  | .vmem => 11
  | .smem => 0
  | _ => 0

abbrev bufTy : (tb : Table) → Fin (tcTables nBuf tb) → BufTy
  | .hbm, ⟨0, _⟩ => ⟨S8x2048x4096, .bf16⟩
  | .hbm, ⟨1, _⟩ => ⟨S1x4096x12288, .f32⟩
  | .hbm, ⟨2, _⟩ => ⟨S1x3x4096, .f32⟩
  | .hbm, ⟨3, _⟩ => ⟨S4096x12288, .f32⟩
  | .hbm, ⟨4, _⟩ => ⟨S4096x12288, .bf16⟩
  | .hbm, ⟨5, _⟩ => ⟨S3x4096, .f32⟩
  | .hbm, ⟨6, _⟩ => ⟨S8x2048x4096, .bf16⟩
  | .local _ .vmem, ⟨0, _⟩ => ⟨S1x2048x4096, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S3x256, .f32⟩
  | .local _ .vmem, ⟨8, _⟩ => ⟨S3x256, .f32⟩
  | .local _ .vmem, ⟨9, _⟩ => ⟨S1x2048x256, .bf16⟩
  | .local _ .vmem, ⟨10, _⟩ => ⟨S1x2048x256, .bf16⟩
  | _, _ => ⟨S8x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1x2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8x2048x4096 : Shape := ⟨3, ![8, 2048, 4096]⟩
abbrev S1x4096x12288 : Shape := ⟨3, ![1, 4096, 12288]⟩
abbrev S1x3x4096 : Shape := ⟨3, ![1, 3, 4096]⟩
abbrev S4096x12288 : Shape := ⟨2, ![4096, 12288]⟩
abbrev S8x2048x12288 : Shape := ⟨3, ![8, 2048, 12288]⟩
abbrev S_ : Shape := ⟨0, ![]⟩
abbrev S8x2050x4096 : Shape := ⟨3, ![8, 2050, 4096]⟩
abbrev S1x1x4096 : Shape := ⟨3, ![1, 1, 4096]⟩
abbrev S4096 : Shape := ⟨1, ![4096]⟩

abbrev nBuf : Space → Nat
  | .hbm => 38
  | .vmem => 0
  | .smem => 0
  | _ => 0

abbrev bufTy : (tb : Table) → Fin (tcTables nBuf tb) → BufTy
  | .hbm, ⟨0, _⟩ => ⟨S8x2048x4096, .bf16⟩
  | .hbm, ⟨1, _⟩ => ⟨S1x4096x12288, .f32⟩
  | .hbm, ⟨2, _⟩ => ⟨S1x3x4096, .f32⟩
  | .hbm, ⟨3, _⟩ => ⟨S8x2048x4096, .f32⟩
  | .hbm, ⟨4, _⟩ => ⟨S4096x12288, .f32⟩
  | .hbm, ⟨5, _⟩ => ⟨S8x2048x12288, .f32⟩
  | .hbm, ⟨6, _⟩ => ⟨S8x2048x4096, .f32⟩
  | .hbm, ⟨7, _⟩ => ⟨S8x2048x4096, .f32⟩
  | .hbm, ⟨8, _⟩ => ⟨S8x2048x4096, .f32⟩
  | .hbm, ⟨9, _⟩ => ⟨S8x2048x4096, .f32⟩
  | .hbm, ⟨10, _⟩ => ⟨S_, .i32⟩
  | .hbm, ⟨11, _⟩ => ⟨S_, .f32⟩
  | .hbm, ⟨12, _⟩ => ⟨S8x2050x4096, .f32⟩
  | .hbm, ⟨13, _⟩ => ⟨S8x2048x4096, .f32⟩
  | .hbm, ⟨14, _⟩ => ⟨S1x1x4096, .f32⟩
  | .hbm, ⟨15, _⟩ => ⟨S4096, .f32⟩
  | .hbm, ⟨16, _⟩ => ⟨S1x1x4096, .f32⟩
  | .hbm, ⟨17, _⟩ => ⟨S8x2048x4096, .f32⟩
  | .hbm, ⟨18, _⟩ => ⟨S8x2048x4096, .f32⟩
  | .hbm, ⟨19, _⟩ => ⟨S_, .f32⟩
  | .hbm, ⟨20, _⟩ => ⟨S8x2048x4096, .f32⟩
  | .hbm, ⟨21, _⟩ => ⟨S8x2048x4096, .f32⟩
  | .hbm, ⟨22, _⟩ => ⟨S8x2048x4096, .f32⟩
  | .hbm, ⟨23, _⟩ => ⟨S1x1x4096, .f32⟩
  | .hbm, ⟨24, _⟩ => ⟨S4096, .f32⟩
  | .hbm, ⟨25, _⟩ => ⟨S1x1x4096, .f32⟩
  | .hbm, ⟨26, _⟩ => ⟨S8x2048x4096, .f32⟩
  | .hbm, ⟨27, _⟩ => ⟨S8x2048x4096, .f32⟩
  | .hbm, ⟨28, _⟩ => ⟨S8x2048x4096, .f32⟩
  | .hbm, ⟨29, _⟩ => ⟨S8x2048x4096, .f32⟩
  | .hbm, ⟨30, _⟩ => ⟨S1x1x4096, .f32⟩
  | .hbm, ⟨31, _⟩ => ⟨S4096, .f32⟩
  | .hbm, ⟨32, _⟩ => ⟨S1x1x4096, .f32⟩
  | .hbm, ⟨33, _⟩ => ⟨S8x2048x4096, .f32⟩
  | .hbm, ⟨34, _⟩ => ⟨S8x2048x4096, .f32⟩
  | .hbm, ⟨35, _⟩ => ⟨S8x2048x4096, .f32⟩
  | .hbm, ⟨36, _⟩ => ⟨S8x2048x4096, .f32⟩
  | .hbm, ⟨37, _⟩ => ⟨S8x2048x4096, .bf16⟩
  | _, _ => ⟨S8x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩

abbrev nD : Nat := 1
abbrev τ : Topo := Topo.v7x

variable {F : FTy → Type} [FloatOps F]
-- ==== Kernel3.lean ====
abbrev S8x2048x4096 : Shape := ⟨3, ![8, 2048, 4096]⟩
abbrev S1x4096x4096 : Shape := ⟨3, ![1, 4096, 4096]⟩
abbrev S2x8x24576 : Shape := ⟨3, ![2, 8, 24576]⟩
abbrev S1x8x24576 : Shape := ⟨3, ![1, 8, 24576]⟩
abbrev S8x24576 : Shape := ⟨2, ![8, 24576]⟩
abbrev S8x1x24576 : Shape := ⟨3, ![8, 1, 24576]⟩
abbrev S4096x4096 : Shape := ⟨2, ![4096, 4096]⟩
abbrev S1x1024x4096 : Shape := ⟨3, ![1, 1024, 4096]⟩
abbrev S4096x512 : Shape := ⟨2, ![4096, 512]⟩
abbrev S1x1024x512 : Shape := ⟨3, ![1, 1024, 512]⟩
abbrev S1x1x512 : Shape := ⟨3, ![1, 1, 512]⟩
abbrev S1024x4096 : Shape := ⟨2, ![1024, 4096]⟩
abbrev S1024x512 : Shape := ⟨2, ![1024, 512]⟩
abbrev S1x512 : Shape := ⟨2, ![1, 512]⟩

abbrev nBuf : Space → Nat
  | .hbm => 10
  | .vmem => 10
  | .smem => 0
  | _ => 0

abbrev bufTy : (tb : Table) → Fin (tcTables nBuf tb) → BufTy
  | .hbm, ⟨0, _⟩ => ⟨S8x2048x4096, .bf16⟩
  | .hbm, ⟨1, _⟩ => ⟨S1x4096x4096, .f32⟩
  | .hbm, ⟨2, _⟩ => ⟨S8x2048x4096, .f32⟩
  | .hbm, ⟨3, _⟩ => ⟨S2x8x24576, .f32⟩
  | .hbm, ⟨4, _⟩ => ⟨S1x8x24576, .f32⟩
  | .hbm, ⟨5, _⟩ => ⟨S8x24576, .f32⟩
  | .hbm, ⟨6, _⟩ => ⟨S8x1x24576, .f32⟩
  | .hbm, ⟨7, _⟩ => ⟨S4096x4096, .f32⟩
  | .hbm, ⟨8, _⟩ => ⟨S4096x4096, .bf16⟩
  | .hbm, ⟨9, _⟩ => ⟨S8x2048x4096, .f32⟩
  | .local _ .vmem, ⟨0, _⟩ => ⟨S1x1024x4096, .bf16⟩
  | .local _ .vmem, ⟨1, _⟩ => ⟨S1x1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1x1024x512, .f32⟩
  | .local _ .vmem, ⟨5, _⟩ => ⟨S1x1024x512, .f32⟩
  | .local _ .vmem, ⟨6, _⟩ => ⟨S1x1x512, .f32⟩
  | .local _ .vmem, ⟨7, _⟩ => ⟨S1x1x512, .f32⟩
  | .local _ .vmem, ⟨8, _⟩ => ⟨S1x1024x512, .f32⟩
  | .local _ .vmem, ⟨9, _⟩ => ⟨S1x1024x512, .f32⟩
  | _, _ => ⟨S8x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg2
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Reference3Ideal.lean ====
abbrev S8x2048x4096 : Shape := ⟨3, ![8, 2048, 4096]⟩
abbrev S1x4096x4096 : Shape := ⟨3, ![1, 4096, 4096]⟩
abbrev S2x8x24576 : Shape := ⟨3, ![2, 8, 24576]⟩
abbrev S1x8x24576 : Shape := ⟨3, ![1, 8, 24576]⟩
abbrev S8x24576 : Shape := ⟨2, ![8, 24576]⟩
abbrev S8x4096 : Shape := ⟨2, ![8, 4096]⟩
abbrev S4096x4096 : Shape := ⟨2, ![4096, 4096]⟩
abbrev S8x1x4096 : Shape := ⟨3, ![8, 1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8x2048x4096, .bf16⟩
  | .hbm, ⟨1, _⟩ => ⟨S1x4096x4096, .f32⟩
  | .hbm, ⟨2, _⟩ => ⟨S8x2048x4096, .f32⟩
  | .hbm, ⟨3, _⟩ => ⟨S2x8x24576, .f32⟩
  | .hbm, ⟨4, _⟩ => ⟨S1x8x24576, .f32⟩
  | .hbm, ⟨5, _⟩ => ⟨S8x24576, .f32⟩
  | .hbm, ⟨6, _⟩ => ⟨S8x4096, .f32⟩
  | .hbm, ⟨7, _⟩ => ⟨S8x4096, .f32⟩
  | .hbm, ⟨8, _⟩ => ⟨S8x4096, .f32⟩
  | .hbm, ⟨9, _⟩ => ⟨S8x4096, .f32⟩
  | .hbm, ⟨10, _⟩ => ⟨S8x4096, .f32⟩
  | .hbm, ⟨11, _⟩ => ⟨S8x4096, .f32⟩
  | .hbm, ⟨12, _⟩ => ⟨S8x2048x4096, .f32⟩
  | .hbm, ⟨13, _⟩ => ⟨S4096x4096, .f32⟩
  | .hbm, ⟨14, _⟩ => ⟨S8x2048x4096, .f32⟩
  | .hbm, ⟨15, _⟩ => ⟨S8x1x4096, .f32⟩
  | .hbm, ⟨16, _⟩ => ⟨S8x2048x4096, .f32⟩
  | .hbm, ⟨17, _⟩ => ⟨S8x2048x4096, .f32⟩
  | .hbm, ⟨18, _⟩ => ⟨S8x2048x4096, .f32⟩
  | _, _ => ⟨S8x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Kernel4.lean ====
abbrev S8x2048x4096 : Shape := ⟨3, ![8, 2048, 4096]⟩
abbrev S1x4096x10608 : Shape := ⟨3, ![1, 4096, 10608]⟩
abbrev S4096x10608 : Shape := ⟨2, ![4096, 10608]⟩
abbrev S4096x6144 : Shape := ⟨2, ![4096, 6144]⟩
abbrev S4096x2048 : Shape := ⟨2, ![4096, 2048]⟩
abbrev S4096x10240 : Shape := ⟨2, ![4096, 10240]⟩
abbrev S8x2048x10240 : Shape := ⟨3, ![8, 2048, 10240]⟩
abbrev S1x1024x4096 : Shape := ⟨3, ![1, 1024, 4096]⟩
abbrev S4096x1024 : Shape := ⟨2, ![4096, 1024]⟩
abbrev S1x1024x1024 : Shape := ⟨3, ![1, 1024, 1024]⟩
abbrev S1024x4096 : Shape := ⟨2, ![1024, 4096]⟩
abbrev S1024x1024 : Shape := ⟨2, ![1024, 1024]⟩

abbrev nBuf : Space → Nat
  | .hbm => 9
  | .vmem => 6
  | .smem => 0
  | _ => 0

abbrev bufTy : (tb : Table) → Fin (tcTables nBuf tb) → BufTy
  | .hbm, ⟨0, _⟩ => ⟨S8x2048x4096, .bf16⟩
  | .hbm, ⟨1, _⟩ => ⟨S1x4096x10608, .f32⟩
  | .hbm, ⟨2, _⟩ => ⟨S4096x10608, .f32⟩
  | .hbm, ⟨3, _⟩ => ⟨S4096x6144, .f32⟩
  | .hbm, ⟨4, _⟩ => ⟨S4096x2048, .f32⟩
  | .hbm, ⟨5, _⟩ => ⟨S4096x2048, .f32⟩
  | .hbm, ⟨6, _⟩ => ⟨S4096x10240, .f32⟩
  | .hbm, ⟨7, _⟩ => ⟨S4096x10240, .bf16⟩
  | .hbm, ⟨8, _⟩ => ⟨S8x2048x10240, .bf16⟩
  | .local _ .vmem, ⟨0, _⟩ => ⟨S1x1024x4096, .bf16⟩
  | .local _ .vmem, ⟨1, _⟩ => ⟨S1x1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | _, _ => ⟨S8x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 10], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference4Ideal.lean ====
abbrev S8x2048x4096 : Shape := ⟨3, ![8, 2048, 4096]⟩
abbrev S1x4096x10608 : Shape := ⟨3, ![1, 4096, 10608]⟩
abbrev S4096x10608 : Shape := ⟨2, ![4096, 10608]⟩
abbrev S8x2048x10608 : Shape := ⟨3, ![8, 2048, 10608]⟩
abbrev S8x2048x2048 : Shape := ⟨3, ![8, 2048, 2048]⟩
abbrev S8x2048x16 : Shape := ⟨3, ![8, 2048, 16]⟩
abbrev S8x2048x256 : Shape := ⟨3, ![8, 2048, 256]⟩
abbrev S8x2048x64 : Shape := ⟨3, ![8, 2048, 64]⟩
abbrev S8x2048x32 : Shape := ⟨3, ![8, 2048, 32]⟩
abbrev S8x2048x10240 : Shape := ⟨3, ![8, 2048, 10240]⟩

abbrev nBuf : Space → Nat
  | .hbm => 16
  | .vmem => 0
  | .smem => 0
  | _ => 0

abbrev bufTy : (tb : Table) → Fin (tcTables nBuf tb) → BufTy
  | .hbm, ⟨0, _⟩ => ⟨S8x2048x4096, .bf16⟩
  | .hbm, ⟨1, _⟩ => ⟨S1x4096x10608, .f32⟩
  | .hbm, ⟨2, _⟩ => ⟨S8x2048x4096, .f32⟩
  | .hbm, ⟨3, _⟩ => ⟨S4096x10608, .f32⟩
  | .hbm, ⟨4, _⟩ => ⟨S8x2048x10608, .f32⟩
  | .hbm, ⟨5, _⟩ => ⟨S8x2048x2048, .f32⟩
  | .hbm, ⟨6, _⟩ => ⟨S8x2048x2048, .f32⟩
  | .hbm, ⟨7, _⟩ => ⟨S8x2048x2048, .f32⟩
  | .hbm, ⟨8, _⟩ => ⟨S8x2048x16, .f32⟩
  | .hbm, ⟨9, _⟩ => ⟨S8x2048x2048, .f32⟩
  | .hbm, ⟨10, _⟩ => ⟨S8x2048x256, .f32⟩
  | .hbm, ⟨11, _⟩ => ⟨S8x2048x2048, .f32⟩
  | .hbm, ⟨12, _⟩ => ⟨S8x2048x64, .f32⟩
  | .hbm, ⟨13, _⟩ => ⟨S8x2048x32, .f32⟩
  | .hbm, ⟨14, _⟩ => ⟨S8x2048x10240, .f32⟩
  | .hbm, ⟨15, _⟩ => ⟨S8x2048x10240, .bf16⟩
  | _, _ => ⟨S8x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩

abbrev nD : Nat := 1
abbrev τ : Topo := Topo.v7x

variable {F : FTy → Type} [FloatOps F]
-- ==== Kernel5.lean ====
abbrev S8x2048x2048 : Shape := ⟨3, ![8, 2048, 2048]⟩
abbrev S1x4096x4096 : Shape := ⟨3, ![1, 4096, 4096]⟩
abbrev S8x2048x4096 : Shape := ⟨3, ![8, 2048, 4096]⟩
abbrev S2x8x24576 : Shape := ⟨3, ![2, 8, 24576]⟩
abbrev S1x8x24576 : Shape := ⟨3, ![1, 8, 24576]⟩
abbrev S8x24576 : Shape := ⟨2, ![8, 24576]⟩
abbrev S8x1x24576 : Shape := ⟨3, ![8, 1, 24576]⟩
abbrev S4096x4096 : Shape := ⟨2, ![4096, 4096]⟩
abbrev S2048x4096 : Shape := ⟨2, ![2048, 4096]⟩
abbrev S1x1024x2048 : Shape := ⟨3, ![1, 1024, 2048]⟩
abbrev S2048x512 : Shape := ⟨2, ![2048, 512]⟩
abbrev S1x1024x512 : Shape := ⟨3, ![1, 1024, 512]⟩
abbrev S1x1x512 : Shape := ⟨3, ![1, 1, 512]⟩
abbrev S1024x2048 : Shape := ⟨2, ![1024, 2048]⟩
abbrev S1024x512 : Shape := ⟨2, ![1024, 512]⟩
abbrev S1x512 : Shape := ⟨2, ![1, 512]⟩

abbrev nBuf : Space → Nat
  | .hbm => 13
  | .vmem => 14
  | .smem => 0
  | _ => 0

abbrev bufTy : (tb : Table) → Fin (tcTables nBuf tb) → BufTy
  | .hbm, ⟨0, _⟩ => ⟨S8x2048x2048, .bf16⟩
  | .hbm, ⟨1, _⟩ => ⟨S8x2048x2048, .bf16⟩
  | .hbm, ⟨2, _⟩ => ⟨S1x4096x4096, .f32⟩
  | .hbm, ⟨3, _⟩ => ⟨S8x2048x4096, .f32⟩
  | .hbm, ⟨4, _⟩ => ⟨S2x8x24576, .f32⟩
  | .hbm, ⟨5, _⟩ => ⟨S1x8x24576, .f32⟩
  | .hbm, ⟨6, _⟩ => ⟨S8x24576, .f32⟩
  | .hbm, ⟨7, _⟩ => ⟨S8x1x24576, .f32⟩
  | .hbm, ⟨8, _⟩ => ⟨S4096x4096, .f32⟩
  | .hbm, ⟨9, _⟩ => ⟨S4096x4096, .bf16⟩
  | .hbm, ⟨10, _⟩ => ⟨S2048x4096, .bf16⟩
  | .hbm, ⟨11, _⟩ => ⟨S2048x4096, .bf16⟩
  | .hbm, ⟨12, _⟩ => ⟨S8x2048x4096, .f32⟩
  | .local _ .vmem, ⟨0, _⟩ => ⟨S1x1024x2048, .bf16⟩
  | .local _ .vmem, ⟨1, _⟩ => ⟨S1x1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S2048x512, .bf16⟩
  | .local _ .vmem, ⟨7, _⟩ => ⟨S2048x512, .bf16⟩
  | .local _ .vmem, ⟨8, _⟩ => ⟨S1x1024x512, .f32⟩
  | .local _ .vmem, ⟨9, _⟩ => ⟨S1x1024x512, .f32⟩
  | .local _ .vmem, ⟨10, _⟩ => ⟨S1x1x512, .f32⟩
  | .local _ .vmem, ⟨11, _⟩ => ⟨S1x1x512, .f32⟩
  | .local _ .vmem, ⟨12, _⟩ => ⟨S1x1024x512, .f32⟩
  | .local _ .vmem, ⟨13, _⟩ => ⟨S1x1024x512, .f32⟩
  | _, _ => ⟨S8x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 2, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg2
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Reference5Ideal.lean ====
abbrev S8x2048x2048 : Shape := ⟨3, ![8, 2048, 2048]⟩
abbrev S1x4096x4096 : Shape := ⟨3, ![1, 4096, 4096]⟩
abbrev S8x2048x4096 : Shape := ⟨3, ![8, 2048, 4096]⟩
abbrev S2x8x24576 : Shape := ⟨3, ![2, 8, 24576]⟩
abbrev S1x8x24576 : Shape := ⟨3, ![1, 8, 24576]⟩
abbrev S8x24576 : Shape := ⟨2, ![8, 24576]⟩
abbrev S8x4096 : Shape := ⟨2, ![8, 4096]⟩
abbrev S4096x4096 : Shape := ⟨2, ![4096, 4096]⟩
abbrev S8x1x4096 : Shape := ⟨3, ![8, 1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S8x2048x2048, .bf16⟩
  | .hbm, ⟨1, _⟩ => ⟨S8x2048x2048, .bf16⟩
  | .hbm, ⟨2, _⟩ => ⟨S1x4096x4096, .f32⟩
  | .hbm, ⟨3, _⟩ => ⟨S8x2048x4096, .f32⟩
  | .hbm, ⟨4, _⟩ => ⟨S2x8x24576, .f32⟩
  | .hbm, ⟨5, _⟩ => ⟨S1x8x24576, .f32⟩
  | .hbm, ⟨6, _⟩ => ⟨S8x24576, .f32⟩
  | .hbm, ⟨7, _⟩ => ⟨S8x4096, .f32⟩
  | .hbm, ⟨8, _⟩ => ⟨S8x4096, .f32⟩
  | .hbm, ⟨9, _⟩ => ⟨S8x4096, .f32⟩
  | .hbm, ⟨10, _⟩ => ⟨S8x4096, .f32⟩
  | .hbm, ⟨11, _⟩ => ⟨S8x4096, .f32⟩
  | .hbm, ⟨12, _⟩ => ⟨S8x4096, .f32⟩
  | .hbm, ⟨13, _⟩ => ⟨S8x2048x2048, .f32⟩
  | .hbm, ⟨14, _⟩ => ⟨S8x2048x2048, .f32⟩
  | .hbm, ⟨15, _⟩ => ⟨S8x2048x4096, .f32⟩
  | .hbm, ⟨16, _⟩ => ⟨S4096x4096, .f32⟩
  | .hbm, ⟨17, _⟩ => ⟨S8x2048x4096, .f32⟩
  | .hbm, ⟨18, _⟩ => ⟨S8x1x4096, .f32⟩
  | .hbm, ⟨19, _⟩ => ⟨S8x2048x4096, .f32⟩
  | .hbm, ⟨20, _⟩ => ⟨S8x2048x4096, .f32⟩
  | .hbm, ⟨21, _⟩ => ⟨S8x2048x4096, .f32⟩
  | _, _ => ⟨S8x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Kernel6.lean ====
abbrev S144 : Shape := ⟨1, ![144]⟩
abbrev S1 : Shape := ⟨1, ![1]⟩
abbrev S36864x2048 : Shape := ⟨2, ![36864, 2048]⟩
abbrev S2x16x4096x1024 : Shape := ⟨4, ![2, 16, 4096, 1024]⟩
abbrev S2x16x1024x4096 : Shape := ⟨4, ![2, 16, 1024, 4096]⟩
abbrev S36864x4096 : Shape := ⟨2, ![36864, 4096]⟩
abbrev S256x2048 : Shape := ⟨2, ![256, 2048]⟩
abbrev S256x4096 : Shape := ⟨2, ![256, 4096]⟩
abbrev S4096x1024 : Shape := ⟨2, ![4096, 1024]⟩
abbrev S1024x4096 : Shape := ⟨2, ![1024, 4096]⟩
abbrev S3x512x1024 : Shape := ⟨3, ![3, 512, 1024]⟩
abbrev S3x128x4096 : Shape := ⟨3, ![3, 128, 4096]⟩
abbrev S3 : Shape := ⟨1, ![3]⟩
abbrev S_ : Shape := ⟨0, ![]⟩
abbrev S1x512x1024 : Shape := ⟨3, ![1, 512, 1024]⟩
abbrev S512x1024 : Shape := ⟨2, ![512, 1024]⟩
abbrev S1x1x512x1024 : Shape := ⟨4, ![1, 1, 512, 1024]⟩
abbrev S1x128x4096 : Shape := ⟨3, ![1, 128, 4096]⟩
abbrev S128x4096 : Shape := ⟨2, ![128, 4096]⟩
abbrev S1x1x128x4096 : Shape := ⟨4, ![1, 1, 128, 4096]⟩
abbrev S256x1024 : Shape := ⟨2, ![256, 1024]⟩

abbrev nBuf : Space → Nat
  | .hbm => 5
  | .vmem => 9
  | .smem => 2
  | _ => 0

abbrev bufTy : (tb : Table) → Fin (tcTables nBuf tb) → BufTy
  | .hbm, ⟨0, _⟩ => ⟨S36864x2048, .i32⟩
  | .hbm, ⟨1, _⟩ => ⟨S2x16x4096x1024, .f32⟩
  | .hbm, ⟨2, _⟩ => ⟨S2x16x4096x1024, .f32⟩
  | .hbm, ⟨3, _⟩ => ⟨S2x16x1024x4096, .f32⟩
  | .hbm, ⟨4, _⟩ => ⟨S36864x4096, .f32⟩
  | .local _ .vmem, ⟨0, _⟩ => ⟨S256x2048, .i32⟩
  | .local _ .vmem, ⟨1, _⟩ => ⟨S256x2048, .i32⟩
  | .local _ .vmem, ⟨2, _⟩ => ⟨S256x4096, .f32⟩
  | .local _ .vmem, ⟨3, _⟩ => ⟨S256x4096, .f32⟩
  | .local _ .vmem, ⟨4, _⟩ => ⟨S4096x1024, .bf16⟩
  | .local _ .vmem, ⟨5, _⟩ => ⟨S4096x1024, .bf16⟩
  | .local _ .vmem, ⟨6, _⟩ => ⟨S1024x4096, .bf16⟩
  | .local _ .vmem, ⟨7, _⟩ => ⟨S3x512x1024, .f32⟩
  | .local _ .vmem, ⟨8, _⟩ => ⟨S3x128x4096, .f32⟩
  | .local _ .smem, ⟨0, _⟩ => ⟨S144, .i32⟩
  | .local _ .smem, ⟨1, _⟩ => ⟨S1, .i32⟩
  | _, _ => ⟨S36864x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![144], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_off3 (v1 : BitVec 32) : Fin 4 → Nat :=
  let c0_i32_4 : BitVec 32 := 0#32
  let c0_i32_9 : BitVec 32 := 0#32
  let c0_i32_10 : BitVec 32 := 0#32
  ![0, v1.toNat, 0, 0]
def k0_cond1 (i : grid0.Coords) (v1 : BitVec 32) (v2 : BitVec 32) (v8 : BitVec 32) : BitVec 1 :=
  let arg0 : BitVec 32 := BitVec.ofNat 32 (i 0).val
  let v3 : BitVec 1 := Scalar.cmpi .slt arg0 v2
  let c0_i32 : BitVec 32 := 0#32
  let v4 : BitVec 1 := Scalar.cmpi .eq arg0 c0_i32
  let v9 : BitVec 1 := Scalar.cmpi .ne v1 v8
  let v10 : BitVec 1 := Scalar.ori v4 v9
  let v11 : BitVec 1 := Scalar.andi v3 v10
  let v12 : BitVec 32 := Scalar.extui v11
  let c0_i32_1 : BitVec 32 := 0#32
  let v13 : BitVec 1 := Scalar.cmpi .ne v12 c0_i32_1
  v13

def k0_off4 (v1 : BitVec 32) : Fin 4 → Nat :=
  let c0_i32_11 : BitVec 32 := 0#32
  let c512_i32 : BitVec 32 := 512#32
  let c0_i32_16 : BitVec 32 := 0#32
  ![0, v1.toNat, 512, 0]
def k0_off5 (v1 : BitVec 32) : Fin 4 → Nat :=
  let c0_i32_17 : BitVec 32 := 0#32
  let c1024_i32 : BitVec 32 := 1024#32
  let c0_i32_21 : BitVec 32 := 0#32
  ![0, v1.toNat, 1024, 0]
def k0_off6 (v1 : BitVec 32) : Fin 4 → Nat :=
  let c0_i32_34 : BitVec 32 := 0#32
  let c1536_i32 : BitVec 32 := 1536#32
  let c0_i32_39 : BitVec 32 := 0#32
  ![0, v1.toNat, 1536, 0]
def k0_off7 (v1 : BitVec 32) : Fin 4 → Nat :=
  let c0_i32_50 : BitVec 32 := 0#32
  let c2048_i32 : BitVec 32 := 2048#32
  let c0_i32_55 : BitVec 32 := 0#32
  ![0, v1.toNat, 2048, 0]
def k0_off8 (v1 : BitVec 32) : Fin 4 → Nat :=
  let c0_i32_66 : BitVec 32 := 0#32
  let c2560_i32 : BitVec 32 := 2560#32
  let c0_i32_71 : BitVec 32 := 0#32
  ![0, v1.toNat, 2560, 0]
def k0_off9 (v1 : BitVec 32) : Fin 4 → Nat :=
  let c0_i32_83 : BitVec 32 := 0#32
  let c3072_i32 : BitVec 32 := 3072#32
  let c0_i32_88 : BitVec 32 := 0#32
  ![0, v1.toNat, 3072, 0]
def k0_off10 (v1 : BitVec 32) : Fin 4 → Nat :=
  let c0_i32_100 : BitVec 32 := 0#32
  let c3584_i32 : BitVec 32 := 3584#32
  let c0_i32_105 : BitVec 32 := 0#32
  ![0, v1.toNat, 3584, 0]
def k0_off11 (v1 : BitVec 32) : Fin 4 → Nat :=
  let c0_i32_267 : BitVec 32 := 0#32
  let c0_i32_272 : BitVec 32 := 0#32
  let c0_i32_273 : BitVec 32 := 0#32
  ![0, v1.toNat, 0, 0]
def k0_off12 (v1 : BitVec 32) : Fin 4 → Nat :=
  let c0_i32_286 : BitVec 32 := 0#32
  let c128_i32 : BitVec 32 := 128#32
  let c0_i32_291 : BitVec 32 := 0#32
  ![0, v1.toNat, 128, 0]
def k0_off13 (v1 : BitVec 32) : Fin 4 → Nat :=
  let c0_i32_304 : BitVec 32 := 0#32
  let c256_i32 : BitVec 32 := 256#32
  let c0_i32_309 : BitVec 32 := 0#32
  ![0, v1.toNat, 256, 0]
def k0_off14 (v1 : BitVec 32) : Fin 4 → Nat :=
  let c0_i32_322 : BitVec 32 := 0#32
  let c384_i32 : BitVec 32 := 384#32
  let c0_i32_327 : BitVec 32 := 0#32
  ![0, v1.toNat, 384, 0]
def k0_off15 (v1 : BitVec 32) : Fin 4 → Nat :=
  let c0_i32_339 : BitVec 32 := 0#32
  let c512_i32_344 : BitVec 32 := 512#32
  let c0_i32_345 : BitVec 32 := 0#32
  ![0, v1.toNat, 512, 0]
def k0_off16 (v1 : BitVec 32) : Fin 4 → Nat :=
  let c0_i32_357 : BitVec 32 := 0#32
  let c640_i32 : BitVec 32 := 640#32
  let c0_i32_362 : BitVec 32 := 0#32
  ![0, v1.toNat, 640, 0]
def k0_off17 (v1 : BitVec 32) : Fin 4 → Nat :=
  let c0_i32_374 : BitVec 32 := 0#32
  let c768_i32 : BitVec 32 := 768#32
  let c0_i32_379 : BitVec 32 := 0#32
  ![0, v1.toNat, 768, 0]
def k0_off18 (v1 : BitVec 32) : Fin 4 → Nat :=
  let c0_i32_392 : BitVec 32 := 0#32
  let c896_i32 : BitVec 32 := 896#32
  let c0_i32_397 : BitVec 32 := 0#32
  ![0, v1.toNat, 896, 0]

def k0_chk1 (i : grid0.Coords) (v1 : BitVec 32) (v2 : BitVec 32) (v8 : BitVec 32) : Prop :=
  (∀ (k0_h1 : k0_cond1 i v1 v2 v8 = 1#1), ∀ a, (k0_off3 v1) a + S1x1x512x1024.size a ≤ S2x16x4096x1024.size a) ∧
  (∀ (k0_h1 : k0_cond1 i v1 v2 v8 = 1#1), ∀ a, (k0_off4 v1) a + S1x1x512x1024.size a ≤ S2x16x4096x1024.size a) ∧
  (∀ (k0_h1 : k0_cond1 i v1 v2 v8 = 1#1), ∀ a, (k0_off5 v1) a + S1x1x512x1024.size a ≤ S2x16x4096x1024.size a) ∧
  (∀ (k0_h1 : k0_cond1 i v1 v2 v8 = 1#1), ∀ a, (k0_off6 v1) a + S1x1x512x1024.size a ≤ S2x16x4096x1024.size a) ∧
  (∀ (k0_h1 : k0_cond1 i v1 v2 v8 = 1#1), ∀ a, (k0_off7 v1) a + S1x1x512x1024.size a ≤ S2x16x4096x1024.size a) ∧
  (∀ (k0_h1 : k0_cond1 i v1 v2 v8 = 1#1), ∀ a, (k0_off8 v1) a + S1x1x512x1024.size a ≤ S2x16x4096x1024.size a) ∧
  (∀ (k0_h1 : k0_cond1 i v1 v2 v8 = 1#1), ∀ a, (k0_off9 v1) a + S1x1x512x1024.size a ≤ S2x16x4096x1024.size a) ∧
  (∀ (k0_h1 : k0_cond1 i v1 v2 v8 = 1#1), ∀ a, (k0_off10 v1) a + S1x1x512x1024.size a ≤ S2x16x4096x1024.size a) ∧
  (∀ (k0_h1 : k0_cond1 i v1 v2 v8 = 1#1), ∀ a, (k0_off11 v1) a + S1x1x128x4096.size a ≤ S2x16x1024x4096.size a) ∧
  (∀ (k0_h1 : k0_cond1 i v1 v2 v8 = 1#1), ∀ a, (k0_off12 v1) a + S1x1x128x4096.size a ≤ S2x16x1024x4096.size a) ∧
  (∀ (k0_h1 : k0_cond1 i v1 v2 v8 = 1#1), ∀ a, (k0_off13 v1) a + S1x1x128x4096.size a ≤ S2x16x1024x4096.size a) ∧
  (∀ (k0_h1 : k0_cond1 i v1 v2 v8 = 1#1), ∀ a, (k0_off14 v1) a + S1x1x128x4096.size a ≤ S2x16x1024x4096.size a) ∧
  (∀ (k0_h1 : k0_cond1 i v1 v2 v8 = 1#1), ∀ a, (k0_off15 v1) a + S1x1x128x4096.size a ≤ S2x16x1024x4096.size a) ∧
  (∀ (k0_h1 : k0_cond1 i v1 v2 v8 = 1#1), ∀ a, (k0_off16 v1) a + S1x1x128x4096.size a ≤ S2x16x1024x4096.size a) ∧
  (∀ (k0_h1 : k0_cond1 i v1 v2 v8 = 1#1), ∀ a, (k0_off17 v1) a + S1x1x128x4096.size a ≤ S2x16x1024x4096.size a) ∧
  (∀ (k0_h1 : k0_cond1 i v1 v2 v8 = 1#1), ∀ a, (k0_off18 v1) a + S1x1x128x4096.size a ≤ S2x16x1024x4096.size a)
theorem k0_off3_inb : ∀ (i : grid0.Coords) (v1 : BitVec 32) (v2 : BitVec 32) (v8 : BitVec 32) (k0_hw1 : k0_chk1 i v1 v2 v8), ∀ (k0_h1 : k0_cond1 i v1 v2 v8 = 1#1), ∀ a, (k0_off3 v1) a + S1x1x512x1024.size a ≤ S2x16x4096x1024.size a := fun i v1 v2 v8 k0_hw1 k0_h1 => k0_hw1.1 k0_h1
theorem k0_off4_inb : ∀ (i : grid0.Coords) (v1 : BitVec 32) (v2 : BitVec 32) (v8 : BitVec 32) (k0_hw1 : k0_chk1 i v1 v2 v8), ∀ (k0_h1 : k0_cond1 i v1 v2 v8 = 1#1), ∀ a, (k0_off4 v1) a + S1x1x512x1024.size a ≤ S2x16x4096x1024.size a := fun i v1 v2 v8 k0_hw1 k0_h1 => k0_hw1.2.1 k0_h1
theorem k0_off5_inb : ∀ (i : grid0.Coords) (v1 : BitVec 32) (v2 : BitVec 32) (v8 : BitVec 32) (k0_hw1 : k0_chk1 i v1 v2 v8), ∀ (k0_h1 : k0_cond1 i v1 v2 v8 = 1#1), ∀ a, (k0_off5 v1) a + S1x1x512x1024.size a ≤ S2x16x4096x1024.size a := fun i v1 v2 v8 k0_hw1 k0_h1 => k0_hw1.2.2.1 k0_h1
theorem k0_off6_inb : ∀ (i : grid0.Coords) (v1 : BitVec 32) (v2 : BitVec 32) (v8 : BitVec 32) (k0_hw1 : k0_chk1 i v1 v2 v8), ∀ (k0_h1 : k0_cond1 i v1 v2 v8 = 1#1), ∀ a, (k0_off6 v1) a + S1x1x512x1024.size a ≤ S2x16x4096x1024.size a := fun i v1 v2 v8 k0_hw1 k0_h1 => k0_hw1.2.2.2.1 k0_h1
theorem k0_off7_inb : ∀ (i : grid0.Coords) (v1 : BitVec 32) (v2 : BitVec 32) (v8 : BitVec 32) (k0_hw1 : k0_chk1 i v1 v2 v8), ∀ (k0_h1 : k0_cond1 i v1 v2 v8 = 1#1), ∀ a, (k0_off7 v1) a + S1x1x512x1024.size a ≤ S2x16x4096x1024.size a := fun i v1 v2 v8 k0_hw1 k0_h1 => k0_hw1.2.2.2.2.1 k0_h1
theorem k0_off8_inb : ∀ (i : grid0.Coords) (v1 : BitVec 32) (v2 : BitVec 32) (v8 : BitVec 32) (k0_hw1 : k0_chk1 i v1 v2 v8), ∀ (k0_h1 : k0_cond1 i v1 v2 v8 = 1#1), ∀ a, (k0_off8 v1) a + S1x1x512x1024.size a ≤ S2x16x4096x1024.size a := fun i v1 v2 v8 k0_hw1 k0_h1 => k0_hw1.2.2.2.2.2.1 k0_h1
theorem k0_off9_inb : ∀ (i : grid0.Coords) (v1 : BitVec 32) (v2 : BitVec 32) (v8 : BitVec 32) (k0_hw1 : k0_chk1 i v1 v2 v8), ∀ (k0_h1 : k0_cond1 i v1 v2 v8 = 1#1), ∀ a, (k0_off9 v1) a + S1x1x512x1024.size a ≤ S2x16x4096x1024.size a := fun i v1 v2 v8 k0_hw1 k0_h1 => k0_hw1.2.2.2.2.2.2.1 k0_h1
theorem k0_off10_inb : ∀ (i : grid0.Coords) (v1 : BitVec 32) (v2 : BitVec 32) (v8 : BitVec 32) (k0_hw1 : k0_chk1 i v1 v2 v8), ∀ (k0_h1 : k0_cond1 i v1 v2 v8 = 1#1), ∀ a, (k0_off10 v1) a + S1x1x512x1024.size a ≤ S2x16x4096x1024.size a := fun i v1 v2 v8 k0_hw1 k0_h1 => k0_hw1.2.2.2.2.2.2.2.1 k0_h1
theorem k0_off11_inb : ∀ (i : grid0.Coords) (v1 : BitVec 32) (v2 : BitVec 32) (v8 : BitVec 32) (k0_hw1 : k0_chk1 i v1 v2 v8), ∀ (k0_h1 : k0_cond1 i v1 v2 v8 = 1#1), ∀ a, (k0_off11 v1) a + S1x1x128x4096.size a ≤ S2x16x1024x4096.size a := fun i v1 v2 v8 k0_hw1 k0_h1 => k0_hw1.2.2.2.2.2.2.2.2.1 k0_h1
theorem k0_off12_inb : ∀ (i : grid0.Coords) (v1 : BitVec 32) (v2 : BitVec 32) (v8 : BitVec 32) (k0_hw1 : k0_chk1 i v1 v2 v8), ∀ (k0_h1 : k0_cond1 i v1 v2 v8 = 1#1), ∀ a, (k0_off12 v1) a + S1x1x128x4096.size a ≤ S2x16x1024x4096.size a := fun i v1 v2 v8 k0_hw1 k0_h1 => k0_hw1.2.2.2.2.2.2.2.2.2.1 k0_h1
theorem k0_off13_inb : ∀ (i : grid0.Coords) (v1 : BitVec 32) (v2 : BitVec 32) (v8 : BitVec 32) (k0_hw1 : k0_chk1 i v1 v2 v8), ∀ (k0_h1 : k0_cond1 i v1 v2 v8 = 1#1), ∀ a, (k0_off13 v1) a + S1x1x128x4096.size a ≤ S2x16x1024x4096.size a := fun i v1 v2 v8 k0_hw1 k0_h1 => k0_hw1.2.2.2.2.2.2.2.2.2.2.1 k0_h1
theorem k0_off14_inb : ∀ (i : grid0.Coords) (v1 : BitVec 32) (v2 : BitVec 32) (v8 : BitVec 32) (k0_hw1 : k0_chk1 i v1 v2 v8), ∀ (k0_h1 : k0_cond1 i v1 v2 v8 = 1#1), ∀ a, (k0_off14 v1) a + S1x1x128x4096.size a ≤ S2x16x1024x4096.size a := fun i v1 v2 v8 k0_hw1 k0_h1 => k0_hw1.2.2.2.2.2.2.2.2.2.2.2.1 k0_h1
theorem k0_off15_inb : ∀ (i : grid0.Coords) (v1 : BitVec 32) (v2 : BitVec 32) (v8 : BitVec 32) (k0_hw1 : k0_chk1 i v1 v2 v8), ∀ (k0_h1 : k0_cond1 i v1 v2 v8 = 1#1), ∀ a, (k0_off15 v1) a + S1x1x128x4096.size a ≤ S2x16x1024x4096.size a := fun i v1 v2 v8 k0_hw1 k0_h1 => k0_hw1.2.2.2.2.2.2.2.2.2.2.2.2.1 k0_h1
theorem k0_off16_inb : ∀ (i : grid0.Coords) (v1 : BitVec 32) (v2 : BitVec 32) (v8 : BitVec 32) (k0_hw1 : k0_chk1 i v1 v2 v8), ∀ (k0_h1 : k0_cond1 i v1 v2 v8 = 1#1), ∀ a, (k0_off16 v1) a + S1x1x128x4096.size a ≤ S2x16x1024x4096.size a := fun i v1 v2 v8 k0_hw1 k0_h1 => k0_hw1.2.2.2.2.2.2.2.2.2.2.2.2.2.1 k0_h1
theorem k0_off17_inb : ∀ (i : grid0.Coords) (v1 : BitVec 32) (v2 : BitVec 32) (v8 : BitVec 32) (k0_hw1 : k0_chk1 i v1 v2 v8), ∀ (k0_h1 : k0_cond1 i v1 v2 v8 = 1#1), ∀ a, (k0_off17 v1) a + S1x1x128x4096.size a ≤ S2x16x1024x4096.size a := fun i v1 v2 v8 k0_hw1 k0_h1 => k0_hw1.2.2.2.2.2.2.2.2.2.2.2.2.2.2.1 k0_h1
theorem k0_off18_inb : ∀ (i : grid0.Coords) (v1 : BitVec 32) (v2 : BitVec 32) (v8 : BitVec 32) (k0_hw1 : k0_chk1 i v1 v2 v8), ∀ (k0_h1 : k0_cond1 i v1 v2 v8 = 1#1), ∀ a, (k0_off18 v1) a + S1x1x128x4096.size a ≤ S2x16x1024x4096.size a := fun i v1 v2 v8 k0_hw1 k0_h1 => k0_hw1.2.2.2.2.2.2.2.2.2.2.2.2.2.2.2 k0_h1

def k0_cond2 (i : grid0.Coords) (v2 : BitVec 32) : BitVec 1 :=
  let arg0 : BitVec 32 := BitVec.ofNat 32 (i 0).val
  let v3 : BitVec 1 := Scalar.cmpi .slt arg0 v2
  let v14 : BitVec 32 := Scalar.extui v3
  let c0_i32_2 : BitVec 32 := 0#32
  let v15 : BitVec 1 := Scalar.cmpi .ne v14 c0_i32_2
  v15

def k0_cond3 (i : grid0.Coords) (v2 : BitVec 32) : BitVec 1 :=
  let arg0 : BitVec 32 := BitVec.ofNat 32 (i 0).val
  let v3 : BitVec 1 := Scalar.cmpi .slt arg0 v2
  let v_true : BitVec 1 := 1#1
  let v16 : BitVec 1 := Scalar.xori v3 v_true
  let v17 : BitVec 32 := Scalar.extui v16
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference6Ideal.lean ====
abbrev S144 : Shape := ⟨1, ![144]⟩
abbrev S1 : Shape := ⟨1, ![1]⟩
abbrev S36864x2048 : Shape := ⟨2, ![36864, 2048]⟩
abbrev S2x16x4096x1024 : Shape := ⟨4, ![2, 16, 4096, 1024]⟩
abbrev S2x16x1024x4096 : Shape := ⟨4, ![2, 16, 1024, 4096]⟩
abbrev S_ : Shape := ⟨0, ![]⟩
abbrev S36864x4096 : Shape := ⟨2, ![36864, 4096]⟩
abbrev S144x256x4096 : Shape := ⟨3, ![144, 256, 4096]⟩
abbrev S144x1 : Shape := ⟨2, ![144, 1]⟩
abbrev S144x2 : Shape := ⟨2, ![144, 2]⟩
abbrev S144x4096x1024 : Shape := ⟨3, ![144, 4096, 1024]⟩
abbrev S144x256x1024 : Shape := ⟨3, ![144, 256, 1024]⟩
abbrev S144x1024x4096 : Shape := ⟨3, ![144, 1024, 4096]⟩
abbrev S144x1x1 : Shape := ⟨3, ![144, 1, 1]⟩

abbrev nBuf : Space → Nat
  | .hbm => 82
  | .vmem => 0
  | .smem => 0
  | _ => 0

abbrev bufTy : (tb : Table) → Fin (tcTables nBuf tb) → BufTy
  | .hbm, ⟨0, _⟩ => ⟨S144, .i32⟩
  | .hbm, ⟨1, _⟩ => ⟨S1, .i32⟩
  | .hbm, ⟨2, _⟩ => ⟨S36864x2048, .i32⟩
  | .hbm, ⟨3, _⟩ => ⟨S2x16x4096x1024, .f32⟩
  | .hbm, ⟨4, _⟩ => ⟨S2x16x4096x1024, .f32⟩
  | .hbm, ⟨5, _⟩ => ⟨S2x16x1024x4096, .f32⟩
  | .hbm, ⟨6, _⟩ => ⟨S_, .i32⟩
  | .hbm, ⟨7, _⟩ => ⟨S36864x2048, .i32⟩
  | .hbm, ⟨8, _⟩ => ⟨S36864x2048, .i32⟩
  | .hbm, ⟨9, _⟩ => ⟨S36864x2048, .f32⟩
  | .hbm, ⟨10, _⟩ => ⟨S_, .i32⟩
  | .hbm, ⟨11, _⟩ => ⟨S36864x2048, .i32⟩
  | .hbm, ⟨12, _⟩ => ⟨S36864x2048, .i32⟩
  | .hbm, ⟨13, _⟩ => ⟨S36864x2048, .f32⟩
  | .hbm, ⟨14, _⟩ => ⟨S36864x4096, .f32⟩
  | .hbm, ⟨15, _⟩ => ⟨S144x256x4096, .f32⟩
  | .hbm, ⟨16, _⟩ => ⟨S_, .i32⟩
  | .hbm, ⟨17, _⟩ => ⟨S144, .i32⟩
  | .hbm, ⟨18, _⟩ => ⟨S144, .i1⟩
  | .hbm, ⟨19, _⟩ => ⟨S_, .i32⟩
  | .hbm, ⟨20, _⟩ => ⟨S144, .i32⟩
  | .hbm, ⟨21, _⟩ => ⟨S144, .i32⟩
  | .hbm, ⟨22, _⟩ => ⟨S144, .i32⟩
  | .hbm, ⟨23, _⟩ => ⟨S_, .i32⟩
  | .hbm, ⟨24, _⟩ => ⟨S144, .i32⟩
  | .hbm, ⟨25, _⟩ => ⟨S144, .i32⟩
  | .hbm, ⟨26, _⟩ => ⟨S144x1, .i32⟩
  | .hbm, ⟨27, _⟩ => ⟨S144x1, .i32⟩
  | .hbm, ⟨28, _⟩ => ⟨S144x2, .i32⟩
  | .hbm, ⟨29, _⟩ => ⟨S144x4096x1024, .f32⟩
  | .hbm, ⟨30, _⟩ => ⟨S144x256x1024, .f32⟩
  | .hbm, ⟨31, _⟩ => ⟨S_, .i32⟩
  | .hbm, ⟨32, _⟩ => ⟨S144, .i32⟩
  | .hbm, ⟨33, _⟩ => ⟨S144, .i1⟩
  | .hbm, ⟨34, _⟩ => ⟨S_, .i32⟩
  | .hbm, ⟨35, _⟩ => ⟨S144, .i32⟩
  | .hbm, ⟨36, _⟩ => ⟨S144, .i32⟩
  | .hbm, ⟨37, _⟩ => ⟨S144, .i32⟩
  | .hbm, ⟨38, _⟩ => ⟨S_, .i32⟩
  | .hbm, ⟨39, _⟩ => ⟨S144, .i32⟩
  | .hbm, ⟨40, _⟩ => ⟨S144, .i32⟩
  | .hbm, ⟨41, _⟩ => ⟨S144x1, .i32⟩
  | .hbm, ⟨42, _⟩ => ⟨S144x1, .i32⟩
  | .hbm, ⟨43, _⟩ => ⟨S144x2, .i32⟩
  | .hbm, ⟨44, _⟩ => ⟨S144x4096x1024, .f32⟩
  | .hbm, ⟨45, _⟩ => ⟨S144x256x1024, .f32⟩
  | .hbm, ⟨46, _⟩ => ⟨S144x256x1024, .f32⟩
  | .hbm, ⟨47, _⟩ => ⟨S144x256x1024, .f32⟩
  | .hbm, ⟨48, _⟩ => ⟨S_, .f32⟩
  | .hbm, ⟨49, _⟩ => ⟨S144x256x1024, .f32⟩
  | .hbm, ⟨50, _⟩ => ⟨S144x256x1024, .f32⟩
  | .hbm, ⟨51, _⟩ => ⟨S_, .f32⟩
  | .hbm, ⟨52, _⟩ => ⟨S144x256x1024, .f32⟩
  | .hbm, ⟨53, _⟩ => ⟨S144x256x1024, .f32⟩
  | .hbm, ⟨54, _⟩ => ⟨S144x256x1024, .f32⟩
  | .hbm, ⟨55, _⟩ => ⟨S144x256x1024, .f32⟩
  | .hbm, ⟨56, _⟩ => ⟨S_, .i32⟩
  | .hbm, ⟨57, _⟩ => ⟨S144, .i32⟩
  | .hbm, ⟨58, _⟩ => ⟨S144, .i1⟩
  | .hbm, ⟨59, _⟩ => ⟨S_, .i32⟩
  | .hbm, ⟨60, _⟩ => ⟨S144, .i32⟩
  | .hbm, ⟨61, _⟩ => ⟨S144, .i32⟩
  | .hbm, ⟨62, _⟩ => ⟨S144, .i32⟩
  | .hbm, ⟨63, _⟩ => ⟨S_, .i32⟩
  | .hbm, ⟨64, _⟩ => ⟨S144, .i32⟩
  | .hbm, ⟨65, _⟩ => ⟨S144, .i32⟩
  | .hbm, ⟨66, _⟩ => ⟨S144x1, .i32⟩
  | .hbm, ⟨67, _⟩ => ⟨S144x1, .i32⟩
  | .hbm, ⟨68, _⟩ => ⟨S144x2, .i32⟩
  | .hbm, ⟨69, _⟩ => ⟨S144x1024x4096, .f32⟩
  | .hbm, ⟨70, _⟩ => ⟨S144x256x4096, .f32⟩
  | .hbm, ⟨71, _⟩ => ⟨S144, .i32⟩
  | .hbm, ⟨72, _⟩ => ⟨S144x1x1, .i32⟩
  | .hbm, ⟨73, _⟩ => ⟨S_, .i32⟩
  | .hbm, ⟨74, _⟩ => ⟨S144x1x1, .i32⟩
  | .hbm, ⟨75, _⟩ => ⟨S144x1x1, .i1⟩
  | .hbm, ⟨76, _⟩ => ⟨S_, .f32⟩
  | .hbm, ⟨77, _⟩ => ⟨S_, .f32⟩
  | .hbm, ⟨78, _⟩ => ⟨S144x256x4096, .i1⟩
  | .hbm, ⟨79, _⟩ => ⟨S144x256x4096, .f32⟩
  | .hbm, ⟨80, _⟩ => ⟨S144x256x4096, .f32⟩
  | .hbm, ⟨81, _⟩ => ⟨S36864x4096, .f32⟩
  | _, _ => ⟨S144, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c_9 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_v51 : Ref sig .tc := ⟨.hbm, 80, rfl⟩
abbrev main_v52 : Ref sig .tc := ⟨.hbm, 81, rfl⟩

abbrev nD : Nat := 1
abbrev τ : Topo := Topo.v7x

variable {F : FTy → Type} [FloatOps F]
-- ==== Kernel7.lean ====
abbrev S144 : Shape := ⟨1, ![144]⟩
abbrev S1 : Shape := ⟨1, ![1]⟩
abbrev S36864x2048 : Shape := ⟨2, ![36864, 2048]⟩
abbrev S2x16x4096x1024 : Shape := ⟨4, ![2, 16, 4096, 1024]⟩
abbrev S2x16x1024x4096 : Shape := ⟨4, ![2, 16, 1024, 4096]⟩
abbrev S36864x4096 : Shape := ⟨2, ![36864, 4096]⟩
abbrev S256x2048 : Shape := ⟨2, ![256, 2048]⟩
abbrev S256x4096 : Shape := ⟨2, ![256, 4096]⟩
abbrev S4096x1024 : Shape := ⟨2, ![4096, 1024]⟩
abbrev S1024x4096 : Shape := ⟨2, ![1024, 4096]⟩
abbrev S3x512x1024 : Shape := ⟨3, ![3, 512, 1024]⟩
abbrev S3x128x4096 : Shape := ⟨3, ![3, 128, 4096]⟩
abbrev S3 : Shape := ⟨1, ![3]⟩
abbrev S_ : Shape := ⟨0, ![]⟩
abbrev S1x512x1024 : Shape := ⟨3, ![1, 512, 1024]⟩
abbrev S512x1024 : Shape := ⟨2, ![512, 1024]⟩
abbrev S1x1x512x1024 : Shape := ⟨4, ![1, 1, 512, 1024]⟩
abbrev S1x128x4096 : Shape := ⟨3, ![1, 128, 4096]⟩
abbrev S128x4096 : Shape := ⟨2, ![128, 4096]⟩
abbrev S1x1x128x4096 : Shape := ⟨4, ![1, 1, 128, 4096]⟩
abbrev S256x1024 : Shape := ⟨2, ![256, 1024]⟩

abbrev nBuf : Space → Nat
  | .hbm => 5
  | .vmem => 9
  | .smem => 2
  | _ => 0

abbrev bufTy : (tb : Table) → Fin (tcTables nBuf tb) → BufTy
  | .hbm, ⟨0, _⟩ => ⟨S36864x2048, .i32⟩
  | .hbm, ⟨1, _⟩ => ⟨S2x16x4096x1024, .f32⟩
  | .hbm, ⟨2, _⟩ => ⟨S2x16x4096x1024, .f32⟩
  | .hbm, ⟨3, _⟩ => ⟨S2x16x1024x4096, .f32⟩
  | .hbm, ⟨4, _⟩ => ⟨S36864x4096, .f32⟩
  | .local _ .vmem, ⟨0, _⟩ => ⟨S256x2048, .i32⟩
  | .local _ .vmem, ⟨1, _⟩ => ⟨S256x2048, .i32⟩
  | .local _ .vmem, ⟨2, _⟩ => ⟨S256x4096, .f32⟩
  | .local _ .vmem, ⟨3, _⟩ => ⟨S256x4096, .f32⟩
  | .local _ .vmem, ⟨4, _⟩ => ⟨S4096x1024, .bf16⟩
  | .local _ .vmem, ⟨5, _⟩ => ⟨S4096x1024, .bf16⟩
  | .local _ .vmem, ⟨6, _⟩ => ⟨S1024x4096, .bf16⟩
  | .local _ .vmem, ⟨7, _⟩ => ⟨S3x512x1024, .f32⟩
  | .local _ .vmem, ⟨8, _⟩ => ⟨S3x128x4096, .f32⟩
  | .local _ .smem, ⟨0, _⟩ => ⟨S144, .i32⟩
  | .local _ .smem, ⟨1, _⟩ => ⟨S1, .i32⟩
  | _, _ => ⟨S36864x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![144], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_off3 (v1 : BitVec 32) : Fin 4 → Nat :=
  let c1_i32_4 : BitVec 32 := 1#32
  let c0_i32_9 : BitVec 32 := 0#32
  let c0_i32_10 : BitVec 32 := 0#32
  ![1, v1.toNat, 0, 0]
def k0_cond1 (i : grid0.Coords) (v1 : BitVec 32) (v2 : BitVec 32) (v8 : BitVec 32) : BitVec 1 :=
  let arg0 : BitVec 32 := BitVec.ofNat 32 (i 0).val
  let v3 : BitVec 1 := Scalar.cmpi .slt arg0 v2
  let c0_i32 : BitVec 32 := 0#32
  let v4 : BitVec 1 := Scalar.cmpi .eq arg0 c0_i32
  let v9 : BitVec 1 := Scalar.cmpi .ne v1 v8
  let v10 : BitVec 1 := Scalar.ori v4 v9
  let v11 : BitVec 1 := Scalar.andi v3 v10
  let v12 : BitVec 32 := Scalar.extui v11
  let c0_i32_1 : BitVec 32 := 0#32
  let v13 : BitVec 1 := Scalar.cmpi .ne v12 c0_i32_1
  v13

def k0_off4 (v1 : BitVec 32) : Fin 4 → Nat :=
  let c1_i32_11 : BitVec 32 := 1#32
  let c512_i32 : BitVec 32 := 512#32
  let c0_i32_16 : BitVec 32 := 0#32
  ![1, v1.toNat, 512, 0]
def k0_off5 (v1 : BitVec 32) : Fin 4 → Nat :=
  let c1_i32_17 : BitVec 32 := 1#32
  let c1024_i32 : BitVec 32 := 1024#32
  let c0_i32_21 : BitVec 32 := 0#32
  ![1, v1.toNat, 1024, 0]
def k0_off6 (v1 : BitVec 32) : Fin 4 → Nat :=
  let c1_i32_34 : BitVec 32 := 1#32
  let c1536_i32 : BitVec 32 := 1536#32
  let c0_i32_39 : BitVec 32 := 0#32
  ![1, v1.toNat, 1536, 0]
def k0_off7 (v1 : BitVec 32) : Fin 4 → Nat :=
  let c1_i32_50 : BitVec 32 := 1#32
  let c2048_i32 : BitVec 32 := 2048#32
  let c0_i32_55 : BitVec 32 := 0#32
  ![1, v1.toNat, 2048, 0]
def k0_off8 (v1 : BitVec 32) : Fin 4 → Nat :=
  let c1_i32_66 : BitVec 32 := 1#32
  let c2560_i32 : BitVec 32 := 2560#32
  let c0_i32_71 : BitVec 32 := 0#32
  ![1, v1.toNat, 2560, 0]
def k0_off9 (v1 : BitVec 32) : Fin 4 → Nat :=
  let c1_i32_83 : BitVec 32 := 1#32
  let c3072_i32 : BitVec 32 := 3072#32
  let c0_i32_88 : BitVec 32 := 0#32
  ![1, v1.toNat, 3072, 0]
def k0_off10 (v1 : BitVec 32) : Fin 4 → Nat :=
  let c1_i32_100 : BitVec 32 := 1#32
  let c3584_i32 : BitVec 32 := 3584#32
  let c0_i32_105 : BitVec 32 := 0#32
  ![1, v1.toNat, 3584, 0]
def k0_off11 (v1 : BitVec 32) : Fin 4 → Nat :=
  let c1_i32_267 : BitVec 32 := 1#32
  let c0_i32_272 : BitVec 32 := 0#32
  let c0_i32_273 : BitVec 32 := 0#32
  ![1, v1.toNat, 0, 0]
def k0_off12 (v1 : BitVec 32) : Fin 4 → Nat :=
  let c1_i32_286 : BitVec 32 := 1#32
  let c128_i32 : BitVec 32 := 128#32
  let c0_i32_291 : BitVec 32 := 0#32
  ![1, v1.toNat, 128, 0]
def k0_off13 (v1 : BitVec 32) : Fin 4 → Nat :=
  let c1_i32_304 : BitVec 32 := 1#32
  let c256_i32 : BitVec 32 := 256#32
  let c0_i32_309 : BitVec 32 := 0#32
  ![1, v1.toNat, 256, 0]
def k0_off14 (v1 : BitVec 32) : Fin 4 → Nat :=
  let c1_i32_322 : BitVec 32 := 1#32
  let c384_i32 : BitVec 32 := 384#32
  let c0_i32_327 : BitVec 32 := 0#32
  ![1, v1.toNat, 384, 0]
def k0_off15 (v1 : BitVec 32) : Fin 4 → Nat :=
  let c1_i32_339 : BitVec 32 := 1#32
  let c512_i32_344 : BitVec 32 := 512#32
  let c0_i32_345 : BitVec 32 := 0#32
  ![1, v1.toNat, 512, 0]
def k0_off16 (v1 : BitVec 32) : Fin 4 → Nat :=
  let c1_i32_357 : BitVec 32 := 1#32
  let c640_i32 : BitVec 32 := 640#32
  let c0_i32_362 : BitVec 32 := 0#32
  ![1, v1.toNat, 640, 0]
def k0_off17 (v1 : BitVec 32) : Fin 4 → Nat :=
  let c1_i32_374 : BitVec 32 := 1#32
  let c768_i32 : BitVec 32 := 768#32
  let c0_i32_379 : BitVec 32 := 0#32
  ![1, v1.toNat, 768, 0]
def k0_off18 (v1 : BitVec 32) : Fin 4 → Nat :=
  let c1_i32_392 : BitVec 32 := 1#32
  let c896_i32 : BitVec 32 := 896#32
  let c0_i32_397 : BitVec 32 := 0#32
  ![1, v1.toNat, 896, 0]

def k0_chk1 (i : grid0.Coords) (v1 : BitVec 32) (v2 : BitVec 32) (v8 : BitVec 32) : Prop :=
  (∀ (k0_h1 : k0_cond1 i v1 v2 v8 = 1#1), ∀ a, (k0_off3 v1) a + S1x1x512x1024.size a ≤ S2x16x4096x1024.size a) ∧
  (∀ (k0_h1 : k0_cond1 i v1 v2 v8 = 1#1), ∀ a, (k0_off4 v1) a + S1x1x512x1024.size a ≤ S2x16x4096x1024.size a) ∧
  (∀ (k0_h1 : k0_cond1 i v1 v2 v8 = 1#1), ∀ a, (k0_off5 v1) a + S1x1x512x1024.size a ≤ S2x16x4096x1024.size a) ∧
  (∀ (k0_h1 : k0_cond1 i v1 v2 v8 = 1#1), ∀ a, (k0_off6 v1) a + S1x1x512x1024.size a ≤ S2x16x4096x1024.size a) ∧
  (∀ (k0_h1 : k0_cond1 i v1 v2 v8 = 1#1), ∀ a, (k0_off7 v1) a + S1x1x512x1024.size a ≤ S2x16x4096x1024.size a) ∧
  (∀ (k0_h1 : k0_cond1 i v1 v2 v8 = 1#1), ∀ a, (k0_off8 v1) a + S1x1x512x1024.size a ≤ S2x16x4096x1024.size a) ∧
  (∀ (k0_h1 : k0_cond1 i v1 v2 v8 = 1#1), ∀ a, (k0_off9 v1) a + S1x1x512x1024.size a ≤ S2x16x4096x1024.size a) ∧
  (∀ (k0_h1 : k0_cond1 i v1 v2 v8 = 1#1), ∀ a, (k0_off10 v1) a + S1x1x512x1024.size a ≤ S2x16x4096x1024.size a) ∧
  (∀ (k0_h1 : k0_cond1 i v1 v2 v8 = 1#1), ∀ a, (k0_off11 v1) a + S1x1x128x4096.size a ≤ S2x16x1024x4096.size a) ∧
  (∀ (k0_h1 : k0_cond1 i v1 v2 v8 = 1#1), ∀ a, (k0_off12 v1) a + S1x1x128x4096.size a ≤ S2x16x1024x4096.size a) ∧
  (∀ (k0_h1 : k0_cond1 i v1 v2 v8 = 1#1), ∀ a, (k0_off13 v1) a + S1x1x128x4096.size a ≤ S2x16x1024x4096.size a) ∧
  (∀ (k0_h1 : k0_cond1 i v1 v2 v8 = 1#1), ∀ a, (k0_off14 v1) a + S1x1x128x4096.size a ≤ S2x16x1024x4096.size a) ∧
  (∀ (k0_h1 : k0_cond1 i v1 v2 v8 = 1#1), ∀ a, (k0_off15 v1) a + S1x1x128x4096.size a ≤ S2x16x1024x4096.size a) ∧
  (∀ (k0_h1 : k0_cond1 i v1 v2 v8 = 1#1), ∀ a, (k0_off16 v1) a + S1x1x128x4096.size a ≤ S2x16x1024x4096.size a) ∧
  (∀ (k0_h1 : k0_cond1 i v1 v2 v8 = 1#1), ∀ a, (k0_off17 v1) a + S1x1x128x4096.size a ≤ S2x16x1024x4096.size a) ∧
  (∀ (k0_h1 : k0_cond1 i v1 v2 v8 = 1#1), ∀ a, (k0_off18 v1) a + S1x1x128x4096.size a ≤ S2x16x1024x4096.size a)
theorem k0_off3_inb : ∀ (i : grid0.Coords) (v1 : BitVec 32) (v2 : BitVec 32) (v8 : BitVec 32) (k0_hw1 : k0_chk1 i v1 v2 v8), ∀ (k0_h1 : k0_cond1 i v1 v2 v8 = 1#1), ∀ a, (k0_off3 v1) a + S1x1x512x1024.size a ≤ S2x16x4096x1024.size a := fun i v1 v2 v8 k0_hw1 k0_h1 => k0_hw1.1 k0_h1
theorem k0_off4_inb : ∀ (i : grid0.Coords) (v1 : BitVec 32) (v2 : BitVec 32) (v8 : BitVec 32) (k0_hw1 : k0_chk1 i v1 v2 v8), ∀ (k0_h1 : k0_cond1 i v1 v2 v8 = 1#1), ∀ a, (k0_off4 v1) a + S1x1x512x1024.size a ≤ S2x16x4096x1024.size a := fun i v1 v2 v8 k0_hw1 k0_h1 => k0_hw1.2.1 k0_h1
theorem k0_off5_inb : ∀ (i : grid0.Coords) (v1 : BitVec 32) (v2 : BitVec 32) (v8 : BitVec 32) (k0_hw1 : k0_chk1 i v1 v2 v8), ∀ (k0_h1 : k0_cond1 i v1 v2 v8 = 1#1), ∀ a, (k0_off5 v1) a + S1x1x512x1024.size a ≤ S2x16x4096x1024.size a := fun i v1 v2 v8 k0_hw1 k0_h1 => k0_hw1.2.2.1 k0_h1
theorem k0_off6_inb : ∀ (i : grid0.Coords) (v1 : BitVec 32) (v2 : BitVec 32) (v8 : BitVec 32) (k0_hw1 : k0_chk1 i v1 v2 v8), ∀ (k0_h1 : k0_cond1 i v1 v2 v8 = 1#1), ∀ a, (k0_off6 v1) a + S1x1x512x1024.size a ≤ S2x16x4096x1024.size a := fun i v1 v2 v8 k0_hw1 k0_h1 => k0_hw1.2.2.2.1 k0_h1
theorem k0_off7_inb : ∀ (i : grid0.Coords) (v1 : BitVec 32) (v2 : BitVec 32) (v8 : BitVec 32) (k0_hw1 : k0_chk1 i v1 v2 v8), ∀ (k0_h1 : k0_cond1 i v1 v2 v8 = 1#1), ∀ a, (k0_off7 v1) a + S1x1x512x1024.size a ≤ S2x16x4096x1024.size a := fun i v1 v2 v8 k0_hw1 k0_h1 => k0_hw1.2.2.2.2.1 k0_h1
theorem k0_off8_inb : ∀ (i : grid0.Coords) (v1 : BitVec 32) (v2 : BitVec 32) (v8 : BitVec 32) (k0_hw1 : k0_chk1 i v1 v2 v8), ∀ (k0_h1 : k0_cond1 i v1 v2 v8 = 1#1), ∀ a, (k0_off8 v1) a + S1x1x512x1024.size a ≤ S2x16x4096x1024.size a := fun i v1 v2 v8 k0_hw1 k0_h1 => k0_hw1.2.2.2.2.2.1 k0_h1
theorem k0_off9_inb : ∀ (i : grid0.Coords) (v1 : BitVec 32) (v2 : BitVec 32) (v8 : BitVec 32) (k0_hw1 : k0_chk1 i v1 v2 v8), ∀ (k0_h1 : k0_cond1 i v1 v2 v8 = 1#1), ∀ a, (k0_off9 v1) a + S1x1x512x1024.size a ≤ S2x16x4096x1024.size a := fun i v1 v2 v8 k0_hw1 k0_h1 => k0_hw1.2.2.2.2.2.2.1 k0_h1
theorem k0_off10_inb : ∀ (i : grid0.Coords) (v1 : BitVec 32) (v2 : BitVec 32) (v8 : BitVec 32) (k0_hw1 : k0_chk1 i v1 v2 v8), ∀ (k0_h1 : k0_cond1 i v1 v2 v8 = 1#1), ∀ a, (k0_off10 v1) a + S1x1x512x1024.size a ≤ S2x16x4096x1024.size a := fun i v1 v2 v8 k0_hw1 k0_h1 => k0_hw1.2.2.2.2.2.2.2.1 k0_h1
theorem k0_off11_inb : ∀ (i : grid0.Coords) (v1 : BitVec 32) (v2 : BitVec 32) (v8 : BitVec 32) (k0_hw1 : k0_chk1 i v1 v2 v8), ∀ (k0_h1 : k0_cond1 i v1 v2 v8 = 1#1), ∀ a, (k0_off11 v1) a + S1x1x128x4096.size a ≤ S2x16x1024x4096.size a := fun i v1 v2 v8 k0_hw1 k0_h1 => k0_hw1.2.2.2.2.2.2.2.2.1 k0_h1
theorem k0_off12_inb : ∀ (i : grid0.Coords) (v1 : BitVec 32) (v2 : BitVec 32) (v8 : BitVec 32) (k0_hw1 : k0_chk1 i v1 v2 v8), ∀ (k0_h1 : k0_cond1 i v1 v2 v8 = 1#1), ∀ a, (k0_off12 v1) a + S1x1x128x4096.size a ≤ S2x16x1024x4096.size a := fun i v1 v2 v8 k0_hw1 k0_h1 => k0_hw1.2.2.2.2.2.2.2.2.2.1 k0_h1
theorem k0_off13_inb : ∀ (i : grid0.Coords) (v1 : BitVec 32) (v2 : BitVec 32) (v8 : BitVec 32) (k0_hw1 : k0_chk1 i v1 v2 v8), ∀ (k0_h1 : k0_cond1 i v1 v2 v8 = 1#1), ∀ a, (k0_off13 v1) a + S1x1x128x4096.size a ≤ S2x16x1024x4096.size a := fun i v1 v2 v8 k0_hw1 k0_h1 => k0_hw1.2.2.2.2.2.2.2.2.2.2.1 k0_h1
theorem k0_off14_inb : ∀ (i : grid0.Coords) (v1 : BitVec 32) (v2 : BitVec 32) (v8 : BitVec 32) (k0_hw1 : k0_chk1 i v1 v2 v8), ∀ (k0_h1 : k0_cond1 i v1 v2 v8 = 1#1), ∀ a, (k0_off14 v1) a + S1x1x128x4096.size a ≤ S2x16x1024x4096.size a := fun i v1 v2 v8 k0_hw1 k0_h1 => k0_hw1.2.2.2.2.2.2.2.2.2.2.2.1 k0_h1
theorem k0_off15_inb : ∀ (i : grid0.Coords) (v1 : BitVec 32) (v2 : BitVec 32) (v8 : BitVec 32) (k0_hw1 : k0_chk1 i v1 v2 v8), ∀ (k0_h1 : k0_cond1 i v1 v2 v8 = 1#1), ∀ a, (k0_off15 v1) a + S1x1x128x4096.size a ≤ S2x16x1024x4096.size a := fun i v1 v2 v8 k0_hw1 k0_h1 => k0_hw1.2.2.2.2.2.2.2.2.2.2.2.2.1 k0_h1
theorem k0_off16_inb : ∀ (i : grid0.Coords) (v1 : BitVec 32) (v2 : BitVec 32) (v8 : BitVec 32) (k0_hw1 : k0_chk1 i v1 v2 v8), ∀ (k0_h1 : k0_cond1 i v1 v2 v8 = 1#1), ∀ a, (k0_off16 v1) a + S1x1x128x4096.size a ≤ S2x16x1024x4096.size a := fun i v1 v2 v8 k0_hw1 k0_h1 => k0_hw1.2.2.2.2.2.2.2.2.2.2.2.2.2.1 k0_h1
theorem k0_off17_inb : ∀ (i : grid0.Coords) (v1 : BitVec 32) (v2 : BitVec 32) (v8 : BitVec 32) (k0_hw1 : k0_chk1 i v1 v2 v8), ∀ (k0_h1 : k0_cond1 i v1 v2 v8 = 1#1), ∀ a, (k0_off17 v1) a + S1x1x128x4096.size a ≤ S2x16x1024x4096.size a := fun i v1 v2 v8 k0_hw1 k0_h1 => k0_hw1.2.2.2.2.2.2.2.2.2.2.2.2.2.2.1 k0_h1
theorem k0_off18_inb : ∀ (i : grid0.Coords) (v1 : BitVec 32) (v2 : BitVec 32) (v8 : BitVec 32) (k0_hw1 : k0_chk1 i v1 v2 v8), ∀ (k0_h1 : k0_cond1 i v1 v2 v8 = 1#1), ∀ a, (k0_off18 v1) a + S1x1x128x4096.size a ≤ S2x16x1024x4096.size a := fun i v1 v2 v8 k0_hw1 k0_h1 => k0_hw1.2.2.2.2.2.2.2.2.2.2.2.2.2.2.2 k0_h1

def k0_cond2 (i : grid0.Coords) (v2 : BitVec 32) : BitVec 1 :=
  let arg0 : BitVec 32 := BitVec.ofNat 32 (i 0).val
  let v3 : BitVec 1 := Scalar.cmpi .slt arg0 v2
  let v14 : BitVec 32 := Scalar.extui v3
  let c0_i32_2 : BitVec 32 := 0#32
  let v15 : BitVec 1 := Scalar.cmpi .ne v14 c0_i32_2
  v15

def k0_cond3 (i : grid0.Coords) (v2 : BitVec 32) : BitVec 1 :=
  let arg0 : BitVec 32 := BitVec.ofNat 32 (i 0).val
  let v3 : BitVec 1 := Scalar.cmpi .slt arg0 v2
  let v_true : BitVec 1 := 1#1
  let v16 : BitVec 1 := Scalar.xori v3 v_true
  let v17 : BitVec 32 := Scalar.extui v16
  let c0_i32_3 : BitVec 32 := 0#32
  let v18 : BitVec 1 := Scalar.cmpi .ne v17 c0_i32_3
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference7Ideal.lean ====
abbrev S144 : Shape := ⟨1, ![144]⟩
abbrev S1 : Shape := ⟨1, ![1]⟩
abbrev S36864x2048 : Shape := ⟨2, ![36864, 2048]⟩
abbrev S2x16x4096x1024 : Shape := ⟨4, ![2, 16, 4096, 1024]⟩
abbrev S2x16x1024x4096 : Shape := ⟨4, ![2, 16, 1024, 4096]⟩
abbrev S_ : Shape := ⟨0, ![]⟩
abbrev S36864x4096 : Shape := ⟨2, ![36864, 4096]⟩
abbrev S144x256x4096 : Shape := ⟨3, ![144, 256, 4096]⟩
abbrev S144x1 : Shape := ⟨2, ![144, 1]⟩
abbrev S144x2 : Shape := ⟨2, ![144, 2]⟩
abbrev S144x4096x1024 : Shape := ⟨3, ![144, 4096, 1024]⟩
abbrev S144x256x1024 : Shape := ⟨3, ![144, 256, 1024]⟩
abbrev S144x1024x4096 : Shape := ⟨3, ![144, 1024, 4096]⟩
abbrev S144x1x1 : Shape := ⟨3, ![144, 1, 1]⟩

abbrev nBuf : Space → Nat
  | .hbm => 82
  | .vmem => 0
  | .smem => 0
  | _ => 0

abbrev bufTy : (tb : Table) → Fin (tcTables nBuf tb) → BufTy
  | .hbm, ⟨0, _⟩ => ⟨S144, .i32⟩
  | .hbm, ⟨1, _⟩ => ⟨S1, .i32⟩
  | .hbm, ⟨2, _⟩ => ⟨S36864x2048, .i32⟩
  | .hbm, ⟨3, _⟩ => ⟨S2x16x4096x1024, .f32⟩
  | .hbm, ⟨4, _⟩ => ⟨S2x16x4096x1024, .f32⟩
  | .hbm, ⟨5, _⟩ => ⟨S2x16x1024x4096, .f32⟩
  | .hbm, ⟨6, _⟩ => ⟨S_, .i32⟩
  | .hbm, ⟨7, _⟩ => ⟨S36864x2048, .i32⟩
  | .hbm, ⟨8, _⟩ => ⟨S36864x2048, .i32⟩
  | .hbm, ⟨9, _⟩ => ⟨S36864x2048, .f32⟩
  | .hbm, ⟨10, _⟩ => ⟨S_, .i32⟩
  | .hbm, ⟨11, _⟩ => ⟨S36864x2048, .i32⟩
  | .hbm, ⟨12, _⟩ => ⟨S36864x2048, .i32⟩
  | .hbm, ⟨13, _⟩ => ⟨S36864x2048, .f32⟩
  | .hbm, ⟨14, _⟩ => ⟨S36864x4096, .f32⟩
  | .hbm, ⟨15, _⟩ => ⟨S144x256x4096, .f32⟩
  | .hbm, ⟨16, _⟩ => ⟨S_, .i32⟩
  | .hbm, ⟨17, _⟩ => ⟨S144, .i32⟩
  | .hbm, ⟨18, _⟩ => ⟨S144, .i1⟩
  | .hbm, ⟨19, _⟩ => ⟨S_, .i32⟩
  | .hbm, ⟨20, _⟩ => ⟨S144, .i32⟩
  | .hbm, ⟨21, _⟩ => ⟨S144, .i32⟩
  | .hbm, ⟨22, _⟩ => ⟨S144, .i32⟩
  | .hbm, ⟨23, _⟩ => ⟨S_, .i32⟩
  | .hbm, ⟨24, _⟩ => ⟨S144, .i32⟩
  | .hbm, ⟨25, _⟩ => ⟨S144, .i32⟩
  | .hbm, ⟨26, _⟩ => ⟨S144x1, .i32⟩
  | .hbm, ⟨27, _⟩ => ⟨S144x1, .i32⟩
  | .hbm, ⟨28, _⟩ => ⟨S144x2, .i32⟩
  | .hbm, ⟨29, _⟩ => ⟨S144x4096x1024, .f32⟩
  | .hbm, ⟨30, _⟩ => ⟨S144x256x1024, .f32⟩
  | .hbm, ⟨31, _⟩ => ⟨S_, .i32⟩
  | .hbm, ⟨32, _⟩ => ⟨S144, .i32⟩
  | .hbm, ⟨33, _⟩ => ⟨S144, .i1⟩
  | .hbm, ⟨34, _⟩ => ⟨S_, .i32⟩
  | .hbm, ⟨35, _⟩ => ⟨S144, .i32⟩
  | .hbm, ⟨36, _⟩ => ⟨S144, .i32⟩
  | .hbm, ⟨37, _⟩ => ⟨S144, .i32⟩
  | .hbm, ⟨38, _⟩ => ⟨S_, .i32⟩
  | .hbm, ⟨39, _⟩ => ⟨S144, .i32⟩
  | .hbm, ⟨40, _⟩ => ⟨S144, .i32⟩
  | .hbm, ⟨41, _⟩ => ⟨S144x1, .i32⟩
  | .hbm, ⟨42, _⟩ => ⟨S144x1, .i32⟩
  | .hbm, ⟨43, _⟩ => ⟨S144x2, .i32⟩
  | .hbm, ⟨44, _⟩ => ⟨S144x4096x1024, .f32⟩
  | .hbm, ⟨45, _⟩ => ⟨S144x256x1024, .f32⟩
  | .hbm, ⟨46, _⟩ => ⟨S144x256x1024, .f32⟩
  | .hbm, ⟨47, _⟩ => ⟨S144x256x1024, .f32⟩
  | .hbm, ⟨48, _⟩ => ⟨S_, .f32⟩
  | .hbm, ⟨49, _⟩ => ⟨S144x256x1024, .f32⟩
  | .hbm, ⟨50, _⟩ => ⟨S144x256x1024, .f32⟩
  | .hbm, ⟨51, _⟩ => ⟨S_, .f32⟩
  | .hbm, ⟨52, _⟩ => ⟨S144x256x1024, .f32⟩
  | .hbm, ⟨53, _⟩ => ⟨S144x256x1024, .f32⟩
  | .hbm, ⟨54, _⟩ => ⟨S144x256x1024, .f32⟩
  | .hbm, ⟨55, _⟩ => ⟨S144x256x1024, .f32⟩
  | .hbm, ⟨56, _⟩ => ⟨S_, .i32⟩
  | .hbm, ⟨57, _⟩ => ⟨S144, .i32⟩
  | .hbm, ⟨58, _⟩ => ⟨S144, .i1⟩
  | .hbm, ⟨59, _⟩ => ⟨S_, .i32⟩
  | .hbm, ⟨60, _⟩ => ⟨S144, .i32⟩
  | .hbm, ⟨61, _⟩ => ⟨S144, .i32⟩
  | .hbm, ⟨62, _⟩ => ⟨S144, .i32⟩
  | .hbm, ⟨63, _⟩ => ⟨S_, .i32⟩
  | .hbm, ⟨64, _⟩ => ⟨S144, .i32⟩
  | .hbm, ⟨65, _⟩ => ⟨S144, .i32⟩
  | .hbm, ⟨66, _⟩ => ⟨S144x1, .i32⟩
  | .hbm, ⟨67, _⟩ => ⟨S144x1, .i32⟩
  | .hbm, ⟨68, _⟩ => ⟨S144x2, .i32⟩
  | .hbm, ⟨69, _⟩ => ⟨S144x1024x4096, .f32⟩
  | .hbm, ⟨70, _⟩ => ⟨S144x256x4096, .f32⟩
  | .hbm, ⟨71, _⟩ => ⟨S144, .i32⟩
  | .hbm, ⟨72, _⟩ => ⟨S144x1x1, .i32⟩
  | .hbm, ⟨73, _⟩ => ⟨S_, .i32⟩
  | .hbm, ⟨74, _⟩ => ⟨S144x1x1, .i32⟩
  | .hbm, ⟨75, _⟩ => ⟨S144x1x1, .i1⟩
  | .hbm, ⟨76, _⟩ => ⟨S_, .f32⟩
  | .hbm, ⟨77, _⟩ => ⟨S_, .f32⟩
  | .hbm, ⟨78, _⟩ => ⟨S144x256x4096, .i1⟩
  | .hbm, ⟨79, _⟩ => ⟨S144x256x4096, .f32⟩
  | .hbm, ⟨80, _⟩ => ⟨S144x256x4096, .f32⟩
  | .hbm, ⟨81, _⟩ => ⟨S36864x4096, .f32⟩
  | _, _ => ⟨S144, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v32 : Ref sig .tc := ⟨.hbm, 54, rfl⟩
abbrev main_v33 : Ref sig .tc := ⟨.hbm, 55, rfl⟩
abbrev main_c_7 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c_9 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_v51 : Ref sig .tc := ⟨.hbm, 80, rfl⟩
abbrev main_v52 : Ref sig .tc := ⟨.hbm, 81, rfl⟩

abbrev nD : Nat := 1
abbrev τ : Topo := Topo.v7x

variable {F : FTy → Type} [FloatOps F]
-- ==== Kernel8.lean ====
abbrev S8x4096 : Shape := ⟨2, ![8, 4096]⟩
abbrev S2x4096x24576 : Shape := ⟨3, ![2, 4096, 24576]⟩
abbrev S2x24576 : Shape := ⟨2, ![2, 24576]⟩
abbrev S2x1x24576 : Shape := ⟨3, ![2, 1, 24576]⟩
abbrev S2x8x24576 : Shape := ⟨3, ![2, 8, 24576]⟩
abbrev S1x4096x512 : Shape := ⟨3, ![1, 4096, 512]⟩
abbrev S1x1x512 : Shape := ⟨3, ![1, 1, 512]⟩
abbrev S1x8x512 : Shape := ⟨3, ![1, 8, 512]⟩
abbrev S4096x512 : Shape := ⟨2, ![4096, 512]⟩
abbrev S8x512 : Shape := ⟨2, ![8, 512]⟩
abbrev S1x512 : Shape := ⟨2, ![1, 512]⟩

abbrev nBuf : Space → Nat
  | .hbm => 5
  | .vmem => 7
  | .smem => 0
  | _ => 0

abbrev bufTy : (tb : Table) → Fin (tcTables nBuf tb) → BufTy
  | .hbm, ⟨0, _⟩ => ⟨S8x4096, .f32⟩
  | .hbm, ⟨1, _⟩ => ⟨S2x4096x24576, .f32⟩
  | .hbm, ⟨2, _⟩ => ⟨S2x24576, .f32⟩
  | .hbm, ⟨3, _⟩ => ⟨S2x1x24576, .f32⟩
  | .hbm, ⟨4, _⟩ => ⟨S2x8x24576, .f32⟩
  | .local _ .vmem, ⟨0, _⟩ => ⟨S8x4096, .f32⟩
  | .local _ .vmem, ⟨1, _⟩ => ⟨S1x4096x512, .f32⟩
  | .local _ .vmem, ⟨2, _⟩ => ⟨S1x4096x512, .f32⟩
  | .local _ .vmem, ⟨3, _⟩ => ⟨S1x1x512, .f32⟩
  | .local _ .vmem, ⟨4, _⟩ => ⟨S1x1x512, .f32⟩
  | .local _ .vmem, ⟨5, _⟩ => ⟨S1x8x512, .f32⟩
  | .local _ .vmem, ⟨6, _⟩ => ⟨S1x8x512, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 48], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S8x4096 : Shape := ⟨2, ![8, 4096]⟩
abbrev S2x4096x24576 : Shape := ⟨3, ![2, 4096, 24576]⟩
abbrev S2x24576 : Shape := ⟨2, ![2, 24576]⟩
abbrev S_ : Shape := ⟨0, ![]⟩
abbrev S1x4096x24576 : Shape := ⟨3, ![1, 4096, 24576]⟩
abbrev S4096x24576 : Shape := ⟨2, ![4096, 24576]⟩
abbrev S8x24576 : Shape := ⟨2, ![8, 24576]⟩
abbrev S1x24576 : Shape := ⟨2, ![1, 24576]⟩
abbrev S24576 : Shape := ⟨1, ![24576]⟩
abbrev S1x8x24576 : Shape := ⟨3, ![1, 8, 24576]⟩
abbrev S2x8x24576 : Shape := ⟨3, ![2, 8, 24576]⟩

abbrev nBuf : Space → Nat
  | .hbm => 31
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S2x4096x24576, .f32⟩
  | .hbm, ⟨2, _⟩ => ⟨S2x24576, .f32⟩
  | .hbm, ⟨3, _⟩ => ⟨S8x4096, .f32⟩
  | .hbm, ⟨4, _⟩ => ⟨S8x4096, .f32⟩
  | .hbm, ⟨5, _⟩ => ⟨S_, .f32⟩
  | .hbm, ⟨6, _⟩ => ⟨S8x4096, .f32⟩
  | .hbm, ⟨7, _⟩ => ⟨S8x4096, .f32⟩
  | .hbm, ⟨8, _⟩ => ⟨S_, .f32⟩
  | .hbm, ⟨9, _⟩ => ⟨S8x4096, .f32⟩
  | .hbm, ⟨10, _⟩ => ⟨S8x4096, .f32⟩
  | .hbm, ⟨11, _⟩ => ⟨S8x4096, .f32⟩
  | .hbm, ⟨12, _⟩ => ⟨S1x4096x24576, .f32⟩
  | .hbm, ⟨13, _⟩ => ⟨S4096x24576, .f32⟩
  | .hbm, ⟨14, _⟩ => ⟨S8x24576, .f32⟩
  | .hbm, ⟨15, _⟩ => ⟨S1x24576, .f32⟩
  | .hbm, ⟨16, _⟩ => ⟨S24576, .f32⟩
  | .hbm, ⟨17, _⟩ => ⟨S1x24576, .f32⟩
  | .hbm, ⟨18, _⟩ => ⟨S8x24576, .f32⟩
  | .hbm, ⟨19, _⟩ => ⟨S8x24576, .f32⟩
  | .hbm, ⟨20, _⟩ => ⟨S1x4096x24576, .f32⟩
  | .hbm, ⟨21, _⟩ => ⟨S4096x24576, .f32⟩
  | .hbm, ⟨22, _⟩ => ⟨S8x24576, .f32⟩
  | .hbm, ⟨23, _⟩ => ⟨S1x24576, .f32⟩
  | .hbm, ⟨24, _⟩ => ⟨S24576, .f32⟩
  | .hbm, ⟨25, _⟩ => ⟨S1x24576, .f32⟩
  | .hbm, ⟨26, _⟩ => ⟨S8x24576, .f32⟩
  | .hbm, ⟨27, _⟩ => ⟨S8x24576, .f32⟩
  | .hbm, ⟨28, _⟩ => ⟨S1x8x24576, .f32⟩
  | .hbm, ⟨29, _⟩ => ⟨S1x8x24576, .f32⟩
  | .hbm, ⟨30, _⟩ => ⟨S2x8x24576, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Kernel9.lean ====
abbrev S8x2048x4096 : Shape := ⟨3, ![8, 2048, 4096]⟩
abbrev S1x4096x10608 : Shape := ⟨3, ![1, 4096, 10608]⟩
abbrev S4096x10608 : Shape := ⟨2, ![4096, 10608]⟩
abbrev S4096x256 : Shape := ⟨2, ![4096, 256]⟩
abbrev S4096x16 : Shape := ⟨2, ![4096, 16]⟩
abbrev S_ : Shape := ⟨0, ![]⟩
abbrev S4096x128 : Shape := ⟨2, ![4096, 128]⟩
abbrev S4096x64 : Shape := ⟨2, ![4096, 64]⟩
abbrev S4096x32 : Shape := ⟨2, ![4096, 32]⟩
abbrev S4096x640 : Shape := ⟨2, ![4096, 640]⟩
abbrev S8x2048x640 : Shape := ⟨3, ![8, 2048, 640]⟩
abbrev S1x1024x4096 : Shape := ⟨3, ![1, 1024, 4096]⟩
abbrev S1x1024x640 : Shape := ⟨3, ![1, 1024, 640]⟩
abbrev S1024x4096 : Shape := ⟨2, ![1024, 4096]⟩
abbrev S1024x640 : Shape := ⟨2, ![1024, 640]⟩

abbrev nBuf : Space → Nat
  | .hbm => 19
  | .vmem => 5
  | .smem => 0
  | _ => 0

abbrev bufTy : (tb : Table) → Fin (tcTables nBuf tb) → BufTy
  | .hbm, ⟨0, _⟩ => ⟨S8x2048x4096, .bf16⟩
  | .hbm, ⟨1, _⟩ => ⟨S1x4096x10608, .f32⟩
  | .hbm, ⟨2, _⟩ => ⟨S4096x10608, .f32⟩
  | .hbm, ⟨3, _⟩ => ⟨S4096x256, .f32⟩
  | .hbm, ⟨4, _⟩ => ⟨S4096x16, .f32⟩
  | .hbm, ⟨5, _⟩ => ⟨S_, .i32⟩
  | .hbm, ⟨6, _⟩ => ⟨S_, .f32⟩
  | .hbm, ⟨7, _⟩ => ⟨S4096x128, .f32⟩
  | .hbm, ⟨8, _⟩ => ⟨S4096x64, .f32⟩
  | .hbm, ⟨9, _⟩ => ⟨S_, .i32⟩
  | .hbm, ⟨10, _⟩ => ⟨S_, .f32⟩
  | .hbm, ⟨11, _⟩ => ⟨S4096x128, .f32⟩
  | .hbm, ⟨12, _⟩ => ⟨S4096x32, .f32⟩
  | .hbm, ⟨13, _⟩ => ⟨S_, .i32⟩
  | .hbm, ⟨14, _⟩ => ⟨S_, .f32⟩
  | .hbm, ⟨15, _⟩ => ⟨S4096x128, .f32⟩
  | .hbm, ⟨16, _⟩ => ⟨S4096x640, .f32⟩
  | .hbm, ⟨17, _⟩ => ⟨S4096x640, .bf16⟩
  | .hbm, ⟨18, _⟩ => ⟨S8x2048x640, .f32⟩
  | .local _ .vmem, ⟨0, _⟩ => ⟨S1x1024x4096, .bf16⟩
  | .local _ .vmem, ⟨1, _⟩ => ⟨S1x1024x4096, .bf16⟩
  | .local _ .vmem, ⟨2, _⟩ => ⟨S4096x640, .bf16⟩
  | .local _ .vmem, ⟨3, _⟩ => ⟨S1x1024x640, .f32⟩
  | .local _ .vmem, ⟨4, _⟩ => ⟨S1x1024x640, .f32⟩
  | _, _ => ⟨S8x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_call1_v0 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_call2_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S4096x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference9Ideal.lean ====
abbrev S8x2048x4096 : Shape := ⟨3, ![8, 2048, 4096]⟩
abbrev S1x4096x10608 : Shape := ⟨3, ![1, 4096, 10608]⟩
abbrev S4096x10608 : Shape := ⟨2, ![4096, 10608]⟩
abbrev S8x2048x10608 : Shape := ⟨3, ![8, 2048, 10608]⟩
abbrev S8x2048x2048 : Shape := ⟨3, ![8, 2048, 2048]⟩
abbrev S8x2048x16 : Shape := ⟨3, ![8, 2048, 16]⟩
abbrev S8x2048x256 : Shape := ⟨3, ![8, 2048, 256]⟩
abbrev S8x2048x64 : Shape := ⟨3, ![8, 2048, 64]⟩
abbrev S8x2048x32 : Shape := ⟨3, ![8, 2048, 32]⟩
abbrev S_ : Shape := ⟨0, ![]⟩
abbrev S8x2048x128 : Shape := ⟨3, ![8, 2048, 128]⟩
abbrev S8x2048x640 : Shape := ⟨3, ![8, 2048, 640]⟩

abbrev nBuf : Space → Nat
  | .hbm => 24
  | .vmem => 0
  | .smem => 0
  | _ => 0

abbrev bufTy : (tb : Table) → Fin (tcTables nBuf tb) → BufTy
  | .hbm, ⟨0, _⟩ => ⟨S8x2048x4096, .bf16⟩
  | .hbm, ⟨1, _⟩ => ⟨S1x4096x10608, .f32⟩
  | .hbm, ⟨2, _⟩ => ⟨S8x2048x4096, .f32⟩
  | .hbm, ⟨3, _⟩ => ⟨S4096x10608, .f32⟩
  | .hbm, ⟨4, _⟩ => ⟨S8x2048x10608, .f32⟩
  | .hbm, ⟨5, _⟩ => ⟨S8x2048x2048, .f32⟩
  | .hbm, ⟨6, _⟩ => ⟨S8x2048x2048, .f32⟩
  | .hbm, ⟨7, _⟩ => ⟨S8x2048x2048, .f32⟩
  | .hbm, ⟨8, _⟩ => ⟨S8x2048x16, .f32⟩
  | .hbm, ⟨9, _⟩ => ⟨S8x2048x2048, .f32⟩
  | .hbm, ⟨10, _⟩ => ⟨S8x2048x256, .f32⟩
  | .hbm, ⟨11, _⟩ => ⟨S8x2048x2048, .f32⟩
  | .hbm, ⟨12, _⟩ => ⟨S8x2048x64, .f32⟩
  | .hbm, ⟨13, _⟩ => ⟨S8x2048x32, .f32⟩
  | .hbm, ⟨14, _⟩ => ⟨S_, .i32⟩
  | .hbm, ⟨15, _⟩ => ⟨S_, .f32⟩
  | .hbm, ⟨16, _⟩ => ⟨S8x2048x128, .f32⟩
  | .hbm, ⟨17, _⟩ => ⟨S_, .i32⟩
  | .hbm, ⟨18, _⟩ => ⟨S_, .f32⟩
  | .hbm, ⟨19, _⟩ => ⟨S8x2048x128, .f32⟩
  | .hbm, ⟨20, _⟩ => ⟨S_, .i32⟩
  | .hbm, ⟨21, _⟩ => ⟨S_, .f32⟩
  | .hbm, ⟨22, _⟩ => ⟨S8x2048x128, .f32⟩
  | .hbm, ⟨23, _⟩ => ⟨S8x2048x640, .f32⟩
  | _, _ => ⟨S8x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c : Ref sig .tc := ⟨.hbm, 14, rfl⟩
abbrev main_call0_v0 : Ref sig .tc := ⟨.hbm, 15, rfl⟩
abbrev main_v12 : Ref sig .tc := ⟨.hbm, 16, rfl⟩
abbrev main_c_0 : Ref sig .tc := ⟨.hbm, 17, rfl⟩
abbrev main_call1_v0 : Ref sig .tc := ⟨.hbm, 18, rfl⟩
abbrev main_v13 : Ref sig .tc := ⟨.hbm, 19, rfl⟩
abbrev main_c_1 : Ref sig .tc := ⟨.hbm, 20, rfl⟩
abbrev main_call2_v0 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Kernel10.lean ====
abbrev S8x2048x4096 : Shape := ⟨3, ![8, 2048, 4096]⟩
abbrev S2x4096 : Shape := ⟨2, ![2, 4096]⟩
abbrev S2x8x24576 : Shape := ⟨3, ![2, 8, 24576]⟩
abbrev S1x4096 : Shape := ⟨2, ![1, 4096]⟩
abbrev S4096 : Shape := ⟨1, ![4096]⟩
abbrev S1x8x24576 : Shape := ⟨3, ![1, 8, 24576]⟩
abbrev S8x24576 : Shape := ⟨2, ![8, 24576]⟩
abbrev S8x1x24576 : Shape := ⟨3, ![8, 1, 24576]⟩
abbrev S1x256x4096 : Shape := ⟨3, ![1, 256, 4096]⟩
abbrev S1x1x4096 : Shape := ⟨3, ![1, 1, 4096]⟩
abbrev S256x4096 : Shape := ⟨2, ![256, 4096]⟩
abbrev S256 : Shape := ⟨1, ![256]⟩
abbrev S256x1 : Shape := ⟨2, ![256, 1]⟩

abbrev nBuf : Space → Nat
  | .hbm => 10
  | .vmem => 9
  | .smem => 0
  | _ => 0

abbrev bufTy : (tb : Table) → Fin (tcTables nBuf tb) → BufTy
  | .hbm, ⟨0, _⟩ => ⟨S8x2048x4096, .f32⟩
  | .hbm, ⟨1, _⟩ => ⟨S2x4096, .f32⟩
  | .hbm, ⟨2, _⟩ => ⟨S2x8x24576, .f32⟩
  | .hbm, ⟨3, _⟩ => ⟨S1x4096, .f32⟩
  | .hbm, ⟨4, _⟩ => ⟨S4096, .f32⟩
  | .hbm, ⟨5, _⟩ => ⟨S1x8x24576, .f32⟩
  | .hbm, ⟨6, _⟩ => ⟨S8x24576, .f32⟩
  | .hbm, ⟨7, _⟩ => ⟨S8x1x24576, .f32⟩
  | .hbm, ⟨8, _⟩ => ⟨S1x4096, .f32⟩
  | .hbm, ⟨9, _⟩ => ⟨S8x2048x4096, .bf16⟩
  | .local _ .vmem, ⟨0, _⟩ => ⟨S1x256x4096, .f32⟩
  | .local _ .vmem, ⟨1, _⟩ => ⟨S1x256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x256x4096, .bf16⟩
  | .local _ .vmem, ⟨8, _⟩ => ⟨S1x256x4096, .bf16⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference10Ideal.lean ====
abbrev S8x2048x4096 : Shape := ⟨3, ![8, 2048, 4096]⟩
abbrev S2x4096 : Shape := ⟨2, ![2, 4096]⟩
abbrev S2x8x24576 : Shape := ⟨3, ![2, 8, 24576]⟩
abbrev S1x8x24576 : Shape := ⟨3, ![1, 8, 24576]⟩
abbrev S8x24576 : Shape := ⟨2, ![8, 24576]⟩
abbrev S8x4096 : Shape := ⟨2, ![8, 4096]⟩
abbrev S_ : Shape := ⟨0, ![]⟩
abbrev S8x2048 : Shape := ⟨2, ![8, 2048]⟩
abbrev S8x2048x1 : Shape := ⟨3, ![8, 2048, 1]⟩
abbrev S1x4096 : Shape := ⟨2, ![1, 4096]⟩
abbrev S4096 : Shape := ⟨1, ![4096]⟩
abbrev S1x1x4096 : Shape := ⟨3, ![1, 1, 4096]⟩
abbrev S8x1x4096 : Shape := ⟨3, ![8, 1, 4096]⟩

abbrev nBuf : Space → Nat
  | .hbm => 39
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S2x4096, .f32⟩
  | .hbm, ⟨2, _⟩ => ⟨S2x8x24576, .f32⟩
  | .hbm, ⟨3, _⟩ => ⟨S1x8x24576, .f32⟩
  | .hbm, ⟨4, _⟩ => ⟨S8x24576, .f32⟩
  | .hbm, ⟨5, _⟩ => ⟨S8x4096, .f32⟩
  | .hbm, ⟨6, _⟩ => ⟨S8x4096, .f32⟩
  | .hbm, ⟨7, _⟩ => ⟨S8x4096, .f32⟩
  | .hbm, ⟨8, _⟩ => ⟨S8x4096, .f32⟩
  | .hbm, ⟨9, _⟩ => ⟨S8x4096, .f32⟩
  | .hbm, ⟨10, _⟩ => ⟨S8x4096, .f32⟩
  | .hbm, ⟨11, _⟩ => ⟨S8x2048x4096, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x1, .f32⟩
  | .hbm, ⟨22, _⟩ => ⟨S8x2048x4096, .f32⟩
  | .hbm, ⟨23, _⟩ => ⟨S8x2048x4096, .f32⟩
  | .hbm, ⟨24, _⟩ => ⟨S1x4096, .f32⟩
  | .hbm, ⟨25, _⟩ => ⟨S4096, .f32⟩
  | .hbm, ⟨26, _⟩ => ⟨S1x1x4096, .f32⟩
  | .hbm, ⟨27, _⟩ => ⟨S8x2048x4096, .f32⟩
  | .hbm, ⟨28, _⟩ => ⟨S8x2048x4096, .f32⟩
  | .hbm, ⟨29, _⟩ => ⟨S8x1x4096, .f32⟩
  | .hbm, ⟨30, _⟩ => ⟨S_, .f32⟩
  | .hbm, ⟨31, _⟩ => ⟨S8x1x4096, .f32⟩
  | .hbm, ⟨32, _⟩ => ⟨S8x1x4096, .f32⟩
  | .hbm, ⟨33, _⟩ => ⟨S8x2048x4096, .f32⟩
  | .hbm, ⟨34, _⟩ => ⟨S8x2048x4096, .f32⟩
  | .hbm, ⟨35, _⟩ => ⟨S8x1x4096, .f32⟩
  | .hbm, ⟨36, _⟩ => ⟨S8x2048x4096, .f32⟩
  | .hbm, ⟨37, _⟩ => ⟨S8x2048x4096, .f32⟩
  | .hbm, ⟨38, _⟩ => ⟨S8x2048x4096, .bf16⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩

abbrev nD : Nat := 1
abbrev τ : Topo := Topo.v7x

variable {F : FTy → Type} [FloatOps F]
-- ==== Kernel11.lean ====
abbrev S8x2048x640 : Shape := ⟨3, ![8, 2048, 640]⟩
abbrev S1x256 : Shape := ⟨2, ![1, 256]⟩
abbrev S1x16 : Shape := ⟨2, ![1, 16]⟩
abbrev S256 : Shape := ⟨1, ![256]⟩
abbrev S16 : Shape := ⟨1, ![16]⟩
abbrev S16x1 : Shape := ⟨2, ![16, 1]⟩
abbrev S8x2048x256 : Shape := ⟨3, ![8, 2048, 256]⟩
abbrev S8x16x2048 : Shape := ⟨3, ![8, 16, 2048]⟩
abbrev S8x2048x128 : Shape := ⟨3, ![8, 2048, 128]⟩
abbrev S8x2048x32 : Shape := ⟨3, ![8, 2048, 32]⟩
abbrev S1x2048x640 : Shape := ⟨3, ![1, 2048, 640]⟩
abbrev S1x2048x256 : Shape := ⟨3, ![1, 2048, 256]⟩
abbrev S1x16x2048 : Shape := ⟨3, ![1, 16, 2048]⟩
abbrev S1x2048x128 : Shape := ⟨3, ![1, 2048, 128]⟩
abbrev S1x2048x32 : Shape := ⟨3, ![1, 2048, 32]⟩
abbrev S2048x640 : Shape := ⟨2, ![2048, 640]⟩
abbrev S2048x256 : Shape := ⟨2, ![2048, 256]⟩
abbrev S2048 : Shape := ⟨1, ![2048]⟩
abbrev S2048x1 : Shape := ⟨2, ![2048, 1]⟩
abbrev S2048x128 : Shape := ⟨2, ![2048, 128]⟩
abbrev S128x2048 : Shape := ⟨2, ![128, 2048]⟩
abbrev S16x2048 : Shape := ⟨2, ![16, 2048]⟩
abbrev S2048x64 : Shape := ⟨2, ![2048, 64]⟩
abbrev S2048x32 : Shape := ⟨2, ![2048, 32]⟩

abbrev nBuf : Space → Nat
  | .hbm => 12
  | .vmem => 14
  | .smem => 0
  | _ => 0

abbrev bufTy : (tb : Table) → Fin (tcTables nBuf tb) → BufTy
  | .hbm, ⟨0, _⟩ => ⟨S8x2048x640, .f32⟩
  | .hbm, ⟨1, _⟩ => ⟨S1x256, .f32⟩
  | .hbm, ⟨2, _⟩ => ⟨S1x16, .f32⟩
  | .hbm, ⟨3, _⟩ => ⟨S256, .f32⟩
  | .hbm, ⟨4, _⟩ => ⟨S16, .f32⟩
  | .hbm, ⟨5, _⟩ => ⟨S1x256, .f32⟩
  | .hbm, ⟨6, _⟩ => ⟨S16x1, .f32⟩
  | .hbm, ⟨7, _⟩ => ⟨S8x2048x256, .bf16⟩
  | .hbm, ⟨8, _⟩ => ⟨S8x16x2048, .f32⟩
  | .hbm, ⟨9, _⟩ => ⟨S8x2048x128, .bf16⟩
  | .hbm, ⟨10, _⟩ => ⟨S8x2048x128, .bf16⟩
  | .hbm, ⟨11, _⟩ => ⟨S8x2048x32, .f32⟩
  | .local _ .vmem, ⟨0, _⟩ => ⟨S1x2048x640, .f32⟩
  | .local _ .vmem, ⟨1, _⟩ => ⟨S1x2048x640, .f32⟩
  | .local _ .vmem, ⟨2, _⟩ => ⟨S1x256, .f32⟩
  | .local _ .vmem, ⟨3, _⟩ => ⟨S16x1, .f32⟩
  | .local _ .vmem, ⟨4, _⟩ => ⟨S1x2048x256, .bf16⟩
  | .local _ .vmem, ⟨5, _⟩ => ⟨S1x2048x256, .bf16⟩
  | .local _ .vmem, ⟨6, _⟩ => ⟨S1x16x2048, .f32⟩
  | .local _ .vmem, ⟨7, _⟩ => ⟨S1x16x2048, .f32⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x2048x32, .f32⟩
  | .local _ .vmem, ⟨13, _⟩ => ⟨S1x2048x32, .f32⟩
  | _, _ => ⟨S8x2048x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev main_v4_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2048x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference11Ideal.lean ====
abbrev S8x2048x640 : Shape := ⟨3, ![8, 2048, 640]⟩
abbrev S1x256 : Shape := ⟨2, ![1, 256]⟩
abbrev S1x16 : Shape := ⟨2, ![1, 16]⟩
abbrev S8x2048x256 : Shape := ⟨3, ![8, 2048, 256]⟩
abbrev S8x2048x16 : Shape := ⟨3, ![8, 2048, 16]⟩
abbrev S8x2048x64 : Shape := ⟨3, ![8, 2048, 64]⟩
abbrev S8x2048x32 : Shape := ⟨3, ![8, 2048, 32]⟩
abbrev S_ : Shape := ⟨0, ![]⟩
abbrev S8x2048 : Shape := ⟨2, ![8, 2048]⟩
abbrev S8x2048x1 : Shape := ⟨3, ![8, 2048, 1]⟩
abbrev S256 : Shape := ⟨1, ![256]⟩
abbrev S1x1x256 : Shape := ⟨3, ![1, 1, 256]⟩
abbrev S16 : Shape := ⟨1, ![16]⟩
abbrev S1x1x16 : Shape := ⟨3, ![1, 1, 16]⟩
abbrev S8x16x2048 : Shape := ⟨3, ![8, 16, 2048]⟩
abbrev S8x2048x128 : Shape := ⟨3, ![8, 2048, 128]⟩

abbrev nBuf : Space → Nat
  | .hbm => 62
  | .vmem => 0
  | .smem => 0
  | _ => 0

abbrev bufTy : (tb : Table) → Fin (tcTables nBuf tb) → BufTy
  | .hbm, ⟨0, _⟩ => ⟨S8x2048x640, .f32⟩
  | .hbm, ⟨1, _⟩ => ⟨S1x256, .f32⟩
  | .hbm, ⟨2, _⟩ => ⟨S1x16, .f32⟩
  | .hbm, ⟨3, _⟩ => ⟨S8x2048x256, .f32⟩
  | .hbm, ⟨4, _⟩ => ⟨S8x2048x16, .f32⟩
  | .hbm, ⟨5, _⟩ => ⟨S8x2048x64, .f32⟩
  | .hbm, ⟨6, _⟩ => ⟨S8x2048x32, .f32⟩
  | .hbm, ⟨7, _⟩ => ⟨S8x2048x256, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x256, .f32⟩
  | .hbm, ⟨19, _⟩ => ⟨S8x2048x256, .f32⟩
  | .hbm, ⟨20, _⟩ => ⟨S256, .f32⟩
  | .hbm, ⟨21, _⟩ => ⟨S1x1x256, .f32⟩
  | .hbm, ⟨22, _⟩ => ⟨S8x2048x256, .f32⟩
  | .hbm, ⟨23, _⟩ => ⟨S8x2048x256, .f32⟩
  | .hbm, ⟨24, _⟩ => ⟨S16, .f32⟩
  | .hbm, ⟨25, _⟩ => ⟨S1x1x16, .f32⟩
  | .hbm, ⟨26, _⟩ => ⟨S8x2048x16, .f32⟩
  | .hbm, ⟨27, _⟩ => ⟨S8x2048x16, .f32⟩
  | .hbm, ⟨28, _⟩ => ⟨S8x2048x16, .f32⟩
  | .hbm, ⟨29, _⟩ => ⟨S_, .f32⟩
  | .hbm, ⟨30, _⟩ => ⟨S8x2048x16, .f32⟩
  | .hbm, ⟨31, _⟩ => ⟨S8x2048x16, .f32⟩
  | .hbm, ⟨32, _⟩ => ⟨S8x2048x16, .f32⟩
  | .hbm, ⟨33, _⟩ => ⟨S8x2048x16, .f32⟩
  | .hbm, ⟨34, _⟩ => ⟨S8x2048x16, .i1⟩
  | .hbm, ⟨35, _⟩ => ⟨S8x2048x16, .f32⟩
  | .hbm, ⟨36, _⟩ => ⟨S8x2048x16, .f32⟩
  | .hbm, ⟨37, _⟩ => ⟨S8x2048x16, .f32⟩
  | .hbm, ⟨38, _⟩ => ⟨S8x2048x16, .f32⟩
  | .hbm, ⟨39, _⟩ => ⟨S8x2048x16, .f32⟩
  | .hbm, ⟨40, _⟩ => ⟨S8x2048x16, .f32⟩
  | .hbm, ⟨41, _⟩ => ⟨S8x2048x16, .f32⟩
  | .hbm, ⟨42, _⟩ => ⟨S8x2048x16, .f32⟩
  | .hbm, ⟨43, _⟩ => ⟨S8x2048x16, .f32⟩
  | .hbm, ⟨44, _⟩ => ⟨S_, .f32⟩
  | .hbm, ⟨45, _⟩ => ⟨S_, .f32⟩
  | .hbm, ⟨46, _⟩ => ⟨S8x2048x16, .f32⟩
  | .hbm, ⟨47, _⟩ => ⟨S_, .f32⟩
  | .hbm, ⟨48, _⟩ => ⟨S8x2048x64, .f32⟩
  | .hbm, ⟨49, _⟩ => ⟨S8x2048x256, .bf16⟩
  | .hbm, ⟨50, _⟩ => ⟨S8x16x2048, .f32⟩
  | .hbm, ⟨51, _⟩ => ⟨S8x16x2048, .f32⟩
  | .hbm, ⟨52, _⟩ => ⟨S8x2048x128, .f32⟩
  | .hbm, ⟨53, _⟩ => ⟨S8x2048x128, .bf16⟩
  | .hbm, ⟨54, _⟩ => ⟨S8x2048x128, .f32⟩
  | .hbm, ⟨55, _⟩ => ⟨S8x2048x128, .bf16⟩
  | .hbm, ⟨56, _⟩ => ⟨S_, .f32⟩
  | .hbm, ⟨57, _⟩ => ⟨S8x2048x32, .f32⟩
  | .hbm, ⟨58, _⟩ => ⟨S8x2048x32, .f32⟩
  | .hbm, ⟨59, _⟩ => ⟨S_, .f32⟩
  | .hbm, ⟨60, _⟩ => ⟨S8x2048x32, .f32⟩
  | .hbm, ⟨61, _⟩ => ⟨S8x2048x32, .f32⟩
  | _, _ => ⟨S8x2048x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_call0_v0 : Ref sig .tc := ⟨.hbm, 28, rfl⟩
abbrev main_call0_call0_cst : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_v1 : Ref sig .tc := ⟨.hbm, 42, rfl⟩
abbrev main_v22 : Ref sig .tc := ⟨.hbm, 43, rfl⟩
abbrev main_call1_call0_cst : Ref sig .tc := ⟨.hbm, 44, rfl⟩
abbrev main_call1_call0_v0 : Ref sig .tc := ⟨.hbm, 45, rfl⟩
abbrev main_v23 : Ref sig .tc := ⟨.hbm, 46, rfl⟩
abbrev main_cst_2 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_3 : Ref sig .tc := ⟨.hbm, 56, rfl⟩
abbrev main_v32 : Ref sig .tc := ⟨.hbm, 57, rfl⟩
abbrev main_v33 : Ref sig .tc := ⟨.hbm, 58, rfl⟩
abbrev main_cst_4 : Ref sig .tc := ⟨.hbm, 59, rfl⟩
abbrev main_v34 : Ref sig .tc := ⟨.hbm, 60, rfl⟩
abbrev main_v35 : Ref sig .tc := ⟨.hbm, 61, rfl⟩

abbrev nD : Nat := 1
abbrev τ : Topo := Topo.v7x

variable {F : FTy → Type} [FloatOps F]
-- ==== Proof.V.ShortConv.lean ====
/- The gated short convolution: a block of columns of the result, all rows at once, is the block of the reference. -/
module

public import proofs.«01_k».proof.Defs
public import proofs.«01_k».proof.Proof.Gen.Kernel2Ideal.Value
public import proofs.«01_k».proof.Proof.Gen.Reference2Ideal.Run
public import Idealize.ShloMosaic.Lib.Claim
public import Idealize.ShloMosaic.Lib.Pointwise
public import Idealize.ShloMosaic.Lib.Pipeline.ValueKit

@[expose] public section

set_option maxRecDepth 16384

noncomputable section

namespace Cert.Proof.ShortConv

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- One entry of the three projections, side by side. -/
def z (h : FVec Ideal S8x2048x4096 .bf16) (w : FVec Ideal S1x4096x12288 .f32) (b : Fin 8) (s : Fin 2048) (e : Fin 12288) : EReal :=
  ∑ k : Fin 4096, (h (ix3 b s k) : EReal) * w (ix3 0 k e)

/-- The product that the convolution runs over. -/
def p (h : FVec Ideal S8x2048x4096 .bf16) (w : FVec Ideal S1x4096x12288 .f32) (b : Fin 8) (s : Fin 2048) (d : Fin 4096) : EReal :=
  z h w b s ⟨4096 + d.val, by omega⟩ * z h w b s ⟨8192 + d.val, by omega⟩

/-- The product `n` rows back, zero before the first row. -/
def back (h : FVec Ideal S8x2048x4096 .bf16) (w : FVec Ideal S1x4096x12288 .f32) (n : ℕ) (b : Fin 8) (s : Fin 2048) (d : Fin 4096) : EReal :=
  if n ≤ s.val then p h w b ⟨s.val - n, by omega⟩ d else 0

/-- The gated convolution, element by element. -/
def conv (h : FVec Ideal S8x2048x4096 .bf16) (w : FVec Ideal S1x4096x12288 .f32) (cw : FVec Ideal S1x3x4096 .f32) : FVec Ideal S8x2048x4096 .bf16 :=
  fun j => z h w (j 0) (j 1) ⟨(j 2).val, Nat.lt_of_lt_of_le (j 2).isLt (by decide)⟩
    * (back h w 2 (j 0) (j 1) (j 2) * cw (ix3 0 0 (j 2)) + back h w 1 (j 0) (j 1) (j 2) * cw (ix3 0 1 (j 2))
      + p h w (j 0) (j 1) (j 2) * cw (ix3 0 2 (j 2)))

theorem flat_apply (w : FVec Ideal S1x4096x12288 .f32) (k : Fin 4096) (i : Fin 12288) :
    (truncf .bf16 (shapeCast S4096x12288 w shapeCasts_S1x4096x12288_S4096x12288 : FVec Ideal S4096x12288 .f32) bitsLt_bf16_f32 : FVec Ideal S4096x12288 .bf16) (ix2 k i)
      = w (ix3 0 k i) := by
  pointwise

theorem taps_apply (w : FVec Ideal S1x3x4096 .f32) (k : Fin 3) (i : Fin 4096) :
    (shapeCast S3x4096 w shapeCasts_S1x3x4096_S3x4096 : FVec Ideal S3x4096 .f32) (ix2 k i) = w (ix3 0 k i) := by
  pointwise

/-- The weight and the taps as the host prepares them. -/
theorem weight (c : Dev nD) : V m c main_v1
    = (truncf .bf16 (shapeCast S4096x12288 (m ((c : Thread nD τ).loc main_arg1)) shapeCasts_S1x4096x12288_S4096x12288 : FVec Ideal S4096x12288 .f32) bitsLt_bf16_f32 : FVec Ideal S4096x12288 .bf16) := by
  unfold V
  after_results <;> rfl

theorem taps (c : Dev nD) : V m c main_v2
    = (shapeCast S3x4096 (m ((c : Thread nD τ).loc main_arg2)) shapeCasts_S1x3x4096_S3x4096 : FVec Ideal S3x4096 .f32) := by
  unfold V
  after_results <;> rfl

theorem idx : ∀ t : Fin cfg0.N, (cfg0.win 0).index t = ![(grid0.coords t 0).val, 0, 0]
    ∧ (cfg0.win 1).index t = ![0, (grid0.coords t 1).val]
    ∧ (cfg0.win 2).index t = ![0, 16 + (grid0.coords t 1).val]
    ∧ (cfg0.win 3).index t = ![0, 32 + (grid0.coords t 1).val]
    ∧ (cfg0.win 4).index t = ![0, (grid0.coords t 1).val]
    ∧ (cfg0.win 5).index t = ![(grid0.coords t 0).val, 0, (grid0.coords t 1).val] := by
  decide +kernel

theorem weight1_at (c : Dev nD) (t : Fin cfg0.N) (k : Fin 4096) (j : Fin 256) (i : Fin 12288)
    (hi : i.val = (grid0.coords t 1).val * 256 + j.val) :
    iblk m c 1 t (ix2 k j) = m ((c : Thread nD τ).loc main_arg1) (ix3 0 k i) := by
  refine Eq.trans ?_ ((congrFun (weight m c) (ix2 k i)).trans (flat_apply _ k i))
  blk_ext! [iblk, idx t, hi]

theorem weight2_at (c : Dev nD) (t : Fin cfg0.N) (k : Fin 4096) (j : Fin 256) (i : Fin 12288)
    (hi : i.val = 4096 + ((grid0.coords t 1).val * 256 + j.val)) :
    iblk m c 2 t (ix2 k j) = m ((c : Thread nD τ).loc main_arg1) (ix3 0 k i) := by
  refine Eq.trans ?_ ((congrFun (weight m c) (ix2 k i)).trans (flat_apply _ k i))
  blk_ext! [iblk, idx t, hi]

theorem weight3_at (c : Dev nD) (t : Fin cfg0.N) (k : Fin 4096) (j : Fin 256) (i : Fin 12288)
    (hi : i.val = 8192 + ((grid0.coords t 1).val * 256 + j.val)) :
    iblk m c 3 t (ix2 k j) = m ((c : Thread nD τ).loc main_arg1) (ix3 0 k i) := by
  refine Eq.trans ?_ ((congrFun (weight m c) (ix2 k i)).trans (flat_apply _ k i))
  blk_ext! [iblk, idx t, hi]

theorem taps_at (c : Dev nD) (t : Fin cfg0.N) (k : Fin 3) (j : Fin 256) (i : Fin 4096)
    (hi : i.val = (grid0.coords t 1).val * 256 + j.val) :
    iblk m c 4 t (ix2 k j) = m ((c : Thread nD τ).loc main_arg2) (ix3 0 k i) := by
  refine Eq.trans ?_ ((congrFun (taps m c) (ix2 k i)).trans (taps_apply _ k i))
  blk_ext! [iblk, idx t, hi]

/-- The kernel's row test as a test of row numbers. -/
theorem sge_word (r n : ℕ) (hr : r < 2 ^ 31) (hn : n < 2 ^ 31) :
    IntOp.cmpi .sge (BitVec.ofNat 32 r) (BitVec.ofNat 32 n) = BitVec.ofBool (decide (n ≤ r)) :=
  WordCmp.cmpi_sge_ofNat (w := 32) hr hn

/-- A payload read at an index, over blocks that are variables. -/
theorem pay_apply (x0 : Vec Ideal S1x2048x4096 .bf16) (x1 x2 x3 : Vec Ideal S4096x256 .bf16) (x4 : Vec Ideal S3x256 .f32)
    (Z1 Z2 Z3 : Fin 2048 → Fin 256 → EReal)
    (h1 : ∀ r d, ∑ k : Fin 4096, (x0 (ix3 0 r k) : EReal) * x1 (ix2 k d) = Z1 r d)
    (h2 : ∀ r d, ∑ k : Fin 4096, (x0 (ix3 0 r k) : EReal) * x2 (ix2 k d) = Z2 r d)
    (h3 : ∀ r d, ∑ k : Fin 4096, (x0 (ix3 0 r k) : EReal) * x3 (ix2 k d) = Z3 r d) (r : Fin 2048) (d : Fin 256) :
    k0_pay1 (k0_pay2 x0 x1 x2 x3 x4) (ix3 0 r d)
      = Z1 r d * ((if 2 ≤ r.val then Z2 ⟨r.val - 2, by omega⟩ d * Z3 ⟨r.val - 2, by omega⟩ d else 0) * x4 (ix2 0 d)
          + (if 1 ≤ r.val then Z2 ⟨r.val - 1, by omega⟩ d * Z3 ⟨r.val - 1, by omega⟩ d else 0) * x4 (ix2 1 d)
          + Z2 r d * Z3 r d * x4 (ix2 2 d)) := by
  pointwise [k0_pay1, k0_pay2]
  simp only [h1, h2, h3, sge_word _ 2 (Nat.lt_trans r.isLt (by decide)) (by decide), sge_word _ 1 (Nat.lt_trans r.isLt (by decide)) (by decide)]
  have hr := r.isLt
  refine congrArg (fun a : EReal => Z1 r d * a) (congrArg₂ (fun a b : EReal => a + b + _) ?_ ?_)
  · by_cases h : 2 ≤ r.val
    · have e : (r.val + 2048 - 2) % 2048 = r.val - 2 := by omega
      simp only [h, decide_true, if_true, BitVec.ofBool_true, e]
      rfl
    · simp only [h, decide_false, if_false, BitVec.ofBool_false, zero_mul]
      rfl
  · by_cases h : 1 ≤ r.val
    · have e : (r.val + 2048 - 1) % 2048 = r.val - 1 := by omega
      simp only [h, decide_true, if_true, BitVec.ofBool_true, e]
      rfl
    · simp only [h, decide_false, if_false, BitVec.ofBool_false, zero_mul]
      rfl

/-- The reference's projections. -/
def D (h : FVec Ideal S8x2048x4096 .bf16) (w : FVec Ideal S1x4096x12288 .f32) : FVec Ideal Cert.Reference2Ideal.S8x2048x12288 .f32 :=
  Host.dotGeneral Cert.Reference2Ideal.dot_S8x2048x4096_S4096x12288_S8x2048x12288_2_0_01_1_n_n none (extf .f32 h Cert.Reference2Ideal.Gen.bitsLt_bf16_f32) (shapeCast Cert.Reference2Ideal.S4096x12288 w Cert.Reference2Ideal.Gen.shapeCasts_S1x4096x12288_S4096x12288)

theorem D_apply (h : FVec Ideal S8x2048x4096 .bf16) (w : FVec Ideal S1x4096x12288 .f32) (b : Fin 8) (s : Fin 2048) (e : Fin 12288) :
    D h w (ix3 b s e) = z h w b s e := by
  pointwise [D, z]

/-- The reference's term over its projections. -/
def REF (D : FVec Ideal Cert.Reference2Ideal.S8x2048x12288 .f32) (cw : FVec Ideal S1x3x4096 .f32) : FVec Ideal S8x2048x4096 .bf16 :=
  truncf .bf16 (mulf (extractStridedSlice Cert.Reference2Ideal.S8x2048x4096 ![0, 0, 0] D Cert.Reference2Ideal.Gen.slices_S8x2048x12288_S8x2048x4096_0_0_0) (addf (addf (addf (broadcastInDim Cert.Reference2Ideal.S8x2048x4096 ![] Cert.Reference2Ideal.Gen.bcast_S_S8x2048x4096 (constant Cert.Reference2Ideal.S_ .f32 0x00000000#32)) (mulf (extractStridedSlice Cert.Reference2Ideal.S8x2048x4096 ![0, 0, 0] (pad Cert.Reference2Ideal.S8x2050x4096 ![0, 2, 0] ![0, 0, 0] ![0, 0, 0] (mulf (extractStridedSlice Cert.Reference2Ideal.S8x2048x4096 ![0, 0, 4096] D Cert.Reference2Ideal.Gen.slices_S8x2048x12288_S8x2048x4096_0_0_4096) (extractStridedSlice Cert.Reference2Ideal.S8x2048x4096 ![0, 0, 8192] D Cert.Reference2Ideal.Gen.slices_S8x2048x12288_S8x2048x4096_0_0_8192)) (sitofp .f32 (constantI Cert.Reference2Ideal.S_ 32 0#32)) Cert.Reference2Ideal.Gen.pads_S8x2048x4096_S8x2050x4096_000_200_000 Cert.Reference2Ideal.Gen.h_S_) Cert.Reference2Ideal.Gen.slices_S8x2050x4096_S8x2048x4096_0_0_0) (broadcastInDim Cert.Reference2Ideal.S8x2048x4096 ![0, 1, 2] Cert.Reference2Ideal.Gen.bcast_S1x1x4096_S8x2048x4096_0_1_2 (broadcastInDim Cert.Reference2Ideal.S1x1x4096 ![2] Cert.Reference2Ideal.Gen.bcast_S4096_S1x1x4096_2 (shapeCast Cert.Reference2Ideal.S4096 (extractStridedSlice Cert.Reference2Ideal.S1x1x4096 ![0, 0, 0] cw Cert.Reference2Ideal.Gen.slices_S1x3x4096_S1x1x4096_0_0_0) Cert.Reference2Ideal.Gen.shapeCasts_S1x1x4096_S4096))))) (mulf (extractStridedSlice Cert.Reference2Ideal.S8x2048x4096 ![0, 1, 0] (pad Cert.Reference2Ideal.S8x2050x4096 ![0, 2, 0] ![0, 0, 0] ![0, 0, 0] (mulf (extractStridedSlice Cert.Reference2Ideal.S8x2048x4096 ![0, 0, 4096] D Cert.Reference2Ideal.Gen.slices_S8x2048x12288_S8x2048x4096_0_0_4096) (extractStridedSlice Cert.Reference2Ideal.S8x2048x4096 ![0, 0, 8192] D Cert.Reference2Ideal.Gen.slices_S8x2048x12288_S8x2048x4096_0_0_8192)) (sitofp .f32 (constantI Cert.Reference2Ideal.S_ 32 0#32)) Cert.Reference2Ideal.Gen.pads_S8x2048x4096_S8x2050x4096_000_200_000 Cert.Reference2Ideal.Gen.h_S_) Cert.Reference2Ideal.Gen.slices_S8x2050x4096_S8x2048x4096_0_1_0) (broadcastInDim Cert.Reference2Ideal.S8x2048x4096 ![0, 1, 2] Cert.Reference2Ideal.Gen.bcast_S1x1x4096_S8x2048x4096_0_1_2 (broadcastInDim Cert.Reference2Ideal.S1x1x4096 ![2] Cert.Reference2Ideal.Gen.bcast_S4096_S1x1x4096_2 (shapeCast Cert.Reference2Ideal.S4096 (extractStridedSlice Cert.Reference2Ideal.S1x1x4096 ![0, 1, 0] cw Cert.Reference2Ideal.Gen.slices_S1x3x4096_S1x1x4096_0_1_0) Cert.Reference2Ideal.Gen.shapeCasts_S1x1x4096_S4096))))) (mulf (extractStridedSlice Cert.Reference2Ideal.S8x2048x4096 ![0, 2, 0] (pad Cert.Reference2Ideal.S8x2050x4096 ![0, 2, 0] ![0, 0, 0] ![0, 0, 0] (mulf (extractStridedSlice Cert.Reference2Ideal.S8x2048x4096 ![0, 0, 4096] D Cert.Reference2Ideal.Gen.slices_S8x2048x12288_S8x2048x4096_0_0_4096) (extractStridedSlice Cert.Reference2Ideal.S8x2048x4096 ![0, 0, 8192] D Cert.Reference2Ideal.Gen.slices_S8x2048x12288_S8x2048x4096_0_0_8192)) (sitofp .f32 (constantI Cert.Reference2Ideal.S_ 32 0#32)) Cert.Reference2Ideal.Gen.pads_S8x2048x4096_S8x2050x4096_000_200_000 Cert.Reference2Ideal.Gen.h_S_) Cert.Reference2Ideal.Gen.slices_S8x2050x4096_S8x2048x4096_0_2_0) (broadcastInDim Cert.Reference2Ideal.S8x2048x4096 ![0, 1, 2] Cert.Reference2Ideal.Gen.bcast_S1x1x4096_S8x2048x4096_0_1_2 (broadcastInDim Cert.Reference2Ideal.S1x1x4096 ![2] Cert.Reference2Ideal.Gen.bcast_S4096_S1x1x4096_2 (shapeCast Cert.Reference2Ideal.S4096 (extractStridedSlice Cert.Reference2Ideal.S1x1x4096 ![0, 2, 0] cw Cert.Reference2Ideal.Gen.slices_S1x3x4096_S1x1x4096_0_2_0) Cert.Reference2Ideal.Gen.shapeCasts_S1x1x4096_S4096)))))) Cert.Reference2Ideal.Gen.bitsLt_bf16_f32

theorem ref (h : FVec Ideal S8x2048x4096 .bf16) (w : FVec Ideal S1x4096x12288 .f32) (cw : FVec Ideal S1x3x4096 .f32) : REF (D h w) cw = conv h w cw := by
  funext j
  idx_vars j
  pointwise [REF, conv, back, p]
  have h0 : (FloatOps.sitofp .f32 0#32 : Ideal .f32) = (0 : EReal) := by
    show ((((0#32 : BitVec 32).toInt : ℤ) : ℝ) : EReal) = 0
    simp
  have hj := j1.isLt
  simp only [D_apply, h0]
  refine congrArg (fun a : EReal => _ * a) (congrArg₂ (fun a b : EReal => a + b + _) ?_ ?_)
  · by_cases h : 2 ≤ j1.val
    · rw [dif_pos ⟨h, by omega⟩, if_pos h]
    · rw [dif_neg fun q => h q.1, if_neg h]
  · by_cases h : 1 ≤ j1.val
    · have e : 1 + j1.val - 2 = j1.val - 1 := by omega
      rw [dif_pos ⟨by omega, by omega⟩, if_pos h]
      simp only [e]
    · rw [dif_neg fun q => h (by omega), if_neg h]

/-- The rows of the window of a batch are the rows of that batch. -/
theorem block_at (c : Dev nD) (t : Fin cfg0.N) (r : Fin 2048) (k : Fin 4096) :
    iblk m c 0 t (ix3 0 r k) = m ((c : Thread nD τ).loc main_arg0) (ix3 ⟨(grid0.coords t 0).val, (grid0.coords t 0).isLt⟩ r k) := by
  blk_ext! [iblk, V, idx t]

theorem out_at (t : Fin cfg0.N) (r : Fin 2048) (d : Fin 256) (hN : (grid0.coords t 1).val < 16) : ((cfg0.win 5).blk t).view.emb (ix3 0 r d)
    = ix3 ⟨(grid0.coords t 0).val, (grid0.coords t 0).isLt⟩ r ⟨(grid0.coords t 1).val * 256 + d.val, by omega⟩ := by
  funext a
  apply Fin.ext
  fin_cases a <;> blk_simp [idx t] <;> rfl

theorem point (c : Dev nD) (t : Fin cfg0.N) (y) :
    k0_pay1 (k0_pay2 (iblk m c 0 t) (iblk m c 1 t) (iblk m c 2 t) (iblk m c 3 t) (iblk m c 4 t)) y
    = conv (m ((c : Thread nD τ).loc main_arg0)) (m ((c : Thread nD τ).loc main_arg1)) (m ((c : Thread nD τ).loc main_arg2))
        (((cfg0.win 5).blk t).view.emb y) := by
  have hN : (grid0.coords t 1).val < 16 := (grid0.coords t 1).isLt
  idx_vars y
  have hp := pay_apply (iblk m c 0 t) (iblk m c 1 t) (iblk m c 2 t) (iblk m c 3 t) (iblk m c 4 t)
    (fun r d => z (m ((c : Thread nD τ).loc main_arg0)) (m ((c : Thread nD τ).loc main_arg1)) ⟨(grid0.coords t 0).val, (grid0.coords t 0).isLt⟩ r ⟨(grid0.coords t 1).val * 256 + d.val, by omega⟩)
    (fun r d => z (m ((c : Thread nD τ).loc main_arg0)) (m ((c : Thread nD τ).loc main_arg1)) ⟨(grid0.coords t 0).val, (grid0.coords t 0).isLt⟩ r ⟨4096 + ((grid0.coords t 1).val * 256 + d.val), by omega⟩)
    (fun r d => z (m ((c : Thread nD τ).loc main_arg0)) (m ((c : Thread nD τ).loc main_arg1)) ⟨(grid0.coords t 0).val, (grid0.coords t 0).isLt⟩ r ⟨8192 + ((grid0.coords t 1).val * 256 + d.val), by omega⟩)
    (fun r d => Finset.sum_congr (M := EReal) rfl fun k _ => congrArg₂ (fun a b : EReal => a * b) (block_at m c t r k) (weight1_at m c t k d _ rfl))
    (fun r d => Finset.sum_congr (M := EReal) rfl fun k _ => congrArg₂ (fun a b : EReal => a * b) (block_at m c t r k) (weight2_at m c t k d _ rfl))
    (fun r d => Finset.sum_congr (M := EReal) rfl fun k _ => congrArg₂ (fun a b : EReal => a * b) (block_at m c t r k) (weight3_at m c t k d _ rfl)) y1 y2
  obtain rfl : y0 = 0 := Subsingleton.elim _ _
  refine hp.trans ?_
  rw [taps_at m c t 0 y2 ⟨(grid0.coords t 1).val * 256 + y2.val, by omega⟩ rfl,
    taps_at m c t 1 y2 ⟨(grid0.coords t 1).val * 256 + y2.val, by omega⟩ rfl,
    taps_at m c t 2 y2 ⟨(grid0.coords t 1).val * 256 + y2.val, by omega⟩ rfl]
  exact (congrArg (conv (m ((c : Thread nD τ).loc main_arg0)) (m ((c : Thread nD τ).loc main_arg1)) (m ((c : Thread nD τ).loc main_arg2)))
    (out_at t y1 y2 hN)).symm

theorem arr (c : Dev nD) : (dats m 0 c).arrAt 5 cfg0.N
    = conv (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  frame_out
  exact point m c t y

theorem algebraic : Cert.algebraic_Kernel2Ideal_Reference2Ideal := by
  pair_intro
  · run_from Cert.Kernel2Ideal.Value.run_blocks m g
  · run_from Cert.Reference2Ideal.Value.run m' g'
    obtain ⟨h0, h1, h2⟩ := hagree c
    rw [arr m c, ← h0, ← h1, ← h2]
    unfold Cert.Reference2Ideal.Value.res_main_v31
    exact ref _ _ _

end Cert.Proof.ShortConv

end
-- ==== Proof.V.OddOut.lean ====
/- The out-projection of the odd layer, gated and added to the residual: each block of the result is the block of the whole expression. -/
module

public import proofs.«01_k».proof.Defs
public import proofs.«01_k».proof.Proof.Gen.Kernel3Ideal.Value
public import proofs.«01_k».proof.Proof.Gen.Reference3Ideal.Run
public import Idealize.ShloMosaic.Lib.Claim
public import Idealize.ShloMosaic.Lib.Pointwise
public import Idealize.ShloMosaic.Lib.Pipeline.ValueKit

@[expose] public section

set_option maxRecDepth 16384

noncomputable section

namespace Cert.Proof.OddOut

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The gated projection added to the residual, element by element. -/
def out (y : FVec Ideal S8x2048x4096 .bf16) (w : FVec Ideal S1x4096x4096 .f32) (x : FVec Ideal S8x2048x4096 .f32)
    (g : FVec Ideal S2x8x24576 .f32) : FVec Ideal S8x2048x4096 .f32 :=
  fun j => x (ix3 (j 0) (j 1) (j 2)) + g (ix3 1 (j 0) ⟨8192 + (j 2).val, Nat.lt_of_lt_of_le (Nat.add_lt_add_left (j 2).isLt 8192) (by decide)⟩)
    * ∑ k : Fin 4096, (y (ix3 (j 0) (j 1) k) : EReal) * w (ix3 0 k (j 2))

/-- The reference's term over the arguments. -/
def REF (y : FVec Ideal S8x2048x4096 .bf16) (w : FVec Ideal S1x4096x4096 .f32) (x : FVec Ideal S8x2048x4096 .f32)
    (g : FVec Ideal S2x8x24576 .f32) : FVec Ideal S8x2048x4096 .f32 :=
  addf x (mulf (broadcastInDim Cert.Reference3Ideal.S8x2048x4096 ![0, 1, 2] Cert.Reference3Ideal.Gen.bcast_S8x1x4096_S8x2048x4096_0_1_2 (broadcastInDim Cert.Reference3Ideal.S8x1x4096 ![0, 2] Cert.Reference3Ideal.Gen.bcast_S8x4096_S8x1x4096_0_2 (extractStridedSlice Cert.Reference3Ideal.S8x4096 ![0, 8192] (shapeCast _ (extractStridedSlice Cert.Reference3Ideal.S1x8x24576 ![1, 0, 0] g Cert.Reference3Ideal.Gen.slices_S2x8x24576_S1x8x24576_1_0_0) Cert.Reference3Ideal.Gen.shapeCasts_S1x8x24576_S8x24576) Cert.Reference3Ideal.Gen.slices_S8x24576_S8x4096_0_8192))) (Host.dotGeneral Cert.Reference3Ideal.dot_S8x2048x4096_S4096x4096_S8x2048x4096_2_0_01_1_n_n none (extf .f32 y Cert.Reference3Ideal.Gen.bitsLt_bf16_f32) (shapeCast _ w Cert.Reference3Ideal.Gen.shapeCasts_S1x4096x4096_S4096x4096)))

theorem flat_apply (w : FVec Ideal S1x4096x4096 .f32) (k i : Fin 4096) :
    (truncf .bf16 (shapeCast S4096x4096 w shapeCasts_S1x4096x4096_S4096x4096 : FVec Ideal S4096x4096 .f32) bitsLt_bf16_f32 : FVec Ideal S4096x4096 .bf16) (ix2 k i)
      = w (ix3 0 k i) := by
  pointwise

/-- The weight and the gate as the host prepares them. -/
theorem weight (c : Dev nD) : V m c main_v4
    = (truncf .bf16 (shapeCast S4096x4096 (m ((c : Thread nD τ).loc main_arg1)) shapeCasts_S1x4096x4096_S4096x4096 : FVec Ideal S4096x4096 .f32) bitsLt_bf16_f32 : FVec Ideal S4096x4096 .bf16) := by
  unfold V
  after_results <;> rfl

theorem gate (c : Dev nD) : V m c main_v2
    = (shapeCast S8x1x24576 (shapeCast S8x24576 (extractStridedSlice S1x8x24576 ![1, 0, 0] (m ((c : Thread nD τ).loc main_arg3)) slices_S2x8x24576_S1x8x24576_1_0_0 : FVec Ideal S1x8x24576 .f32)
        shapeCasts_S1x8x24576_S8x24576 : FVec Ideal S8x24576 .f32) shapeCasts_S8x24576_S8x1x24576 : FVec Ideal S8x1x24576 .f32) := by
  unfold V
  after_results <;> rfl

theorem idx : ∀ t : Fin cfg0.N, (cfg0.win 0).index t = ![(grid0.coords t 0).val, (grid0.coords t 1).val, 0]
    ∧ (cfg0.win 1).index t = ![0, (grid0.coords t 2).val]
    ∧ (cfg0.win 2).index t = ![(grid0.coords t 0).val, (grid0.coords t 1).val, (grid0.coords t 2).val]
    ∧ (cfg0.win 3).index t = ![(grid0.coords t 0).val, 0, 16 + (grid0.coords t 2).val]
    ∧ (cfg0.win 4).index t = ![(grid0.coords t 0).val, (grid0.coords t 1).val, (grid0.coords t 2).val] := by
  decide +kernel

theorem weight_at (c : Dev nD) (t : Fin cfg0.N) (k : Fin 4096) (j : Fin 512) (i : Fin 4096)
    (hi : i.val = (grid0.coords t 2).val * 512 + j.val) :
    iblk m c 1 t (ix2 k j) = m ((c : Thread nD τ).loc main_arg1) (ix3 0 k i) := by
  refine Eq.trans ?_ ((congrFun (weight m c) (ix2 k i)).trans (flat_apply _ k i))
  blk_ext! [iblk, idx t, hi]

theorem gate_at (c : Dev nD) (t : Fin cfg0.N) (j : Fin 512) (b : Fin 8) (i : Fin 24576) (hb : b.val = (grid0.coords t 0).val)
    (hi : i.val = 8192 + ((grid0.coords t 2).val * 512 + j.val)) :
    iblk m c 3 t (ix3 0 0 j) = m ((c : Thread nD τ).loc main_arg3) (ix3 1 b i) := by
  refine Eq.trans ?_ ((congrFun (gate m c) (ix3 b 0 i)).trans (by pointwise))
  blk_ext! [iblk, idx t, hi, hb]

theorem point (c : Dev nD) (t : Fin cfg0.N) (y) : k0_pay1 (iblk m c 0 t) (iblk m c 1 t) (iblk m c 2 t) (iblk m c 3 t) y
    = out (m ((c : Thread nD τ).loc main_arg0)) (m ((c : Thread nD τ).loc main_arg1)) (m ((c : Thread nD τ).loc main_arg2))
        (m ((c : Thread nD τ).loc main_arg3)) (((cfg0.win 4).blk t).view.emb y) := by
  idx_vars y
  pointwise [out, k0_pay1]
  refine congrArg₂ (fun a b : EReal => a + b) ?_ (congrArg₂ (fun a b : EReal => a * b) ?_ ?_)
  · blk_ext! [iblk, V, idx t]
  · refine gate_at m c t y2 _ _ ?_ ?_ <;> blk_simp [idx t]
  · refine Finset.sum_congr (M := EReal) rfl fun k _ => ?_
    refine congrArg₂ (fun a b : EReal => a * b) ?_ ?_
    · blk_ext! [iblk, V, idx t]
    · refine weight_at m c t k y2 _ ?_
      blk_simp [idx t]

theorem arr (c : Dev nD) : (dats m 0 c).arrAt 4 cfg0.N
    = out (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  blk_simp
  rw [after0_4]
  frame_out
  exact point m c t y

theorem ref (y : FVec Ideal S8x2048x4096 .bf16) (w : FVec Ideal S1x4096x4096 .f32) (x : FVec Ideal S8x2048x4096 .f32)
    (g : FVec Ideal S2x8x24576 .f32) : REF y w x g = out y w x g := by
  funext j
  idx_vars j
  pointwise [REF, out]

theorem algebraic : Cert.algebraic_Kernel3Ideal_Reference3Ideal := by
  pair_intro
  · run_from Cert.Kernel3Ideal.Value.run_blocks m g
  · run_from Cert.Reference3Ideal.Value.run m' g'
    rw [arr m c]
    exact ref _ _ _ _

end Cert.Proof.OddOut

end
-- ==== Proof.V.InProj.lean ====
/- The in-projection of the even layer: each block of the result is the block of the one contraction. -/
module

public import proofs.«01_k».proof.Defs
public import proofs.«01_k».proof.Proof.Gen.Kernel4Ideal.Value
public import proofs.«01_k».proof.Proof.Gen.Reference4Ideal.Run
public import Idealize.ShloMosaic.Lib.Claim
public import Idealize.ShloMosaic.Lib.Pointwise
public import Idealize.ShloMosaic.Lib.Pipeline.ValueKit

@[expose] public section

set_option maxRecDepth 16384

noncomputable section

namespace Cert.Proof.InProj

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The weight column that column `j` of the packed result takes. -/
def col (j : Fin 10240) : Fin 10608 :=
  ⟨if j.val < 6144 then j.val else if j.val < 8192 then j.val + 16 else j.val + 272, by split_ifs <;> omega⟩

/-- The packed projection, element by element. -/
def proj (h : Vec Ideal S8x2048x4096 .bf16) (w : Vec Ideal S1x4096x10608 .f32) : Vec Ideal S8x2048x10240 .bf16 :=
  fun j => ∑ k : Fin 4096, (h (ix3 (j 0) (j 1) k) : EReal) * w (ix3 0 k (col (j 2)))

/-- The reference's one contraction with the whole weight. -/
abbrev all (h : FVec Ideal S8x2048x4096 .bf16) (w : FVec Ideal S1x4096x10608 .f32) : FVec Ideal Cert.Reference4Ideal.S8x2048x10608 .f32 :=
  (Host.dotGeneral Cert.Reference4Ideal.dot_S8x2048x4096_S4096x10608_S8x2048x10608_2_0_01_1_n_n none (extf .f32 h Cert.Reference4Ideal.Gen.bitsLt_bf16_f32) (shapeCast _ w Cert.Reference4Ideal.Gen.shapeCasts_S1x4096x10608_S4096x10608))

/-- The reference's term over the two arguments. -/
def REF (h : FVec Ideal S8x2048x4096 .bf16) (w : FVec Ideal S1x4096x10608 .f32) : FVec Ideal S8x2048x10240 .bf16 :=
  truncf .bf16 ((concatenate Cert.Reference4Ideal.S8x2048x10240 2 [⟨Cert.Reference4Ideal.S8x2048x2048, ((extractStridedSlice Cert.Reference4Ideal.S8x2048x2048 ![0, 0, 0] (all h w) Cert.Reference4Ideal.Gen.slices_S8x2048x10608_S8x2048x2048_0_0_0) : FVec Ideal Cert.Reference4Ideal.S8x2048x2048 .f32)⟩, ⟨Cert.Reference4Ideal.S8x2048x2048, ((extractStridedSlice Cert.Reference4Ideal.S8x2048x2048 ![0, 0, 2048] (all h w) Cert.Reference4Ideal.Gen.slices_S8x2048x10608_S8x2048x2048_0_0_2048) : FVec Ideal Cert.Reference4Ideal.S8x2048x2048 .f32)⟩, ⟨Cert.Reference4Ideal.S8x2048x2048, ((extractStridedSlice Cert.Reference4Ideal.S8x2048x2048 ![0, 0, 4096] (all h w) Cert.Reference4Ideal.Gen.slices_S8x2048x10608_S8x2048x2048_0_0_4096) : FVec Ideal Cert.Reference4Ideal.S8x2048x2048 .f32)⟩, ⟨Cert.Reference4Ideal.S8x2048x2048, ((extractStridedSlice Cert.Reference4Ideal.S8x2048x2048 ![0, 0, 6160] (all h w) Cert.Reference4Ideal.Gen.slices_S8x2048x10608_S8x2048x2048_0_0_6160) : FVec Ideal Cert.Reference4Ideal.S8x2048x2048 .f32)⟩, ⟨Cert.Reference4Ideal.S8x2048x2048, ((extractStridedSlice Cert.Reference4Ideal.S8x2048x2048 ![0, 0, 8464] (all h w) Cert.Reference4Ideal.Gen.slices_S8x2048x10608_S8x2048x2048_0_0_8464) : FVec Ideal Cert.Reference4Ideal.S8x2048x2048 .f32)⟩] Cert.Reference4Ideal.Gen.concatenates_S8x2048x2048_S8x2048x2048_S8x2048x2048_S8x2048x2048_S8x2048x2048_S8x2048x10240_d2 : FVec Ideal Cert.Reference4Ideal.S8x2048x10240 .f32)) Cert.Reference4Ideal.Gen.bitsLt_bf16_f32

theorem idx : ∀ t : Fin cfg0.N, (cfg0.win 0).index t = ![(grid0.coords t 0).val, (grid0.coords t 1).val, 0]
    ∧ (cfg0.win 1).index t = ![0, (grid0.coords t 2).val]
    ∧ (cfg0.win 2).index t = ![(grid0.coords t 0).val, (grid0.coords t 1).val, (grid0.coords t 2).val] := by
  decide +kernel

/-- The weight as the host packs it, in terms of the whole weight. -/
def PACK (w : FVec Ideal S1x4096x10608 .f32) : FVec Ideal S4096x10240 .bf16 :=
  truncf .bf16 (concatenate S4096x10240 1
    [⟨S4096x6144, (extractStridedSlice S4096x6144 ![0, 0] (shapeCast S4096x10608 w shapeCasts_S1x4096x10608_S4096x10608) slices_S4096x10608_S4096x6144_0_0 : FVec Ideal S4096x6144 .f32)⟩,
     ⟨S4096x2048, (extractStridedSlice S4096x2048 ![0, 6160] (shapeCast S4096x10608 w shapeCasts_S1x4096x10608_S4096x10608) slices_S4096x10608_S4096x2048_0_6160 : FVec Ideal S4096x2048 .f32)⟩,
     ⟨S4096x2048, (extractStridedSlice S4096x2048 ![0, 8464] (shapeCast S4096x10608 w shapeCasts_S1x4096x10608_S4096x10608) slices_S4096x10608_S4096x2048_0_8464 : FVec Ideal S4096x2048 .f32)⟩]
    concatenates_S4096x6144_S4096x2048_S4096x2048_S4096x10240_d1 : FVec Ideal S4096x10240 .f32) bitsLt_bf16_f32

theorem packed (c : Dev nD) : V m c main_v5 = PACK (m ((c : Thread nD τ).loc main_arg1)) := by
  unfold V
  after_results <;> rfl

theorem PACK_apply (w : FVec Ideal S1x4096x10608 .f32) (k : Fin 4096) (i : Fin 10240) :
    PACK w (ix2 k i) = w (ix3 0 k (col i)) := by
  pointwise [PACK]
  split_ifs <;> exact congrArg (fun i => w (ix3 0 k i)) (Fin.ext (by simp only [col]; split_ifs <;> omega))

/-- The block of packed weights that a point reads, in terms of the whole weight. -/
theorem weight_at (c : Dev nD) (t : Fin cfg0.N) (k : Fin 4096) (j : Fin 1024) (i : Fin 10240)
    (hi : i.val = (grid0.coords t 2).val * 1024 + j.val) :
    iblk m c 1 t (ix2 k j) = m ((c : Thread nD τ).loc main_arg1) (ix3 0 k (col i)) := by
  refine Eq.trans ?_ ((congrFun (packed m c) (ix2 k i)).trans (PACK_apply _ k i))
  blk_ext! [iblk, idx t, hi]

theorem point (c : Dev nD) (t : Fin cfg0.N) (y) : k0_pay1 (iblk m c 0 t) (iblk m c 1 t) y
    = proj (m ((c : Thread nD τ).loc main_arg0)) (m ((c : Thread nD τ).loc main_arg1)) (((cfg0.win 2).blk t).view.emb y) := by
  idx_vars y
  pointwise [proj, k0_pay1]
  refine Finset.sum_congr (M := EReal) rfl fun k _ => ?_
  refine congrArg₂ (fun a b : EReal => a * b) ?_ ?_
  · blk_ext! [iblk, V, idx t]
  · refine weight_at m c t k y2 _ ?_
    blk_simp [idx t]

theorem arr (c : Dev nD) : (dats m 0 c).arrAt 2 cfg0.N
    = proj (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

theorem ref (h : FVec Ideal S8x2048x4096 .bf16) (w : FVec Ideal S1x4096x10608 .f32) :
    REF h w = proj h w := by
  funext j
  idx_vars j
  pointwise [REF, proj]
  split_ifs <;> refine Finset.sum_congr rfl fun k _ => congrArg (fun i => (h (ix3 j0 j1 k) : EReal) * w (ix3 0 k i)) (Fin.ext ?_) <;>
    simp only [col] <;> split_ifs <;> omega

theorem algebraic : Cert.algebraic_Kernel4Ideal_Reference4Ideal := by
  pair_intro
  · run_from Cert.Kernel4Ideal.Value.run_blocks m g
  · run_from Cert.Reference4Ideal.Value.run m' g'
    rw [arr m c]
    exact ref _ _

end Cert.Proof.InProj

end
-- ==== Proof.V.EvenOut.lean ====
/- The out-projection of the even layer: the two halves of the contraction, gated and added to the residual, are the one contraction of the reference. -/
module

public import proofs.«01_k».proof.Defs
public import proofs.«01_k».proof.Proof.Gen.Kernel5Ideal.Value
public import proofs.«01_k».proof.Proof.Gen.Reference5Ideal.Run
public import Idealize.ShloMosaic.Lib.Claim
public import Idealize.ShloMosaic.Lib.Pointwise
public import Idealize.ShloMosaic.Lib.Pipeline.ValueKit

@[expose] public section

set_option maxRecDepth 16384

noncomputable section

namespace Cert.Proof.EvenOut

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The gated projection added to the residual, element by element, the contraction in its two halves. -/
def out (a b : FVec Ideal S8x2048x2048 .bf16) (w : FVec Ideal S1x4096x4096 .f32) (x : FVec Ideal S8x2048x4096 .f32)
    (g : FVec Ideal S2x8x24576 .f32) : FVec Ideal S8x2048x4096 .f32 :=
  fun j => x (ix3 (j 0) (j 1) (j 2)) + g (ix3 0 (j 0) ⟨8192 + (j 2).val, Nat.lt_of_lt_of_le (Nat.add_lt_add_left (j 2).isLt 8192) (by decide)⟩)
    * ((∑ k : Fin 2048, (a (ix3 (j 0) (j 1) k) : EReal) * w (ix3 0 ⟨k.val, by omega⟩ (j 2)))
      + ∑ k : Fin 2048, (b (ix3 (j 0) (j 1) k) : EReal) * w (ix3 0 ⟨2048 + k.val, by omega⟩ (j 2)))

/-- The reference's term over the arguments. -/
def REF (a b : FVec Ideal S8x2048x2048 .bf16) (w : FVec Ideal S1x4096x4096 .f32) (x : FVec Ideal S8x2048x4096 .f32)
    (g : FVec Ideal S2x8x24576 .f32) : FVec Ideal S8x2048x4096 .f32 :=
  addf x (mulf (broadcastInDim Cert.Reference5Ideal.S8x2048x4096 ![0, 1, 2] Cert.Reference5Ideal.Gen.bcast_S8x1x4096_S8x2048x4096_0_1_2 (broadcastInDim Cert.Reference5Ideal.S8x1x4096 ![0, 2] Cert.Reference5Ideal.Gen.bcast_S8x4096_S8x1x4096_0_2 (extractStridedSlice Cert.Reference5Ideal.S8x4096 ![0, 8192] (shapeCast _ (extractStridedSlice Cert.Reference5Ideal.S1x8x24576 ![0, 0, 0] g Cert.Reference5Ideal.Gen.slices_S2x8x24576_S1x8x24576_0_0_0) Cert.Reference5Ideal.Gen.shapeCasts_S1x8x24576_S8x24576) Cert.Reference5Ideal.Gen.slices_S8x24576_S8x4096_0_8192))) (Host.dotGeneral Cert.Reference5Ideal.dot_S8x2048x4096_S4096x4096_S8x2048x4096_2_0_01_1_n_n none (concatenate Cert.Reference5Ideal.S8x2048x4096 2 [⟨Cert.Reference5Ideal.S8x2048x2048, (extf .f32 a Cert.Reference5Ideal.Gen.bitsLt_bf16_f32)⟩, ⟨Cert.Reference5Ideal.S8x2048x2048, (extf .f32 b Cert.Reference5Ideal.Gen.bitsLt_bf16_f32)⟩] Cert.Reference5Ideal.Gen.concatenates_S8x2048x2048_S8x2048x2048_S8x2048x4096_d2) (shapeCast _ w Cert.Reference5Ideal.Gen.shapeCasts_S1x4096x4096_S4096x4096)))

theorem half0_apply (w : FVec Ideal S1x4096x4096 .f32) (k : Fin 2048) (i : Fin 4096) (h : k.val < 4096) :
    (extractStridedSlice S2048x4096 ![0, 0] (truncf .bf16 (shapeCast S4096x4096 w shapeCasts_S1x4096x4096_S4096x4096 : FVec Ideal S4096x4096 .f32) bitsLt_bf16_f32 : FVec Ideal S4096x4096 .bf16) slices_S4096x4096_S2048x4096_0_0 : FVec Ideal S2048x4096 .bf16) (ix2 k i)
      = w (ix3 0 ⟨k.val, h⟩ i) := by
  pointwise

theorem half1_apply (w : FVec Ideal S1x4096x4096 .f32) (k : Fin 2048) (i : Fin 4096) (h : 2048 + k.val < 4096) :
    (extractStridedSlice S2048x4096 ![2048, 0] (truncf .bf16 (shapeCast S4096x4096 w shapeCasts_S1x4096x4096_S4096x4096 : FVec Ideal S4096x4096 .f32) bitsLt_bf16_f32 : FVec Ideal S4096x4096 .bf16) slices_S4096x4096_S2048x4096_2048_0 : FVec Ideal S2048x4096 .bf16) (ix2 k i)
      = w (ix3 0 ⟨2048 + k.val, h⟩ i) := by
  pointwise

/-- The two halves of the weight and the gate as the host prepares them. -/
theorem weight0 (c : Dev nD) : V m c main_v5
    = (extractStridedSlice S2048x4096 ![0, 0] (truncf .bf16 (shapeCast S4096x4096 (m ((c : Thread nD τ).loc main_arg2)) shapeCasts_S1x4096x4096_S4096x4096 : FVec Ideal S4096x4096 .f32) bitsLt_bf16_f32 : FVec Ideal S4096x4096 .bf16) slices_S4096x4096_S2048x4096_0_0 : FVec Ideal S2048x4096 .bf16) := by
  unfold V
  after_results <;> rfl

theorem weight1 (c : Dev nD) : V m c main_v6
    = (extractStridedSlice S2048x4096 ![2048, 0] (truncf .bf16 (shapeCast S4096x4096 (m ((c : Thread nD τ).loc main_arg2)) shapeCasts_S1x4096x4096_S4096x4096 : FVec Ideal S4096x4096 .f32) bitsLt_bf16_f32 : FVec Ideal S4096x4096 .bf16) slices_S4096x4096_S2048x4096_2048_0 : FVec Ideal S2048x4096 .bf16) := by
  unfold V
  after_results <;> rfl

theorem gate (c : Dev nD) : V m c main_v2
    = (shapeCast S8x1x24576 (shapeCast S8x24576 (extractStridedSlice S1x8x24576 ![0, 0, 0] (m ((c : Thread nD τ).loc main_arg4)) slices_S2x8x24576_S1x8x24576_0_0_0 : FVec Ideal S1x8x24576 .f32)
        shapeCasts_S1x8x24576_S8x24576 : FVec Ideal S8x24576 .f32) shapeCasts_S8x24576_S8x1x24576 : FVec Ideal S8x1x24576 .f32) := by
  unfold V
  after_results <;> rfl

theorem idx : ∀ t : Fin cfg0.N, (cfg0.win 0).index t = ![(grid0.coords t 0).val, (grid0.coords t 1).val, 0]
    ∧ (cfg0.win 1).index t = ![0, (grid0.coords t 2).val]
    ∧ (cfg0.win 2).index t = ![(grid0.coords t 0).val, (grid0.coords t 1).val, 0]
    ∧ (cfg0.win 3).index t = ![0, (grid0.coords t 2).val]
    ∧ (cfg0.win 4).index t = ![(grid0.coords t 0).val, (grid0.coords t 1).val, (grid0.coords t 2).val]
    ∧ (cfg0.win 5).index t = ![(grid0.coords t 0).val, 0, 16 + (grid0.coords t 2).val]
    ∧ (cfg0.win 6).index t = ![(grid0.coords t 0).val, (grid0.coords t 1).val, (grid0.coords t 2).val] := by
  decide +kernel

theorem weight0_at (c : Dev nD) (t : Fin cfg0.N) (k : Fin 2048) (j : Fin 512) (k' i : Fin 4096) (hk : k'.val = k.val)
    (hi : i.val = (grid0.coords t 2).val * 512 + j.val) :
    iblk m c 1 t (ix2 k j) = m ((c : Thread nD τ).loc main_arg2) (ix3 0 k' i) := by
  obtain ⟨k', hk'⟩ := k'
  dsimp only at hk
  subst hk
  refine Eq.trans ?_ ((congrFun (weight0 m c) (ix2 k i)).trans (half0_apply _ k i hk'))
  blk_ext! [iblk, idx t, hi]

theorem weight1_at (c : Dev nD) (t : Fin cfg0.N) (k : Fin 2048) (j : Fin 512) (k' i : Fin 4096) (hk : k'.val = 2048 + k.val)
    (hi : i.val = (grid0.coords t 2).val * 512 + j.val) :
    iblk m c 3 t (ix2 k j) = m ((c : Thread nD τ).loc main_arg2) (ix3 0 k' i) := by
  obtain ⟨k', hk'⟩ := k'
  dsimp only at hk
  subst hk
  refine Eq.trans ?_ ((congrFun (weight1 m c) (ix2 k i)).trans (half1_apply _ k i hk'))
  blk_ext! [iblk, idx t, hi]

theorem gate_at (c : Dev nD) (t : Fin cfg0.N) (j : Fin 512) (b : Fin 8) (i : Fin 24576) (hb : b.val = (grid0.coords t 0).val)
    (hi : i.val = 8192 + ((grid0.coords t 2).val * 512 + j.val)) :
    iblk m c 5 t (ix3 0 0 j) = m ((c : Thread nD τ).loc main_arg4) (ix3 0 b i) := by
  refine Eq.trans ?_ ((congrFun (gate m c) (ix3 b 0 i)).trans (by pointwise))
  blk_ext! [iblk, idx t, hi, hb]

theorem point (c : Dev nD) (t : Fin cfg0.N) (y) :
    k0_pay1 (iblk m c 0 t) (iblk m c 1 t) (iblk m c 2 t) (iblk m c 3 t) (iblk m c 4 t) (iblk m c 5 t) y
    = out (m ((c : Thread nD τ).loc main_arg0)) (m ((c : Thread nD τ).loc main_arg1)) (m ((c : Thread nD τ).loc main_arg2))
        (m ((c : Thread nD τ).loc main_arg3)) (m ((c : Thread nD τ).loc main_arg4)) (((cfg0.win 6).blk t).view.emb y) := by
  idx_vars y
  pointwise [out, k0_pay1]
  refine congrArg₂ (fun a b : EReal => a + b) ?_ (congrArg₂ (fun a b : EReal => a * b) ?_
    (congrArg₂ (fun a b : EReal => a + b) ?_ ?_))
  · blk_ext! [iblk, V, idx t]
  · refine gate_at m c t y2 _ _ ?_ ?_ <;> blk_simp [idx t]
  · refine Finset.sum_congr (M := EReal) rfl fun k _ => ?_
    refine congrArg₂ (fun a b : EReal => a * b) ?_ ?_
    · blk_ext! [iblk, V, idx t]
    · refine weight0_at m c t k y2 _ _ rfl ?_
      blk_simp [idx t]
  · refine Finset.sum_congr (M := EReal) rfl fun k _ => ?_
    refine congrArg₂ (fun a b : EReal => a * b) ?_ ?_
    · blk_ext! [iblk, V, idx t]
    · refine weight1_at m c t k y2 _ _ rfl ?_
      blk_simp [idx t]

theorem arr (c : Dev nD) : (dats m 0 c).arrAt 6 cfg0.N
    = out (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t hf y => ?_
  blk_simp
  rw [after0_6]
  frame_out
  exact point m c t y

theorem ref (a b : FVec Ideal S8x2048x2048 .bf16) (w : FVec Ideal S1x4096x4096 .f32) (x : FVec Ideal S8x2048x4096 .f32)
    (g : FVec Ideal S2x8x24576 .f32) : REF a b w x g = out a b w x g := by
  funext j
  idx_vars j
  pointwise [REF, out]

theorem algebraic : Cert.algebraic_Kernel5Ideal_Reference5Ideal := by
  pair_intro
  · run_from Cert.Kernel5Ideal.Value.run_blocks m g
  · run_from Cert.Reference5Ideal.Value.run m' g'
    rw [arr m c]
    exact ref _ _ _ _ _

end Cert.Proof.EvenOut

end
-- ==== Proof.Moe.Stage.lean ====
module
public import proofs.«01_k».proof.Proof.Gen.Kernel6Ideal.Launch
public import proofs.«01_k».proof.Proof.Gen.Kernel6Ideal.Skeleton
public import Idealize.ShloMosaic.Lib.Pipeline.FrameBody
public import Idealize.ShloMosaic.Lib.Pipeline.Value
public import Idealize.ShloMosaic.Lib.Pointwise
public import Idealize.ShloMosaic.Lib.Writes
@[expose] public section
/-! Reading back what a transfer left in a staging slot, and what a transfer reads of an expert's matrix. -/
noncomputable section
namespace Cert.Kernel6Ideal.Moe
open Cert.Kernel6Ideal.Gen
open Idealize.ShloMosaic Idealize.ShloMosaic.TcCoe Idealize.ShloMosaic.ValueIdx

section Slots
variable {F : FTy → Type} {κ : Kind} {sp : Space} {n a b : ℕ}

/-- The slot a transfer has just filled, read back and its unit axis dropped, is what was transferred. -/
theorem slot_same (M : Memref sig κ sp (⟨3, ![n, a, b]⟩ : Shape) .f32) (k : ℕ)
    (inb : ∀ i, (![k, 0, 0] : Fin 3 → ℕ) i + (![1, a, b] : Fin 3 → ℕ) i ≤ (⟨3, ![n, a, b]⟩ : Shape).size i) (hr)
    (hq : (⟨3, ![1, a, b]⟩ : Shape).Squeezes (⟨2, ![a, b]⟩ : Shape)) (hc : (⟨3, ![1, a, b]⟩ : Shape).ShapeCasts (⟨2, ![a, b]⟩ : Shape))
    (f : M.view.ty.Contents (Elt F)) (p : (⟨2, ![a, b]⟩ : Shape).Idx → F .f32) :
    shapeCast (⟨2, ![a, b]⟩ : Shape) (M.view.readAt (Elt F) (Rect.unit (s := (⟨3, ![n, a, b]⟩ : Shape)) ![k, 0, 0] ![1, a, b] inb).toLoadRect
      (((M.slice (Rect.unit (s := (⟨3, ![n, a, b]⟩ : Shape)) ![k, 0, 0] ![1, a, b] inb) hr).squeeze (⟨2, ![a, b]⟩ : Shape) hq).view.write (Elt F) f p Finset.univ)) hc = p :=
  (Memref.read_squeeze_slice M _ hr hq hc _).symm.trans (View.read_write_univ _ _)

/-- A transfer into another slot leaves this one as it was. -/
theorem slot_other (M : Memref sig κ sp (⟨3, ![n, a, b]⟩ : Shape) .f32) (k j : ℕ) (hkj : k ≠ j)
    (inb : ∀ i, (![k, 0, 0] : Fin 3 → ℕ) i + (![1, a, b] : Fin 3 → ℕ) i ≤ (⟨3, ![n, a, b]⟩ : Shape).size i)
    (inb' : ∀ i, (![j, 0, 0] : Fin 3 → ℕ) i + (![1, a, b] : Fin 3 → ℕ) i ≤ (⟨3, ![n, a, b]⟩ : Shape).size i) (hr)
    (hq : (⟨3, ![1, a, b]⟩ : Shape).Squeezes (⟨2, ![a, b]⟩ : Shape))
    (f : M.view.ty.Contents (Elt F)) (p : (⟨2, ![a, b]⟩ : Shape).Idx → F .f32) :
    M.view.readAt (Elt F) (Rect.unit (s := (⟨3, ![n, a, b]⟩ : Shape)) ![k, 0, 0] ![1, a, b] inb).toLoadRect
      (((M.slice (Rect.unit (s := (⟨3, ![n, a, b]⟩ : Shape)) ![j, 0, 0] ![1, a, b] inb') hr).squeeze (⟨2, ![a, b]⟩ : Shape) hq).view.write (Elt F) f p Finset.univ)
    = M.view.readAt (Elt F) (Rect.unit (s := (⟨3, ![n, a, b]⟩ : Shape)) ![k, 0, 0] ![1, a, b] inb).toLoadRect f := by
  funext x
  rw [View.readAt_apply, View.readAt_apply, View.read_apply, View.read_apply]
  refine congrArg _ (View.write_of_not_mem _ _ _ fun hm => ?_)
  obtain ⟨z, _, hz⟩ := Finset.mem_map.mp hm
  have h := M.view.emb.injective (show M.view.emb ((Rect.unit (s := (⟨3, ![n, a, b]⟩ : Shape)) ![j, 0, 0] ![1, a, b] inb').emb (Shape.reshapeEquiv hq.numel_eq z)) = _ from hz)
  have h0 := congrArg (fun i : (⟨3, ![n, a, b]⟩ : Shape).Idx => (i 0 : ℕ)) h
  have hx : ((x (0 : Fin 3) : Fin 1) : ℕ) = 0 := Nat.lt_one_iff.mp (x (0 : Fin 3)).isLt
  have hz0 : ((Shape.reshapeEquiv hq.numel_eq z (0 : Fin 3) : Fin 1) : ℕ) = 0 := Nat.lt_one_iff.mp (Shape.reshapeEquiv hq.numel_eq z (0 : Fin 3)).isLt
  have h1 : j + 1 * ((Shape.reshapeEquiv hq.numel_eq z (0 : Fin 3) : Fin 1) : ℕ) = k + 1 * ((x (0 : Fin 3) : Fin 1) : ℕ) := h0
  omega
end Slots

/-- What a transfer reads of row block `r` of expert `e`'s matrix: the array's element there. -/
theorem src_read {F : FTy → Type} {κ : Kind} {sp : Space} {n m a b c : ℕ} (M : Memref sig κ sp (⟨4, ![n, m, c, b]⟩ : Shape) .f32) (e r : ℕ)
    (off : Fin 4 → ℕ) (ho : off = ![0, e, r, 0])
    (inb : ∀ i, off i + (![1, 1, a, b] : Fin 4 → ℕ) i ≤ (⟨4, ![n, m, c, b]⟩ : Shape).size i) (hr)
    (hq : (⟨4, ![1, 1, a, b]⟩ : Shape).Squeezes (⟨2, ![a, b]⟩ : Shape))
    (f : M.view.ty.Contents (Elt F)) (x : (⟨2, ![a, b]⟩ : Shape).Idx) (y : (⟨4, ![n, m, c, b]⟩ : Shape).Idx)
    (h0 : (y 0).val = 0) (h1 : (y 1).val = e) (h2 : (y 2).val = r + (x 0).val) (h3 : (y 3).val = (x 1).val) :
    ((M.slice (Rect.unit (s := (⟨4, ![n, m, c, b]⟩ : Shape)) off ![1, 1, a, b] inb) hr).squeeze (⟨2, ![a, b]⟩ : Shape) hq).view.read (Elt F) f x
      = M.view.read (Elt F) f y := by
  subst ho
  rw [View.read_apply, View.read_apply]
  refine congrArg (fun t => _root_.cast (congrArg (Elt F) M.view.elt_eq) (f (M.view.emb t))) (?_ : (Rect.unit (s := (⟨4, ![n, m, c, b]⟩ : Shape)) ![0, e, r, 0] ![1, 1, a, b] inb).emb (Shape.reshapeEquiv hq.numel_eq x) = y)
  have hx : Shape.reshapeEquiv hq.numel_eq x = (Fin.cons ⟨0, Nat.one_pos⟩ (Fin.cons ⟨0, Nat.one_pos⟩ x : ∀ i : Fin 3, Fin ((![1, a, b] : Fin 3 → ℕ) i)) : ∀ i : Fin 4, Fin ((![1, 1, a, b] : Fin 4 → ℕ) i)) :=
    Shape.reshapeEquiv_eq_of_rowMajor _ (by
      show ((Shape.rowMajorPi (Matrix.vecCons 1 (Matrix.vecCons 1 ![a, b])) (Fin.cons ⟨0, Nat.one_pos⟩ (Fin.cons ⟨0, Nat.one_pos⟩ x)) : Fin _) : ℕ) = (Shape.rowMajorPi ![a, b] x : ℕ)
      rw [Shape.rowMajorPi_succ_val]
      show 0 * _ + ((Shape.rowMajorPi (Matrix.vecCons 1 ![a, b]) (Fin.cons ⟨0, Nat.one_pos⟩ x) : Fin _) : ℕ) = _
      rw [Shape.rowMajorPi_succ_val]
      show 0 * _ + (0 * _ + ((Shape.rowMajorPi ![a, b]) x : ℕ)) = _
      omega)
  rw [hx]
  funext i
  match i with
  | ⟨0, _⟩ => exact Fin.ext (by show 0 + 1 * 0 = (y 0).val; omega)
  | ⟨1, _⟩ => exact Fin.ext (by show e + 1 * 0 = (y 1).val; omega)
  | ⟨2, _⟩ => exact Fin.ext (by show r + 1 * (x 0).val = (y 2).val; omega)
  | ⟨3, _⟩ => exact Fin.ext (by show 0 + 1 * (x 1).val = (y 3).val; omega)

/-- Row blocks stored from the last to the first cover a matrix: one block, and the rows before it. -/
theorem rows_cons {Val : EltTy → Type} {e : EltTy} {m n b : ℕ} (y : (⟨2, ![m, b]⟩ : Shape).Idx) (r : ℕ)
    (inb : ∀ i, (![r, 0] : Fin 2 → ℕ) i + (![n, b] : Fin 2 → ℕ) i ≤ (⟨2, ![m, b]⟩ : Shape).size i)
    (w : (⟨2, ![n, b]⟩ : Shape).Idx → Val e) (L : List (View.Piece Val (⟨2, ![m, b]⟩ : Shape) e)) (h : (y 0).val < r + n)
    (hL : (y 0).val < r → ∃ p ∈ L, y ∈ p.1.set) :
    ∃ p ∈ (⟨Rect.unit (s := (⟨2, ![m, b]⟩ : Shape)) ![r, 0] ![n, b] inb, w⟩ : View.Piece Val (⟨2, ![m, b]⟩ : Shape) e) :: L, y ∈ p.1.set := by
  by_cases hr : (y 0).val < r
  · obtain ⟨p, hp, hy⟩ := hL hr
    exact ⟨p, List.mem_cons_of_mem _ hp, hy⟩
  · refine ⟨_, List.mem_cons_self, (Rect.mem_set_unit (inb := inb)).mpr fun i => ?_⟩
    match i with
    | ⟨0, _⟩ => exact ⟨not_lt.mp hr, h⟩
    | ⟨1, _⟩ => exact ⟨Nat.zero_le _, by have := (y 1).isLt; exact lt_of_lt_of_le this (Nat.le_add_left _ _)⟩

section Kernel
variable {F : FTy → Type} [FloatOps F]

theorem slot3_other (k j : ℕ) (hkj : k ≠ j) (inb : ∀ i, (![k, 0, 0] : Fin 3 → ℕ) i + S1x512x1024.size i ≤ S3x512x1024.size i)
    (inb' : ∀ i, (![j, 0, 0] : Fin 3 → ℕ) i + S1x512x1024.size i ≤ S3x512x1024.size i) (hr) (hq : S1x512x1024.Squeezes S512x1024)
    (f : S3x512x1024.Idx → F .f32) (p : S512x1024.Idx → F .f32) :
    (Memref.whole cc0_scratch3).view.readAt (Elt F) (Rect.unit (s := S3x512x1024) ![k, 0, 0] S1x512x1024.size inb).toLoadRect
      ((((Memref.whole cc0_scratch3).slice (Rect.unit (s := S3x512x1024) ![j, 0, 0] S1x512x1024.size inb') hr).squeeze S512x1024 hq).view.write (Elt F) f p Finset.univ)
    = (Memref.whole cc0_scratch3).view.readAt (Elt F) (Rect.unit (s := S3x512x1024) ![k, 0, 0] S1x512x1024.size inb).toLoadRect f :=
  slot_other (Memref.whole cc0_scratch3) k j hkj inb inb' hr hq f p

theorem slot3_same (k : ℕ) (inb : ∀ i, (![k, 0, 0] : Fin 3 → ℕ) i + S1x512x1024.size i ≤ S3x512x1024.size i) (hr) (hq : S1x512x1024.Squeezes S512x1024) (hc : S1x512x1024.ShapeCasts S512x1024)
    (f : S3x512x1024.Idx → F .f32) (p : S512x1024.Idx → F .f32) :
    shapeCast S512x1024 ((Memref.whole cc0_scratch3).view.readAt (Elt F) (Rect.unit (s := S3x512x1024) ![k, 0, 0] S1x512x1024.size inb).toLoadRect
      ((((Memref.whole cc0_scratch3).slice (Rect.unit (s := S3x512x1024) ![k, 0, 0] S1x512x1024.size inb) hr).squeeze S512x1024 hq).view.write (Elt F) f p Finset.univ)) hc = p :=
  slot_same (Memref.whole cc0_scratch3) k inb hr hq hc f p

theorem slot4_other (k j : ℕ) (hkj : k ≠ j) (inb : ∀ i, (![k, 0, 0] : Fin 3 → ℕ) i + S1x128x4096.size i ≤ S3x128x4096.size i)
    (inb' : ∀ i, (![j, 0, 0] : Fin 3 → ℕ) i + S1x128x4096.size i ≤ S3x128x4096.size i) (hr) (hq : S1x128x4096.Squeezes S128x4096)
    (f : S3x128x4096.Idx → F .f32) (p : S128x4096.Idx → F .f32) :
    (Memref.whole cc0_scratch4).view.readAt (Elt F) (Rect.unit (s := S3x128x4096) ![k, 0, 0] S1x128x4096.size inb).toLoadRect
      ((((Memref.whole cc0_scratch4).slice (Rect.unit (s := S3x128x4096) ![j, 0, 0] S1x128x4096.size inb') hr).squeeze S128x4096 hq).view.write (Elt F) f p Finset.univ)
    = (Memref.whole cc0_scratch4).view.readAt (Elt F) (Rect.unit (s := S3x128x4096) ![k, 0, 0] S1x128x4096.size inb).toLoadRect f :=
  slot_other (Memref.whole cc0_scratch4) k j hkj inb inb' hr hq f p

theorem slot4_same (k : ℕ) (inb : ∀ i, (![k, 0, 0] : Fin 3 → ℕ) i + S1x128x4096.size i ≤ S3x128x4096.size i) (hr) (hq : S1x128x4096.Squeezes S128x4096) (hc : S1x128x4096.ShapeCasts S128x4096)
    (f : S3x128x4096.Idx → F .f32) (p : S128x4096.Idx → F .f32) :
    shapeCast S128x4096 ((Memref.whole cc0_scratch4).view.readAt (Elt F) (Rect.unit (s := S3x128x4096) ![k, 0, 0] S1x128x4096.size inb).toLoadRect
      ((((Memref.whole cc0_scratch4).slice (Rect.unit (s := S3x128x4096) ![k, 0, 0] S1x128x4096.size inb) hr).squeeze S128x4096 hq).view.write (Elt F) f p Finset.univ)) hc = p :=
  slot_same (Memref.whole cc0_scratch4) k inb hr hq hc f p

/-- The number of the expert a word names. -/
def expert (w : BitVec 32) : Fin 16 := ⟨w.toNat % 16, Nat.mod_lt _ (by decide)⟩

/-- The first layer's gate or up matrix of an expert, rounded to bf16. -/
def upW (w : BitVec 32) (q : S2x16x4096x1024.Idx → F .f32) : FVec F S4096x1024 .bf16 :=
  truncf .bf16 (fun y : S4096x1024.Idx => q (ValueIdx.ix4 (0 : Fin 2) (expert w) (y 0) (y 1))) bitsLt_bf16_f32

/-- A row block of it, from the row block of the array that was staged. -/
theorem up_piece (M : Memref sig .tc .hbm S2x16x4096x1024 .f32) (q : M.view.ty.Contents (Elt F)) (w : BitVec 32) (hw : w.toNat < 16) (r : ℕ)
    (off : Fin 4 → ℕ) (ho : off = ![0, w.toNat, r, 0]) (inb : ∀ i, off i + S1x1x512x1024.size i ≤ S2x16x4096x1024.size i) (hr) (hq : S1x1x512x1024.Squeezes S512x1024)
    (v : Vec F S1x512x1024 .f32) (h1 : S1x512x1024.ShapeCasts S512x1024) (h2) (h3)
    (hv : shapeCast S512x1024 v h1 = ((M.slice (Rect.unit (s := S2x16x4096x1024) off S1x1x512x1024.size inb) hr).squeeze S512x1024 hq).view.read (Elt F) q)
    (inb' : ∀ i, (![r, 0] : Fin 2 → ℕ) i + S512x1024.size i ≤ S4096x1024.size i) (x : S512x1024.Idx) :
    shapeCast S512x1024 (truncf .bf16 (shapeCast S512x1024 v h1) h2) h3 x = upW w (M.view.read (Elt F) q) ((Rect.unit (s := S4096x1024) ![r, 0] S512x1024.size inb').emb x) := by
  rw [shapeCast_self, hv]
  unfold upW truncf
  refine congrArg _ (src_read M w.toNat r off ho inb hr hq q x _ rfl ?_ ?_ ?_)
  · exact Nat.mod_eq_of_lt hw
  · exact congrArg (r + ·) (Nat.one_mul _)
  · exact (Nat.zero_add _).trans (Nat.one_mul _)

/-- The first layer's down matrix of an expert, rounded to bf16. -/
def downW (w : BitVec 32) (q : S2x16x1024x4096.Idx → F .f32) : FVec F S1024x4096 .bf16 :=
  truncf .bf16 (fun y : S1024x4096.Idx => q (ValueIdx.ix4 (0 : Fin 2) (expert w) (y 0) (y 1))) bitsLt_bf16_f32

/-- A row block of it, from the row block of the array that was staged. -/
theorem down_piece (M : Memref sig .tc .hbm S2x16x1024x4096 .f32) (q : M.view.ty.Contents (Elt F)) (w : BitVec 32) (hw : w.toNat < 16) (r : ℕ)
    (off : Fin 4 → ℕ) (ho : off = ![0, w.toNat, r, 0]) (inb : ∀ i, off i + S1x1x128x4096.size i ≤ S2x16x1024x4096.size i) (hr) (hq : S1x1x128x4096.Squeezes S128x4096)
    (v : Vec F S1x128x4096 .f32) (h1 : S1x128x4096.ShapeCasts S128x4096) (h2) (h3)
    (hv : shapeCast S128x4096 v h1 = ((M.slice (Rect.unit (s := S2x16x1024x4096) off S1x1x128x4096.size inb) hr).squeeze S128x4096 hq).view.read (Elt F) q)
    (inb' : ∀ i, (![r, 0] : Fin 2 → ℕ) i + S128x4096.size i ≤ S1024x4096.size i) (x : S128x4096.Idx) :
    shapeCast S128x4096 (truncf .bf16 (shapeCast S128x4096 v h1) h2) h3 x = downW w (M.view.read (Elt F) q) ((Rect.unit (s := S1024x4096) ![r, 0] S128x4096.size inb').emb x) := by
  rw [shapeCast_self, hv]
  unfold downW truncf
  refine congrArg _ (src_read M w.toNat r off ho inb hr hq q x _ rfl ?_ ?_ ?_)
  · exact Nat.mod_eq_of_lt hw
  · exact congrArg (r + ·) (Nat.one_mul _)
  · exact (Nat.zero_add _).trans (Nat.one_mul _)

/-- The scratch after writes that agree with one function and cover it. -/
theorem whole0 (f : S4096x1024.Idx → F .bf16) (L : List (View.Piece (Elt F) S4096x1024 .bf16)) (G : S4096x1024.Idx → F .bf16)
    (hc : ∀ y : S4096x1024.Idx, ∃ p ∈ L, y ∈ p.1.set) (hL : ∀ p ∈ L, ∀ x : p.1.shape.Idx, p.2 x = G (p.1.emb x)) :
    (Memref.whole cc0_scratch0).view.writes (Elt F) f L = G :=
  funext fun y => by
    show View.read (Elt F) (Memref.whole cc0_scratch0).view ((Memref.whole cc0_scratch0).view.writes (Elt F) f L) y = G y
    exact View.read_writes_apply_of_pieces (Memref.whole cc0_scratch0).view f G L hL y (hc y)

/-- The scratch after writes that agree with one function and cover it. -/
theorem whole1 (f : S4096x1024.Idx → F .bf16) (L : List (View.Piece (Elt F) S4096x1024 .bf16)) (G : S4096x1024.Idx → F .bf16)
    (hc : ∀ y : S4096x1024.Idx, ∃ p ∈ L, y ∈ p.1.set) (hL : ∀ p ∈ L, ∀ x : p.1.shape.Idx, p.2 x = G (p.1.emb x)) :
    (Memref.whole cc0_scratch1).view.writes (Elt F) f L = G :=
  funext fun y => by
    show View.read (Elt F) (Memref.whole cc0_scratch1).view ((Memref.whole cc0_scratch1).view.writes (Elt F) f L) y = G y
    exact View.read_writes_apply_of_pieces (Memref.whole cc0_scratch1).view f G L hL y (hc y)

/-- The scratch after writes that agree with one function and cover it. -/
theorem whole2 (f : S1024x4096.Idx → F .bf16) (L : List (View.Piece (Elt F) S1024x4096 .bf16)) (G : S1024x4096.Idx → F .bf16)
    (hc : ∀ y : S1024x4096.Idx, ∃ p ∈ L, y ∈ p.1.set) (hL : ∀ p ∈ L, ∀ x : p.1.shape.Idx, p.2 x = G (p.1.emb x)) :
    (Memref.whole cc0_scratch2).view.writes (Elt F) f L = G :=
  funext fun y => by
    show View.read (Elt F) (Memref.whole cc0_scratch2).view ((Memref.whole cc0_scratch2).view.writes (Elt F) f L) y = G y
    exact View.read_writes_apply_of_pieces (Memref.whole cc0_scratch2).view f G L hL y (hc y)
end Kernel
end Cert.Kernel6Ideal.Moe
-- ==== Proof.Moe.Load.lean ====
module
public import proofs.«01_k».proof.Proof.Moe.Stage
public import Idealize.ShloMosaic.Lib.Claim
public import Idealize.ShloMosaic.Lib.Ring
public import Idealize.ShloMosaic.Lib.Tactic
public import Idealize.ShloMosaic.Lib.WordCmp
@[expose] public section
set_option maxRecDepth 16384
/-! One expert's three matrices loaded: 24 row blocks, each copied into one of three staging slots, rounded to bf16 and stored. -/
noncomputable section
namespace Cert.Kernel6Ideal.Moe
open Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (Pipeline.UD sig nD τ) ℕ

/-- The loading of one expert's three matrices: what the body does when the block's expert differs from the one before. -/
noncomputable def loadAll (i : grid0.Coords) (v1 v2 v8 : BitVec 32) (hw : k0_chk1 i v1 v2 v8) (h1 : k0_cond1 i v1 v2 v8 = 1#1)
   (arg3 : Memref sig .tc .vmem S256x2048 .i32) (harg3 : arg3.IsWhole) (arg7 : Memref sig .tc .vmem S256x4096 .f32) (harg7 : arg7.IsWhole) :
    Prog (TpuEff nD τ sig (Elt F) Λ₀ .tc) PUnit := do
  let v43 ← k0_part1 (F := F) i (Memref.whole main_arg0) (Memref.isWhole_whole _) (Memref.whole main_arg1) (Memref.isWhole_whole _) arg3 harg3 (Memref.whole main_arg3) (Memref.isWhole_whole _) (Memref.whole main_arg4) (Memref.isWhole_whole _) (Memref.whole main_arg5) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 v1 v2 v8 hw h1
  k0_part2 (F := F) i (Memref.whole main_arg0) (Memref.isWhole_whole _) (Memref.whole main_arg1) (Memref.isWhole_whole _) arg3 harg3 (Memref.whole main_arg3) (Memref.isWhole_whole _) (Memref.whole main_arg4) (Memref.isWhole_whole _) (Memref.whole main_arg5) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 v1 v2 v8 hw h1 v43
  let v97 ← k0_part3 (F := F) i (Memref.whole main_arg0) (Memref.isWhole_whole _) (Memref.whole main_arg1) (Memref.isWhole_whole _) arg3 harg3 (Memref.whole main_arg3) (Memref.isWhole_whole _) (Memref.whole main_arg4) (Memref.isWhole_whole _) (Memref.whole main_arg5) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 v1 v2 v8 hw h1
  k0_part4 (F := F) i (Memref.whole main_arg0) (Memref.isWhole_whole _) (Memref.whole main_arg1) (Memref.isWhole_whole _) arg3 harg3 (Memref.whole main_arg3) (Memref.isWhole_whole _) (Memref.whole main_arg4) (Memref.isWhole_whole _) (Memref.whole main_arg5) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 v1 v2 v8 hw h1 v97
  let v151 ← k0_part5 (F := F) i (Memref.whole main_arg0) (Memref.isWhole_whole _) (Memref.whole main_arg1) (Memref.isWhole_whole _) arg3 harg3 (Memref.whole main_arg3) (Memref.isWhole_whole _) (Memref.whole main_arg4) (Memref.isWhole_whole _) (Memref.whole main_arg5) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 v1 v2 v8 hw h1
  k0_part6 (F := F) i (Memref.whole main_arg0) (Memref.isWhole_whole _) (Memref.whole main_arg1) (Memref.isWhole_whole _) arg3 harg3 (Memref.whole main_arg3) (Memref.isWhole_whole _) (Memref.whole main_arg4) (Memref.isWhole_whole _) (Memref.whole main_arg5) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 v1 v2 v8 hw h1 v151
  let v205 ← k0_part7 (F := F) i (Memref.whole main_arg0) (Memref.isWhole_whole _) (Memref.whole main_arg1) (Memref.isWhole_whole _) arg3 harg3 (Memref.whole main_arg3) (Memref.isWhole_whole _) (Memref.whole main_arg4) (Memref.isWhole_whole _) (Memref.whole main_arg5) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 v1 v2 v8 hw h1
  k0_part8 (F := F) i (Memref.whole main_arg0) (Memref.isWhole_whole _) (Memref.whole main_arg1) (Memref.isWhole_whole _) arg3 harg3 (Memref.whole main_arg3) (Memref.isWhole_whole _) (Memref.whole main_arg4) (Memref.isWhole_whole _) (Memref.whole main_arg5) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 v1 v2 v8 hw h1 v205
  let v259 ← k0_part9 (F := F) i (Memref.whole main_arg0) (Memref.isWhole_whole _) (Memref.whole main_arg1) (Memref.isWhole_whole _) arg3 harg3 (Memref.whole main_arg3) (Memref.isWhole_whole _) (Memref.whole main_arg4) (Memref.isWhole_whole _) (Memref.whole main_arg5) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 v1 v2 v8 hw h1
  k0_part10 (F := F) i (Memref.whole main_arg0) (Memref.isWhole_whole _) (Memref.whole main_arg1) (Memref.isWhole_whole _) arg3 harg3 (Memref.whole main_arg3) (Memref.isWhole_whole _) (Memref.whole main_arg4) (Memref.isWhole_whole _) (Memref.whole main_arg5) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 v1 v2 v8 hw h1 v259
  let v313 ← k0_part11 (F := F) i (Memref.whole main_arg0) (Memref.isWhole_whole _) (Memref.whole main_arg1) (Memref.isWhole_whole _) arg3 harg3 (Memref.whole main_arg3) (Memref.isWhole_whole _) (Memref.whole main_arg4) (Memref.isWhole_whole _) (Memref.whole main_arg5) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 v1 v2 v8 hw h1
  k0_part12 (F := F) i (Memref.whole main_arg0) (Memref.isWhole_whole _) (Memref.whole main_arg1) (Memref.isWhole_whole _) arg3 harg3 (Memref.whole main_arg3) (Memref.isWhole_whole _) (Memref.whole main_arg4) (Memref.isWhole_whole _) (Memref.whole main_arg5) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 v1 v2 v8 hw h1 v313
  let v367 ← k0_part13 (F := F) i (Memref.whole main_arg0) (Memref.isWhole_whole _) (Memref.whole main_arg1) (Memref.isWhole_whole _) arg3 harg3 (Memref.whole main_arg3) (Memref.isWhole_whole _) (Memref.whole main_arg4) (Memref.isWhole_whole _) (Memref.whole main_arg5) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 v1 v2 v8 hw h1
  k0_part14 (F := F) i (Memref.whole main_arg0) (Memref.isWhole_whole _) (Memref.whole main_arg1) (Memref.isWhole_whole _) arg3 harg3 (Memref.whole main_arg3) (Memref.isWhole_whole _) (Memref.whole main_arg4) (Memref.isWhole_whole _) (Memref.whole main_arg5) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 v1 v2 v8 hw h1 v367
  let v421 ← k0_part15 (F := F) i (Memref.whole main_arg0) (Memref.isWhole_whole _) (Memref.whole main_arg1) (Memref.isWhole_whole _) arg3 harg3 (Memref.whole main_arg3) (Memref.isWhole_whole _) (Memref.whole main_arg4) (Memref.isWhole_whole _) (Memref.whole main_arg5) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 v1 v2 v8 hw h1
  k0_part16 (F := F) i (Memref.whole main_arg0) (Memref.isWhole_whole _) (Memref.whole main_arg1) (Memref.isWhole_whole _) arg3 harg3 (Memref.whole main_arg3) (Memref.isWhole_whole _) (Memref.whole main_arg4) (Memref.isWhole_whole _) (Memref.whole main_arg5) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 v1 v2 v8 hw h1 v421
  pure ⟨⟩

set_option maxHeartbeats 40000000 in
theorem load_wp (c : Dev nD) (i : grid0.Coords) (v1 v2 v8 : BitVec 32) (hw : k0_chk1 i v1 v2 v8) (h1 : k0_cond1 i v1 v2 v8 = 1#1)
   (arg3 : Memref sig .tc .vmem S256x2048 .i32) (harg3 : arg3.IsWhole) (arg7 : Memref sig .tc .vmem S256x4096 .f32) (harg7 : arg7.IsWhole)
   (W : Waits sig Unit) f0 f1 f2 f3 f4 (q3 q4 : S2x16x4096x1024.Idx → F .f32) (q5 : S2x16x1024x4096.Idx → F .f32) :
   iprop(((Memref.whole cc0_scratch0).view.loc (c : Thread nD τ) ↦[Finset.univ]{fullShare} f0)
     ∗ ((Memref.whole cc0_scratch1).view.loc (c : Thread nD τ) ↦[Finset.univ]{fullShare} f1)
     ∗ ((Memref.whole cc0_scratch2).view.loc (c : Thread nD τ) ↦[Finset.univ]{fullShare} f2)
     ∗ ((Memref.whole cc0_scratch3).view.loc (c : Thread nD τ) ↦[Finset.univ]{fullShare} f3)
     ∗ ((Memref.whole cc0_scratch4).view.loc (c : Thread nD τ) ↦[Finset.univ]{fullShare} f4)
     ∗ ((Memref.whole main_arg3).view.loc (c : Thread nD τ) ↦[Finset.univ]{Transfers.shareTokN fullShare 4} q3)
     ∗ ((Memref.whole main_arg3).view.loc (c : Thread nD τ) ↦[Finset.univ]{Transfers.shareTokN fullShare 5} q3)
     ∗ ((Memref.whole main_arg3).view.loc (c : Thread nD τ) ↦[Finset.univ]{Transfers.shareTokN fullShare 6} q3)
     ∗ ((Memref.whole main_arg4).view.loc (c : Thread nD τ) ↦[Finset.univ]{Transfers.shareTokN fullShare 4} q4)
     ∗ ((Memref.whole main_arg4).view.loc (c : Thread nD τ) ↦[Finset.univ]{Transfers.shareTokN fullShare 5} q4)
     ∗ ((Memref.whole main_arg4).view.loc (c : Thread nD τ) ↦[Finset.univ]{Transfers.shareTokN fullShare 6} q4)
     ∗ ((Memref.whole main_arg5).view.loc (c : Thread nD τ) ↦[Finset.univ]{Transfers.shareTokN fullShare 4} q5)
     ∗ ((Memref.whole main_arg5).view.loc (c : Thread nD τ) ↦[Finset.univ]{Transfers.shareTokN fullShare 5} q5)
     ∗ ((Memref.whole main_arg5).view.loc (c : Thread nD τ) ↦[Finset.univ]{Transfers.shareTokN fullShare 6} q5)
     ∗ semVal ((c : Thread nD τ), SemLoc.dma ((cc0_scratch5.slice (Rect.unit (s := S3) ![0] S1.size inb_S3_S1_0)).squeeze S_ squeezes_S1_S_).sem) 0
     ∗ semVal ((c : Thread nD τ), SemLoc.dma ((cc0_scratch5.slice (Rect.unit (s := S3) ![1] S1.size inb_S3_S1_1)).squeeze S_ squeezes_S1_S_).sem) 0
     ∗ semVal ((c : Thread nD τ), SemLoc.dma ((cc0_scratch5.slice (Rect.unit (s := S3) ![2] S1.size inb_S3_S1_2)).squeeze S_ squeezes_S1_S_).sem) 0
     ∗ owes (c : Thread nD τ) 0 W)
   ⊢ wp frame (wpE (defs₀ (F := F)) Variants.none c none) Set.univ (loadAll (F := F) i v1 v2 v8 hw h1 arg3 harg3 arg7 harg7)
     (fun _ : PUnit => (iprop((∃ g : S4096x1024.Idx → F .bf16, ((Memref.whole cc0_scratch0).view.loc (c : Thread nD τ) ↦[Finset.univ]{fullShare} g) ∗ ⌜g = upW v1 q3⌝)
     ∗ (∃ g : S4096x1024.Idx → F .bf16, ((Memref.whole cc0_scratch1).view.loc (c : Thread nD τ) ↦[Finset.univ]{fullShare} g) ∗ ⌜g = upW v1 q4⌝)
     ∗ (∃ g : S1024x4096.Idx → F .bf16, ((Memref.whole cc0_scratch2).view.loc (c : Thread nD τ) ↦[Finset.univ]{fullShare} g) ∗ ⌜g = downW v1 q5⌝)
     ∗ (∃ g : S3x512x1024.Idx → F .f32, ((Memref.whole cc0_scratch3).view.loc (c : Thread nD τ) ↦[Finset.univ]{fullShare} g))
     ∗ (∃ g : S3x128x4096.Idx → F .f32, ((Memref.whole cc0_scratch4).view.loc (c : Thread nD τ) ↦[Finset.univ]{fullShare} g))
     ∗ ((Memref.whole main_arg3).view.loc (c : Thread nD τ) ↦[Finset.univ]{Transfers.shareTokN fullShare 4} q3)
     ∗ ((Memref.whole main_arg3).view.loc (c : Thread nD τ) ↦[Finset.univ]{Transfers.shareTokN fullShare 5} q3)
     ∗ ((Memref.whole main_arg3).view.loc (c : Thread nD τ) ↦[Finset.univ]{Transfers.shareTokN fullShare 6} q3)
     ∗ ((Memref.whole main_arg4).view.loc (c : Thread nD τ) ↦[Finset.univ]{Transfers.shareTokN fullShare 4} q4)
     ∗ ((Memref.whole main_arg4).view.loc (c : Thread nD τ) ↦[Finset.univ]{Transfers.shareTokN fullShare 5} q4)
     ∗ ((Memref.whole main_arg4).view.loc (c : Thread nD τ) ↦[Finset.univ]{Transfers.shareTokN fullShare 6} q4)
     ∗ ((Memref.whole main_arg5).view.loc (c : Thread nD τ) ↦[Finset.univ]{Transfers.shareTokN fullShare 4} q5)
     ∗ ((Memref.whole main_arg5).view.loc (c : Thread nD τ) ↦[Finset.univ]{Transfers.shareTokN fullShare 5} q5)
     ∗ ((Memref.whole main_arg5).view.loc (c : Thread nD τ) ↦[Finset.univ]{Transfers.shareTokN fullShare 6} q5)
     ∗ semVal ((c : Thread nD τ), SemLoc.dma ((cc0_scratch5.slice (Rect.unit (s := S3) ![0] S1.size inb_S3_S1_0)).squeeze S_ squeezes_S1_S_).sem) 0
     ∗ semVal ((c : Thread nD τ), SemLoc.dma ((cc0_scratch5.slice (Rect.unit (s := S3) ![1] S1.size inb_S3_S1_1)).squeeze S_ squeezes_S1_S_).sem) 0
     ∗ semVal ((c : Thread nD τ), SemLoc.dma ((cc0_scratch5.slice (Rect.unit (s := S3) ![2] S1.size inb_S3_S1_2)).squeeze S_ squeezes_S1_S_).sem) 0
     ∗ (∃ W' : Waits sig Unit, owes (c : Thread nD τ) 0 W')) : sProp 𝕄)) := by
  have hv : v1.toNat < 16 := by have := k0_off3_inb i v1 v2 v8 hw h1 1; exact this
  unfold loadAll
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel
  iintro ⟨H0, H1, H2, H3, H4, Hq34, Hq35, Hq36, Hq44, Hq45, Hq46, Hq54, Hq55, Hq56, Hd4, Hd5, Hd6, HO⟩
  set_option sl_exec.dmaWindow true in
  sl_exec
  sl_step
  isplitl [H0]
  · iexists _; isplitl [H0]; · iexact H0
    ipureintro
    refine whole0 _ _ _ (fun y => rows_cons y 3584 _ _ _ (y 0).isLt (fun h => rows_cons y 3072 _ _ _ h (fun h => rows_cons y 2560 _ _ _ h (fun h => rows_cons y 2048 _ _ _ h (fun h => rows_cons y 1536 _ _ _ h (fun h => rows_cons y 1024 _ _ _ h (fun h => rows_cons y 512 _ _ _ h (fun h => rows_cons y 0 _ _ _ h (fun h => absurd h (Nat.not_lt_zero _)))))))))) ?_
    refine List.forall_mem_cons.mpr ⟨fun x => up_piece (Memref.whole main_arg3) q3 v1 hv 3584 (k0_off10 v1) rfl (k0_off10_inb i v1 v2 v8 hw h1) (fun _ => rfl) squeezes_S1x1x512x1024_S512x1024 _ shapeCasts_S1x512x1024_S512x1024 bitsLt_bf16_f32 shapeCasts_S512x1024_S512x1024 ?_ inb_S4096x1024_S512x1024_3584_0 x, ?_⟩
    · unfold load_wp.sl.v169
      rw [slot3_other (F := F) 1 0 (by decide), slot3_other (F := F) 1 2 (by decide)]
      exact slot3_same _ _ _ _ _ _ _
    refine List.forall_mem_cons.mpr ⟨fun x => up_piece (Memref.whole main_arg3) q3 v1 hv 3072 (k0_off9 v1) rfl (k0_off9_inb i v1 v2 v8 hw h1) (fun _ => rfl) squeezes_S1x1x512x1024_S512x1024 _ shapeCasts_S1x512x1024_S512x1024 bitsLt_bf16_f32 shapeCasts_S512x1024_S512x1024 ?_ inb_S4096x1024_S512x1024_3072_0 x, ?_⟩
    · unfold load_wp.sl.v151
      rw [slot3_other (F := F) 0 2 (by decide), slot3_other (F := F) 0 1 (by decide)]
      exact slot3_same _ _ _ _ _ _ _
    refine List.forall_mem_cons.mpr ⟨fun x => up_piece (Memref.whole main_arg3) q3 v1 hv 2560 (k0_off8 v1) rfl (k0_off8_inb i v1 v2 v8 hw h1) (fun _ => rfl) squeezes_S1x1x512x1024_S512x1024 _ shapeCasts_S1x512x1024_S512x1024 bitsLt_bf16_f32 shapeCasts_S512x1024_S512x1024 ?_ inb_S4096x1024_S512x1024_2560_0 x, ?_⟩
    · unfold load_wp.sl.v133
      rw [slot3_other (F := F) 2 1 (by decide), slot3_other (F := F) 2 0 (by decide)]
      exact slot3_same _ _ _ _ _ _ _
    refine List.forall_mem_cons.mpr ⟨fun x => up_piece (Memref.whole main_arg3) q3 v1 hv 2048 (k0_off7 v1) rfl (k0_off7_inb i v1 v2 v8 hw h1) (fun _ => rfl) squeezes_S1x1x512x1024_S512x1024 _ shapeCasts_S1x512x1024_S512x1024 bitsLt_bf16_f32 shapeCasts_S512x1024_S512x1024 ?_ inb_S4096x1024_S512x1024_2048_0 x, ?_⟩
    · unfold load_wp.sl.v115
      rw [slot3_other (F := F) 1 0 (by decide), slot3_other (F := F) 1 2 (by decide)]
      exact slot3_same _ _ _ _ _ _ _
    refine List.forall_mem_cons.mpr ⟨fun x => up_piece (Memref.whole main_arg3) q3 v1 hv 1536 (k0_off6 v1) rfl (k0_off6_inb i v1 v2 v8 hw h1) (fun _ => rfl) squeezes_S1x1x512x1024_S512x1024 _ shapeCasts_S1x512x1024_S512x1024 bitsLt_bf16_f32 shapeCasts_S512x1024_S512x1024 ?_ inb_S4096x1024_S512x1024_1536_0 x, ?_⟩
    · unfold load_wp.sl.v97
      rw [slot3_other (F := F) 0 2 (by decide), slot3_other (F := F) 0 1 (by decide)]
      exact slot3_same _ _ _ _ _ _ _
    refine List.forall_mem_cons.mpr ⟨fun x => up_piece (Memref.whole main_arg3) q3 v1 hv 1024 (k0_off5 v1) rfl (k0_off5_inb i v1 v2 v8 hw h1) (fun _ => rfl) squeezes_S1x1x512x1024_S512x1024 _ shapeCasts_S1x512x1024_S512x1024 bitsLt_bf16_f32 shapeCasts_S512x1024_S512x1024 ?_ inb_S4096x1024_S512x1024_1024_0 x, ?_⟩
    · unfold load_wp.sl.v79
      rw [slot3_other (F := F) 2 1 (by decide), slot3_other (F := F) 2 0 (by decide)]
      exact slot3_same _ _ _ _ _ _ _
    refine List.forall_mem_cons.mpr ⟨fun x => up_piece (Memref.whole main_arg3) q3 v1 hv 512 (k0_off4 v1) rfl (k0_off4_inb i v1 v2 v8 hw h1) (fun _ => rfl) squeezes_S1x1x512x1024_S512x1024 _ shapeCasts_S1x512x1024_S512x1024 bitsLt_bf16_f32 shapeCasts_S512x1024_S512x1024 ?_ inb_S4096x1024_S512x1024_512_0 x, ?_⟩
    · unfold load_wp.sl.v61
      rw [slot3_other (F := F) 1 0 (by decide), slot3_other (F := F) 1 2 (by decide)]
      exact slot3_same _ _ _ _ _ _ _
    refine List.forall_mem_cons.mpr ⟨fun x => up_piece (Memref.whole main_arg3) q3 v1 hv 0 (k0_off3 v1) rfl (k0_off3_inb i v1 v2 v8 hw h1) (fun _ => rfl) squeezes_S1x1x512x1024_S512x1024 _ shapeCasts_S1x512x1024_S512x1024 bitsLt_bf16_f32 shapeCasts_S512x1024_S512x1024 ?_ inb_S4096x1024_S512x1024_0_0 x, ?_⟩
    · unfold load_wp.sl.v43
      rw [slot3_other (F := F) 0 2 (by decide), slot3_other (F := F) 0 1 (by decide)]
      exact slot3_same _ _ _ _ _ _ _
    exact fun p hp => absurd hp List.not_mem_nil
  isplitl [H1]
  · iexists _; isplitl [H1]; · iexact H1
    ipureintro
    refine whole1 _ _ _ (fun y => rows_cons y 3584 _ _ _ (y 0).isLt (fun h => rows_cons y 3072 _ _ _ h (fun h => rows_cons y 2560 _ _ _ h (fun h => rows_cons y 2048 _ _ _ h (fun h => rows_cons y 1536 _ _ _ h (fun h => rows_cons y 1024 _ _ _ h (fun h => rows_cons y 512 _ _ _ h (fun h => rows_cons y 0 _ _ _ h (fun h => absurd h (Nat.not_lt_zero _)))))))))) ?_
    refine List.forall_mem_cons.mpr ⟨fun x => up_piece (Memref.whole main_arg4) q4 v1 hv 3584 (k0_off10 v1) rfl (k0_off10_inb i v1 v2 v8 hw h1) (fun _ => rfl) squeezes_S1x1x512x1024_S512x1024 _ shapeCasts_S1x512x1024_S512x1024 bitsLt_bf16_f32 shapeCasts_S512x1024_S512x1024 ?_ inb_S4096x1024_S512x1024_3584_0 x, ?_⟩
    · unfold load_wp.sl.v313
      exact slot3_same _ _ _ _ _ _ _
    refine List.forall_mem_cons.mpr ⟨fun x => up_piece (Memref.whole main_arg4) q4 v1 hv 3072 (k0_off9 v1) rfl (k0_off9_inb i v1 v2 v8 hw h1) (fun _ => rfl) squeezes_S1x1x512x1024_S512x1024 _ shapeCasts_S1x512x1024_S512x1024 bitsLt_bf16_f32 shapeCasts_S512x1024_S512x1024 ?_ inb_S4096x1024_S512x1024_3072_0 x, ?_⟩
    · unfold load_wp.sl.v295
      rw [slot3_other (F := F) 2 0 (by decide)]
      exact slot3_same _ _ _ _ _ _ _
    refine List.forall_mem_cons.mpr ⟨fun x => up_piece (Memref.whole main_arg4) q4 v1 hv 2560 (k0_off8 v1) rfl (k0_off8_inb i v1 v2 v8 hw h1) (fun _ => rfl) squeezes_S1x1x512x1024_S512x1024 _ shapeCasts_S1x512x1024_S512x1024 bitsLt_bf16_f32 shapeCasts_S512x1024_S512x1024 ?_ inb_S4096x1024_S512x1024_2560_0 x, ?_⟩
    · unfold load_wp.sl.v277
      rw [slot3_other (F := F) 1 0 (by decide), slot3_other (F := F) 1 2 (by decide)]
      exact slot3_same _ _ _ _ _ _ _
    refine List.forall_mem_cons.mpr ⟨fun x => up_piece (Memref.whole main_arg4) q4 v1 hv 2048 (k0_off7 v1) rfl (k0_off7_inb i v1 v2 v8 hw h1) (fun _ => rfl) squeezes_S1x1x512x1024_S512x1024 _ shapeCasts_S1x512x1024_S512x1024 bitsLt_bf16_f32 shapeCasts_S512x1024_S512x1024 ?_ inb_S4096x1024_S512x1024_2048_0 x, ?_⟩
    · unfold load_wp.sl.v259
      rw [slot3_other (F := F) 0 2 (by decide), slot3_other (F := F) 0 1 (by decide)]
      exact slot3_same _ _ _ _ _ _ _
    refine List.forall_mem_cons.mpr ⟨fun x => up_piece (Memref.whole main_arg4) q4 v1 hv 1536 (k0_off6 v1) rfl (k0_off6_inb i v1 v2 v8 hw h1) (fun _ => rfl) squeezes_S1x1x512x1024_S512x1024 _ shapeCasts_S1x512x1024_S512x1024 bitsLt_bf16_f32 shapeCasts_S512x1024_S512x1024 ?_ inb_S4096x1024_S512x1024_1536_0 x, ?_⟩
    · unfold load_wp.sl.v241
      rw [slot3_other (F := F) 2 1 (by decide), slot3_other (F := F) 2 0 (by decide)]
      exact slot3_same _ _ _ _ _ _ _
    refine List.forall_mem_cons.mpr ⟨fun x => up_piece (Memref.whole main_arg4) q4 v1 hv 1024 (k0_off5 v1) rfl (k0_off5_inb i v1 v2 v8 hw h1) (fun _ => rfl) squeezes_S1x1x512x1024_S512x1024 _ shapeCasts_S1x512x1024_S512x1024 bitsLt_bf16_f32 shapeCasts_S512x1024_S512x1024 ?_ inb_S4096x1024_S512x1024_1024_0 x, ?_⟩
    · unfold load_wp.sl.v223
      rw [slot3_other (F := F) 1 0 (by decide), slot3_other (F := F) 1 2 (by decide)]
      exact slot3_same _ _ _ _ _ _ _
    refine List.forall_mem_cons.mpr ⟨fun x => up_piece (Memref.whole main_arg4) q4 v1 hv 512 (k0_off4 v1) rfl (k0_off4_inb i v1 v2 v8 hw h1) (fun _ => rfl) squeezes_S1x1x512x1024_S512x1024 _ shapeCasts_S1x512x1024_S512x1024 bitsLt_bf16_f32 shapeCasts_S512x1024_S512x1024 ?_ inb_S4096x1024_S512x1024_512_0 x, ?_⟩
    · unfold load_wp.sl.v205
      rw [slot3_other (F := F) 0 2 (by decide), slot3_other (F := F) 0 1 (by decide)]
      exact slot3_same _ _ _ _ _ _ _
    refine List.forall_mem_cons.mpr ⟨fun x => up_piece (Memref.whole main_arg4) q4 v1 hv 0 (k0_off3 v1) rfl (k0_off3_inb i v1 v2 v8 hw h1) (fun _ => rfl) squeezes_S1x1x512x1024_S512x1024 _ shapeCasts_S1x512x1024_S512x1024 bitsLt_bf16_f32 shapeCasts_S512x1024_S512x1024 ?_ inb_S4096x1024_S512x1024_0_0 x, ?_⟩
    · unfold load_wp.sl.v187
      rw [slot3_other (F := F) 2 1 (by decide), slot3_other (F := F) 2 0 (by decide)]
      exact slot3_same _ _ _ _ _ _ _
    exact fun p hp => absurd hp List.not_mem_nil
  isplitl [H2]
  · iexists _; isplitl [H2]; · iexact H2
    ipureintro
    refine whole2 _ _ _ (fun y => rows_cons y 896 _ _ _ (y 0).isLt (fun h => rows_cons y 768 _ _ _ h (fun h => rows_cons y 640 _ _ _ h (fun h => rows_cons y 512 _ _ _ h (fun h => rows_cons y 384 _ _ _ h (fun h => rows_cons y 256 _ _ _ h (fun h => rows_cons y 128 _ _ _ h (fun h => rows_cons y 0 _ _ _ h (fun h => absurd h (Nat.not_lt_zero _)))))))))) ?_
    refine List.forall_mem_cons.mpr ⟨fun x => down_piece (Memref.whole main_arg5) q5 v1 hv 896 (k0_off18 v1) rfl (k0_off18_inb i v1 v2 v8 hw h1) (fun _ => rfl) squeezes_S1x1x128x4096_S128x4096 _ shapeCasts_S1x128x4096_S128x4096 bitsLt_bf16_f32 shapeCasts_S128x4096_S128x4096 ?_ inb_S1024x4096_S128x4096_896_0 x, ?_⟩
    · unfold load_wp.sl.v445
      exact slot4_same _ _ _ _ _ _ _
    refine List.forall_mem_cons.mpr ⟨fun x => down_piece (Memref.whole main_arg5) q5 v1 hv 768 (k0_off17 v1) rfl (k0_off17_inb i v1 v2 v8 hw h1) (fun _ => rfl) squeezes_S1x1x128x4096_S128x4096 _ shapeCasts_S1x128x4096_S128x4096 bitsLt_bf16_f32 shapeCasts_S128x4096_S128x4096 ?_ inb_S1024x4096_S128x4096_768_0 x, ?_⟩
    · unfold load_wp.sl.v433
      rw [slot4_other (F := F) 1 2 (by decide)]
      exact slot4_same _ _ _ _ _ _ _
    refine List.forall_mem_cons.mpr ⟨fun x => down_piece (Memref.whole main_arg5) q5 v1 hv 640 (k0_off16 v1) rfl (k0_off16_inb i v1 v2 v8 hw h1) (fun _ => rfl) squeezes_S1x1x128x4096_S128x4096 _ shapeCasts_S1x128x4096_S128x4096 bitsLt_bf16_f32 shapeCasts_S128x4096_S128x4096 ?_ inb_S1024x4096_S128x4096_640_0 x, ?_⟩
    · unfold load_wp.sl.v421
      rw [slot4_other (F := F) 0 2 (by decide), slot4_other (F := F) 0 1 (by decide)]
      exact slot4_same _ _ _ _ _ _ _
    refine List.forall_mem_cons.mpr ⟨fun x => down_piece (Memref.whole main_arg5) q5 v1 hv 512 (k0_off15 v1) rfl (k0_off15_inb i v1 v2 v8 hw h1) (fun _ => rfl) squeezes_S1x1x128x4096_S128x4096 _ shapeCasts_S1x128x4096_S128x4096 bitsLt_bf16_f32 shapeCasts_S128x4096_S128x4096 ?_ inb_S1024x4096_S128x4096_512_0 x, ?_⟩
    · unfold load_wp.sl.v403
      rw [slot4_other (F := F) 2 1 (by decide), slot4_other (F := F) 2 0 (by decide)]
      exact slot4_same _ _ _ _ _ _ _
    refine List.forall_mem_cons.mpr ⟨fun x => down_piece (Memref.whole main_arg5) q5 v1 hv 384 (k0_off14 v1) rfl (k0_off14_inb i v1 v2 v8 hw h1) (fun _ => rfl) squeezes_S1x1x128x4096_S128x4096 _ shapeCasts_S1x128x4096_S128x4096 bitsLt_bf16_f32 shapeCasts_S128x4096_S128x4096 ?_ inb_S1024x4096_S128x4096_384_0 x, ?_⟩
    · unfold load_wp.sl.v385
      rw [slot4_other (F := F) 1 0 (by decide), slot4_other (F := F) 1 2 (by decide)]
      exact slot4_same _ _ _ _ _ _ _
    refine List.forall_mem_cons.mpr ⟨fun x => down_piece (Memref.whole main_arg5) q5 v1 hv 256 (k0_off13 v1) rfl (k0_off13_inb i v1 v2 v8 hw h1) (fun _ => rfl) squeezes_S1x1x128x4096_S128x4096 _ shapeCasts_S1x128x4096_S128x4096 bitsLt_bf16_f32 shapeCasts_S128x4096_S128x4096 ?_ inb_S1024x4096_S128x4096_256_0 x, ?_⟩
    · unfold load_wp.sl.v367
      rw [slot4_other (F := F) 0 2 (by decide), slot4_other (F := F) 0 1 (by decide)]
      exact slot4_same _ _ _ _ _ _ _
    refine List.forall_mem_cons.mpr ⟨fun x => down_piece (Memref.whole main_arg5) q5 v1 hv 128 (k0_off12 v1) rfl (k0_off12_inb i v1 v2 v8 hw h1) (fun _ => rfl) squeezes_S1x1x128x4096_S128x4096 _ shapeCasts_S1x128x4096_S128x4096 bitsLt_bf16_f32 shapeCasts_S128x4096_S128x4096 ?_ inb_S1024x4096_S128x4096_128_0 x, ?_⟩
    · unfold load_wp.sl.v349
      rw [slot4_other (F := F) 2 1 (by decide), slot4_other (F := F) 2 0 (by decide)]
      exact slot4_same _ _ _ _ _ _ _
    refine List.forall_mem_cons.mpr ⟨fun x => down_piece (Memref.whole main_arg5) q5 v1 hv 0 (k0_off11 v1) rfl (k0_off11_inb i v1 v2 v8 hw h1) (fun _ => rfl) squeezes_S1x1x128x4096_S128x4096 _ shapeCasts_S1x128x4096_S128x4096 bitsLt_bf16_f32 shapeCasts_S128x4096_S128x4096 ?_ inb_S1024x4096_S128x4096_0_0 x, ?_⟩
    · unfold load_wp.sl.v331
      rw [slot4_other (F := F) 1 0 (by decide), slot4_other (F := F) 1 2 (by decide)]
      exact slot4_same _ _ _ _ _ _ _
    exact fun p hp => absurd hp List.not_mem_nil
  isplitl [H3]; · iexists _; iexact H3
  isplitl [H4]; · iexists _; iexact H4
  isplitl [Hq34]; · iexact Hq34
  isplitl [Hq35]; · iexact Hq35
  isplitl [Hq36]; · iexact Hq36
  isplitl [Hq44]; · iexact Hq44
  isplitl [Hq45]; · iexact Hq45
  isplitl [Hq46]; · iexact Hq46
  isplitl [Hq54]; · iexact Hq54
  isplitl [Hq55]; · iexact Hq55
  isplitl [Hq56]; · iexact Hq56
  isplitl [Hd4]; · iexact Hd4
  isplitl [Hd5]; · iexact Hd5
  isplitl [Hd6]; · iexact Hd6
  iexists _; iexact HO
end Cert.Kernel6Ideal.Moe
-- ==== Proof.Moe.Compute.lean ====
module
public import proofs.«01_k».proof.Proof.Moe.Load
public import Idealize.ShloMosaic.Lib.Pipeline.FrameBody
public import Idealize.ShloMosaic.Lib.Pipeline.Value
@[expose] public section
set_option maxRecDepth 16384
/-! The body of the experts' kernel: which weights it loads, and what it leaves in the output's buffer. -/
noncomputable section
namespace Cert.Kernel6Ideal.Moe
open Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (Pipeline.UD sig nD τ) ℕ

/-- What the body does after the weights are in place: the product of the block of rows, or zeros past the last block. -/
noncomputable def compute (i : grid0.Coords) (v2 : BitVec 32) (arg3 : Memref sig .tc .vmem S256x2048 .i32) (arg7 : Memref sig .tc .vmem S256x4096 .f32)
    (arg8 : Memref sig .tc .vmem S4096x1024 .bf16) (arg9 : Memref sig .tc .vmem S4096x1024 .bf16) (arg10 : Memref sig .tc .vmem S1024x4096 .bf16) :
    Prog (TpuEff nD τ sig (Elt F) Λ₀ .tc) PUnit := do
  if k0_h2 : k0_cond2 i v2 = 1#1 then do
    let v19 : Vec F S256x2048 .i32 ← Prog.lift (.load arg3 (Rect.unit (s := S256x2048) ![0, 0] S256x2048.size inb_S256x2048_S256x2048_0_0).toLoadRect (View.loadsAt_vmem h_S256x2048))
    let v29 : Vec F S4096x1024 .bf16 ← Prog.lift (.load arg8 (Rect.unit (s := S4096x1024) ![0, 0] S4096x1024.size inb_S4096x1024_S4096x1024_0_0).toLoadRect (View.loadsAt_vmem h_S4096x1024))
    let v31 : Vec F S4096x1024 .bf16 ← Prog.lift (.load arg9 (Rect.unit (s := S4096x1024) ![0, 0] S4096x1024.size inb_S4096x1024_S4096x1024_0_0).toLoadRect (View.loadsAt_vmem h_S4096x1024))
    let v37 : Vec F S1024x4096 .bf16 ← Prog.lift (.load arg10 (Rect.unit (s := S1024x4096) ![0, 0] S1024x4096.size inb_S1024x4096_S1024x4096_0_0).toLoadRect (View.loadsAt_vmem h_S1024x4096))
    let v39 : Vec F S256x4096 .f32 ← Prog.lift (.load arg7 (Rect.unit (s := S256x4096) ![0, 0] S256x4096.size inb_S256x4096_S256x4096_0_0).toLoadRect (View.loadsAt_vmem h_S256x4096))
    Prog.lift (.store arg7 (Rect.unit (s := S256x4096) ![0, 0] S256x4096.size inb_S256x4096_S256x4096_0_0) (k0_pay1 v19 v29 v31 v37) Finset.univ (View.stores_vmem_bits_univ h_S256x4096 rfl) (.inl rfl))
    pure ⟨⟩
  else do
    pure ⟨⟩
  if k0_h3 : k0_cond3 i v2 = 1#1 then do
    let v20 : Vec F S256x4096 .f32 ← Prog.lift (.load arg7 (Rect.unit (s := S256x4096) ![0, 0] S256x4096.size inb_S256x4096_S256x4096_0_0).toLoadRect (View.loadsAt_vmem h_S256x4096))
    Prog.lift (.store arg7 (Rect.unit (s := S256x4096) ![0, 0] S256x4096.size inb_S256x4096_S256x4096_0_0) (k0_pay2 (F := F)) Finset.univ (View.stores_vmem_bits_univ h_S256x4096 rfl) (.inl rfl))
    pure ⟨⟩
  else do
    pure ⟨⟩
  pure ⟨⟩

/-- The condition of the zeros is the negation of the condition of the product. -/
theorem cond3_iff (i : grid0.Coords) (v2 : BitVec 32) : k0_cond3 i v2 = 1#1 ↔ ¬ k0_cond2 i v2 = 1#1 := by
  unfold k0_cond3 k0_cond2
  show Scalar.cmpi .ne (Scalar.extui (Scalar.xori (Scalar.cmpi .slt (BitVec.ofNat 32 (i 0).val) v2) 1#1)) 0#32 = 1#1
    ↔ ¬ Scalar.cmpi .ne (Scalar.extui (Scalar.cmpi .slt (BitVec.ofNat 32 (i 0).val) v2)) 0#32 = 1#1
  generalize Scalar.cmpi .slt (BitVec.ofNat 32 (i 0).val) v2 = b
  revert b; decide

abbrev r3 : Rect S256x2048 := Rect.unit (s := S256x2048) ![0, 0] S256x2048.size inb_S256x2048_S256x2048_0_0
abbrev r7 : Rect S256x4096 := Rect.unit (s := S256x4096) ![0, 0] S256x4096.size inb_S256x4096_S256x4096_0_0
abbrev r8 : Rect S4096x1024 := Rect.unit (s := S4096x1024) ![0, 0] S4096x1024.size inb_S4096x1024_S4096x1024_0_0
abbrev r10 : Rect S1024x4096 := Rect.unit (s := S1024x4096) ![0, 0] S1024x4096.size inb_S1024x4096_S1024x4096_0_0

theorem zero2 : (![0, 0] : Fin 2 → ℕ) = fun _ => 0 := by funext a; fin_cases a <;> rfl

/-- The store of a whole buffer leaves what is stored. -/
theorem stored_whole (arg7 : Memref sig .tc .vmem S256x4096 .f32) (f : BufTy.Contents (Elt F) arg7.view.ty) (p : Vec F S256x4096 .f32) :
    arg7.view.read (Elt F) (arg7.view.writes (Elt F) f [⟨r7, p⟩]) = p := by
  rw [View.read_writes_eq_canon _ _ _ (View.cover_of_tiled [⟨r7, p⟩] S256x4096.size (by rfl))]
  exact View.canon_unit_zero zero2 _ _

set_option maxHeartbeats 4000000 in
theorem compute_wp (c : Dev nD) (i : grid0.Coords) (v2 : BitVec 32) (arg3 : Memref sig .tc .vmem S256x2048 .i32) (arg7 : Memref sig .tc .vmem S256x4096 .f32)
    (harg3 : arg3.IsWhole) (harg7 : arg7.IsWhole)
    (x3 : Vec F S256x2048 .i32) (f0 f1 : S4096x1024.Idx → F .bf16) (f2 : S1024x4096.Idx → F .bf16) (Q : PUnit → sProp 𝕄) :
    iprop(owns (c : Thread nD τ) arg3 fullShare x3
      ∗ ((Memref.whole cc0_scratch0).view.loc (c : Thread nD τ) ↦[Finset.univ]{fullShare} f0)
      ∗ ((Memref.whole cc0_scratch1).view.loc (c : Thread nD τ) ↦[Finset.univ]{fullShare} f1)
      ∗ ((Memref.whole cc0_scratch2).view.loc (c : Thread nD τ) ↦[Finset.univ]{fullShare} f2)
      ∗ (∃ d, owns (c : Thread nD τ) arg7 fullShare d)
      ∗ (iprop(owns (c : Thread nD τ) arg3 fullShare x3
        ∗ ((Memref.whole cc0_scratch0).view.loc (c : Thread nD τ) ↦[Finset.univ]{fullShare} f0)
        ∗ ((Memref.whole cc0_scratch1).view.loc (c : Thread nD τ) ↦[Finset.univ]{fullShare} f1)
        ∗ ((Memref.whole cc0_scratch2).view.loc (c : Thread nD τ) ↦[Finset.univ]{fullShare} f2)
        ∗ owns (c : Thread nD τ) arg7 fullShare (if k0_cond2 i v2 = 1#1 then k0_pay1 x3 f0 f1 f2 else k0_pay2)) -∗ Q ⟨⟩))
    ⊢ wp frame (wpE (defs₀ (F := F)) Variants.none c none) Set.univ
        (compute (F := F) i v2 arg3 arg7 (Memref.whole cc0_scratch0) (Memref.whole cc0_scratch1) (Memref.whole cc0_scratch2)) Q := by
  unfold owns
  by_cases h2 : k0_cond2 i v2 = 1#1
  · have h3 : ¬ k0_cond3 i v2 = 1#1 := fun h => (cond3_iff i v2).1 h h2
    unfold compute
    rw [dif_pos h2, if_pos h2]
    iintro ⟨⟨%f3, %hf3, H3⟩, H0, H1, H2, ⟨%d7, %f7, -, H7⟩, Hk⟩
    subst hf3
    sl_exec
    sl_step
    iapply Hk
    isplitl [H3]
    · iexists f3; isplitr; · ipureintro; rfl
      iexact H3
    isplitl [H0]; · iexact H0
    isplitl [H1]; · iexact H1
    isplitl [H2]; · iexact H2
    iexists _; isplitr
    swap; · iexact H7
    ipureintro
    refine (stored_whole arg7 _ _).trans ?_
    show k0_pay1 (View.ld (arg3.view.read (Elt F) f3) r3) (View.ld f0 r8) (View.ld f1 r8) (View.ld f2 r10) = k0_pay1 (arg3.view.read (Elt F) f3) f0 f1 f2
    rw [View.ld_unit_zero zero2, View.ld_unit_zero zero2, View.ld_unit_zero zero2, View.ld_unit_zero zero2]
  · have h3 : k0_cond3 i v2 = 1#1 := (cond3_iff i v2).2 h2
    unfold compute
    rw [dif_neg h2, if_neg h2]
    iintro ⟨⟨%f3, %hf3, H3⟩, H0, H1, H2, ⟨%d7, %f7, -, H7⟩, Hk⟩
    sl_exec
    sl_step
    iapply Hk
    isplitl [H3]
    · iexists f3; isplitr; · ipureintro; exact hf3
      iexact H3
    isplitl [H0]; · iexact H0
    isplitl [H1]; · iexact H1
    isplitl [H2]; · iexact H2
    iexists _; isplitr
    swap; · iexact H7
    ipureintro
    exact stored_whole arg7 _ _

/-- The body after its three words are read: the loading where it is due, then the product. -/
noncomputable def tail (i : grid0.Coords) (v1 v2 v8 : BitVec 32) (hw : k0_chk1 i v1 v2 v8) (arg3 : Memref sig .tc .vmem S256x2048 .i32) (harg3 : arg3.IsWhole)
    (arg7 : Memref sig .tc .vmem S256x4096 .f32) (harg7 : arg7.IsWhole) : Prog (TpuEff nD τ sig (Elt F) Λ₀ .tc) PUnit :=
  if h1 : k0_cond1 i v1 v2 v8 = 1#1 then
    loadAll i v1 v2 v8 hw h1 arg3 harg3 arg7 harg7 >>= fun _ =>
      compute i v2 arg3 arg7 (Memref.whole cc0_scratch0) (Memref.whole cc0_scratch1) (Memref.whole cc0_scratch2)
  else compute i v2 arg3 arg7 (Memref.whole cc0_scratch0) (Memref.whole cc0_scratch1) (Memref.whole cc0_scratch2)

/-- The body reads the block's expert, the number of blocks and the expert of the block before, and goes on with `tail`. -/
theorem experts_eq (i : grid0.Coords) (arg3 : Memref sig .tc .vmem S256x2048 .i32) (harg3 : arg3.IsWhole)
    (arg7 : Memref sig .tc .vmem S256x4096 .f32) (harg7 : arg7.IsWhole) :
    cc0_experts (F := F) i (Memref.whole main_arg0) (Memref.isWhole_whole _) (Memref.whole main_arg1) (Memref.isWhole_whole _) arg3 harg3 (Memref.whole main_arg3) (Memref.isWhole_whole _) (Memref.whole main_arg4) (Memref.isWhole_whole _) (Memref.whole main_arg5) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5
      = (do
        let v1 : Elt F .i32 ← smemLoad (Memref.whole main_arg0) (Rect.unit (s := S144) (k0_off1 i) S1.size (k0_off1_inb i)) numel1_S1 rfl
        let v2 : Elt F .i32 ← smemLoad (Memref.whole main_arg1) (Rect.unit (s := S1) ![0] S1.size inb_S1_S1_0) numel1_S1 rfl
        let v8 : Elt F .i32 ← smemLoad (Memref.whole main_arg0) (Rect.unit (s := S144) (k0_off2 i) S1.size (k0_off2_inb i)) numel1_S1 rfl
        have k0_hw1 : k0_chk1 i v1 v2 v8 := (← Prog.lift (TpuEff.assume (k0_chk1 i v1 v2 v8) (k0_chk1.dec i v1 v2 v8))).down
        tail (F := F) i v1 v2 v8 k0_hw1 arg3 harg3 arg7 harg7) := by
  rw [cc0_experts_eq_skeleton]
  unfold cc0_experts_skel tail loadAll compute
  simp only [bind_assoc, pure_bind]

end Cert.Kernel6Ideal.Moe
-- ==== Proof.Moe.Body.lean ====
module
public import proofs.«01_k».proof.Proof.Moe.Compute
public import Idealize.ShloMosaic.Lib.Transfers
@[expose] public section
set_option maxRecDepth 16384
/-! One grid point of the experts' kernel: from the weights the point before left to the weights of this point's expert,
    and the product of its rows. -/
noncomputable section
namespace Cert.Kernel6Ideal.Moe
open Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (Pipeline.UD sig nD τ) ℕ

/-! ## The words the body reads -/

/-- The expert of row block `n`. -/
def blkE (T0 : S144.Idx → BitVec 32) (n : ℕ) : BitVec 32 := T0 (ValueIdx.ix1 ⟨n % 144, Nat.mod_lt _ (by decide)⟩)

/-- Row block `n` holds routed rows. -/
def Active (T1 : S1.Idx → BitVec 32) (n : ℕ) : Prop := Scalar.cmpi .slt (BitVec.ofNat 32 n) (T1 (ValueIdx.ix1 0)) = 1#1

theorem active_of_succ (T1 : S1.Idx → BitVec 32) (n : ℕ) (hn : n < 143) (h : Active T1 (n + 1)) : Active T1 n := by
  unfold Active at *
  have key : ∀ a b : BitVec 32, Scalar.cmpi .slt a b = 1#1 ↔ a.toInt < b.toInt := fun a b => by
    show BitVec.ofBool (a.slt b) = 1#1 ↔ _
    rw [BitVec.slt]
    by_cases h : a.toInt < b.toInt <;> simp [h]
  rw [key] at *
  have e1 : (BitVec.ofNat 32 n).toInt = n := by
    rw [BitVec.toInt_eq_toNat_of_lt (by rw [BitVec.toNat_ofNat]; omega), BitVec.toNat_ofNat]; omega
  have e2 : (BitVec.ofNat 32 (n + 1)).toInt = n + 1 := by
    rw [BitVec.toInt_eq_toNat_of_lt (by rw [BitVec.toNat_ofNat]; omega), BitVec.toNat_ofNat]; omega
  omega

theorem off2_eq : ∀ i : grid0.Coords, k0_off2 i = ![(i 0).val - 1] := by decide +kernel

theorem cond2_iff (i : grid0.Coords) (T1 : S1.Idx → BitVec 32) : k0_cond2 i (T1 (ValueIdx.ix1 0)) = 1#1 ↔ Active T1 (i 0).val := by
  unfold Active k0_cond2
  show Scalar.cmpi .ne (Scalar.extui (Scalar.cmpi .slt (BitVec.ofNat 32 (i 0).val) (T1 (ValueIdx.ix1 0)))) 0#32 = 1#1
    ↔ Scalar.cmpi .slt (BitVec.ofNat 32 (i 0).val) (T1 (ValueIdx.ix1 0)) = 1#1
  generalize Scalar.cmpi .slt (BitVec.ofNat 32 (i 0).val) _ = b
  revert b; decide

theorem cond1_iff (i : grid0.Coords) (T1 : S1.Idx → BitVec 32) (v1 v8 : BitVec 32) :
    k0_cond1 i v1 (T1 (ValueIdx.ix1 0)) v8 = 1#1 ↔ Active T1 (i 0).val ∧ ((i 0).val = 0 ∨ v1 ≠ v8) := by
  have hz : Scalar.cmpi .eq (BitVec.ofNat 32 (i 0).val) 0#32 = 1#1 ↔ (i 0).val = 0 := by
    show BitVec.ofBool (BitVec.ofNat 32 (i 0).val == 0#32) = 1#1 ↔ _
    have hlt : (i 0).val < 144 := (i 0).isLt
    rw [show (BitVec.ofNat 32 (i 0).val == 0#32) = decide ((i 0).val = 0) from by
      rw [Bool.eq_iff_iff, beq_iff_eq, decide_eq_true_iff, ← BitVec.toNat_inj]
      simp only [BitVec.toNat_ofNat]; omega]
    by_cases h : (i 0).val = 0 <;> simp [h]
  have hne : Scalar.cmpi .ne v1 v8 = 1#1 ↔ v1 ≠ v8 := by
    show BitVec.ofBool (v1 != v8) = 1#1 ↔ _
    by_cases h : v1 = v8
    · subst h; simp
    · rw [bne_iff_ne.mpr h]; simp [h]
  rw [← hz, ← hne]
  unfold Active k0_cond1
  show Scalar.cmpi .ne (Scalar.extui (Scalar.andi (Scalar.cmpi .slt (BitVec.ofNat 32 (i 0).val) (T1 (ValueIdx.ix1 0)))
      (Scalar.ori (Scalar.cmpi .eq (BitVec.ofNat 32 (i 0).val) 0#32) (Scalar.cmpi .ne v1 v8)))) 0#32 = 1#1 ↔ _
  generalize Scalar.cmpi .slt (BitVec.ofNat 32 (i 0).val) _ = b
  generalize Scalar.cmpi .eq (BitVec.ofNat 32 (i 0).val) 0#32 = d
  generalize Scalar.cmpi .ne v1 v8 = e
  revert b d e; decide

theorem inb_up (v r : ℕ) (h : v < 16) (hr : r + 512 ≤ 4096) : ∀ a, (![0, v, r, 0] : Fin 4 → ℕ) a + S1x1x512x1024.size a ≤ S2x16x4096x1024.size a := by
  intro a
  fin_cases a
  · show 0 + 1 ≤ 2; omega
  · show v + 1 ≤ 16; omega
  · show r + 512 ≤ 4096; omega
  · show 0 + 1024 ≤ 1024; omega

theorem inb_down (v r : ℕ) (h : v < 16) (hr : r + 128 ≤ 1024) : ∀ a, (![0, v, r, 0] : Fin 4 → ℕ) a + S1x1x128x4096.size a ≤ S2x16x1024x4096.size a := by
  intro a
  fin_cases a
  · show 0 + 1 ≤ 2; omega
  · show v + 1 ≤ 16; omega
  · show r + 128 ≤ 1024; omega
  · show 0 + 4096 ≤ 4096; omega

theorem chk_of_lt (i : grid0.Coords) (v1 v2 v8 : BitVec 32) (h : k0_cond1 i v1 v2 v8 = 1#1 → v1.toNat < 16) : k0_chk1 i v1 v2 v8 :=
  ⟨fun c => inb_up v1.toNat 0 (h c) (by decide), fun c => inb_up v1.toNat 512 (h c) (by decide), fun c => inb_up v1.toNat 1024 (h c) (by decide), fun c => inb_up v1.toNat 1536 (h c) (by decide), fun c => inb_up v1.toNat 2048 (h c) (by decide), fun c => inb_up v1.toNat 2560 (h c) (by decide), fun c => inb_up v1.toNat 3072 (h c) (by decide), fun c => inb_up v1.toNat 3584 (h c) (by decide), fun c => inb_down v1.toNat 0 (h c) (by decide), fun c => inb_down v1.toNat 128 (h c) (by decide), fun c => inb_down v1.toNat 256 (h c) (by decide), fun c => inb_down v1.toNat 384 (h c) (by decide), fun c => inb_down v1.toNat 512 (h c) (by decide), fun c => inb_down v1.toNat 640 (h c) (by decide), fun c => inb_down v1.toNat 768 (h c) (by decide), fun c => inb_down v1.toNat 896 (h c) (by decide)⟩

/-! ## What a point holds -/

/-- The resources of the loading beside the tables: the arrays of weights, the transfers' cells, the staging slots. -/
def stock (c : Dev nD) (q3 q4 : S2x16x4096x1024.Idx → F .f32) (q5 : S2x16x1024x4096.Idx → F .f32) : sProp 𝕄 :=
  iprop((∃ g : S3x512x1024.Idx → F .f32, ((Memref.whole cc0_scratch3).view.loc (c : Thread nD τ) ↦[Finset.univ]{fullShare} g)) ∗ (∃ g : S3x128x4096.Idx → F .f32, ((Memref.whole cc0_scratch4).view.loc (c : Thread nD τ) ↦[Finset.univ]{fullShare} g))
    ∗ ((Memref.whole main_arg3).view.loc (c : Thread nD τ) ↦[Finset.univ]{fullShare} q3)
    ∗ ((Memref.whole main_arg4).view.loc (c : Thread nD τ) ↦[Finset.univ]{fullShare} q4)
    ∗ ((Memref.whole main_arg5).view.loc (c : Thread nD τ) ↦[Finset.univ]{fullShare} q5)
    ∗ semVal ((c : Thread nD τ), SemLoc.dma ((cc0_scratch5.slice (Rect.unit (s := S3) ![0] S1.size inb_S3_S1_0)).squeeze S_ squeezes_S1_S_).sem) 0
    ∗ semVal ((c : Thread nD τ), SemLoc.dma ((cc0_scratch5.slice (Rect.unit (s := S3) ![1] S1.size inb_S3_S1_1)).squeeze S_ squeezes_S1_S_).sem) 0
    ∗ semVal ((c : Thread nD τ), SemLoc.dma ((cc0_scratch5.slice (Rect.unit (s := S3) ![2] S1.size inb_S3_S1_2)).squeeze S_ squeezes_S1_S_).sem) 0)

/-- The three weight buffers, satisfying `P`. -/
def weights (c : Dev nD) (P : (S4096x1024.Idx → F .bf16) → (S4096x1024.Idx → F .bf16) → (S1024x4096.Idx → F .bf16) → Prop) : sProp 𝕄 :=
  iprop(∃ (f0 f1 : S4096x1024.Idx → F .bf16) (f2 : S1024x4096.Idx → F .bf16), ((Memref.whole cc0_scratch0).view.loc (c : Thread nD τ) ↦[Finset.univ]{fullShare} f0) ∗ ((Memref.whole cc0_scratch1).view.loc (c : Thread nD τ) ↦[Finset.univ]{fullShare} f1) ∗ ((Memref.whole cc0_scratch2).view.loc (c : Thread nD τ) ↦[Finset.univ]{fullShare} f2) ∗ ⌜P f0 f1 f2⌝)

/-- The buffers hold expert `w`'s three matrices. -/
def Holds (w : BitVec 32) (q3 q4 : S2x16x4096x1024.Idx → F .f32) (q5 : S2x16x1024x4096.Idx → F .f32)
    (f0 f1 : S4096x1024.Idx → F .bf16) (f2 : S1024x4096.Idx → F .bf16) : Prop := f0 = upW w q3 ∧ f1 = upW w q4 ∧ f2 = downW w q5

/-- A whole array, dealt into three read tokens and the rest. -/
theorem deal (ℓ : Loc nD τ sig) (f : Buf (Elt F) ℓ) :
    (ℓ ↦[Finset.univ]{fullShare} f : sProp 𝕄) ⊣⊢ iprop((((ℓ ↦[Finset.univ]{Transfers.shareDrop fullShare 7} f)
      ∗ (ℓ ↦[Finset.univ]{Transfers.shareTokN fullShare 6} f)) ∗ (ℓ ↦[Finset.univ]{Transfers.shareTokN fullShare 5} f))
      ∗ (ℓ ↦[Finset.univ]{Transfers.shareTokN fullShare 4} f) ∗ bigSep (Finset.range 4) (fun i => ℓ ↦[Finset.univ]{Transfers.shareTokN fullShare i} f)) := by
  have step (k : ℕ) : (ℓ ↦[Finset.univ]{Transfers.shareDrop fullShare k} f : sProp 𝕄)
      ⊣⊢ iprop((ℓ ↦[Finset.univ]{Transfers.shareDrop fullShare (k + 1)} f) ∗ ℓ ↦[Finset.univ]{Transfers.shareTokN fullShare k} f) :=
    pointsTo_share (PosShare.mem_left_op_right _)
  have r := Transfers.pointsTo_toks_range (Ix := Unit) (Name := ℕ) (U := Pipeline.UD sig nD τ) (Lvl := ℕ) (ℓ := ℓ) (S := Finset.univ) (f := f) fullShare 4
  constructor
  · refine r.1.trans ?_
    iintro ⟨H, HT⟩
    ihave H := (step 4).1 $$ H
    icases H with ⟨H, H4⟩
    ihave H := (step 5).1 $$ H
    icases H with ⟨H, H5⟩
    ihave H := (step 6).1 $$ H
    icases H with ⟨H, H6⟩
    isplitl [H H6 H5]
    · isplitl [H H6]
      · isplitl [H]; · iexact H
        iexact H6
      iexact H5
    isplitl [H4]; · iexact H4
    iexact HT
  · iintro ⟨⟨⟨H, H6⟩, H5⟩, H4, HT⟩
    iapply r.2
    isplitr [HT]
    · iapply (step 4).2
      isplitr [H4]
      · iapply (step 5).2
        isplitr [H5]
        · iapply (step 6).2
          isplitl [H]; · iexact H
          iexact H6
        iexact H5
      iexact H4
    iexact HT

/-- The loading, continued: from the stock and the weight buffers at anything to the weight buffers at the expert's. -/
theorem load_cps (c : Dev nD) (i : grid0.Coords) (v1 v2 v8 : BitVec 32) (hw : k0_chk1 i v1 v2 v8) (h1 : k0_cond1 i v1 v2 v8 = 1#1)
    (arg3 : Memref sig .tc .vmem S256x2048 .i32) (harg3 : arg3.IsWhole) (arg7 : Memref sig .tc .vmem S256x4096 .f32) (harg7 : arg7.IsWhole)
    (W : Waits sig Unit) (q3 q4 : S2x16x4096x1024.Idx → F .f32) (q5 : S2x16x1024x4096.Idx → F .f32)
    (k : PUnit → Prog (TpuEff nD τ sig (Elt F) Λ₀ .tc) PUnit) (Q : PUnit → sProp 𝕄) :
    iprop(stock c q3 q4 q5 ∗ weights c (fun _ _ _ => True) ∗ owes (c : Thread nD τ) 0 W
      ∗ (iprop(stock c q3 q4 q5 ∗ weights c (Holds v1 q3 q4 q5) ∗ (∃ W' : Waits sig Unit, owes (c : Thread nD τ) 0 W'))
          -∗ wp frame (wpE (defs₀ (F := F)) Variants.none c none) Set.univ (k ⟨⟩) Q))
    ⊢ wp frame (wpE (defs₀ (F := F)) Variants.none c none) Set.univ (loadAll (F := F) i v1 v2 v8 hw h1 arg3 harg3 arg7 harg7 >>= k) Q := by
  rw [wp_bind]
  unfold stock weights
  iintro ⟨⟨⟨%g3, H3⟩, ⟨%g4, H4⟩, Hb3, Hb4, Hb5, Hd4, Hd5, Hd6⟩, ⟨%f0, %f1, %f2, H0, H1, H2, -⟩, HO, Hk⟩
  ihave Hb3 := (deal _ q3).1 $$ Hb3
  icases Hb3 with ⟨⟨⟨Hr3, Hq36⟩, Hq35⟩, Hq34, Ht3⟩
  ihave Hb4 := (deal _ q4).1 $$ Hb4
  icases Hb4 with ⟨⟨⟨Hr4, Hq46⟩, Hq45⟩, Hq44, Ht4⟩
  ihave Hb5 := (deal _ q5).1 $$ Hb5
  icases Hb5 with ⟨⟨⟨Hr5, Hq56⟩, Hq55⟩, Hq54, Ht5⟩
  ihave Hw := (load_wp c i v1 v2 v8 hw h1 arg3 harg3 arg7 harg7 W f0 f1 f2 g3 g4 q3 q4 q5) $$ [H0 H1 H2 H3 H4 Hq34 Hq35 Hq36 Hq44 Hq45 Hq46 Hq54 Hq55 Hq56 Hd4 Hd5 Hd6 HO]
  · isplitl [H0]; · iexact H0
    isplitl [H1]; · iexact H1
    isplitl [H2]; · iexact H2
    isplitl [H3]; · iexact H3
    isplitl [H4]; · iexact H4
    isplitl [Hq34]; · iexact Hq34
    isplitl [Hq35]; · iexact Hq35
    isplitl [Hq36]; · iexact Hq36
    isplitl [Hq44]; · iexact Hq44
    isplitl [Hq45]; · iexact Hq45
    isplitl [Hq46]; · iexact Hq46
    isplitl [Hq54]; · iexact Hq54
    isplitl [Hq55]; · iexact Hq55
    isplitl [Hq56]; · iexact Hq56
    isplitl [Hd4]; · iexact Hd4
    isplitl [Hd5]; · iexact Hd5
    isplitl [Hd6]; · iexact Hd6
    iexact HO
  iapply (wp_wand frame (wpE (defs₀ (F := F)) Variants.none c none)) $$ Hw
  iintro %_ ⟨⟨%e0, H0, %h0⟩, ⟨%e1, H1, %h1⟩, ⟨%e2, H2, %h2⟩, ⟨%e3, H3⟩, ⟨%e4, H4⟩, Hq34, Hq35, Hq36, Hq44, Hq45, Hq46, Hq54, Hq55, Hq56, Hd4, Hd5, Hd6, HO⟩
  iapply Hk
  isplitr [H0 H1 H2 HO]
  · isplitl [H3]; · iexists e3; iexact H3
    isplitl [H4]; · iexists e4; iexact H4
    isplitl [Hr3 Hq34 Hq35 Hq36 Ht3]
    · iapply (deal _ q3).2
      isplitl [Hr3 Hq36 Hq35]
      · isplitl [Hr3 Hq36]
        · isplitl [Hr3]; · iexact Hr3
          iexact Hq36
        iexact Hq35
      isplitl [Hq34]; · iexact Hq34
      iexact Ht3
    isplitl [Hr4 Hq44 Hq45 Hq46 Ht4]
    · iapply (deal _ q4).2
      isplitl [Hr4 Hq46 Hq45]
      · isplitl [Hr4 Hq46]
        · isplitl [Hr4]; · iexact Hr4
          iexact Hq46
        iexact Hq45
      isplitl [Hq44]; · iexact Hq44
      iexact Ht4
    isplitl [Hr5 Hq54 Hq55 Hq56 Ht5]
    · iapply (deal _ q5).2
      isplitl [Hr5 Hq56 Hq55]
      · isplitl [Hr5 Hq56]
        · isplitl [Hr5]; · iexact Hr5
          iexact Hq56
        iexact Hq55
      isplitl [Hq54]; · iexact Hq54
      iexact Ht5
    isplitl [Hd4]; · iexact Hd4
    isplitl [Hd5]; · iexact Hd5
    iexact Hd6
  isplitl [H0 H1 H2]
  · iexists e0, e1, e2
    isplitl [H0]; · iexact H0
    isplitl [H1]; · iexact H1
    isplitl [H2]; · iexact H2
    ipureintro; exact ⟨h0, h1, h2⟩
  iexact HO

/-! ## One point -/

/-- What the weight buffers hold when `n` points have run: the last point's expert, if its block held routed rows. -/
def After (T0 : S144.Idx → BitVec 32) (T1 : S1.Idx → BitVec 32) (q3 q4 : S2x16x4096x1024.Idx → F .f32) (q5 : S2x16x1024x4096.Idx → F .f32)
    (n : ℕ) (f0 f1 : S4096x1024.Idx → F .bf16) (f2 : S1024x4096.Idx → F .bf16) : Prop :=
  0 < n → Active T1 (n - 1) → Holds (blkE T0 (n - 1)) q3 q4 q5 f0 f1 f2

open Classical in
/-- The block stored at point `n`: the product of its rows with its expert's weights, or zeros past the routed rows. -/
def blockOut (T0 : S144.Idx → BitVec 32) (T1 : S1.Idx → BitVec 32) (q3 q4 : S2x16x4096x1024.Idx → F .f32) (q5 : S2x16x1024x4096.Idx → F .f32)
    (x3 : S256x2048.Idx → BitVec 32) (n : ℕ) : FVec F S256x4096 .f32 :=
  if Active T1 n then k0_pay1 x3 (upW (blkE T0 n) q3) (upW (blkE T0 n) q4) (downW (blkE T0 n) q5) else k0_pay2

/-- The product at a point whose weights are in place. -/
theorem compute_blk (c : Dev nD) (i : grid0.Coords) (T0 : S144.Idx → BitVec 32) (T1 : S1.Idx → BitVec 32)
    (arg3 : Memref sig .tc .vmem S256x2048 .i32) (harg3 : arg3.IsWhole) (arg7 : Memref sig .tc .vmem S256x4096 .f32) (harg7 : arg7.IsWhole)
    (x3 : S256x2048.Idx → BitVec 32) (q3 q4 : S2x16x4096x1024.Idx → F .f32) (q5 : S2x16x1024x4096.Idx → F .f32) (Q : PUnit → sProp 𝕄) :
    iprop(owns (c : Thread nD τ) arg3 fullShare x3 ∗ weights c (fun f0 f1 f2 => Active T1 (i 0).val → Holds (blkE T0 (i 0).val) q3 q4 q5 f0 f1 f2)
      ∗ (∃ d, owns (c : Thread nD τ) arg7 fullShare d)
      ∗ (iprop(owns (c : Thread nD τ) arg3 fullShare x3 ∗ weights c (After T0 T1 q3 q4 q5 ((i 0).val + 1))
        ∗ owns (c : Thread nD τ) arg7 fullShare (blockOut T0 T1 q3 q4 q5 x3 (i 0).val)) -∗ Q ⟨⟩))
    ⊢ wp frame (wpE (defs₀ (F := F)) Variants.none c none) Set.univ
      (compute i (T1 (ValueIdx.ix1 0)) arg3 arg7 (Memref.whole cc0_scratch0) (Memref.whole cc0_scratch1) (Memref.whole cc0_scratch2)) Q := by
  unfold weights
  iintro ⟨Hx, ⟨%f0, %f1, %f2, H0, H1, H2, %hP⟩, Ho, Hk⟩
  iapply (compute_wp c i (T1 (ValueIdx.ix1 0)) arg3 arg7 harg3 harg7 x3 f0 f1 f2 Q)
  isplitl [Hx]; · iexact Hx
  isplitl [H0]; · iexact H0
  isplitl [H1]; · iexact H1
  isplitl [H2]; · iexact H2
  isplitl [Ho]; · iexact Ho
  iintro ⟨Hx, H0, H1, H2, Ho⟩
  iapply Hk
  isplitl [Hx]; · iexact Hx
  isplitl [H0 H1 H2]
  · iexists f0, f1, f2
    isplitl [H0]; · iexact H0
    isplitl [H1]; · iexact H1
    isplitl [H2]; · iexact H2
    ipureintro
    intro _ ha
    exact hP ha
  have e : (if k0_cond2 i (T1 (ValueIdx.ix1 0)) = 1#1 then k0_pay1 x3 f0 f1 f2 else k0_pay2) = blockOut T0 T1 q3 q4 q5 x3 (i 0).val := by
    unfold blockOut
    by_cases ha : Active T1 (i 0).val
    · rw [if_pos ((cond2_iff i T1).mpr ha), if_pos ha]
      obtain ⟨h0, h1, h2⟩ := hP ha
      rw [h0, h1, h2]
    · rw [if_neg (fun h => ha ((cond2_iff i T1).mp h)), if_neg ha]
  rw [← e]
  iexact Ho

/-- The body after the tables are read. -/
theorem tail_wp (c : Dev nD) (i : grid0.Coords) (T0 : S144.Idx → BitVec 32) (T1 : S1.Idx → BitVec 32)
    (v1 v8 : BitVec 32) (e1 : v1 = blkE T0 (i 0).val) (e8 : v8 = blkE T0 ((i 0).val - 1))
    (hw : k0_chk1 i v1 (T1 (ValueIdx.ix1 0)) v8)
    (arg3 : Memref sig .tc .vmem S256x2048 .i32) (harg3 : arg3.IsWhole) (arg7 : Memref sig .tc .vmem S256x4096 .f32) (harg7 : arg7.IsWhole)
    (W : Waits sig Unit)
    (x3 : S256x2048.Idx → BitVec 32) (q3 q4 : S2x16x4096x1024.Idx → F .f32) (q5 : S2x16x1024x4096.Idx → F .f32) (Q : PUnit → sProp 𝕄) :
    iprop(stock c q3 q4 q5 ∗ weights c (After T0 T1 q3 q4 q5 (i 0).val) ∗ owes (c : Thread nD τ) 0 W
      ∗ owns (c : Thread nD τ) arg3 fullShare x3 ∗ (∃ d, owns (c : Thread nD τ) arg7 fullShare d)
      ∗ (iprop(stock c q3 q4 q5 ∗ weights c (After T0 T1 q3 q4 q5 ((i 0).val + 1)) ∗ (∃ W' : Waits sig Unit, owes (c : Thread nD τ) 0 W')
        ∗ owns (c : Thread nD τ) arg3 fullShare x3 ∗ owns (c : Thread nD τ) arg7 fullShare (blockOut T0 T1 q3 q4 q5 x3 (i 0).val)) -∗ Q ⟨⟩))
    ⊢ wp frame (wpE (defs₀ (F := F)) Variants.none c none) Set.univ
      (tail (F := F) i v1 (T1 (ValueIdx.ix1 0)) v8 hw arg3 harg3 arg7 harg7) Q := by
  by_cases h1 : k0_cond1 i v1 (T1 (ValueIdx.ix1 0)) v8 = 1#1
  · rw [tail, dif_pos h1]
    iintro ⟨Hs, Hw, HO, Hx, Ho, Hk⟩
    iapply (load_cps c i v1 (T1 (ValueIdx.ix1 0)) v8 hw h1 arg3 harg3 arg7 harg7 W q3 q4 q5 _ Q)
    isplitl [Hs]; · iexact Hs
    isplitl [Hw]
    · unfold weights
      icases Hw with ⟨%f0, %f1, %f2, H0, H1, H2, -⟩
      iexists f0, f1, f2
      isplitl [H0]; · iexact H0
      isplitl [H1]; · iexact H1
      isplitl [H2]; · iexact H2
      ipureintro; trivial
    isplitl [HO]; · iexact HO
    iintro ⟨Hs, Hw, HO⟩
    iapply (compute_blk c i T0 T1 arg3 harg3 arg7 harg7 x3 q3 q4 q5 Q)
    isplitl [Hx]; · iexact Hx
    isplitl [Hw]
    · unfold weights
      icases Hw with ⟨%f0, %f1, %f2, H0, H1, H2, %hP⟩
      iexists f0, f1, f2
      isplitl [H0]; · iexact H0
      isplitl [H1]; · iexact H1
      isplitl [H2]; · iexact H2
      ipureintro; intro _; rw [← e1]; exact hP
    isplitl [Ho]; · iexact Ho
    iintro ⟨Hx, Hw, Ho⟩
    iapply Hk
    isplitl [Hs]; · iexact Hs
    isplitl [Hw]; · iexact Hw
    isplitl [HO]; · iexact HO
    isplitl [Hx]; · iexact Hx
    iexact Ho
  · rw [tail, dif_neg h1]
    iintro ⟨Hs, Hw, HO, Hx, Ho, Hk⟩
    iapply (compute_blk c i T0 T1 arg3 harg3 arg7 harg7 x3 q3 q4 q5 Q)
    isplitl [Hx]; · iexact Hx
    isplitl [Hw]
    · unfold weights
      icases Hw with ⟨%f0, %f1, %f2, H0, H1, H2, %hP⟩
      iexists f0, f1, f2
      isplitl [H0]; · iexact H0
      isplitl [H1]; · iexact H1
      isplitl [H2]; · iexact H2
      ipureintro
      intro ha
      have hn : ¬((i 0).val = 0 ∨ v1 ≠ v8) := fun h => h1 ((cond1_iff i T1 v1 v8).mpr ⟨ha, h⟩)
      have hpos : 0 < (i 0).val := Nat.pos_of_ne_zero fun h => hn (Or.inl h)
      have hlt : (i 0).val < 144 := (i 0).isLt
      have e : v1 = v8 := by by_contra h; exact hn (Or.inr h)
      rw [← e1, e, e8]
      refine hP hpos (active_of_succ T1 _ (by omega) ?_)
      rw [Nat.sub_add_cancel hpos]; exact ha
    isplitl [Ho]; · iexact Ho
    iintro ⟨Hx, Hw, Ho⟩
    iapply Hk
    isplitl [Hs]; · iexact Hs
    isplitl [Hw]; · iexact Hw
    isplitl [HO]; · iexists W; iexact HO
    isplitl [Hx]; · iexact Hx
    iexact Ho

/-- The whole body: the tables are read, the rest follows. -/
theorem body_wp (c : Dev nD) (i : grid0.Coords) (T0 : S144.Idx → BitVec 32) (T1 : S1.Idx → BitVec 32)
    (hT : Active T1 (i 0).val → (blkE T0 (i 0).val).toNat < 16) (qs : PosShare TreeShare)
    (arg3 : Memref sig .tc .vmem S256x2048 .i32) (harg3 : arg3.IsWhole) (arg7 : Memref sig .tc .vmem S256x4096 .f32) (harg7 : arg7.IsWhole)
    (W : Waits sig Unit)
    (x3 : S256x2048.Idx → BitVec 32) (q3 q4 : S2x16x4096x1024.Idx → F .f32) (q5 : S2x16x1024x4096.Idx → F .f32) :
    iprop(((Memref.whole main_arg0).view.loc (c : Thread nD τ) ↦[Finset.univ]{qs} T0)
      ∗ ((Memref.whole main_arg1).view.loc (c : Thread nD τ) ↦[Finset.univ]{qs} T1)
      ∗ stock c q3 q4 q5 ∗ weights c (After T0 T1 q3 q4 q5 (i 0).val) ∗ owes (c : Thread nD τ) 0 W
      ∗ owns (c : Thread nD τ) arg3 fullShare x3 ∗ (∃ d, owns (c : Thread nD τ) arg7 fullShare d))
    ⊢ wp frame (wpE (defs₀ (F := F)) Variants.none c none) Set.univ
      (cc0_experts (F := F) i (Memref.whole main_arg0) (Memref.isWhole_whole _) (Memref.whole main_arg1) (Memref.isWhole_whole _) arg3 harg3 (Memref.whole main_arg3) (Memref.isWhole_whole _) (Memref.whole main_arg4) (Memref.isWhole_whole _) (Memref.whole main_arg5) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5)
      (fun _ : PUnit => (iprop(((Memref.whole main_arg0).view.loc (c : Thread nD τ) ↦[Finset.univ]{qs} T0)
      ∗ ((Memref.whole main_arg1).view.loc (c : Thread nD τ) ↦[Finset.univ]{qs} T1)
      ∗ stock c q3 q4 q5 ∗ weights c (After T0 T1 q3 q4 q5 ((i 0).val + 1)) ∗ (∃ W' : Waits sig Unit, owes (c : Thread nD τ) 0 W')
        ∗ owns (c : Thread nD τ) arg3 fullShare x3 ∗ owns (c : Thread nD τ) arg7 fullShare (blockOut T0 T1 q3 q4 q5 x3 (i 0).val)) : sProp 𝕄)) := by
  rw [experts_eq]
  iintro ⟨HT0, HT1, Hs, Hw, HO, Hx, Ho⟩
  sl_exec
  have hlt : (i 0).val < 144 := (i 0).isLt
  have e1 : body_wp.sl.r (F := F) i T0 = blkE T0 (i 0).val := by
    unfold body_wp.sl.r blkE
    refine congrArg T0 (funext fun a => ?_)
    fin_cases a
    apply Fin.ext
    show k0_off1 i 0 + 1 * 0 = (i 0).val % 144
    rw [k0_off1_eq, Nat.mod_eq_of_lt hlt]; rfl
  have e2 : body_wp.sl.r_1 (F := F) T1 = T1 (ValueIdx.ix1 0) := by
    unfold body_wp.sl.r_1
    refine congrArg T1 (funext fun a => ?_)
    fin_cases a
    rfl
  have e8 : body_wp.sl.r_2 (F := F) i T0 = blkE T0 ((i 0).val - 1) := by
    unfold body_wp.sl.r_2 blkE
    refine congrArg T0 (funext fun a => ?_)
    fin_cases a
    apply Fin.ext
    show k0_off2 i 0 + 1 * 0 = ((i 0).val - 1) % 144
    rw [off2_eq, Nat.mod_eq_of_lt (by omega)]; rfl
  have hw : k0_chk1 i (body_wp.sl.r (F := F) i T0) (body_wp.sl.r_1 (F := F) T1) (body_wp.sl.r_2 (F := F) i T0) :=
    chk_of_lt i _ _ _ fun h => by rw [e1]; rw [e2] at h; exact hT ((cond1_iff i T1 _ _).mp h).1
  iapply (wp_assume Variants.none (c : Thread nD τ) none Set.univ hw)
  generalize body_wp.sl.r (F := F) i T0 = v1 at *
  generalize body_wp.sl.r_2 (F := F) i T0 = v8 at *
  generalize body_wp.sl.r_1 (F := F) T1 = v2 at *
  subst e2
  iapply (tail_wp c i T0 T1 v1 v8 e1 e8 hw arg3 harg3 arg7 harg7 W x3 q3 q4 q5 _)
  isplitl [Hs]; · iexact Hs
  isplitl [Hw]; · iexact Hw
  isplitl [HO]; · iexact HO
  isplitl [Hx]; · iexact Hx
  isplitl [Ho]; · iexact Ho
  iintro ⟨Hs, Hw, HO, Hx, Ho⟩
  isplitl [HT0]; · iexact HT0
  isplitl [HT1]; · iexact HT1
  isplitl [Hs]; · iexact Hs
  isplitl [Hw]; · iexact Hw
  isplitl [HO]; · iexact HO
  isplitl [Hx]; · iexact Hx
  iexact Ho

end Cert.Kernel6Ideal.Moe
-- ==== Proof.Moe.Run.lean ====
/- The experts' kernel's run: the invariant between the grid's points, the data of the pipeline, the run and the frame. -/
module
public import proofs.«01_k».proof.Proof.Moe.Body
public import Idealize.ShloMosaic.Lib.Claim
@[expose] public section
set_option maxRecDepth 16384
noncomputable section
namespace Cert.Kernel6Ideal.Moe
open Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)
variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

/-- The arrays as launched. -/
abbrev V (c : Dev nD) (b : Ref sig .tc) : Buf (Elt F) ((c.tc : Thread nD τ).loc b) := m ((c.tc : Thread nD τ).loc b)

/-- The tables as launched. -/
abbrev T0 (c : Dev nD) : S144.Idx → BitVec 32 := V m c main_arg0
abbrev T1 (c : Dev nD) : S1.Idx → BitVec 32 := V m c main_arg1

/-- What the precondition says of the tables: at least one row block routed, and every routed block's word an expert's number. -/
structure Routed : Prop where
  blk : ∀ n, n < 144 → Active (T1 m 0) n → (blkE (T0 m 0) n).toNat < 16
  pos : 1 ≤ (T1 m 0 (ValueIdx.ix1 0)).toNat
  le : (T1 m 0 (ValueIdx.ix1 0)).toNat < 2147483648

/-- The tables the pipeline reads. -/
def pf : pre0.Contents (Elt F) := fun k => V m 0 (pre0.ref k)

theorem idx_S1 (j : S1.Idx) : j = ValueIdx.ix1 0 := by
  funext a; fin_cases a; exact Subsingleton.elim (α := Fin 1) _ _

theorem off_le (t : ℕ) (ht : t < 144) (n : BitVec 32) (h1 : 1 ≤ n.toNat) (h2 : n.toNat < 2147483648) :
    (Scalar.minsi (BitVec.ofNat 32 t) (Scalar.subi n 1#32)).toNat = min t (n.toNat - 1) := by
  show (if (BitVec.ofNat 32 t).slt (n - 1#32) then BitVec.ofNat 32 t else n - 1#32).toNat = _
  have e1 : (BitVec.ofNat 32 t).toNat = t := by rw [BitVec.toNat_ofNat]; omega
  have e2 : (n - 1#32).toNat = n.toNat - 1 := by
    rw [BitVec.toNat_sub]; simp only [BitVec.toNat_ofNat]; omega
  have i1 : (BitVec.ofNat 32 t).toInt = t := by rw [BitVec.toInt_eq_toNat_of_lt (by omega), e1]
  have i2 : (n - 1#32).toInt = ((n.toNat - 1 : ℕ) : ℤ) := by rw [BitVec.toInt_eq_toNat_of_lt (by omega), e2]
  rw [BitVec.slt, i1, i2]
  by_cases h : (t : ℤ) < ((n.toNat - 1 : ℕ) : ℤ)
  · rw [decide_eq_true h, if_pos rfl, e1]; omega
  · rw [decide_eq_false h, if_neg (by decide), e2]; omega

/-- The block of rows window 0 stages at a point: the point's own, or the last routed one past the end. -/
theorem transform_0_eq (hr : Routed m) (i : grid0.Coords) :
    cc0_transform_0 inb_S1_S1_0 numel1_S1 (pf m) i = ![min (i 0).val ((T1 m 0 (ValueIdx.ix1 0)).toNat - 1), 0] := by
  have h := off_le (i 0).val (i 0).isLt (T1 m 0 (ValueIdx.ix1 0)) hr.pos hr.le
  have e : (pf m).at 1 (Rect.unit (s := S1) ![0] S1.size inb_S1_S1_0) numel1_S1 = T1 m 0 (ValueIdx.ix1 0) :=
    congrArg (T1 m 0) (idx_S1 _)
  rw [← h, ← e]
  rfl

theorem ok_pf (hr : Routed m) : ok0 (pf m) := fun i => ⟨by
  rw [transform_0_eq m hr i]
  have hi : (i 0).val < 144 := (i 0).isLt
  intro a
  fin_cases a
  · show (min (i 0).val ((T1 m 0 (ValueIdx.ix1 0)).toNat - 1) + 1) * 256 ≤ 36864
    omega
  · show (0 + 1) * 2048 ≤ 2048
    omega, Or.inl rfl⟩

variable (hr : Routed m)

/-- The tables, admissible. -/
def adm (_ : Fin 1) : (pcfg0 (F := F)).Adm := ⟨pf m, ok_pf m hr⟩

/-- Window `w`'s block at point `t`, read off its array as launched. -/
def iblk (c : Dev nD) (w : Fin (cfg0 (adm m hr 0)).W) (t : Fin (cfg0 (adm m hr 0)).N) :
    (((cfg0 (adm m hr 0)).win w).xblock ((cfg0 (adm m hr 0)).grid.coords t)).Idx → Elt F ((cfg0 (adm m hr 0)).win w).elt :=
  (((cfg0 (adm m hr 0)).win w).blk t).view.read (Elt F) (V m c (Pipeline.arrRef spec0 w))

/-- What the core holds between the points, `n` of them run. -/
def Inv (c : Dev nD) (n : ℕ) : sProp 𝕄 :=
  iprop(((Memref.whole main_arg0).view.loc (c : Thread nD τ) ↦[Finset.univ]{fullShare.right} T0 m c) ∗ ((Memref.whole main_arg1).view.loc (c : Thread nD τ) ↦[Finset.univ]{fullShare.right} T1 m c)
    ∗ stock c (V m c main_arg3) (V m c main_arg4) (V m c main_arg5)
    ∗ weights c (After (T0 m c) (T1 m c) (V m c main_arg3) (V m c main_arg4) (V m c main_arg5) n)
    ∗ (∃ r, prngReg c r))

/-- What the block of rows at point `t` gives. -/
abbrev outAt (c : Dev nD) (t : Fin (cfg0 (adm m hr 0)).N) : FVec F S256x4096 .f32 :=
  blockOut (T0 m c) (T1 m c) (V m c main_arg3) (V m c main_arg4) (V m c main_arg5) (iblk m hr c 0 t) t.val

/-- The pipeline's data. -/
def dats (p : Fin 1) (c : Dev nD) : Dat τ (Elt F) Unit ℕ (Pipeline.UD sig nD τ) ℕ (Pipeline.pin (pcfgs (F := F)) (adm m hr) p) c where
  A w := V m c (Pipeline.arrRef spec0 w)
  after w t := match w with
    | ⟨0, _⟩ => iblk m hr c 0 t
    | ⟨1, _⟩ => outAt m hr c t
  Φ t := Inv m c t.val
  q _ := fullShare
  owed _ := 0

theorem A_eq (c : Dev nD) (w : Fin 2) : (dats m hr 0 c).A w = V m c (Pipeline.arrRef spec0 w) := by
  dsimp only [dats]
theorem after_0 (c : Dev nD) (t : Fin (cfg0 (adm m hr 0)).N) : (dats m hr 0 c).after 0 t = iblk m hr c 0 t := rfl
theorem after_1 (c : Dev nD) (t : Fin (cfg0 (adm m hr 0)).N) : (dats m hr 0 c).after 1 t = outAt m hr c t := rfl

theorem before_0 (c : Dev nD) (t : Fin (cfg0 (adm m hr 0)).N) (d) : (dats m hr 0 c).before 0 t d = iblk m hr c 0 t :=
  ((dats m hr 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

theorem coords_val : ∀ t : Fin grid0.N, (grid0.coords t 0).val = t.val := by decide +kernel

/-- What the body is called with at point `t`. -/
def bodyPre (c : Dev nD) (t : Fin (cfg0 (adm m hr 0)).N) : sProp 𝕄 :=
  iprop(Inv m c t.val ∗ (dats m hr 0 c).owesAt () t.castSucc
    ∗ (∃ d, owns (c : Thread nD τ) (((cfg0 (adm m hr 0)).win 0).stage ((cfg0 (adm m hr 0)).slots t 0)) fullShare ((dats m hr 0 c).before 0 t d))
    ∗ (∃ d, owns (c : Thread nD τ) (((cfg0 (adm m hr 0)).win 1).stage ((cfg0 (adm m hr 0)).slots t 1)) fullShare ((dats m hr 0 c).before 1 t d)))

/-- What it returns. -/
def bodyPost (c : Dev nD) (t : Fin (cfg0 (adm m hr 0)).N) : sProp 𝕄 :=
  iprop(Inv m c (t.val + 1) ∗ (dats m hr 0 c).owesAt () t.succ
    ∗ owns (c : Thread nD τ) (((cfg0 (adm m hr 0)).win 0).stage ((cfg0 (adm m hr 0)).slots t 0)) fullShare ((dats m hr 0 c).after 0 t)
    ∗ owns (c : Thread nD τ) (((cfg0 (adm m hr 0)).win 1).stage ((cfg0 (adm m hr 0)).slots t 1)) fullShare ((dats m hr 0 c).after 1 t))

/-- The body at point `t`. -/
abbrev bodyAt (t : Fin grid0.N) (s : (w : Fin 2) → Fin (spec0 w).nbuf) : Prog (TpuEff nD τ sig (Elt F) Λ₀ .tc) PUnit :=
  cc0_experts (F := F) (grid0.coords t) (Memref.whole main_arg0) (Memref.isWhole_whole _) (Memref.whole main_arg1) (Memref.isWhole_whole _) (spec0_0.stage (s 0)) (hstage0_0 ((s 0).cast nbuf0_0)) (Memref.whole main_arg3) (Memref.isWhole_whole _) (Memref.whole main_arg4) (Memref.isWhole_whole _) (Memref.whole main_arg5) (Memref.isWhole_whole _) (spec0_1.stage (s 1)) (hstage0_1 ((s 1).cast nbuf0_1)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5

theorem sound_body (c : Dev nD) (t : Fin (cfg0 (adm m hr 0)).N) :
    bodyPre m hr c t ⊢ wp frame (wpE (defs₀ (F := F)) Variants.none c none) Set.univ
      (bodyAt t ((cfg0 (adm m hr 0)).slots t)) (fun _ => bodyPost m hr c t) := by
  unfold bodyPre bodyPost Inv
  simp only [before_0]
  rw [after_0, after_1]
  iintro ⟨⟨HT0, HT1, Hs, Hw, Hp⟩, HO, ⟨%d0, Hx⟩, ⟨%d1, Ho⟩⟩
  unfold Dat.owesAt Pipeline.owesWithin
  icases HO with ⟨%W, -, HO⟩
  have hT : Active (T1 m c) (grid0.coords t 0).val → (blkE (T0 m c) (grid0.coords t 0).val).toNat < 16 := by
    obtain rfl : c = 0 := Subsingleton.elim _ _
    exact hr.blk _ (grid0.coords t 0).isLt
  have h := body_wp c (grid0.coords t) (T0 m c) (T1 m c) hT fullShare.right (spec0_0.stage ((cfg0 (adm m hr 0)).slots t 0)) (hstage0_0 (((cfg0 (adm m hr 0)).slots t 0).cast nbuf0_0))
    (spec0_1.stage ((cfg0 (adm m hr 0)).slots t 1)) (hstage0_1 (((cfg0 (adm m hr 0)).slots t 1).cast nbuf0_1)) W (iblk m hr c 0 t) (V m c main_arg3) (V m c main_arg4) (V m c main_arg5)
  rw [coords_val t] at h
  ihave Hb := h $$ [HT0 HT1 Hs Hw HO Hx Ho]
  · isplitl [HT0]; · iexact HT0
    isplitl [HT1]; · iexact HT1
    isplitl [Hs]; · iexact Hs
    isplitl [Hw]; · iexact Hw
    isplitl [HO]; · iexact HO
    isplitl [Hx]; · iexact Hx
    iexists _; iexact Ho
  iapply (wp_wand frame (wpE (defs₀ (F := F)) Variants.none c none)) $$ Hb
  iintro %_ ⟨HT0, HT1, Hs, Hw, ⟨%W', HO⟩, Hx, Ho⟩
  isplitl [HT0 HT1 Hs Hw Hp]
  · isplitl [HT0]; · iexact HT0
    isplitl [HT1]; · iexact HT1
    isplitl [Hs]; · iexact Hs
    isplitl [Hw]; · iexact Hw
    iexact Hp
  isplitl [HO]
  · iexists W'
    isplitr
    · ipureintro; exact fun _ _ => Or.inl trivial
    iexact HO
  isplitl [Hx]; · iexact Hx
  iexact Ho

theorem stores (i : grid0.Coords) (w : BitVec 32) : (!(k0_cond2 i w == 1#1) && !(k0_cond3 i w == 1#1)) = false := by
  by_cases h : k0_cond2 i w = 1#1
  · rw [beq_iff_eq.mpr h]; rfl
  · rw [beq_iff_eq.mpr ((cond3_iff _ _).mpr h)]; simp

/-- The output's window is never idle: every point stores its block, a product or zeros. -/
theorem idle_1 (t : Fin (cfg0 (adm m hr 0)).N) : (cfg0 (adm m hr 0)).idle 1 ((cfg0 (adm m hr 0)).grid.coords t) = false :=
  stores _ _

theorem body_obligation (c : Dev nD) :
    BodyObligationLoose (dats (F := F) m hr 0 c) (defs₀ (F := F)) Variants.none () Set.univ := fun t => by
  rw [bigSep_W0, bigSep_W0]
  refine triple_restated (sound_body m hr c t) ?_ ?_ fun _ => ?_
  · unfold defs₀; rw [Defs.onTc_tc]
  · exact .rfl
  · unfold bodyPost
    refine sep_mono .rfl (sep_mono .rfl (sep_mono .rfl ?_))
    rw [idle_1]
    exact .rfl

/-- The kernel's own transfer cells. -/
abbrev osem : Fin 3 → SemLoc sig := ![SemLoc.dma ((cc0_scratch5.slice (Rect.unit (s := S3) ![0] S1.size inb_S3_S1_0)).squeeze S_ squeezes_S1_S_).sem, SemLoc.dma ((cc0_scratch5.slice (Rect.unit (s := S3) ![1] S1.size inb_S3_S1_1)).squeeze S_ squeezes_S1_S_).sem, SemLoc.dma ((cc0_scratch5.slice (Rect.unit (s := S3) ![2] S1.size inb_S3_S1_2)).squeeze S_ squeezes_S1_S_).sem]

theorem osem_facts : Pipeline.OwnSemFacts spec0 osem := by decide

theorem ownSems (c : Dev nD) : (Pipeline.ownSems0 osem c : sProp 𝕄) = iprop(semVal ((c.tc : Thread nD τ), osem 0) 0 ∗ semVal ((c.tc : Thread nD τ), osem 1) 0 ∗ semVal ((c.tc : Thread nD τ), osem 2) 0) :=
  Pipeline.ownSems0_eq_of_list c osem [0, 1, 2] (by decide) (by decide)

theorem tables (c : Dev nD) : (Pipeline.prefHeld pre0 c (fun _ => fullShare.right) (pf m) : sProp 𝕄)
    = iprop((((c.tc : Thread nD τ).loc (pre0.ref 0)) ↦{fullShare.right} pf m 0) ∗ (((c.tc : Thread nD τ).loc (pre0.ref 1)) ↦{fullShare.right} pf m 1)) :=
  bigSep_univ_eq_bigSepL [(0 : Fin 2), (1 : Fin 2)] (by decide) (by decide) _

theorem rest (c : Dev nD) : bigSep (Pipeline.restRefsP sig pre0 spec0) (fun b => ((c.tc : Thread nD τ).loc b) ↦{fullShare} V m c b)
    = (iprop((((c : Thread nD τ).loc main_arg3) ↦{fullShare} V m c main_arg3) ∗ (((c : Thread nD τ).loc main_arg4) ↦{fullShare} V m c main_arg4)
      ∗ (((c : Thread nD τ).loc main_arg5) ↦{fullShare} V m c main_arg5)) : sProp 𝕄) :=
  unscopedRestP0_eq c (V m c)

theorem inv_in (c : Dev nD) : iprop(Pipeline.ΦD osem spec0 (Pipeline.restRefsP sig pre0 spec0) (V m) c ∗ Pipeline.ΦT pre0 (pf m) c) ⊢ Inv m c 0 := by
  obtain rfl : c = 0 := Subsingleton.elim _ _
  rw [Pipeline.ΦD_eq, scopedRest0_eq, ownSems, rest, show Pipeline.ΦT pre0 (pf m) 0 = _ from tables m 0]
  unfold Inv stock weights
  iintro ⟨⟨⟨⟨%f0, H0⟩, ⟨%f1, H1⟩, ⟨%f2, H2⟩, ⟨%f3, H3⟩, ⟨%f4, H4⟩⟩, Hp, ⟨Hd0, Hd1, Hd2⟩, ⟨Ha3, Ha4, Ha5⟩⟩, ⟨HT0, HT1⟩⟩
  isplitl [HT0]; · iexact HT0
  isplitl [HT1]; · iexact HT1
  isplitl [H3 H4 Ha3 Ha4 Ha5 Hd0 Hd1 Hd2]
  · isplitl [H3]; · iexists f3; iexact H3
    isplitl [H4]; · iexists f4; iexact H4
    isplitl [Ha3]; · iexact Ha3
    isplitl [Ha4]; · iexact Ha4
    isplitl [Ha5]; · iexact Ha5
    isplitl [Hd0]; · iexact Hd0
    isplitl [Hd1]; · iexact Hd1
    iexact Hd2
  isplitl [H0 H1 H2]
  · iexists f0, f1, f2
    isplitl [H0]; · iexact H0
    isplitl [H1]; · iexact H1
    isplitl [H2]; · iexact H2
    ipureintro; exact fun h => absurd h (Nat.lt_irrefl 0)
  iexact Hp

theorem inv_out (c : Dev nD) (n : ℕ) : Inv m c n ⊢ Pipeline.ΦD osem spec0 (Pipeline.restRefsP sig pre0 spec0) (V m) c := by
  rw [Pipeline.ΦD_eq, scopedRest0_eq, ownSems, rest]
  unfold Inv stock weights
  iintro ⟨-, -, ⟨⟨%f3, H3⟩, ⟨%f4, H4⟩, Ha3, Ha4, Ha5, Hd0, Hd1, Hd2⟩, ⟨%f0, %f1, %f2, H0, H1, H2, -⟩, Hp⟩
  isplitl [H0 H1 H2 H3 H4]
  · isplitl [H0]; · iexists f0; iexact H0
    isplitl [H1]; · iexists f1; iexact H1
    isplitl [H2]; · iexists f2; iexact H2
    isplitl [H3]; · iexists f3; iexact H3
    iexists f4; iexact H4
  isplitl [Hp]; · iexact Hp
  isplitl [Hd0 Hd1 Hd2]
  · isplitl [Hd0]; · iexact Hd0
    isplitl [Hd1]; · iexact Hd1
    iexact Hd2
  isplitl [Ha3]; · iexact Ha3
  isplitl [Ha4]; · iexact Ha4
  iexact Ha5

set_option backward.isDefEq.respectTransparency.types false in
set_option maxHeartbeats 800000 in
/-- The run: every array of the pipeline ends at what the data say, and every semaphore counter at zero. -/
theorem run_quiescent : θ_run defs (onTc (τ := τ) (main (F := F))) (s₀ m ρ)
    (fun r => (Pipeline.FramePost (Pipeline.pin (pcfgs (F := F)) (adm m hr)) (dats m hr) 0 (V m)) r ∧ r.2.sem = fun _ => 0) :=
  Pipeline.θ_run_frameP_dma (Q' := _) (pcfgs (F := F)) (adm m hr) (dats m hr) (0 : Fin 1) launch0 osem defs₀ Variants.none
    osem_facts (Pipeline.restRefsP sig pre0 spec0) (Finset.Subset.refl _) m ρ main
    (hbody := fun c => body_obligation m hr c) (hshare := fun c w => by unfold Dat.share; split <;> rfl)
    (howed := fun _ _ => rfl) (V := V m) (hmain := Pipeline.hmainP_region pcfgs 0 defs₀ Variants.none m main fun _ => rfl)
    (hA := fun c w => A_eq m hr c w)
    (hpf := fun c k => by obtain rfl : c = 0 := Subsingleton.elim _ _; rfl)
    (hin := fun c => inv_in m c) (hout := fun c => inv_out m c _)

/-- The run without the counters. -/
theorem run_main : θ_run defs (onTc (τ := τ) (main (F := F))) (s₀ m ρ)
    (Pipeline.FramePost (Pipeline.pin (pcfgs (F := F)) (adm m hr)) (dats m hr) 0 (V m)) :=
  (θ_run defs _ _).mono (fun _ h => h.1) (run_quiescent m ρ hr)

include hr in
/-- The frame, at any values. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨
      (h.1 c).2 main_arg0 (show main_arg0 ∈ Pipeline.restRefs sig spec0 from Pipeline.mem_restRefs_of main_arg0 (by decide) (by decide)),
      (h.1 c).2 main_arg1 (show main_arg1 ∈ Pipeline.restRefs sig spec0 from Pipeline.mem_restRefs_of main_arg1 (by decide) (by decide)),
      ((h.1 c).1 0).trans (((dats m hr 0 c).arrAt_in 0 rfl _).trans (A_eq m hr c 0)),
      (h.1 c).2 main_arg3 (show main_arg3 ∈ Pipeline.restRefs sig spec0 from Pipeline.mem_restRefs_of main_arg3 (by decide) (by decide)),
      (h.1 c).2 main_arg4 (show main_arg4 ∈ Pipeline.restRefs sig spec0 from Pipeline.mem_restRefs_of main_arg4 (by decide) (by decide)),
      (h.1 c).2 main_arg5 (show main_arg5 ∈ Pipeline.restRefs sig spec0 from Pipeline.mem_restRefs_of main_arg5 (by decide) (by decide))⟩, h.2⟩) (run_quiescent m ρ hr)

end Cert.Kernel6Ideal.Moe
-- ==== Proof.Moe.Claims.lean ====
/- The experts' frames: the kernel's, its idealization's and the reference's, under the precondition on the tables. -/
module

public import proofs.«01_k».proof.Defs
public import proofs.«01_k».proof.Proof.Moe.Run
public import proofs.«01_k».proof.Proof.Gen.Kernel6
public import proofs.«01_k».proof.Proof.Gen.Pre_routed
public import proofs.«01_k».proof.Proof.Gen.Reference6Ideal.Run
public import Idealize.ShloMosaic.Lib.Claim
public import Idealize.ShloMosaic.Lib.ReduceAll
public import Idealize.ShloMosaic.Lib.StableHlo.RunHlo

@[expose] public section

set_option maxRecDepth 16384

noncomputable section

namespace Cert.Kernel6Ideal.Moe

open Idealize.ShloMosaic Idealize.SL.Sem

/-! ## The precondition, read -/

theorem word_range (lo hi w : BitVec 32) (h : IntOp.andi (Scalar.cmpi .sge w lo) (Scalar.cmpi .slt w hi) = 1#1) : lo.toInt ≤ w.toInt ∧ w.toInt < hi.toInt := by
  have e := IntOp.andi_eq_one.mp h
  have h1 : BitVec.ofBool (lo.sle w) = 1#1 := e.1
  have h2 : BitVec.ofBool (w.slt hi) = 1#1 := e.2
  rw [BitVec.sle] at h1
  rw [BitVec.slt] at h2
  constructor
  · by_contra hc; rw [decide_eq_false hc] at h1; exact absurd h1 (by decide)
  · by_contra hc; rw [decide_eq_false hc] at h2; exact absurd h2 (by decide)

theorem ge_one (w : BitVec 32) (h : Scalar.cmpi .sge w 1#32 = 1#1) : 1 ≤ w.toInt := by
  have h1 : BitVec.ofBool ((1#32).sle w) = 1#1 := h
  rw [BitVec.sle] at h1
  by_contra hc
  rw [decide_eq_false (show ¬ (1#32 : BitVec 32).toInt ≤ w.toInt from hc)] at h1
  exact absurd h1 (by decide)

/-- Of two conditions one of which holds, the second when the first is the converse of what is known. -/
theorem second_of_lt (n w : BitVec 32) (c : BitVec 1) (hn : Scalar.cmpi .slt n w = 1#1) (h : IntOp.ori (Scalar.cmpi .sge n w) c = 1#1) : c = 1#1 := by
  have h1 : BitVec.ofBool (n.slt w) = 1#1 := hn
  have h2 : IntOp.ori (BitVec.ofBool (w.sle n)) c = 1#1 := h
  have h3 : w.sle n = false := by
    rw [BitVec.slt] at h1
    rw [BitVec.sle]
    refine decide_eq_false fun hc => ?_
    rw [decide_eq_false (by omega)] at h1
    exact absurd h1 (by decide)
  rw [h3] at h2
  revert h2
  clear h1 h3 h hn
  revert c
  decide

theorem toNat_of_range (w : BitVec 32) (h : 0 ≤ w.toInt) : (w.toNat : ℤ) = w.toInt := by
  rw [BitVec.toInt_eq_toNat_cond] at *
  split at h <;> rename_i hc
  · rw [if_pos hc]
  · exfalso; have := w.isLt; omega

theorem routed_read {F : FTy → Type} [FloatOps F] (t0 : IVec Cert.Pre_routed.S144 32) (t1 : IVec Cert.Pre_routed.S1 32)
    (a2 a3 a4 a5) (h : Cert.Pre_routed.fn (F := F) t0 t1 a2 a3 a4 a5 = fun _ => 1#1) :
    (∀ n, n < 144 → Active t1 n → (blkE t0 n).toNat < 16) ∧ 1 ≤ (t1 (ValueIdx.ix1 0)).toNat ∧ (t1 (ValueIdx.ix1 0)).toNat < 2147483648 := by
  haveI : Subsingleton Cert.Pre_routed.S_.Idx := ⟨fun a b => funext fun i => i.elim0⟩
  have e := IntOp.andi_eq_one.mp (congrFun h ValueIdx.ix0)
  have e0 : ∀ n : Fin 144, IntOp.ori (Scalar.cmpi .sge (BitVec.ofNat 32 n.val) (t1 (ValueIdx.ix1 0)))
      (IntOp.andi (Scalar.cmpi .sge (t0 (ValueIdx.ix1 n)) 0#32) (Scalar.cmpi .slt (t0 (ValueIdx.ix1 n)) 16#32)) = 1#1 := fun n => by
    have k := Host.reduce_andi_all _ _ _ _ _ e.1 (ValueIdx.ix1 n)
    rw [show t1 (ValueIdx.ix1 0) = shapeCast Cert.Pre_routed.S_ t1 Cert.Pre_routed.Facts.shapeCasts_S1_S_ ValueIdx.ix0 from
      congrArg t1 (idx_S1 _).symm]
    exact k
  have e1 : Scalar.cmpi .sge (t1 (ValueIdx.ix1 0)) 1#32 = 1#1 := Host.reduce_andi_all _ _ _ _ _ e.2 _
  have r1 := ge_one _ e1
  have r2 := toNat_of_range (t1 (ValueIdx.ix1 0)) (by omega)
  refine ⟨fun n hn ha => ?_, by omega, by have := (t1 (ValueIdx.ix1 0)).toInt_lt; omega⟩
  have hb : blkE t0 n = t0 (ValueIdx.ix1 ⟨n, hn⟩) :=
    congrArg t0 (congrArg ValueIdx.ix1 (Fin.ext (Nat.mod_eq_of_lt hn)))
  rw [hb]
  have r := word_range _ _ _ (second_of_lt _ _ _ ha (e0 ⟨n, hn⟩))
  have r0 : (0 : ℤ) ≤ (t0 (ValueIdx.ix1 ⟨n, hn⟩)).toInt := r.1
  have r3 : (t0 (ValueIdx.ix1 ⟨n, hn⟩)).toInt < 16 := r.2
  have := toNat_of_range _ r0
  omega

theorem routed_ideal (m : (ℓ : Loc nD τ sig) → Buf (Elt Ideal) ℓ) (h : Cert.Pre_Kernel6Ideal m) : Routed (F := Ideal) m := by
  have r := routed_read _ _ _ _ _ _ (h 0)
  exact ⟨r.1, r.2.1, r.2.2⟩

theorem routed_bits (m : (ℓ : Loc nD τ sig) → Buf (Elt Bits) ℓ) (h : Cert.Pre_Kernel6 m) : Routed (F := Bits) m := by
  have r := routed_read _ _ _ _ _ _ (h 0)
  exact ⟨r.1, r.2.1, r.2.2⟩

/-! ## The frames -/

/-- The program as printed and its idealization have one table of bodies. -/
theorem bodies_eq : Cert.Kernel6.defs₀ (F := Bits) = Cert.Kernel6Ideal.defs₀ (F := Bits) := by
  unfold Cert.Kernel6.defs₀ Cert.Kernel6Ideal.defs₀
  refine congrArg Defs.onTc ?_
  funext a b
  match a, b with
  | 0, (t, s) =>
    show Cert.Kernel6.cc0_experts _ _ _ _ _ _ _ _ _ _ _ _ _ _ _ _ _ _ _ _ _ _ _ _ _ _ = Cert.Kernel6Ideal.cc0_experts _ _ _ _ _ _ _ _ _ _ _ _ _ _ _ _ _ _ _ _ _ _ _ _ _ _
    rfl

theorem defs_eq : Cert.Kernel6.defs (F := Bits) = Cert.Kernel6Ideal.defs (F := Bits) :=
  congrArg (Pipeline.defs Cert.Kernel6.pcfgs) bodies_eq

theorem frame_kernel : Cert.quiescent_Kernel6 := fun m ρ h =>
  Eq.mpr (congrArg (fun d => θ_run d (onTc (τ := Cert.Kernel6.τ) (Cert.Kernel6.main (F := Bits))) ⟨m, fun _ => 0, ρ⟩ _) defs_eq)
    (frame_any (F := Bits) m ρ (routed_bits m h))

theorem frame_ideal : Cert.quiescent_Kernel6Ideal := fun m ρ h => frame_any (F := Ideal) m ρ (routed_ideal m h)

theorem frame_reference : Cert.quiescent_Reference6Ideal := by
  intro m ρ _
  exact (θ_run Cert.Reference6Ideal.defs _ _).mono (fun r h => ⟨fun c => (h c).2, sem_eq_zero_of_no_sems (by decide) r.2⟩)
    (Cert.Reference6Ideal.Value.run m ρ)

theorem frame_reference_pre : Cert.quiescent_Reference6Ideal_pre_routed := by
  intro m ρ _
  exact (θ_run Cert.Reference6Ideal.defs _ _).mono (fun r h => ⟨fun c => (h c).2, sem_eq_zero_of_no_sems (by decide) r.2⟩)
    (Cert.Reference6Ideal.Value.run m ρ)

end Cert.Kernel6Ideal.Moe

end
-- ==== Proof.Moe.RefRead.lean ====
/- The experts' reference, read at an element. -/
module

public import proofs.«01_k».proof.Defs
public import proofs.«01_k».proof.Proof.Gen.Reference6Ideal.Run
public import Idealize.ShloMosaic.Lib.Claim
public import Idealize.ShloMosaic.Lib.Pointwise

@[expose] public section

set_option maxRecDepth 16384

noncomputable section

namespace Cert.Proof.Experts

open Cert.Reference6Ideal Cert.Reference6Ideal.Gen Idealize.ShloMosaic Idealize.ShloMosaic.TcCoe Idealize.SL.Sem

/-- The expert a word names, reduced to the sixteen there are. -/
def expertOf (w : BitVec 32) : Fin 16 := ⟨w.toNat % 16, Nat.mod_lt _ (by decide)⟩

theorem clamp_zero : min ((0#32 : BitVec 32).toInt.toNat) (2 - 1) + 0 + 0 = 0 := by decide

theorem clamp_expert (w : BitVec 32) (h : w.toNat < 16) : min (w.toInt.toNat) (16 - 1) + 0 + 0 = w.toNat % 16 := by
  have e : w.toInt = w.toNat := BitVec.toInt_eq_toNat_of_lt (by omega)
  rw [e]
  omega

theorem gather_up {α : Type} (x : S2x16x4096x1024.Idx → α) (idx : IVec S144x2 32) (n : Fin 144) (k : Fin 4096) (i : Fin 1024)
    (h0 : idx (ix2 n 0) = 0#32) (h1 : (idx (ix2 n 1)).toNat < 16) :
    Host.gather gather_S2x16x4096x1024_S144x2_S144x4096x1024_12_01_n_n_01_1_1140961024 x idx (ix3 n k i)
      = x (ix4 0 (expertOf (idx (ix2 n 1))) k i) := by
  have s0 : gather_S2x16x4096x1024_S144x2_S144x4096x1024_12_01_n_n_01_1_1140961024.siIdx (ix3 n k i) ⟨0, by decide⟩ = ix2 n 0 := by
    funext a; match a with | ⟨0, _⟩ => rfl | ⟨1, _⟩ => rfl
  have s1 : gather_S2x16x4096x1024_S144x2_S144x4096x1024_12_01_n_n_01_1_1140961024.siIdx (ix3 n k i) ⟨1, by decide⟩ = ix2 n 1 := by
    funext a; match a with | ⟨0, _⟩ => rfl | ⟨1, _⟩ => rfl
  refine congrArg x ?_
  funext a
  apply Fin.ext
  match a with
  | ⟨0, _⟩ =>
    show min ((idx (gather_S2x16x4096x1024_S144x2_S144x4096x1024_12_01_n_n_01_1_1140961024.siIdx (ix3 n k i) ⟨0, _⟩)).toInt.toNat) (2 - 1) + 0 + 0 = 0
    rw [s0, h0]
    exact clamp_zero
  | ⟨1, _⟩ =>
    show min ((idx (gather_S2x16x4096x1024_S144x2_S144x4096x1024_12_01_n_n_01_1_1140961024.siIdx (ix3 n k i) ⟨1, _⟩)).toInt.toNat) (16 - 1) + 0 + 0 = _
    rw [s1]
    exact clamp_expert _ h1
  | ⟨2, _⟩ => show 0 + 0 + k.val = k.val; omega
  | ⟨3, _⟩ => show 0 + 0 + i.val = i.val; omega

theorem gather_down {α : Type} (x : S2x16x1024x4096.Idx → α) (idx : IVec S144x2 32) (n : Fin 144) (k : Fin 1024) (i : Fin 4096)
    (h0 : idx (ix2 n 0) = 0#32) (h1 : (idx (ix2 n 1)).toNat < 16) :
    Host.gather gather_S2x16x1024x4096_S144x2_S144x1024x4096_12_01_n_n_01_1_1110244096 x idx (ix3 n k i)
      = x (ix4 0 (expertOf (idx (ix2 n 1))) k i) := by
  have s0 : gather_S2x16x1024x4096_S144x2_S144x1024x4096_12_01_n_n_01_1_1110244096.siIdx (ix3 n k i) ⟨0, by decide⟩ = ix2 n 0 := by
    funext a; match a with | ⟨0, _⟩ => rfl | ⟨1, _⟩ => rfl
  have s1 : gather_S2x16x1024x4096_S144x2_S144x1024x4096_12_01_n_n_01_1_1110244096.siIdx (ix3 n k i) ⟨1, by decide⟩ = ix2 n 1 := by
    funext a; match a with | ⟨0, _⟩ => rfl | ⟨1, _⟩ => rfl
  refine congrArg x ?_
  funext a
  apply Fin.ext
  match a with
  | ⟨0, _⟩ =>
    show min ((idx (gather_S2x16x1024x4096_S144x2_S144x1024x4096_12_01_n_n_01_1_1110244096.siIdx (ix3 n k i) ⟨0, _⟩)).toInt.toNat) (2 - 1) + 0 + 0 = 0
    rw [s0, h0]
    exact clamp_zero
  | ⟨1, _⟩ =>
    show min ((idx (gather_S2x16x1024x4096_S144x2_S144x1024x4096_12_01_n_n_01_1_1110244096.siIdx (ix3 n k i) ⟨1, _⟩)).toInt.toNat) (16 - 1) + 0 + 0 = _
    rw [s1]
    exact clamp_expert _ h1
  | ⟨2, _⟩ => show 0 + 0 + k.val = k.val; omega
  | ⟨3, _⟩ => show 0 + 0 + i.val = i.val; omega

/-- The table of starts the three gathers read: the layer, and the expert of the block. -/
def starts (a0 : IVec S144 32) : IVec S144x2 32 :=
  concatenate S144x2 1 [⟨S144x1, (broadcastInDim S144x1 ![0] bcast_S144_S144x1_0 (id (broadcastInDim S144 ![] bcast_S_S144 (constantI S_ 32 0#32))))⟩, ⟨S144x1, (broadcastInDim S144x1 ![0] bcast_S144_S144x1_0 (select (cmpi .slt a0 (broadcastInDim S144 ![] bcast_S_S144 (constantI S_ 32 0#32))) (addi a0 (broadcastInDim S144 ![] bcast_S_S144 (constantI S_ 32 16#32))) a0))⟩] concatenates_S144x1_S144x1_S144x2_d1

theorem not_neg (w : BitVec 32) (h : w.toNat < 16) : Scalar.cmpi .slt w 0#32 = 0#1 := by
  have e : w.toInt = w.toNat := BitVec.toInt_eq_toNat_of_lt (by omega)
  show BitVec.ofBool (w.slt 0#32) = 0#1
  rw [BitVec.slt, e, decide_eq_false (by simp)]
  rfl

theorem starts_0 (a0 : IVec S144 32) (n : Fin 144) : starts a0 (ix2 n 0) = 0#32 := by
  pointwise [starts]
  rfl

theorem starts_1 (a0 : IVec S144 32) (n : Fin 144) (h : (a0 (ix1 n)).toNat < 16) : starts a0 (ix2 n 1) = a0 (ix1 n) := by
  have e : IntOp.cmpi CmpIPredicate.slt (a0 (ix1 n)) 0#32 = 0#1 := not_neg _ h
  pointwise [starts]
  rw [e]
  rfl

/-- The rows, unpacked: the low halves of the words in the first 2048 columns, the high halves in the rest. -/
def rows (a2 : IVec S36864x2048 32) : FVec Ideal S144x256x4096 .f32 :=
  shapeCast _ (concatenate S36864x4096 1 [⟨S36864x2048, (bitcastToFloat (F := Ideal) .f32 (Host.shli a2 (broadcastInDim S36864x2048 ![] bcast_S_S36864x2048 (constantI S_ 32 16#32))))⟩, ⟨S36864x2048, (bitcastToFloat (F := Ideal) .f32 (andi a2 (broadcastInDim S36864x2048 ![] bcast_S_S36864x2048 (constantI S_ 32 4294901760#32))))⟩] concatenates_S36864x2048_S36864x2048_S36864x4096_d1) shapeCasts_S36864x4096_S144x256x4096

/-- The rows through the gathered matrices, row block by row block. -/
def blocks (x : FVec Ideal S144x256x4096 .f32) (g3 g4 : FVec Ideal S144x4096x1024 .f32) (g5 : FVec Ideal S144x1024x4096 .f32) : FVec Ideal S144x256x4096 .f32 :=
  Host.dotGeneral dot_S144x256x1024_S144x1024x4096_S144x256x4096_2_1_1_2_0_0 none (mulf (mulf (Host.dotGeneral dot_S144x256x4096_S144x4096x1024_S144x256x1024_2_1_1_2_0_0 none x g3) (Host.divf (broadcastInDim S144x256x1024 ![] bcast_S_S144x256x1024 (constant S_ .f32 0x3F800000#32)) (addf (broadcastInDim S144x256x1024 ![] bcast_S_S144x256x1024 (constant S_ .f32 0x3F800000#32)) (Host.exp (Host.negf (Host.dotGeneral dot_S144x256x4096_S144x4096x1024_S144x256x1024_2_1_1_2_0_0 none x g3)))))) (Host.dotGeneral dot_S144x256x4096_S144x4096x1024_S144x256x1024_2_1_1_2_0_0 none x g4)) g5

/-- The reference's term over the arguments. -/
def REF (a0 : IVec S144 32) (a1 : IVec S1 32) (a2 : IVec S36864x2048 32) (a3 a4 : FVec Ideal S2x16x4096x1024 .f32) (a5 : FVec Ideal S2x16x1024x4096 .f32) : FVec Ideal S36864x4096 .f32 :=
  shapeCast _ (select (broadcastInDim S144x256x4096 ![0, 1, 2] bcast_S144x1x1_S144x256x4096_0_1_2 (cmpi .slt (broadcastInDim S144x1x1 ![0] bcast_S144_S144x1x1_0 (iotaInDim S144 32 0)) (broadcastInDim S144x1x1 ![] bcast_S_S144x1x1 (shapeCast _ a1 shapeCasts_S1_S_))))
    (blocks (rows a2) (Host.gather gather_S2x16x4096x1024_S144x2_S144x4096x1024_12_01_n_n_01_1_1140961024 a3 (starts a0)) (Host.gather gather_S2x16x4096x1024_S144x2_S144x4096x1024_12_01_n_n_01_1_1140961024 a4 (starts a0)) (Host.gather gather_S2x16x1024x4096_S144x2_S144x1024x4096_12_01_n_n_01_1_1110244096 a5 (starts a0)))
    (broadcastInDim S144x256x4096 ![] bcast_S_S144x256x4096 (id (constant S_ .f32 0x00000000#32)))) shapeCasts_S144x256x4096_S36864x4096

/-- A row of packed words, unpacked: a word's low half is column `k`, its high half column `2048 + k`. -/
def unpacked (row : Fin 2048 → BitVec 32) (k : Fin 4096) : EReal :=
  if h : k.val < 2048 then Ideal.ofBits .f32 (IntOp.shli .host (row ⟨k.val, h⟩) 16#32)
  else Ideal.ofBits .f32 (IntOp.andi (row ⟨k.val - 2048, by omega⟩) 4294901760#32)

/-- A row against a column of a matrix. -/
def against (x : Fin 4096 → EReal) (u : Fin 4096 → Fin 1024 → EReal) (i : Fin 1024) : EReal := ∑ k : Fin 4096, x k * u k i

/-- A row through one expert: the gated product of its two projections, projected back. -/
def through (x : Fin 4096 → EReal) (u v : Fin 4096 → Fin 1024 → EReal) (d : Fin 1024 → Fin 4096 → EReal) (j : Fin 4096) : EReal :=
  ∑ i : Fin 1024, against x u i * Ideal.div 1 (1 + Ideal.exp (-against x u i)) * against x v i * d i j

/-- The experts' result: every row of a block in use through the block's expert, zero in the blocks past the last. -/
def out (a0 : IVec S144 32) (a1 : IVec S1 32) (a2 : IVec S36864x2048 32) (a3 a4 : FVec Ideal S2x16x4096x1024 .f32) (a5 : FVec Ideal S2x16x1024x4096 .f32)
    (r : Fin 36864) (j : Fin 4096) : EReal :=
  Scalar.select (IntOp.cmpi CmpIPredicate.slt (BitVec.ofNat 32 (r.val / 256)) (a1 (ix1 0)))
    (through (unpacked fun k => a2 (ix2 r k)) (fun k i => a3 (ix4 0 (expertOf (a0 (ix1 ⟨r.val / 256, by omega⟩))) k i))
      (fun k i => a4 (ix4 0 (expertOf (a0 (ix1 ⟨r.val / 256, by omega⟩))) k i)) (fun i j => a5 (ix4 0 (expertOf (a0 (ix1 ⟨r.val / 256, by omega⟩))) i j)) j) 0

theorem rows_at (a2 : IVec S36864x2048 32) (r : Fin 36864) (k : Fin 4096) (n : Fin 144) (q : Fin 256) (h : n.val * 256 + q.val = r.val) :
    rows a2 (ix3 n q k) = unpacked (fun k => a2 (ix2 r k)) k := by
  obtain ⟨r, hr⟩ := r
  dsimp only at h
  subst h
  pointwise [rows, unpacked]

theorem blocks_at (x : FVec Ideal S144x256x4096 .f32) (g3 g4 : FVec Ideal S144x4096x1024 .f32) (g5 : FVec Ideal S144x1024x4096 .f32) (n : Fin 144) (q : Fin 256) (j : Fin 4096) :
    blocks x g3 g4 g5 (ix3 n q j) = through (fun k => x (ix3 n q k)) (fun k i => g3 (ix3 n k i)) (fun k i => g4 (ix3 n k i)) (fun i j => g5 (ix3 n i j)) j := by
  pointwise [blocks, through, against]

theorem ref_at (a0 : IVec S144 32) (a1 : IVec S1 32) (a2 : IVec S36864x2048 32) (a3 a4 : FVec Ideal S2x16x4096x1024 .f32) (a5 : FVec Ideal S2x16x1024x4096 .f32)
    (r : Fin 36864) (j : Fin 4096)
    (h : IntOp.cmpi CmpIPredicate.slt (BitVec.ofNat 32 (r.val / 256)) (a1 (ix1 0)) = 1#1 → (a0 (ix1 ⟨r.val / 256, by omega⟩)).toNat < 16) :
    REF a0 a1 a2 a3 a4 a5 (ix2 r j) = out a0 a1 a2 a3 a4 a5 r j := by
  pointwise [REF]
  rw [blocks_at]
  unfold out
  have z : (0 : EReal) = Ideal.ofBits .f32 0#32 := by pointwise
  by_cases ha : IntOp.cmpi CmpIPredicate.slt (BitVec.ofNat 32 (r.val / 256)) (a1 (ix1 0)) = 1#1
  swap
  · exact (if_neg ha).trans (z.symm.trans (if_neg ha).symm)
  have hs : starts a0 (ix2 ⟨r.val / 256, by omega⟩ 1) = a0 (ix1 ⟨r.val / 256, by omega⟩) := starts_1 a0 _ (h ha)
  have hl : (starts a0 (ix2 ⟨r.val / 256, by omega⟩ 1)).toNat < 16 := by rw [hs]; exact h ha
  have ex : (fun k => rows a2 (ix3 ⟨r.val / 256, by omega⟩ ⟨r.val % 256, by omega⟩ k)) = unpacked fun k => a2 (ix2 r k) :=
    funext fun k => rows_at a2 r k _ _ (by dsimp only; omega)
  have e3 : (fun k i => Host.gather gather_S2x16x4096x1024_S144x2_S144x4096x1024_12_01_n_n_01_1_1140961024 a3 (starts a0) (ix3 ⟨r.val / 256, by omega⟩ k i))
      = fun k i => a3 (ix4 0 (expertOf (a0 (ix1 ⟨r.val / 256, by omega⟩))) k i) := by
    funext k i; rw [gather_up _ _ _ _ _ (starts_0 a0 _) hl, hs]
  have e4 : (fun k i => Host.gather gather_S2x16x4096x1024_S144x2_S144x4096x1024_12_01_n_n_01_1_1140961024 a4 (starts a0) (ix3 ⟨r.val / 256, by omega⟩ k i))
      = fun k i => a4 (ix4 0 (expertOf (a0 (ix1 ⟨r.val / 256, by omega⟩))) k i) := by
    funext k i; rw [gather_up _ _ _ _ _ (starts_0 a0 _) hl, hs]
  have e5 : (fun i j => Host.gather gather_S2x16x1024x4096_S144x2_S144x1024x4096_12_01_n_n_01_1_1110244096 a5 (starts a0) (ix3 ⟨r.val / 256, by omega⟩ i j))
      = fun i j => a5 (ix4 0 (expertOf (a0 (ix1 ⟨r.val / 256, by omega⟩))) i j) := by
    funext k i; rw [gather_down _ _ _ _ _ (starts_0 a0 _) hl, hs]
  rw [ex, e3, e4, e5]
  exact congrArg (Scalar.select _ _) z.symm

theorem REF_eq (m : (ℓ : Loc nD τ sig) → Buf (Elt Ideal) ℓ) (c : Dev nD) : Cert.Reference6Ideal.Value.res_main_v52 m c
    = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := rfl

end Cert.Proof.Experts

end
-- ==== Proof.Moe.Pay.lean ====
/- What one point of the experts' kernel computes, read at an element. -/
module

public import proofs.«01_k».proof.Proof.Moe.RefRead
public import proofs.«01_k».proof.Proof.Moe.Body

@[expose] public section

set_option maxRecDepth 16384

noncomputable section

namespace Cert.Proof.Experts

open Cert.Kernel6Ideal Cert.Kernel6Ideal.Gen Idealize.ShloMosaic Idealize.ShloMosaic.TcCoe Idealize.SL.Sem

/-- The block of rows, unpacked. -/
def cols (x3 : IVec S256x2048 32) : FVec Ideal S256x4096 .bf16 :=
  concatenate S256x4096 1 [⟨S256x2048, (truncf .bf16 (bitcastToFloat .f32 (shli x3 (broadcast S256x2048 16#32)) : FVec Ideal S256x2048 .f32) bitsLt_bf16_f32 : FVec Ideal S256x2048 .bf16)⟩, ⟨S256x2048, (truncf .bf16 (bitcastToFloat .f32 (andi x3 (broadcast S256x2048 4294901760#32)) : FVec Ideal S256x2048 .f32) bitsLt_bf16_f32 : FVec Ideal S256x2048 .bf16)⟩] concatenates_S256x2048_S256x2048_S256x4096_d1

/-- The unpacked block through the matrices. -/
def gated (x : FVec Ideal S256x4096 .bf16) (u v : FVec Ideal S4096x1024 .bf16) (d : FVec Ideal S1024x4096 .bf16) : FVec Ideal S256x4096 .f32 :=
  matmul dot_S256x1024_S1024x4096_S256x4096_1_0_0_1_n_n none (truncf .bf16 (mulf (mulf (matmul dot_S256x4096_S4096x1024_S256x1024_1_0_0_1_n_n none x u (constant S256x1024 .f32 0x00000000#32)) (logistic (matmul dot_S256x4096_S4096x1024_S256x1024_1_0_0_1_n_n none x u (constant S256x1024 .f32 0x00000000#32)))) (matmul dot_S256x4096_S4096x1024_S256x1024_1_0_0_1_n_n none x v (constant S256x1024 .f32 0x00000000#32))) bitsLt_bf16_f32) d (constant S256x4096 .f32 0x00000000#32)

theorem pay_eq (x3 : IVec S256x2048 32) (u v : FVec Ideal S4096x1024 .bf16) (d : FVec Ideal S1024x4096 .bf16) :
    k0_pay1 (F := Ideal) x3 u v d = gated (cols x3) u v d := rfl

theorem shl_eq (w : BitVec 32) : IntOp.shli .vector w 16#32 = IntOp.shli .host w 16#32 := rfl

theorem cols_at (x3 : IVec S256x2048 32) (q : Fin 256) (k : Fin 4096) : cols x3 (ix2 q k) = unpacked (fun k => x3 (ix2 q k)) k := by
  pointwise [cols, unpacked, shl_eq]

theorem gated_at (x : FVec Ideal S256x4096 .bf16) (u v : FVec Ideal S4096x1024 .bf16) (d : FVec Ideal S1024x4096 .bf16) (q : Fin 256) (j : Fin 4096) :
    gated x u v d (ix2 q j) = through (fun k => x (ix2 q k)) (fun k i => u (ix2 k i)) (fun k i => v (ix2 k i)) (fun i j => d (ix2 i j)) j := by
  pointwise [gated, through, against]
  rfl

theorem pay_at (x3 : IVec S256x2048 32) (u v : FVec Ideal S4096x1024 .bf16) (d : FVec Ideal S1024x4096 .bf16) (q : Fin 256) (j : Fin 4096) :
    k0_pay1 (F := Ideal) x3 u v d (ix2 q j)
      = through (unpacked fun k => x3 (ix2 q k)) (fun k i => u (ix2 k i)) (fun k i => v (ix2 k i)) (fun i j => d (ix2 i j)) j := by
  rw [pay_eq, gated_at]
  refine congrArg (fun x => through x _ _ _ j) ?_
  exact funext fun k => cols_at x3 q k

theorem zeros_at (q : Fin 256) (j : Fin 4096) : (k0_pay2 (F := Ideal)) (ix2 q j) = 0 := by
  pointwise [k0_pay2]

end Cert.Proof.Experts

end
-- ==== Proof.Moe.Value.lean ====
/- The experts' result: the array the kernel leaves is the one function of the arguments the reference computes. -/
module

public import proofs.«01_k».proof.Proof.Moe.Pay
public import proofs.«01_k».proof.Proof.Moe.Claims
public import Idealize.ShloMosaic.Lib.Pipeline.ValueKit

@[expose] public section

set_option maxRecDepth 16384

noncomputable section

namespace Cert.Proof.Experts

open Cert.Kernel6Ideal Cert.Kernel6Ideal.Gen Cert.Kernel6Ideal.Moe Idealize.ShloMosaic Idealize.ShloMosaic.TcCoe Idealize.SL.Sem
open Idealize.ShloMosaic.Pipeline (Dat)

variable (m : (ℓ : Loc nD τ sig) → Buf (Elt Ideal) ℓ) (ρ : Dev nD → PrngReg) (hr : Routed (F := Ideal) m)

theorem index4 : ∀ t : Fin grid0.N, cc0_transform_4 (grid0.coords t) = ![t.val, 0] := by decide +kernel

theorem index_1 (t : Fin (cfg0 (adm m hr 0)).N) : ((cfg0 (adm m hr 0)).win 1).index t = ![t.val, 0] := index4 t

theorem index_0 (t : Fin (cfg0 (adm m hr 0)).N) :
    ((cfg0 (adm m hr 0)).win 0).index t = ![min t.val ((T1 m 0 (ix1 0)).toNat - 1), 0] :=
  (transform_0_eq m hr (grid0.coords t)).trans (by rw [coords_val]; rfl)

theorem flush_1 (t : Fin (cfg0 (adm m hr 0)).N) : ((cfg0 (adm m hr 0)).win 1).flush t = true := by
  have h : t.val + 1 = grid0.N ∨ ∃ h : t.val + 1 < grid0.N, ((cfg0 (adm m hr 0)).win 1).index ⟨t.val + 1, h⟩ ≠ ((cfg0 (adm m hr 0)).win 1).index t := by
    by_cases e : t.val + 1 = grid0.N
    · exact .inl e
    · refine .inr ⟨lt_of_le_of_ne t.isLt e, fun h => ?_⟩
      rw [index_1, index_1] at h
      have := congrFun h 0
      change t.val + 1 = t.val at this
      omega
  unfold Pipeline.Window.flush
  rw [show ((cfg0 (adm m hr 0)).win 1).isOut = true from rfl, Bool.true_and, Bool.or_eq_true]
  rcases h with h | h
  · exact .inl (decide_eq_true h)
  · exact .inr (decide_eq_true h)

theorem covers_1 : ((cfg0 (adm m hr 0)).win 1).Covers := by
  refine ⟨fun a => ?_, fun β => ?_⟩
  · show 0 < S256x4096.size a
    exact (show ∀ a : Fin 2, 0 < S256x4096.size a by decide) a
  · have b0 : (β (0 : Fin 2)).val < 144 := Nat.lt_of_lt_of_eq (β (0 : Fin 2)).isLt (show ((36864 : ℕ) + 256 - 1) / 256 = 144 by norm_num)
    have b1 : (β (1 : Fin 2)).val < 1 := Nat.lt_of_lt_of_eq (β (1 : Fin 2)).isLt (show ((4096 : ℕ) + 4096 - 1) / 4096 = 1 by norm_num)
    refine ⟨⟨(β (0 : Fin 2)).val, b0⟩, flush_1 m hr _, fun a => ⟨?_, .inl rfl⟩⟩
    rw [index_1]
    match a with
    | ⟨0, _⟩ => rfl
    | ⟨1, _⟩ => exact (Nat.lt_one_iff.mp b1).symm

/-- The result as an array. -/
def OUT (a0 : IVec S144 32) (a1 : IVec S1 32) (a2 : IVec S36864x2048 32) (a3 a4 : FVec Ideal S2x16x4096x1024 .f32) (a5 : FVec Ideal S2x16x1024x4096 .f32) :
    FVec Ideal S36864x4096 .f32 := fun y => out a0 a1 a2 a3 a4 a5 (y 0) (y 1)

theorem block_0 (c : Dev nD) (t : Fin (cfg0 (adm m hr 0)).N) (ht : t.val ≤ (T1 m 0 (ix1 0)).toNat - 1) (q : Fin 256) (k : Fin 2048) (r : Fin 36864)
    (h : r.val = t.val * 256 + q.val) : iblk m hr c 0 t (ix2 q k) = m ((c : Thread nD τ).loc main_arg2) (ix2 r k) := by
  have e := index_0 m hr t
  rw [Nat.min_eq_left ht] at e
  blk_ext! [iblk, e, h]

theorem active_lt (w : BitVec 32) (n : ℕ) (hn : n < 144) (hw : w.toNat < 2147483648) (h : Scalar.cmpi .slt (BitVec.ofNat 32 n) w = 1#1) : n < w.toNat := by
  have h' : BitVec.ofBool ((BitVec.ofNat 32 n).slt w) = 1#1 := h
  have e1 : (BitVec.ofNat 32 n).toInt = n := by
    rw [BitVec.toInt_eq_toNat_of_lt (by rw [BitVec.toNat_ofNat]; omega), BitVec.toNat_ofNat]; omega
  have e2 : w.toInt = w.toNat := BitVec.toInt_eq_toNat_of_lt (by omega)
  by_contra hc
  rw [BitVec.slt, e1, e2, decide_eq_false (by omega)] at h'
  exact absurd h' (by decide)

/-- The word of a block, read at the block's own place in the table. -/
theorem word_at (t0 : IVec S144 32) (n : Fin 144) : blkE t0 n.val = t0 (ix1 n) := by
  unfold blkE
  refine congrArg t0 (congrArg ValueIdx.ix1 (Fin.ext ?_))
  exact Nat.mod_eq_of_lt n.isLt

theorem blockOut_at (t0 : IVec S144 32) (t1 : IVec S1 32) (a2 : IVec S36864x2048 32) (q3 q4 : FVec Ideal S2x16x4096x1024 .f32) (q5 : FVec Ideal S2x16x1024x4096 .f32)
    (x3 : IVec S256x2048 32) (n : ℕ) (q : Fin 256) (j : Fin 4096) (r : Fin 36864) (h : r.val = n * 256 + q.val)
    (hx : Active t1 n → ∀ k : Fin 2048, x3 (ix2 q k) = a2 (ix2 r k)) :
    blockOut (F := Ideal) t0 t1 q3 q4 q5 x3 n (ix2 q j) = out t0 t1 a2 q3 q4 q5 r j := by
  have e : r.val / 256 = n := by omega
  subst e
  have hb := word_at t0 ⟨r.val / 256, by omega⟩
  dsimp only at hb
  unfold blockOut out
  by_cases ha : Active t1 (r.val / 256)
  · rw [if_pos ha, pay_at, show IntOp.cmpi CmpIPredicate.slt (BitVec.ofNat 32 (r.val / 256)) (t1 (ix1 0)) = 1#1 from ha, hb]
    rw [show (fun k : Fin 2048 => x3 (ix2 q k)) = fun k => a2 (ix2 r k) from funext fun k => hx ha k]
    rfl
  · rw [if_neg ha, zeros_at]
    refine (if_neg ?_).symm
    exact ha

theorem point (c : Dev nD) (t : Fin (cfg0 (adm m hr 0)).N) (q : Fin 256) (j : Fin 4096) (r : Fin 36864) (h : r.val = t.val * 256 + q.val) :
    outAt m hr c t (ix2 q j) = out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) r j := by
  obtain rfl : c = 0 := Subsingleton.elim _ _
  refine blockOut_at _ _ _ _ _ _ _ _ q j r h fun ha k => block_0 m hr 0 t (Nat.le_sub_one_of_lt (active_lt _ _ t.isLt hr.le ha)) q k r h

theorem arr (c : Dev nD) : (dats m hr 0 c).arrAt 1 (cfg0 (adm m hr 0)).N
    = OUT (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m hr 0 c).arrAt_eq_of_covers 1 _ (covers_1 m hr) fun t hf y => ?_
  blk_simp
  rw [after_1]
  have y0 : (y (0 : Fin 2)).val < 256 := (y (0 : Fin 2)).isLt
  have ht : t.val < 144 := t.isLt
  have ey : y = ix2 (y (0 : Fin 2)) (y (1 : Fin 2)) := by
    funext a; match a with | ⟨0, _⟩ => rfl | ⟨1, _⟩ => rfl
  refine Eq.trans (congrArg (outAt m hr c t) ey) ((point m hr c t _ _ ⟨t.val * 256 + (y (0 : Fin 2)).val, by omega⟩ rfl).trans ?_)
  have e : ((Pipeline.pin (pcfgs (F := Ideal)) (adm m hr) 0).win 1).index t = ![t.val, 0] := index_1 m hr t
  unfold OUT
  refine congrArg₂ (out _ _ _ _ _ _) (Fin.ext ?_) (Fin.ext ?_)
  · blk_simp [e]
  · blk_simp [e]

/-- The run with the result named and the arguments unchanged. -/
theorem run_blocks : θ_run defs (onTc (τ := τ) (main (F := Ideal))) ⟨m, fun _ => 0, ρ⟩ fun r => ∀ c : Dev nD,
      r.2.mem ((c : Thread nD τ).loc main_v0) = (dats m hr 0 c).arrAt 1 (cfg0 (adm m hr 0)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1 1,
      (h c).2 main_arg0 (show main_arg0 ∈ Pipeline.restRefs sig spec0 from Pipeline.mem_restRefs_of main_arg0 (by decide) (by decide)),
      (h c).2 main_arg1 (show main_arg1 ∈ Pipeline.restRefs sig spec0 from Pipeline.mem_restRefs_of main_arg1 (by decide) (by decide)),
      ((h c).1 0).trans (((dats m hr 0 c).arrAt_in 0 rfl _).trans (A_eq m hr c 0)),
      (h c).2 main_arg3 (show main_arg3 ∈ Pipeline.restRefs sig spec0 from Pipeline.mem_restRefs_of main_arg3 (by decide) (by decide)),
      (h c).2 main_arg4 (show main_arg4 ∈ Pipeline.restRefs sig spec0 from Pipeline.mem_restRefs_of main_arg4 (by decide) (by decide)),
      (h c).2 main_arg5 (show main_arg5 ∈ Pipeline.restRefs sig spec0 from Pipeline.mem_restRefs_of main_arg5 (by decide) (by decide))⟩) (run_main m ρ hr)

/-- The reference's result as the same function. -/
theorem ref_eq (a0 : IVec S144 32) (a1 : IVec S1 32) (a2 : IVec S36864x2048 32) (a3 a4 : FVec Ideal S2x16x4096x1024 .f32) (a5 : FVec Ideal S2x16x1024x4096 .f32)
    (h : ∀ n : Fin 144, IntOp.cmpi CmpIPredicate.slt (BitVec.ofNat 32 n.val) (a1 (ix1 0)) = 1#1 → (a0 (ix1 n)).toNat < 16) : REF a0 a1 a2 a3 a4 a5 = OUT a0 a1 a2 a3 a4 a5 := by
  funext y
  have ey : y = ix2 (y (0 : Fin 2)) (y (1 : Fin 2)) := by
    funext a; match a with | ⟨0, _⟩ => rfl | ⟨1, _⟩ => rfl
  refine (congrArg (REF a0 a1 a2 a3 a4 a5) ey).trans ?_
  have y0 : (y (0 : Fin 2)).val < 36864 := (y (0 : Fin 2)).isLt
  exact ref_at a0 a1 a2 a3 a4 a5 ⟨(y (0 : Fin 2)).val, y0⟩ (y (1 : Fin 2)) (h ⟨(y (0 : Fin 2)).val / 256, by omega⟩)

/-- The reference's term over the kernel's arguments. -/
theorem res_eq (m' : (ℓ : Loc Cert.Reference6Ideal.nD Cert.Reference6Ideal.τ Cert.Reference6Ideal.sig) → Buf (Elt Ideal) ℓ)
    (m : (ℓ : Loc nD τ sig) → Buf (Elt Ideal) ℓ)
    (h : m' (((0 : Dev nD).tc : Thread Cert.Reference6Ideal.nD Cert.Reference6Ideal.τ).loc Cert.Reference6Ideal.main_arg0) = m (((0 : Dev nD).tc : Thread nD τ).loc main_arg0)
      ∧ m' (((0 : Dev nD).tc : Thread Cert.Reference6Ideal.nD Cert.Reference6Ideal.τ).loc Cert.Reference6Ideal.main_arg1) = m (((0 : Dev nD).tc : Thread nD τ).loc main_arg1)
      ∧ m' (((0 : Dev nD).tc : Thread Cert.Reference6Ideal.nD Cert.Reference6Ideal.τ).loc Cert.Reference6Ideal.main_arg2) = m (((0 : Dev nD).tc : Thread nD τ).loc main_arg2)
      ∧ m' (((0 : Dev nD).tc : Thread Cert.Reference6Ideal.nD Cert.Reference6Ideal.τ).loc Cert.Reference6Ideal.main_arg3) = m (((0 : Dev nD).tc : Thread nD τ).loc main_arg3)
      ∧ m' (((0 : Dev nD).tc : Thread Cert.Reference6Ideal.nD Cert.Reference6Ideal.τ).loc Cert.Reference6Ideal.main_arg4) = m (((0 : Dev nD).tc : Thread nD τ).loc main_arg4)
      ∧ m' (((0 : Dev nD).tc : Thread Cert.Reference6Ideal.nD Cert.Reference6Ideal.τ).loc Cert.Reference6Ideal.main_arg5) = m (((0 : Dev nD).tc : Thread nD τ).loc main_arg5)) :
    Cert.Reference6Ideal.Value.res_main_v52 m' 0
      = REF (m (((0 : Dev nD).tc : Thread nD τ).loc main_arg0)) (m (((0 : Dev nD).tc : Thread nD τ).loc main_arg1)) (m (((0 : Dev nD).tc : Thread nD τ).loc main_arg2))
          (m (((0 : Dev nD).tc : Thread nD τ).loc main_arg3)) (m (((0 : Dev nD).tc : Thread nD τ).loc main_arg4)) (m (((0 : Dev nD).tc : Thread nD τ).loc main_arg5)) := by
  refine (REF_eq m' 0).trans ?_
  rw [h.1, h.2.1, h.2.2.1, h.2.2.2.1, h.2.2.2.2.1, h.2.2.2.2.2]

theorem algebraic : Cert.algebraic_Kernel6Ideal_Reference6Ideal := by
  intro m g m' g' hpre hagree
  have hr := routed_ideal m hpre
  refine ⟨fun c => OUT (m (((c : Dev nD).tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)), ?_, ?_⟩
  · exact θ_run_mono (run_blocks m g hr) fun r h c => ⟨(h c).1.trans (arr m hr c), (h c).2⟩
  · refine θ_run_mono (Cert.Reference6Ideal.Value.run m' g') fun r h c => ⟨(h c).1.trans ?_, (h c).2⟩
    have hc : c = 0 := Subsingleton.elim _ _
    subst hc
    exact (res_eq m' m (hagree 0)).trans (ref_eq _ _ _ _ _ _ fun n ha => (congrArg BitVec.toNat (word_at _ n)).symm.trans_lt (hr.blk n.val n.isLt ha))

end Cert.Proof.Experts

end
-- ==== Proof.Moe1.Stage.lean ====
module
public import proofs.«01_k».proof.Proof.Gen.Kernel7Ideal.Launch
public import proofs.«01_k».proof.Proof.Gen.Kernel7Ideal.Skeleton
public import Idealize.ShloMosaic.Lib.Pipeline.FrameBody
public import Idealize.ShloMosaic.Lib.Pipeline.Value
public import Idealize.ShloMosaic.Lib.Pointwise
public import Idealize.ShloMosaic.Lib.Writes
@[expose] public section
/-! Reading back what a transfer left in a staging slot, and what a transfer reads of an expert's matrix. -/
noncomputable section
namespace Cert.Kernel7Ideal.Moe
open Cert.Kernel7Ideal.Gen
open Idealize.ShloMosaic Idealize.ShloMosaic.TcCoe Idealize.ShloMosaic.ValueIdx

section Slots
variable {F : FTy → Type} {κ : Kind} {sp : Space} {n a b : ℕ}

/-- The slot a transfer has just filled, read back and its unit axis dropped, is what was transferred. -/
theorem slot_same (M : Memref sig κ sp (⟨3, ![n, a, b]⟩ : Shape) .f32) (k : ℕ)
    (inb : ∀ i, (![k, 0, 0] : Fin 3 → ℕ) i + (![1, a, b] : Fin 3 → ℕ) i ≤ (⟨3, ![n, a, b]⟩ : Shape).size i) (hr)
    (hq : (⟨3, ![1, a, b]⟩ : Shape).Squeezes (⟨2, ![a, b]⟩ : Shape)) (hc : (⟨3, ![1, a, b]⟩ : Shape).ShapeCasts (⟨2, ![a, b]⟩ : Shape))
    (f : M.view.ty.Contents (Elt F)) (p : (⟨2, ![a, b]⟩ : Shape).Idx → F .f32) :
    shapeCast (⟨2, ![a, b]⟩ : Shape) (M.view.readAt (Elt F) (Rect.unit (s := (⟨3, ![n, a, b]⟩ : Shape)) ![k, 0, 0] ![1, a, b] inb).toLoadRect
      (((M.slice (Rect.unit (s := (⟨3, ![n, a, b]⟩ : Shape)) ![k, 0, 0] ![1, a, b] inb) hr).squeeze (⟨2, ![a, b]⟩ : Shape) hq).view.write (Elt F) f p Finset.univ)) hc = p :=
  (Memref.read_squeeze_slice M _ hr hq hc _).symm.trans (View.read_write_univ _ _)

/-- A transfer into another slot leaves this one as it was. -/
theorem slot_other (M : Memref sig κ sp (⟨3, ![n, a, b]⟩ : Shape) .f32) (k j : ℕ) (hkj : k ≠ j)
    (inb : ∀ i, (![k, 0, 0] : Fin 3 → ℕ) i + (![1, a, b] : Fin 3 → ℕ) i ≤ (⟨3, ![n, a, b]⟩ : Shape).size i)
    (inb' : ∀ i, (![j, 0, 0] : Fin 3 → ℕ) i + (![1, a, b] : Fin 3 → ℕ) i ≤ (⟨3, ![n, a, b]⟩ : Shape).size i) (hr)
    (hq : (⟨3, ![1, a, b]⟩ : Shape).Squeezes (⟨2, ![a, b]⟩ : Shape))
    (f : M.view.ty.Contents (Elt F)) (p : (⟨2, ![a, b]⟩ : Shape).Idx → F .f32) :
    M.view.readAt (Elt F) (Rect.unit (s := (⟨3, ![n, a, b]⟩ : Shape)) ![k, 0, 0] ![1, a, b] inb).toLoadRect
      (((M.slice (Rect.unit (s := (⟨3, ![n, a, b]⟩ : Shape)) ![j, 0, 0] ![1, a, b] inb') hr).squeeze (⟨2, ![a, b]⟩ : Shape) hq).view.write (Elt F) f p Finset.univ)
    = M.view.readAt (Elt F) (Rect.unit (s := (⟨3, ![n, a, b]⟩ : Shape)) ![k, 0, 0] ![1, a, b] inb).toLoadRect f := by
  funext x
  rw [View.readAt_apply, View.readAt_apply, View.read_apply, View.read_apply]
  refine congrArg _ (View.write_of_not_mem _ _ _ fun hm => ?_)
  obtain ⟨z, _, hz⟩ := Finset.mem_map.mp hm
  have h := M.view.emb.injective (show M.view.emb ((Rect.unit (s := (⟨3, ![n, a, b]⟩ : Shape)) ![j, 0, 0] ![1, a, b] inb').emb (Shape.reshapeEquiv hq.numel_eq z)) = _ from hz)
  have h0 := congrArg (fun i : (⟨3, ![n, a, b]⟩ : Shape).Idx => (i 0 : ℕ)) h
  have hx : ((x (0 : Fin 3) : Fin 1) : ℕ) = 0 := Nat.lt_one_iff.mp (x (0 : Fin 3)).isLt
  have hz0 : ((Shape.reshapeEquiv hq.numel_eq z (0 : Fin 3) : Fin 1) : ℕ) = 0 := Nat.lt_one_iff.mp (Shape.reshapeEquiv hq.numel_eq z (0 : Fin 3)).isLt
  have h1 : j + 1 * ((Shape.reshapeEquiv hq.numel_eq z (0 : Fin 3) : Fin 1) : ℕ) = k + 1 * ((x (0 : Fin 3) : Fin 1) : ℕ) := h0
  omega
end Slots

/-- What a transfer reads of row block `r` of expert `e`'s matrix: the array's element there. -/
theorem src_read {F : FTy → Type} {κ : Kind} {sp : Space} {n m a b c : ℕ} (M : Memref sig κ sp (⟨4, ![n, m, c, b]⟩ : Shape) .f32) (e r : ℕ)
    (off : Fin 4 → ℕ) (ho : off = ![1, e, r, 0])
    (inb : ∀ i, off i + (![1, 1, a, b] : Fin 4 → ℕ) i ≤ (⟨4, ![n, m, c, b]⟩ : Shape).size i) (hr)
    (hq : (⟨4, ![1, 1, a, b]⟩ : Shape).Squeezes (⟨2, ![a, b]⟩ : Shape))
    (f : M.view.ty.Contents (Elt F)) (x : (⟨2, ![a, b]⟩ : Shape).Idx) (y : (⟨4, ![n, m, c, b]⟩ : Shape).Idx)
    (h0 : (y 0).val = 1) (h1 : (y 1).val = e) (h2 : (y 2).val = r + (x 0).val) (h3 : (y 3).val = (x 1).val) :
    ((M.slice (Rect.unit (s := (⟨4, ![n, m, c, b]⟩ : Shape)) off ![1, 1, a, b] inb) hr).squeeze (⟨2, ![a, b]⟩ : Shape) hq).view.read (Elt F) f x
      = M.view.read (Elt F) f y := by
  subst ho
  rw [View.read_apply, View.read_apply]
  refine congrArg (fun t => _root_.cast (congrArg (Elt F) M.view.elt_eq) (f (M.view.emb t))) (?_ : (Rect.unit (s := (⟨4, ![n, m, c, b]⟩ : Shape)) ![1, e, r, 0] ![1, 1, a, b] inb).emb (Shape.reshapeEquiv hq.numel_eq x) = y)
  have hx : Shape.reshapeEquiv hq.numel_eq x = (Fin.cons ⟨0, Nat.one_pos⟩ (Fin.cons ⟨0, Nat.one_pos⟩ x : ∀ i : Fin 3, Fin ((![1, a, b] : Fin 3 → ℕ) i)) : ∀ i : Fin 4, Fin ((![1, 1, a, b] : Fin 4 → ℕ) i)) :=
    Shape.reshapeEquiv_eq_of_rowMajor _ (by
      show ((Shape.rowMajorPi (Matrix.vecCons 1 (Matrix.vecCons 1 ![a, b])) (Fin.cons ⟨0, Nat.one_pos⟩ (Fin.cons ⟨0, Nat.one_pos⟩ x)) : Fin _) : ℕ) = (Shape.rowMajorPi ![a, b] x : ℕ)
      rw [Shape.rowMajorPi_succ_val]
      show 0 * _ + ((Shape.rowMajorPi (Matrix.vecCons 1 ![a, b]) (Fin.cons ⟨0, Nat.one_pos⟩ x) : Fin _) : ℕ) = _
      rw [Shape.rowMajorPi_succ_val]
      show 0 * _ + (0 * _ + ((Shape.rowMajorPi ![a, b]) x : ℕ)) = _
      omega)
  rw [hx]
  funext i
  match i with
  | ⟨0, _⟩ => exact Fin.ext (by show 1 + 1 * 0 = (y 0).val; omega)
  | ⟨1, _⟩ => exact Fin.ext (by show e + 1 * 0 = (y 1).val; omega)
  | ⟨2, _⟩ => exact Fin.ext (by show r + 1 * (x 0).val = (y 2).val; omega)
  | ⟨3, _⟩ => exact Fin.ext (by show 0 + 1 * (x 1).val = (y 3).val; omega)

/-- Row blocks stored from the last to the first cover a matrix: one block, and the rows before it. -/
theorem rows_cons {Val : EltTy → Type} {e : EltTy} {m n b : ℕ} (y : (⟨2, ![m, b]⟩ : Shape).Idx) (r : ℕ)
    (inb : ∀ i, (![r, 0] : Fin 2 → ℕ) i + (![n, b] : Fin 2 → ℕ) i ≤ (⟨2, ![m, b]⟩ : Shape).size i)
    (w : (⟨2, ![n, b]⟩ : Shape).Idx → Val e) (L : List (View.Piece Val (⟨2, ![m, b]⟩ : Shape) e)) (h : (y 0).val < r + n)
    (hL : (y 0).val < r → ∃ p ∈ L, y ∈ p.1.set) :
    ∃ p ∈ (⟨Rect.unit (s := (⟨2, ![m, b]⟩ : Shape)) ![r, 0] ![n, b] inb, w⟩ : View.Piece Val (⟨2, ![m, b]⟩ : Shape) e) :: L, y ∈ p.1.set := by
  by_cases hr : (y 0).val < r
  · obtain ⟨p, hp, hy⟩ := hL hr
    exact ⟨p, List.mem_cons_of_mem _ hp, hy⟩
  · refine ⟨_, List.mem_cons_self, (Rect.mem_set_unit (inb := inb)).mpr fun i => ?_⟩
    match i with
    | ⟨0, _⟩ => exact ⟨not_lt.mp hr, h⟩
    | ⟨1, _⟩ => exact ⟨Nat.zero_le _, by have := (y 1).isLt; exact lt_of_lt_of_le this (Nat.le_add_left _ _)⟩

section Kernel
variable {F : FTy → Type} [FloatOps F]

theorem slot3_other (k j : ℕ) (hkj : k ≠ j) (inb : ∀ i, (![k, 0, 0] : Fin 3 → ℕ) i + S1x512x1024.size i ≤ S3x512x1024.size i)
    (inb' : ∀ i, (![j, 0, 0] : Fin 3 → ℕ) i + S1x512x1024.size i ≤ S3x512x1024.size i) (hr) (hq : S1x512x1024.Squeezes S512x1024)
    (f : S3x512x1024.Idx → F .f32) (p : S512x1024.Idx → F .f32) :
    (Memref.whole cc0_scratch3).view.readAt (Elt F) (Rect.unit (s := S3x512x1024) ![k, 0, 0] S1x512x1024.size inb).toLoadRect
      ((((Memref.whole cc0_scratch3).slice (Rect.unit (s := S3x512x1024) ![j, 0, 0] S1x512x1024.size inb') hr).squeeze S512x1024 hq).view.write (Elt F) f p Finset.univ)
    = (Memref.whole cc0_scratch3).view.readAt (Elt F) (Rect.unit (s := S3x512x1024) ![k, 0, 0] S1x512x1024.size inb).toLoadRect f :=
  slot_other (Memref.whole cc0_scratch3) k j hkj inb inb' hr hq f p

theorem slot3_same (k : ℕ) (inb : ∀ i, (![k, 0, 0] : Fin 3 → ℕ) i + S1x512x1024.size i ≤ S3x512x1024.size i) (hr) (hq : S1x512x1024.Squeezes S512x1024) (hc : S1x512x1024.ShapeCasts S512x1024)
    (f : S3x512x1024.Idx → F .f32) (p : S512x1024.Idx → F .f32) :
    shapeCast S512x1024 ((Memref.whole cc0_scratch3).view.readAt (Elt F) (Rect.unit (s := S3x512x1024) ![k, 0, 0] S1x512x1024.size inb).toLoadRect
      ((((Memref.whole cc0_scratch3).slice (Rect.unit (s := S3x512x1024) ![k, 0, 0] S1x512x1024.size inb) hr).squeeze S512x1024 hq).view.write (Elt F) f p Finset.univ)) hc = p :=
  slot_same (Memref.whole cc0_scratch3) k inb hr hq hc f p

theorem slot4_other (k j : ℕ) (hkj : k ≠ j) (inb : ∀ i, (![k, 0, 0] : Fin 3 → ℕ) i + S1x128x4096.size i ≤ S3x128x4096.size i)
    (inb' : ∀ i, (![j, 0, 0] : Fin 3 → ℕ) i + S1x128x4096.size i ≤ S3x128x4096.size i) (hr) (hq : S1x128x4096.Squeezes S128x4096)
    (f : S3x128x4096.Idx → F .f32) (p : S128x4096.Idx → F .f32) :
    (Memref.whole cc0_scratch4).view.readAt (Elt F) (Rect.unit (s := S3x128x4096) ![k, 0, 0] S1x128x4096.size inb).toLoadRect
      ((((Memref.whole cc0_scratch4).slice (Rect.unit (s := S3x128x4096) ![j, 0, 0] S1x128x4096.size inb') hr).squeeze S128x4096 hq).view.write (Elt F) f p Finset.univ)
    = (Memref.whole cc0_scratch4).view.readAt (Elt F) (Rect.unit (s := S3x128x4096) ![k, 0, 0] S1x128x4096.size inb).toLoadRect f :=
  slot_other (Memref.whole cc0_scratch4) k j hkj inb inb' hr hq f p

theorem slot4_same (k : ℕ) (inb : ∀ i, (![k, 0, 0] : Fin 3 → ℕ) i + S1x128x4096.size i ≤ S3x128x4096.size i) (hr) (hq : S1x128x4096.Squeezes S128x4096) (hc : S1x128x4096.ShapeCasts S128x4096)
    (f : S3x128x4096.Idx → F .f32) (p : S128x4096.Idx → F .f32) :
    shapeCast S128x4096 ((Memref.whole cc0_scratch4).view.readAt (Elt F) (Rect.unit (s := S3x128x4096) ![k, 0, 0] S1x128x4096.size inb).toLoadRect
      ((((Memref.whole cc0_scratch4).slice (Rect.unit (s := S3x128x4096) ![k, 0, 0] S1x128x4096.size inb) hr).squeeze S128x4096 hq).view.write (Elt F) f p Finset.univ)) hc = p :=
  slot_same (Memref.whole cc0_scratch4) k inb hr hq hc f p

/-- The number of the expert a word names. -/
def expert (w : BitVec 32) : Fin 16 := ⟨w.toNat % 16, Nat.mod_lt _ (by decide)⟩

/-- The second layer's gate or up matrix of an expert, rounded to bf16. -/
def upW (w : BitVec 32) (q : S2x16x4096x1024.Idx → F .f32) : FVec F S4096x1024 .bf16 :=
  truncf .bf16 (fun y : S4096x1024.Idx => q (ValueIdx.ix4 (1 : Fin 2) (expert w) (y 0) (y 1))) bitsLt_bf16_f32

/-- A row block of it, from the row block of the array that was staged. -/
theorem up_piece (M : Memref sig .tc .hbm S2x16x4096x1024 .f32) (q : M.view.ty.Contents (Elt F)) (w : BitVec 32) (hw : w.toNat < 16) (r : ℕ)
    (off : Fin 4 → ℕ) (ho : off = ![1, w.toNat, r, 0]) (inb : ∀ i, off i + S1x1x512x1024.size i ≤ S2x16x4096x1024.size i) (hr) (hq : S1x1x512x1024.Squeezes S512x1024)
    (v : Vec F S1x512x1024 .f32) (h1 : S1x512x1024.ShapeCasts S512x1024) (h2) (h3)
    (hv : shapeCast S512x1024 v h1 = ((M.slice (Rect.unit (s := S2x16x4096x1024) off S1x1x512x1024.size inb) hr).squeeze S512x1024 hq).view.read (Elt F) q)
    (inb' : ∀ i, (![r, 0] : Fin 2 → ℕ) i + S512x1024.size i ≤ S4096x1024.size i) (x : S512x1024.Idx) :
    shapeCast S512x1024 (truncf .bf16 (shapeCast S512x1024 v h1) h2) h3 x = upW w (M.view.read (Elt F) q) ((Rect.unit (s := S4096x1024) ![r, 0] S512x1024.size inb').emb x) := by
  rw [shapeCast_self, hv]
  unfold upW truncf
  refine congrArg _ (src_read M w.toNat r off ho inb hr hq q x _ rfl ?_ ?_ ?_)
  · exact Nat.mod_eq_of_lt hw
  · exact congrArg (r + ·) (Nat.one_mul _)
  · exact (Nat.zero_add _).trans (Nat.one_mul _)

/-- The second layer's down matrix of an expert, rounded to bf16. -/
def downW (w : BitVec 32) (q : S2x16x1024x4096.Idx → F .f32) : FVec F S1024x4096 .bf16 :=
  truncf .bf16 (fun y : S1024x4096.Idx => q (ValueIdx.ix4 (1 : Fin 2) (expert w) (y 0) (y 1))) bitsLt_bf16_f32

/-- A row block of it, from the row block of the array that was staged. -/
theorem down_piece (M : Memref sig .tc .hbm S2x16x1024x4096 .f32) (q : M.view.ty.Contents (Elt F)) (w : BitVec 32) (hw : w.toNat < 16) (r : ℕ)
    (off : Fin 4 → ℕ) (ho : off = ![1, w.toNat, r, 0]) (inb : ∀ i, off i + S1x1x128x4096.size i ≤ S2x16x1024x4096.size i) (hr) (hq : S1x1x128x4096.Squeezes S128x4096)
    (v : Vec F S1x128x4096 .f32) (h1 : S1x128x4096.ShapeCasts S128x4096) (h2) (h3)
    (hv : shapeCast S128x4096 v h1 = ((M.slice (Rect.unit (s := S2x16x1024x4096) off S1x1x128x4096.size inb) hr).squeeze S128x4096 hq).view.read (Elt F) q)
    (inb' : ∀ i, (![r, 0] : Fin 2 → ℕ) i + S128x4096.size i ≤ S1024x4096.size i) (x : S128x4096.Idx) :
    shapeCast S128x4096 (truncf .bf16 (shapeCast S128x4096 v h1) h2) h3 x = downW w (M.view.read (Elt F) q) ((Rect.unit (s := S1024x4096) ![r, 0] S128x4096.size inb').emb x) := by
  rw [shapeCast_self, hv]
  unfold downW truncf
  refine congrArg _ (src_read M w.toNat r off ho inb hr hq q x _ rfl ?_ ?_ ?_)
  · exact Nat.mod_eq_of_lt hw
  · exact congrArg (r + ·) (Nat.one_mul _)
  · exact (Nat.zero_add _).trans (Nat.one_mul _)

/-- The scratch after writes that agree with one function and cover it. -/
theorem whole0 (f : S4096x1024.Idx → F .bf16) (L : List (View.Piece (Elt F) S4096x1024 .bf16)) (G : S4096x1024.Idx → F .bf16)
    (hc : ∀ y : S4096x1024.Idx, ∃ p ∈ L, y ∈ p.1.set) (hL : ∀ p ∈ L, ∀ x : p.1.shape.Idx, p.2 x = G (p.1.emb x)) :
    (Memref.whole cc0_scratch0).view.writes (Elt F) f L = G :=
  funext fun y => by
    show View.read (Elt F) (Memref.whole cc0_scratch0).view ((Memref.whole cc0_scratch0).view.writes (Elt F) f L) y = G y
    exact View.read_writes_apply_of_pieces (Memref.whole cc0_scratch0).view f G L hL y (hc y)

/-- The scratch after writes that agree with one function and cover it. -/
theorem whole1 (f : S4096x1024.Idx → F .bf16) (L : List (View.Piece (Elt F) S4096x1024 .bf16)) (G : S4096x1024.Idx → F .bf16)
    (hc : ∀ y : S4096x1024.Idx, ∃ p ∈ L, y ∈ p.1.set) (hL : ∀ p ∈ L, ∀ x : p.1.shape.Idx, p.2 x = G (p.1.emb x)) :
    (Memref.whole cc0_scratch1).view.writes (Elt F) f L = G :=
  funext fun y => by
    show View.read (Elt F) (Memref.whole cc0_scratch1).view ((Memref.whole cc0_scratch1).view.writes (Elt F) f L) y = G y
    exact View.read_writes_apply_of_pieces (Memref.whole cc0_scratch1).view f G L hL y (hc y)

/-- The scratch after writes that agree with one function and cover it. -/
theorem whole2 (f : S1024x4096.Idx → F .bf16) (L : List (View.Piece (Elt F) S1024x4096 .bf16)) (G : S1024x4096.Idx → F .bf16)
    (hc : ∀ y : S1024x4096.Idx, ∃ p ∈ L, y ∈ p.1.set) (hL : ∀ p ∈ L, ∀ x : p.1.shape.Idx, p.2 x = G (p.1.emb x)) :
    (Memref.whole cc0_scratch2).view.writes (Elt F) f L = G :=
  funext fun y => by
    show View.read (Elt F) (Memref.whole cc0_scratch2).view ((Memref.whole cc0_scratch2).view.writes (Elt F) f L) y = G y
    exact View.read_writes_apply_of_pieces (Memref.whole cc0_scratch2).view f G L hL y (hc y)
end Kernel
end Cert.Kernel7Ideal.Moe
-- ==== Proof.Moe1.Load.lean ====
module
public import proofs.«01_k».proof.Proof.Moe1.Stage
public import Idealize.ShloMosaic.Lib.Claim
public import Idealize.ShloMosaic.Lib.Ring
public import Idealize.ShloMosaic.Lib.Tactic
public import Idealize.ShloMosaic.Lib.WordCmp
@[expose] public section
set_option maxRecDepth 16384
/-! One expert's three matrices loaded: 24 row blocks, each copied into one of three staging slots, rounded to bf16 and stored. -/
noncomputable section
namespace Cert.Kernel7Ideal.Moe
open Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (Pipeline.UD sig nD τ) ℕ

/-- The loading of one expert's three matrices: what the body does when the block's expert differs from the one before. -/
noncomputable def loadAll (i : grid0.Coords) (v1 v2 v8 : BitVec 32) (hw : k0_chk1 i v1 v2 v8) (h1 : k0_cond1 i v1 v2 v8 = 1#1)
   (arg3 : Memref sig .tc .vmem S256x2048 .i32) (harg3 : arg3.IsWhole) (arg7 : Memref sig .tc .vmem S256x4096 .f32) (harg7 : arg7.IsWhole) :
    Prog (TpuEff nD τ sig (Elt F) Λ₀ .tc) PUnit := do
  let v43 ← k0_part1 (F := F) i (Memref.whole main_arg0) (Memref.isWhole_whole _) (Memref.whole main_arg1) (Memref.isWhole_whole _) arg3 harg3 (Memref.whole main_arg3) (Memref.isWhole_whole _) (Memref.whole main_arg4) (Memref.isWhole_whole _) (Memref.whole main_arg5) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 v1 v2 v8 hw h1
  k0_part2 (F := F) i (Memref.whole main_arg0) (Memref.isWhole_whole _) (Memref.whole main_arg1) (Memref.isWhole_whole _) arg3 harg3 (Memref.whole main_arg3) (Memref.isWhole_whole _) (Memref.whole main_arg4) (Memref.isWhole_whole _) (Memref.whole main_arg5) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 v1 v2 v8 hw h1 v43
  let v97 ← k0_part3 (F := F) i (Memref.whole main_arg0) (Memref.isWhole_whole _) (Memref.whole main_arg1) (Memref.isWhole_whole _) arg3 harg3 (Memref.whole main_arg3) (Memref.isWhole_whole _) (Memref.whole main_arg4) (Memref.isWhole_whole _) (Memref.whole main_arg5) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 v1 v2 v8 hw h1
  k0_part4 (F := F) i (Memref.whole main_arg0) (Memref.isWhole_whole _) (Memref.whole main_arg1) (Memref.isWhole_whole _) arg3 harg3 (Memref.whole main_arg3) (Memref.isWhole_whole _) (Memref.whole main_arg4) (Memref.isWhole_whole _) (Memref.whole main_arg5) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 v1 v2 v8 hw h1 v97
  let v151 ← k0_part5 (F := F) i (Memref.whole main_arg0) (Memref.isWhole_whole _) (Memref.whole main_arg1) (Memref.isWhole_whole _) arg3 harg3 (Memref.whole main_arg3) (Memref.isWhole_whole _) (Memref.whole main_arg4) (Memref.isWhole_whole _) (Memref.whole main_arg5) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 v1 v2 v8 hw h1
  k0_part6 (F := F) i (Memref.whole main_arg0) (Memref.isWhole_whole _) (Memref.whole main_arg1) (Memref.isWhole_whole _) arg3 harg3 (Memref.whole main_arg3) (Memref.isWhole_whole _) (Memref.whole main_arg4) (Memref.isWhole_whole _) (Memref.whole main_arg5) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 v1 v2 v8 hw h1 v151
  let v205 ← k0_part7 (F := F) i (Memref.whole main_arg0) (Memref.isWhole_whole _) (Memref.whole main_arg1) (Memref.isWhole_whole _) arg3 harg3 (Memref.whole main_arg3) (Memref.isWhole_whole _) (Memref.whole main_arg4) (Memref.isWhole_whole _) (Memref.whole main_arg5) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 v1 v2 v8 hw h1
  k0_part8 (F := F) i (Memref.whole main_arg0) (Memref.isWhole_whole _) (Memref.whole main_arg1) (Memref.isWhole_whole _) arg3 harg3 (Memref.whole main_arg3) (Memref.isWhole_whole _) (Memref.whole main_arg4) (Memref.isWhole_whole _) (Memref.whole main_arg5) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 v1 v2 v8 hw h1 v205
  let v259 ← k0_part9 (F := F) i (Memref.whole main_arg0) (Memref.isWhole_whole _) (Memref.whole main_arg1) (Memref.isWhole_whole _) arg3 harg3 (Memref.whole main_arg3) (Memref.isWhole_whole _) (Memref.whole main_arg4) (Memref.isWhole_whole _) (Memref.whole main_arg5) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 v1 v2 v8 hw h1
  k0_part10 (F := F) i (Memref.whole main_arg0) (Memref.isWhole_whole _) (Memref.whole main_arg1) (Memref.isWhole_whole _) arg3 harg3 (Memref.whole main_arg3) (Memref.isWhole_whole _) (Memref.whole main_arg4) (Memref.isWhole_whole _) (Memref.whole main_arg5) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 v1 v2 v8 hw h1 v259
  let v313 ← k0_part11 (F := F) i (Memref.whole main_arg0) (Memref.isWhole_whole _) (Memref.whole main_arg1) (Memref.isWhole_whole _) arg3 harg3 (Memref.whole main_arg3) (Memref.isWhole_whole _) (Memref.whole main_arg4) (Memref.isWhole_whole _) (Memref.whole main_arg5) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 v1 v2 v8 hw h1
  k0_part12 (F := F) i (Memref.whole main_arg0) (Memref.isWhole_whole _) (Memref.whole main_arg1) (Memref.isWhole_whole _) arg3 harg3 (Memref.whole main_arg3) (Memref.isWhole_whole _) (Memref.whole main_arg4) (Memref.isWhole_whole _) (Memref.whole main_arg5) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 v1 v2 v8 hw h1 v313
  let v367 ← k0_part13 (F := F) i (Memref.whole main_arg0) (Memref.isWhole_whole _) (Memref.whole main_arg1) (Memref.isWhole_whole _) arg3 harg3 (Memref.whole main_arg3) (Memref.isWhole_whole _) (Memref.whole main_arg4) (Memref.isWhole_whole _) (Memref.whole main_arg5) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 v1 v2 v8 hw h1
  k0_part14 (F := F) i (Memref.whole main_arg0) (Memref.isWhole_whole _) (Memref.whole main_arg1) (Memref.isWhole_whole _) arg3 harg3 (Memref.whole main_arg3) (Memref.isWhole_whole _) (Memref.whole main_arg4) (Memref.isWhole_whole _) (Memref.whole main_arg5) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 v1 v2 v8 hw h1 v367
  let v421 ← k0_part15 (F := F) i (Memref.whole main_arg0) (Memref.isWhole_whole _) (Memref.whole main_arg1) (Memref.isWhole_whole _) arg3 harg3 (Memref.whole main_arg3) (Memref.isWhole_whole _) (Memref.whole main_arg4) (Memref.isWhole_whole _) (Memref.whole main_arg5) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 v1 v2 v8 hw h1
  k0_part16 (F := F) i (Memref.whole main_arg0) (Memref.isWhole_whole _) (Memref.whole main_arg1) (Memref.isWhole_whole _) arg3 harg3 (Memref.whole main_arg3) (Memref.isWhole_whole _) (Memref.whole main_arg4) (Memref.isWhole_whole _) (Memref.whole main_arg5) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 v1 v2 v8 hw h1 v421
  pure ⟨⟩

set_option maxHeartbeats 40000000 in
theorem load_wp (c : Dev nD) (i : grid0.Coords) (v1 v2 v8 : BitVec 32) (hw : k0_chk1 i v1 v2 v8) (h1 : k0_cond1 i v1 v2 v8 = 1#1)
   (arg3 : Memref sig .tc .vmem S256x2048 .i32) (harg3 : arg3.IsWhole) (arg7 : Memref sig .tc .vmem S256x4096 .f32) (harg7 : arg7.IsWhole)
   (W : Waits sig Unit) f0 f1 f2 f3 f4 (q3 q4 : S2x16x4096x1024.Idx → F .f32) (q5 : S2x16x1024x4096.Idx → F .f32) :
   iprop(((Memref.whole cc0_scratch0).view.loc (c : Thread nD τ) ↦[Finset.univ]{fullShare} f0)
     ∗ ((Memref.whole cc0_scratch1).view.loc (c : Thread nD τ) ↦[Finset.univ]{fullShare} f1)
     ∗ ((Memref.whole cc0_scratch2).view.loc (c : Thread nD τ) ↦[Finset.univ]{fullShare} f2)
     ∗ ((Memref.whole cc0_scratch3).view.loc (c : Thread nD τ) ↦[Finset.univ]{fullShare} f3)
     ∗ ((Memref.whole cc0_scratch4).view.loc (c : Thread nD τ) ↦[Finset.univ]{fullShare} f4)
     ∗ ((Memref.whole main_arg3).view.loc (c : Thread nD τ) ↦[Finset.univ]{Transfers.shareTokN fullShare 4} q3)
     ∗ ((Memref.whole main_arg3).view.loc (c : Thread nD τ) ↦[Finset.univ]{Transfers.shareTokN fullShare 5} q3)
     ∗ ((Memref.whole main_arg3).view.loc (c : Thread nD τ) ↦[Finset.univ]{Transfers.shareTokN fullShare 6} q3)
     ∗ ((Memref.whole main_arg4).view.loc (c : Thread nD τ) ↦[Finset.univ]{Transfers.shareTokN fullShare 4} q4)
     ∗ ((Memref.whole main_arg4).view.loc (c : Thread nD τ) ↦[Finset.univ]{Transfers.shareTokN fullShare 5} q4)
     ∗ ((Memref.whole main_arg4).view.loc (c : Thread nD τ) ↦[Finset.univ]{Transfers.shareTokN fullShare 6} q4)
     ∗ ((Memref.whole main_arg5).view.loc (c : Thread nD τ) ↦[Finset.univ]{Transfers.shareTokN fullShare 4} q5)
     ∗ ((Memref.whole main_arg5).view.loc (c : Thread nD τ) ↦[Finset.univ]{Transfers.shareTokN fullShare 5} q5)
     ∗ ((Memref.whole main_arg5).view.loc (c : Thread nD τ) ↦[Finset.univ]{Transfers.shareTokN fullShare 6} q5)
     ∗ semVal ((c : Thread nD τ), SemLoc.dma ((cc0_scratch5.slice (Rect.unit (s := S3) ![0] S1.size inb_S3_S1_0)).squeeze S_ squeezes_S1_S_).sem) 0
     ∗ semVal ((c : Thread nD τ), SemLoc.dma ((cc0_scratch5.slice (Rect.unit (s := S3) ![1] S1.size inb_S3_S1_1)).squeeze S_ squeezes_S1_S_).sem) 0
     ∗ semVal ((c : Thread nD τ), SemLoc.dma ((cc0_scratch5.slice (Rect.unit (s := S3) ![2] S1.size inb_S3_S1_2)).squeeze S_ squeezes_S1_S_).sem) 0
     ∗ owes (c : Thread nD τ) 0 W)
   ⊢ wp frame (wpE (defs₀ (F := F)) Variants.none c none) Set.univ (loadAll (F := F) i v1 v2 v8 hw h1 arg3 harg3 arg7 harg7)
     (fun _ : PUnit => (iprop((∃ g : S4096x1024.Idx → F .bf16, ((Memref.whole cc0_scratch0).view.loc (c : Thread nD τ) ↦[Finset.univ]{fullShare} g) ∗ ⌜g = upW v1 q3⌝)
     ∗ (∃ g : S4096x1024.Idx → F .bf16, ((Memref.whole cc0_scratch1).view.loc (c : Thread nD τ) ↦[Finset.univ]{fullShare} g) ∗ ⌜g = upW v1 q4⌝)
     ∗ (∃ g : S1024x4096.Idx → F .bf16, ((Memref.whole cc0_scratch2).view.loc (c : Thread nD τ) ↦[Finset.univ]{fullShare} g) ∗ ⌜g = downW v1 q5⌝)
     ∗ (∃ g : S3x512x1024.Idx → F .f32, ((Memref.whole cc0_scratch3).view.loc (c : Thread nD τ) ↦[Finset.univ]{fullShare} g))
     ∗ (∃ g : S3x128x4096.Idx → F .f32, ((Memref.whole cc0_scratch4).view.loc (c : Thread nD τ) ↦[Finset.univ]{fullShare} g))
     ∗ ((Memref.whole main_arg3).view.loc (c : Thread nD τ) ↦[Finset.univ]{Transfers.shareTokN fullShare 4} q3)
     ∗ ((Memref.whole main_arg3).view.loc (c : Thread nD τ) ↦[Finset.univ]{Transfers.shareTokN fullShare 5} q3)
     ∗ ((Memref.whole main_arg3).view.loc (c : Thread nD τ) ↦[Finset.univ]{Transfers.shareTokN fullShare 6} q3)
     ∗ ((Memref.whole main_arg4).view.loc (c : Thread nD τ) ↦[Finset.univ]{Transfers.shareTokN fullShare 4} q4)
     ∗ ((Memref.whole main_arg4).view.loc (c : Thread nD τ) ↦[Finset.univ]{Transfers.shareTokN fullShare 5} q4)
     ∗ ((Memref.whole main_arg4).view.loc (c : Thread nD τ) ↦[Finset.univ]{Transfers.shareTokN fullShare 6} q4)
     ∗ ((Memref.whole main_arg5).view.loc (c : Thread nD τ) ↦[Finset.univ]{Transfers.shareTokN fullShare 4} q5)
     ∗ ((Memref.whole main_arg5).view.loc (c : Thread nD τ) ↦[Finset.univ]{Transfers.shareTokN fullShare 5} q5)
     ∗ ((Memref.whole main_arg5).view.loc (c : Thread nD τ) ↦[Finset.univ]{Transfers.shareTokN fullShare 6} q5)
     ∗ semVal ((c : Thread nD τ), SemLoc.dma ((cc0_scratch5.slice (Rect.unit (s := S3) ![0] S1.size inb_S3_S1_0)).squeeze S_ squeezes_S1_S_).sem) 0
     ∗ semVal ((c : Thread nD τ), SemLoc.dma ((cc0_scratch5.slice (Rect.unit (s := S3) ![1] S1.size inb_S3_S1_1)).squeeze S_ squeezes_S1_S_).sem) 0
     ∗ semVal ((c : Thread nD τ), SemLoc.dma ((cc0_scratch5.slice (Rect.unit (s := S3) ![2] S1.size inb_S3_S1_2)).squeeze S_ squeezes_S1_S_).sem) 0
     ∗ (∃ W' : Waits sig Unit, owes (c : Thread nD τ) 0 W')) : sProp 𝕄)) := by
  have hv : v1.toNat < 16 := by have := k0_off3_inb i v1 v2 v8 hw h1 1; exact this
  unfold loadAll
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel
  iintro ⟨H0, H1, H2, H3, H4, Hq34, Hq35, Hq36, Hq44, Hq45, Hq46, Hq54, Hq55, Hq56, Hd4, Hd5, Hd6, HO⟩
  set_option sl_exec.dmaWindow true in
  sl_exec
  sl_step
  isplitl [H0]
  · iexists _; isplitl [H0]; · iexact H0
    ipureintro
    refine whole0 _ _ _ (fun y => rows_cons y 3584 _ _ _ (y 0).isLt (fun h => rows_cons y 3072 _ _ _ h (fun h => rows_cons y 2560 _ _ _ h (fun h => rows_cons y 2048 _ _ _ h (fun h => rows_cons y 1536 _ _ _ h (fun h => rows_cons y 1024 _ _ _ h (fun h => rows_cons y 512 _ _ _ h (fun h => rows_cons y 0 _ _ _ h (fun h => absurd h (Nat.not_lt_zero _)))))))))) ?_
    refine List.forall_mem_cons.mpr ⟨fun x => up_piece (Memref.whole main_arg3) q3 v1 hv 3584 (k0_off10 v1) rfl (k0_off10_inb i v1 v2 v8 hw h1) (fun _ => rfl) squeezes_S1x1x512x1024_S512x1024 _ shapeCasts_S1x512x1024_S512x1024 bitsLt_bf16_f32 shapeCasts_S512x1024_S512x1024 ?_ inb_S4096x1024_S512x1024_3584_0 x, ?_⟩
    · unfold load_wp.sl.v169
      rw [slot3_other (F := F) 1 0 (by decide), slot3_other (F := F) 1 2 (by decide)]
      exact slot3_same _ _ _ _ _ _ _
    refine List.forall_mem_cons.mpr ⟨fun x => up_piece (Memref.whole main_arg3) q3 v1 hv 3072 (k0_off9 v1) rfl (k0_off9_inb i v1 v2 v8 hw h1) (fun _ => rfl) squeezes_S1x1x512x1024_S512x1024 _ shapeCasts_S1x512x1024_S512x1024 bitsLt_bf16_f32 shapeCasts_S512x1024_S512x1024 ?_ inb_S4096x1024_S512x1024_3072_0 x, ?_⟩
    · unfold load_wp.sl.v151
      rw [slot3_other (F := F) 0 2 (by decide), slot3_other (F := F) 0 1 (by decide)]
      exact slot3_same _ _ _ _ _ _ _
    refine List.forall_mem_cons.mpr ⟨fun x => up_piece (Memref.whole main_arg3) q3 v1 hv 2560 (k0_off8 v1) rfl (k0_off8_inb i v1 v2 v8 hw h1) (fun _ => rfl) squeezes_S1x1x512x1024_S512x1024 _ shapeCasts_S1x512x1024_S512x1024 bitsLt_bf16_f32 shapeCasts_S512x1024_S512x1024 ?_ inb_S4096x1024_S512x1024_2560_0 x, ?_⟩
    · unfold load_wp.sl.v133
      rw [slot3_other (F := F) 2 1 (by decide), slot3_other (F := F) 2 0 (by decide)]
      exact slot3_same _ _ _ _ _ _ _
    refine List.forall_mem_cons.mpr ⟨fun x => up_piece (Memref.whole main_arg3) q3 v1 hv 2048 (k0_off7 v1) rfl (k0_off7_inb i v1 v2 v8 hw h1) (fun _ => rfl) squeezes_S1x1x512x1024_S512x1024 _ shapeCasts_S1x512x1024_S512x1024 bitsLt_bf16_f32 shapeCasts_S512x1024_S512x1024 ?_ inb_S4096x1024_S512x1024_2048_0 x, ?_⟩
    · unfold load_wp.sl.v115
      rw [slot3_other (F := F) 1 0 (by decide), slot3_other (F := F) 1 2 (by decide)]
      exact slot3_same _ _ _ _ _ _ _
    refine List.forall_mem_cons.mpr ⟨fun x => up_piece (Memref.whole main_arg3) q3 v1 hv 1536 (k0_off6 v1) rfl (k0_off6_inb i v1 v2 v8 hw h1) (fun _ => rfl) squeezes_S1x1x512x1024_S512x1024 _ shapeCasts_S1x512x1024_S512x1024 bitsLt_bf16_f32 shapeCasts_S512x1024_S512x1024 ?_ inb_S4096x1024_S512x1024_1536_0 x, ?_⟩
    · unfold load_wp.sl.v97
      rw [slot3_other (F := F) 0 2 (by decide), slot3_other (F := F) 0 1 (by decide)]
      exact slot3_same _ _ _ _ _ _ _
    refine List.forall_mem_cons.mpr ⟨fun x => up_piece (Memref.whole main_arg3) q3 v1 hv 1024 (k0_off5 v1) rfl (k0_off5_inb i v1 v2 v8 hw h1) (fun _ => rfl) squeezes_S1x1x512x1024_S512x1024 _ shapeCasts_S1x512x1024_S512x1024 bitsLt_bf16_f32 shapeCasts_S512x1024_S512x1024 ?_ inb_S4096x1024_S512x1024_1024_0 x, ?_⟩
    · unfold load_wp.sl.v79
      rw [slot3_other (F := F) 2 1 (by decide), slot3_other (F := F) 2 0 (by decide)]
      exact slot3_same _ _ _ _ _ _ _
    refine List.forall_mem_cons.mpr ⟨fun x => up_piece (Memref.whole main_arg3) q3 v1 hv 512 (k0_off4 v1) rfl (k0_off4_inb i v1 v2 v8 hw h1) (fun _ => rfl) squeezes_S1x1x512x1024_S512x1024 _ shapeCasts_S1x512x1024_S512x1024 bitsLt_bf16_f32 shapeCasts_S512x1024_S512x1024 ?_ inb_S4096x1024_S512x1024_512_0 x, ?_⟩
    · unfold load_wp.sl.v61
      rw [slot3_other (F := F) 1 0 (by decide), slot3_other (F := F) 1 2 (by decide)]
      exact slot3_same _ _ _ _ _ _ _
    refine List.forall_mem_cons.mpr ⟨fun x => up_piece (Memref.whole main_arg3) q3 v1 hv 0 (k0_off3 v1) rfl (k0_off3_inb i v1 v2 v8 hw h1) (fun _ => rfl) squeezes_S1x1x512x1024_S512x1024 _ shapeCasts_S1x512x1024_S512x1024 bitsLt_bf16_f32 shapeCasts_S512x1024_S512x1024 ?_ inb_S4096x1024_S512x1024_0_0 x, ?_⟩
    · unfold load_wp.sl.v43
      rw [slot3_other (F := F) 0 2 (by decide), slot3_other (F := F) 0 1 (by decide)]
      exact slot3_same _ _ _ _ _ _ _
    exact fun p hp => absurd hp List.not_mem_nil
  isplitl [H1]
  · iexists _; isplitl [H1]; · iexact H1
    ipureintro
    refine whole1 _ _ _ (fun y => rows_cons y 3584 _ _ _ (y 0).isLt (fun h => rows_cons y 3072 _ _ _ h (fun h => rows_cons y 2560 _ _ _ h (fun h => rows_cons y 2048 _ _ _ h (fun h => rows_cons y 1536 _ _ _ h (fun h => rows_cons y 1024 _ _ _ h (fun h => rows_cons y 512 _ _ _ h (fun h => rows_cons y 0 _ _ _ h (fun h => absurd h (Nat.not_lt_zero _)))))))))) ?_
    refine List.forall_mem_cons.mpr ⟨fun x => up_piece (Memref.whole main_arg4) q4 v1 hv 3584 (k0_off10 v1) rfl (k0_off10_inb i v1 v2 v8 hw h1) (fun _ => rfl) squeezes_S1x1x512x1024_S512x1024 _ shapeCasts_S1x512x1024_S512x1024 bitsLt_bf16_f32 shapeCasts_S512x1024_S512x1024 ?_ inb_S4096x1024_S512x1024_3584_0 x, ?_⟩
    · unfold load_wp.sl.v313
      exact slot3_same _ _ _ _ _ _ _
    refine List.forall_mem_cons.mpr ⟨fun x => up_piece (Memref.whole main_arg4) q4 v1 hv 3072 (k0_off9 v1) rfl (k0_off9_inb i v1 v2 v8 hw h1) (fun _ => rfl) squeezes_S1x1x512x1024_S512x1024 _ shapeCasts_S1x512x1024_S512x1024 bitsLt_bf16_f32 shapeCasts_S512x1024_S512x1024 ?_ inb_S4096x1024_S512x1024_3072_0 x, ?_⟩
    · unfold load_wp.sl.v295
      rw [slot3_other (F := F) 2 0 (by decide)]
      exact slot3_same _ _ _ _ _ _ _
    refine List.forall_mem_cons.mpr ⟨fun x => up_piece (Memref.whole main_arg4) q4 v1 hv 2560 (k0_off8 v1) rfl (k0_off8_inb i v1 v2 v8 hw h1) (fun _ => rfl) squeezes_S1x1x512x1024_S512x1024 _ shapeCasts_S1x512x1024_S512x1024 bitsLt_bf16_f32 shapeCasts_S512x1024_S512x1024 ?_ inb_S4096x1024_S512x1024_2560_0 x, ?_⟩
    · unfold load_wp.sl.v277
      rw [slot3_other (F := F) 1 0 (by decide), slot3_other (F := F) 1 2 (by decide)]
      exact slot3_same _ _ _ _ _ _ _
    refine List.forall_mem_cons.mpr ⟨fun x => up_piece (Memref.whole main_arg4) q4 v1 hv 2048 (k0_off7 v1) rfl (k0_off7_inb i v1 v2 v8 hw h1) (fun _ => rfl) squeezes_S1x1x512x1024_S512x1024 _ shapeCasts_S1x512x1024_S512x1024 bitsLt_bf16_f32 shapeCasts_S512x1024_S512x1024 ?_ inb_S4096x1024_S512x1024_2048_0 x, ?_⟩
    · unfold load_wp.sl.v259
      rw [slot3_other (F := F) 0 2 (by decide), slot3_other (F := F) 0 1 (by decide)]
      exact slot3_same _ _ _ _ _ _ _
    refine List.forall_mem_cons.mpr ⟨fun x => up_piece (Memref.whole main_arg4) q4 v1 hv 1536 (k0_off6 v1) rfl (k0_off6_inb i v1 v2 v8 hw h1) (fun _ => rfl) squeezes_S1x1x512x1024_S512x1024 _ shapeCasts_S1x512x1024_S512x1024 bitsLt_bf16_f32 shapeCasts_S512x1024_S512x1024 ?_ inb_S4096x1024_S512x1024_1536_0 x, ?_⟩
    · unfold load_wp.sl.v241
      rw [slot3_other (F := F) 2 1 (by decide), slot3_other (F := F) 2 0 (by decide)]
      exact slot3_same _ _ _ _ _ _ _
    refine List.forall_mem_cons.mpr ⟨fun x => up_piece (Memref.whole main_arg4) q4 v1 hv 1024 (k0_off5 v1) rfl (k0_off5_inb i v1 v2 v8 hw h1) (fun _ => rfl) squeezes_S1x1x512x1024_S512x1024 _ shapeCasts_S1x512x1024_S512x1024 bitsLt_bf16_f32 shapeCasts_S512x1024_S512x1024 ?_ inb_S4096x1024_S512x1024_1024_0 x, ?_⟩
    · unfold load_wp.sl.v223
      rw [slot3_other (F := F) 1 0 (by decide), slot3_other (F := F) 1 2 (by decide)]
      exact slot3_same _ _ _ _ _ _ _
    refine List.forall_mem_cons.mpr ⟨fun x => up_piece (Memref.whole main_arg4) q4 v1 hv 512 (k0_off4 v1) rfl (k0_off4_inb i v1 v2 v8 hw h1) (fun _ => rfl) squeezes_S1x1x512x1024_S512x1024 _ shapeCasts_S1x512x1024_S512x1024 bitsLt_bf16_f32 shapeCasts_S512x1024_S512x1024 ?_ inb_S4096x1024_S512x1024_512_0 x, ?_⟩
    · unfold load_wp.sl.v205
      rw [slot3_other (F := F) 0 2 (by decide), slot3_other (F := F) 0 1 (by decide)]
      exact slot3_same _ _ _ _ _ _ _
    refine List.forall_mem_cons.mpr ⟨fun x => up_piece (Memref.whole main_arg4) q4 v1 hv 0 (k0_off3 v1) rfl (k0_off3_inb i v1 v2 v8 hw h1) (fun _ => rfl) squeezes_S1x1x512x1024_S512x1024 _ shapeCasts_S1x512x1024_S512x1024 bitsLt_bf16_f32 shapeCasts_S512x1024_S512x1024 ?_ inb_S4096x1024_S512x1024_0_0 x, ?_⟩
    · unfold load_wp.sl.v187
      rw [slot3_other (F := F) 2 1 (by decide), slot3_other (F := F) 2 0 (by decide)]
      exact slot3_same _ _ _ _ _ _ _
    exact fun p hp => absurd hp List.not_mem_nil
  isplitl [H2]
  · iexists _; isplitl [H2]; · iexact H2
    ipureintro
    refine whole2 _ _ _ (fun y => rows_cons y 896 _ _ _ (y 0).isLt (fun h => rows_cons y 768 _ _ _ h (fun h => rows_cons y 640 _ _ _ h (fun h => rows_cons y 512 _ _ _ h (fun h => rows_cons y 384 _ _ _ h (fun h => rows_cons y 256 _ _ _ h (fun h => rows_cons y 128 _ _ _ h (fun h => rows_cons y 0 _ _ _ h (fun h => absurd h (Nat.not_lt_zero _)))))))))) ?_
    refine List.forall_mem_cons.mpr ⟨fun x => down_piece (Memref.whole main_arg5) q5 v1 hv 896 (k0_off18 v1) rfl (k0_off18_inb i v1 v2 v8 hw h1) (fun _ => rfl) squeezes_S1x1x128x4096_S128x4096 _ shapeCasts_S1x128x4096_S128x4096 bitsLt_bf16_f32 shapeCasts_S128x4096_S128x4096 ?_ inb_S1024x4096_S128x4096_896_0 x, ?_⟩
    · unfold load_wp.sl.v445
      exact slot4_same _ _ _ _ _ _ _
    refine List.forall_mem_cons.mpr ⟨fun x => down_piece (Memref.whole main_arg5) q5 v1 hv 768 (k0_off17 v1) rfl (k0_off17_inb i v1 v2 v8 hw h1) (fun _ => rfl) squeezes_S1x1x128x4096_S128x4096 _ shapeCasts_S1x128x4096_S128x4096 bitsLt_bf16_f32 shapeCasts_S128x4096_S128x4096 ?_ inb_S1024x4096_S128x4096_768_0 x, ?_⟩
    · unfold load_wp.sl.v433
      rw [slot4_other (F := F) 1 2 (by decide)]
      exact slot4_same _ _ _ _ _ _ _
    refine List.forall_mem_cons.mpr ⟨fun x => down_piece (Memref.whole main_arg5) q5 v1 hv 640 (k0_off16 v1) rfl (k0_off16_inb i v1 v2 v8 hw h1) (fun _ => rfl) squeezes_S1x1x128x4096_S128x4096 _ shapeCasts_S1x128x4096_S128x4096 bitsLt_bf16_f32 shapeCasts_S128x4096_S128x4096 ?_ inb_S1024x4096_S128x4096_640_0 x, ?_⟩
    · unfold load_wp.sl.v421
      rw [slot4_other (F := F) 0 2 (by decide), slot4_other (F := F) 0 1 (by decide)]
      exact slot4_same _ _ _ _ _ _ _
    refine List.forall_mem_cons.mpr ⟨fun x => down_piece (Memref.whole main_arg5) q5 v1 hv 512 (k0_off15 v1) rfl (k0_off15_inb i v1 v2 v8 hw h1) (fun _ => rfl) squeezes_S1x1x128x4096_S128x4096 _ shapeCasts_S1x128x4096_S128x4096 bitsLt_bf16_f32 shapeCasts_S128x4096_S128x4096 ?_ inb_S1024x4096_S128x4096_512_0 x, ?_⟩
    · unfold load_wp.sl.v403
      rw [slot4_other (F := F) 2 1 (by decide), slot4_other (F := F) 2 0 (by decide)]
      exact slot4_same _ _ _ _ _ _ _
    refine List.forall_mem_cons.mpr ⟨fun x => down_piece (Memref.whole main_arg5) q5 v1 hv 384 (k0_off14 v1) rfl (k0_off14_inb i v1 v2 v8 hw h1) (fun _ => rfl) squeezes_S1x1x128x4096_S128x4096 _ shapeCasts_S1x128x4096_S128x4096 bitsLt_bf16_f32 shapeCasts_S128x4096_S128x4096 ?_ inb_S1024x4096_S128x4096_384_0 x, ?_⟩
    · unfold load_wp.sl.v385
      rw [slot4_other (F := F) 1 0 (by decide), slot4_other (F := F) 1 2 (by decide)]
      exact slot4_same _ _ _ _ _ _ _
    refine List.forall_mem_cons.mpr ⟨fun x => down_piece (Memref.whole main_arg5) q5 v1 hv 256 (k0_off13 v1) rfl (k0_off13_inb i v1 v2 v8 hw h1) (fun _ => rfl) squeezes_S1x1x128x4096_S128x4096 _ shapeCasts_S1x128x4096_S128x4096 bitsLt_bf16_f32 shapeCasts_S128x4096_S128x4096 ?_ inb_S1024x4096_S128x4096_256_0 x, ?_⟩
    · unfold load_wp.sl.v367
      rw [slot4_other (F := F) 0 2 (by decide), slot4_other (F := F) 0 1 (by decide)]
      exact slot4_same _ _ _ _ _ _ _
    refine List.forall_mem_cons.mpr ⟨fun x => down_piece (Memref.whole main_arg5) q5 v1 hv 128 (k0_off12 v1) rfl (k0_off12_inb i v1 v2 v8 hw h1) (fun _ => rfl) squeezes_S1x1x128x4096_S128x4096 _ shapeCasts_S1x128x4096_S128x4096 bitsLt_bf16_f32 shapeCasts_S128x4096_S128x4096 ?_ inb_S1024x4096_S128x4096_128_0 x, ?_⟩
    · unfold load_wp.sl.v349
      rw [slot4_other (F := F) 2 1 (by decide), slot4_other (F := F) 2 0 (by decide)]
      exact slot4_same _ _ _ _ _ _ _
    refine List.forall_mem_cons.mpr ⟨fun x => down_piece (Memref.whole main_arg5) q5 v1 hv 0 (k0_off11 v1) rfl (k0_off11_inb i v1 v2 v8 hw h1) (fun _ => rfl) squeezes_S1x1x128x4096_S128x4096 _ shapeCasts_S1x128x4096_S128x4096 bitsLt_bf16_f32 shapeCasts_S128x4096_S128x4096 ?_ inb_S1024x4096_S128x4096_0_0 x, ?_⟩
    · unfold load_wp.sl.v331
      rw [slot4_other (F := F) 1 0 (by decide), slot4_other (F := F) 1 2 (by decide)]
      exact slot4_same _ _ _ _ _ _ _
    exact fun p hp => absurd hp List.not_mem_nil
  isplitl [H3]; · iexists _; iexact H3
  isplitl [H4]; · iexists _; iexact H4
  isplitl [Hq34]; · iexact Hq34
  isplitl [Hq35]; · iexact Hq35
  isplitl [Hq36]; · iexact Hq36
  isplitl [Hq44]; · iexact Hq44
  isplitl [Hq45]; · iexact Hq45
  isplitl [Hq46]; · iexact Hq46
  isplitl [Hq54]; · iexact Hq54
  isplitl [Hq55]; · iexact Hq55
  isplitl [Hq56]; · iexact Hq56
  isplitl [Hd4]; · iexact Hd4
  isplitl [Hd5]; · iexact Hd5
  isplitl [Hd6]; · iexact Hd6
  iexists _; iexact HO
end Cert.Kernel7Ideal.Moe
-- ==== Proof.Moe1.Compute.lean ====
module
public import proofs.«01_k».proof.Proof.Moe1.Load
public import Idealize.ShloMosaic.Lib.Pipeline.FrameBody
public import Idealize.ShloMosaic.Lib.Pipeline.Value
@[expose] public section
set_option maxRecDepth 16384
/-! The body of the experts' kernel: which weights it loads, and what it leaves in the output's buffer. -/
noncomputable section
namespace Cert.Kernel7Ideal.Moe
open Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (Pipeline.UD sig nD τ) ℕ

/-- What the body does after the weights are in place: the product of the block of rows, or zeros past the last block. -/
noncomputable def compute (i : grid0.Coords) (v2 : BitVec 32) (arg3 : Memref sig .tc .vmem S256x2048 .i32) (arg7 : Memref sig .tc .vmem S256x4096 .f32)
    (arg8 : Memref sig .tc .vmem S4096x1024 .bf16) (arg9 : Memref sig .tc .vmem S4096x1024 .bf16) (arg10 : Memref sig .tc .vmem S1024x4096 .bf16) :
    Prog (TpuEff nD τ sig (Elt F) Λ₀ .tc) PUnit := do
  if k0_h2 : k0_cond2 i v2 = 1#1 then do
    let v19 : Vec F S256x2048 .i32 ← Prog.lift (.load arg3 (Rect.unit (s := S256x2048) ![0, 0] S256x2048.size inb_S256x2048_S256x2048_0_0).toLoadRect (View.loadsAt_vmem h_S256x2048))
    let v29 : Vec F S4096x1024 .bf16 ← Prog.lift (.load arg8 (Rect.unit (s := S4096x1024) ![0, 0] S4096x1024.size inb_S4096x1024_S4096x1024_0_0).toLoadRect (View.loadsAt_vmem h_S4096x1024))
    let v31 : Vec F S4096x1024 .bf16 ← Prog.lift (.load arg9 (Rect.unit (s := S4096x1024) ![0, 0] S4096x1024.size inb_S4096x1024_S4096x1024_0_0).toLoadRect (View.loadsAt_vmem h_S4096x1024))
    let v37 : Vec F S1024x4096 .bf16 ← Prog.lift (.load arg10 (Rect.unit (s := S1024x4096) ![0, 0] S1024x4096.size inb_S1024x4096_S1024x4096_0_0).toLoadRect (View.loadsAt_vmem h_S1024x4096))
    let v39 : Vec F S256x4096 .f32 ← Prog.lift (.load arg7 (Rect.unit (s := S256x4096) ![0, 0] S256x4096.size inb_S256x4096_S256x4096_0_0).toLoadRect (View.loadsAt_vmem h_S256x4096))
    Prog.lift (.store arg7 (Rect.unit (s := S256x4096) ![0, 0] S256x4096.size inb_S256x4096_S256x4096_0_0) (k0_pay1 v19 v29 v31 v37) Finset.univ (View.stores_vmem_bits_univ h_S256x4096 rfl) (.inl rfl))
    pure ⟨⟩
  else do
    pure ⟨⟩
  if k0_h3 : k0_cond3 i v2 = 1#1 then do
    let v20 : Vec F S256x4096 .f32 ← Prog.lift (.load arg7 (Rect.unit (s := S256x4096) ![0, 0] S256x4096.size inb_S256x4096_S256x4096_0_0).toLoadRect (View.loadsAt_vmem h_S256x4096))
    Prog.lift (.store arg7 (Rect.unit (s := S256x4096) ![0, 0] S256x4096.size inb_S256x4096_S256x4096_0_0) (k0_pay2 (F := F)) Finset.univ (View.stores_vmem_bits_univ h_S256x4096 rfl) (.inl rfl))
    pure ⟨⟩
  else do
    pure ⟨⟩
  pure ⟨⟩

/-- The condition of the zeros is the negation of the condition of the product. -/
theorem cond3_iff (i : grid0.Coords) (v2 : BitVec 32) : k0_cond3 i v2 = 1#1 ↔ ¬ k0_cond2 i v2 = 1#1 := by
  unfold k0_cond3 k0_cond2
  show Scalar.cmpi .ne (Scalar.extui (Scalar.xori (Scalar.cmpi .slt (BitVec.ofNat 32 (i 0).val) v2) 1#1)) 0#32 = 1#1
    ↔ ¬ Scalar.cmpi .ne (Scalar.extui (Scalar.cmpi .slt (BitVec.ofNat 32 (i 0).val) v2)) 0#32 = 1#1
  generalize Scalar.cmpi .slt (BitVec.ofNat 32 (i 0).val) v2 = b
  revert b; decide

abbrev r3 : Rect S256x2048 := Rect.unit (s := S256x2048) ![0, 0] S256x2048.size inb_S256x2048_S256x2048_0_0
abbrev r7 : Rect S256x4096 := Rect.unit (s := S256x4096) ![0, 0] S256x4096.size inb_S256x4096_S256x4096_0_0
abbrev r8 : Rect S4096x1024 := Rect.unit (s := S4096x1024) ![0, 0] S4096x1024.size inb_S4096x1024_S4096x1024_0_0
abbrev r10 : Rect S1024x4096 := Rect.unit (s := S1024x4096) ![0, 0] S1024x4096.size inb_S1024x4096_S1024x4096_0_0

theorem zero2 : (![0, 0] : Fin 2 → ℕ) = fun _ => 0 := by funext a; fin_cases a <;> rfl

/-- The store of a whole buffer leaves what is stored. -/
theorem stored_whole (arg7 : Memref sig .tc .vmem S256x4096 .f32) (f : BufTy.Contents (Elt F) arg7.view.ty) (p : Vec F S256x4096 .f32) :
    arg7.view.read (Elt F) (arg7.view.writes (Elt F) f [⟨r7, p⟩]) = p := by
  rw [View.read_writes_eq_canon _ _ _ (View.cover_of_tiled [⟨r7, p⟩] S256x4096.size (by rfl))]
  exact View.canon_unit_zero zero2 _ _

set_option maxHeartbeats 4000000 in
theorem compute_wp (c : Dev nD) (i : grid0.Coords) (v2 : BitVec 32) (arg3 : Memref sig .tc .vmem S256x2048 .i32) (arg7 : Memref sig .tc .vmem S256x4096 .f32)
    (harg3 : arg3.IsWhole) (harg7 : arg7.IsWhole)
    (x3 : Vec F S256x2048 .i32) (f0 f1 : S4096x1024.Idx → F .bf16) (f2 : S1024x4096.Idx → F .bf16) (Q : PUnit → sProp 𝕄) :
    iprop(owns (c : Thread nD τ) arg3 fullShare x3
      ∗ ((Memref.whole cc0_scratch0).view.loc (c : Thread nD τ) ↦[Finset.univ]{fullShare} f0)
      ∗ ((Memref.whole cc0_scratch1).view.loc (c : Thread nD τ) ↦[Finset.univ]{fullShare} f1)
      ∗ ((Memref.whole cc0_scratch2).view.loc (c : Thread nD τ) ↦[Finset.univ]{fullShare} f2)
      ∗ (∃ d, owns (c : Thread nD τ) arg7 fullShare d)
      ∗ (iprop(owns (c : Thread nD τ) arg3 fullShare x3
        ∗ ((Memref.whole cc0_scratch0).view.loc (c : Thread nD τ) ↦[Finset.univ]{fullShare} f0)
        ∗ ((Memref.whole cc0_scratch1).view.loc (c : Thread nD τ) ↦[Finset.univ]{fullShare} f1)
        ∗ ((Memref.whole cc0_scratch2).view.loc (c : Thread nD τ) ↦[Finset.univ]{fullShare} f2)
        ∗ owns (c : Thread nD τ) arg7 fullShare (if k0_cond2 i v2 = 1#1 then k0_pay1 x3 f0 f1 f2 else k0_pay2)) -∗ Q ⟨⟩))
    ⊢ wp frame (wpE (defs₀ (F := F)) Variants.none c none) Set.univ
        (compute (F := F) i v2 arg3 arg7 (Memref.whole cc0_scratch0) (Memref.whole cc0_scratch1) (Memref.whole cc0_scratch2)) Q := by
  unfold owns
  by_cases h2 : k0_cond2 i v2 = 1#1
  · have h3 : ¬ k0_cond3 i v2 = 1#1 := fun h => (cond3_iff i v2).1 h h2
    unfold compute
    rw [dif_pos h2, if_pos h2]
    iintro ⟨⟨%f3, %hf3, H3⟩, H0, H1, H2, ⟨%d7, %f7, -, H7⟩, Hk⟩
    subst hf3
    sl_exec
    sl_step
    iapply Hk
    isplitl [H3]
    · iexists f3; isplitr; · ipureintro; rfl
      iexact H3
    isplitl [H0]; · iexact H0
    isplitl [H1]; · iexact H1
    isplitl [H2]; · iexact H2
    iexists _; isplitr
    swap; · iexact H7
    ipureintro
    refine (stored_whole arg7 _ _).trans ?_
    show k0_pay1 (View.ld (arg3.view.read (Elt F) f3) r3) (View.ld f0 r8) (View.ld f1 r8) (View.ld f2 r10) = k0_pay1 (arg3.view.read (Elt F) f3) f0 f1 f2
    rw [View.ld_unit_zero zero2, View.ld_unit_zero zero2, View.ld_unit_zero zero2, View.ld_unit_zero zero2]
  · have h3 : k0_cond3 i v2 = 1#1 := (cond3_iff i v2).2 h2
    unfold compute
    rw [dif_neg h2, if_neg h2]
    iintro ⟨⟨%f3, %hf3, H3⟩, H0, H1, H2, ⟨%d7, %f7, -, H7⟩, Hk⟩
    sl_exec
    sl_step
    iapply Hk
    isplitl [H3]
    · iexists f3; isplitr; · ipureintro; exact hf3
      iexact H3
    isplitl [H0]; · iexact H0
    isplitl [H1]; · iexact H1
    isplitl [H2]; · iexact H2
    iexists _; isplitr
    swap; · iexact H7
    ipureintro
    exact stored_whole arg7 _ _

/-- The body after its three words are read: the loading where it is due, then the product. -/
noncomputable def tail (i : grid0.Coords) (v1 v2 v8 : BitVec 32) (hw : k0_chk1 i v1 v2 v8) (arg3 : Memref sig .tc .vmem S256x2048 .i32) (harg3 : arg3.IsWhole)
    (arg7 : Memref sig .tc .vmem S256x4096 .f32) (harg7 : arg7.IsWhole) : Prog (TpuEff nD τ sig (Elt F) Λ₀ .tc) PUnit :=
  if h1 : k0_cond1 i v1 v2 v8 = 1#1 then
    loadAll i v1 v2 v8 hw h1 arg3 harg3 arg7 harg7 >>= fun _ =>
      compute i v2 arg3 arg7 (Memref.whole cc0_scratch0) (Memref.whole cc0_scratch1) (Memref.whole cc0_scratch2)
  else compute i v2 arg3 arg7 (Memref.whole cc0_scratch0) (Memref.whole cc0_scratch1) (Memref.whole cc0_scratch2)

/-- The body reads the block's expert, the number of blocks and the expert of the block before, and goes on with `tail`. -/
theorem experts_eq (i : grid0.Coords) (arg3 : Memref sig .tc .vmem S256x2048 .i32) (harg3 : arg3.IsWhole)
    (arg7 : Memref sig .tc .vmem S256x4096 .f32) (harg7 : arg7.IsWhole) :
    cc0_experts (F := F) i (Memref.whole main_arg0) (Memref.isWhole_whole _) (Memref.whole main_arg1) (Memref.isWhole_whole _) arg3 harg3 (Memref.whole main_arg3) (Memref.isWhole_whole _) (Memref.whole main_arg4) (Memref.isWhole_whole _) (Memref.whole main_arg5) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5
      = (do
        let v1 : Elt F .i32 ← smemLoad (Memref.whole main_arg0) (Rect.unit (s := S144) (k0_off1 i) S1.size (k0_off1_inb i)) numel1_S1 rfl
        let v2 : Elt F .i32 ← smemLoad (Memref.whole main_arg1) (Rect.unit (s := S1) ![0] S1.size inb_S1_S1_0) numel1_S1 rfl
        let v8 : Elt F .i32 ← smemLoad (Memref.whole main_arg0) (Rect.unit (s := S144) (k0_off2 i) S1.size (k0_off2_inb i)) numel1_S1 rfl
        have k0_hw1 : k0_chk1 i v1 v2 v8 := (← Prog.lift (TpuEff.assume (k0_chk1 i v1 v2 v8) (k0_chk1.dec i v1 v2 v8))).down
        tail (F := F) i v1 v2 v8 k0_hw1 arg3 harg3 arg7 harg7) := by
  rw [cc0_experts_eq_skeleton]
  unfold cc0_experts_skel tail loadAll compute
  simp only [bind_assoc, pure_bind]

end Cert.Kernel7Ideal.Moe
-- ==== Proof.Moe1.Body.lean ====
module
public import proofs.«01_k».proof.Proof.Moe1.Compute
public import Idealize.ShloMosaic.Lib.Transfers
@[expose] public section
set_option maxRecDepth 16384
/-! One grid point of the experts' kernel: from the weights the point before left to the weights of this point's expert,
    and the product of its rows. -/
noncomputable section
namespace Cert.Kernel7Ideal.Moe
open Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄" => MT nD τ sig Unit (Elt F) ℕ (Pipeline.UD sig nD τ) ℕ

/-! ## The words the body reads -/

/-- The expert of row block `n`. -/
def blkE (T0 : S144.Idx → BitVec 32) (n : ℕ) : BitVec 32 := T0 (ValueIdx.ix1 ⟨n % 144, Nat.mod_lt _ (by decide)⟩)

/-- Row block `n` holds routed rows. -/
def Active (T1 : S1.Idx → BitVec 32) (n : ℕ) : Prop := Scalar.cmpi .slt (BitVec.ofNat 32 n) (T1 (ValueIdx.ix1 0)) = 1#1

theorem active_of_succ (T1 : S1.Idx → BitVec 32) (n : ℕ) (hn : n < 143) (h : Active T1 (n + 1)) : Active T1 n := by
  unfold Active at *
  have key : ∀ a b : BitVec 32, Scalar.cmpi .slt a b = 1#1 ↔ a.toInt < b.toInt := fun a b => by
    show BitVec.ofBool (a.slt b) = 1#1 ↔ _
    rw [BitVec.slt]
    by_cases h : a.toInt < b.toInt <;> simp [h]
  rw [key] at *
  have e1 : (BitVec.ofNat 32 n).toInt = n := by
    rw [BitVec.toInt_eq_toNat_of_lt (by rw [BitVec.toNat_ofNat]; omega), BitVec.toNat_ofNat]; omega
  have e2 : (BitVec.ofNat 32 (n + 1)).toInt = n + 1 := by
    rw [BitVec.toInt_eq_toNat_of_lt (by rw [BitVec.toNat_ofNat]; omega), BitVec.toNat_ofNat]; omega
  omega

theorem off2_eq : ∀ i : grid0.Coords, k0_off2 i = ![(i 0).val - 1] := by decide +kernel

theorem cond2_iff (i : grid0.Coords) (T1 : S1.Idx → BitVec 32) : k0_cond2 i (T1 (ValueIdx.ix1 0)) = 1#1 ↔ Active T1 (i 0).val := by
  unfold Active k0_cond2
  show Scalar.cmpi .ne (Scalar.extui (Scalar.cmpi .slt (BitVec.ofNat 32 (i 0).val) (T1 (ValueIdx.ix1 0)))) 0#32 = 1#1
    ↔ Scalar.cmpi .slt (BitVec.ofNat 32 (i 0).val) (T1 (ValueIdx.ix1 0)) = 1#1
  generalize Scalar.cmpi .slt (BitVec.ofNat 32 (i 0).val) _ = b
  revert b; decide

theorem cond1_iff (i : grid0.Coords) (T1 : S1.Idx → BitVec 32) (v1 v8 : BitVec 32) :
    k0_cond1 i v1 (T1 (ValueIdx.ix1 0)) v8 = 1#1 ↔ Active T1 (i 0).val ∧ ((i 0).val = 0 ∨ v1 ≠ v8) := by
  have hz : Scalar.cmpi .eq (BitVec.ofNat 32 (i 0).val) 0#32 = 1#1 ↔ (i 0).val = 0 := by
    show BitVec.ofBool (BitVec.ofNat 32 (i 0).val == 0#32) = 1#1 ↔ _
    have hlt : (i 0).val < 144 := (i 0).isLt
    rw [show (BitVec.ofNat 32 (i 0).val == 0#32) = decide ((i 0).val = 0) from by
      rw [Bool.eq_iff_iff, beq_iff_eq, decide_eq_true_iff, ← BitVec.toNat_inj]
      simp only [BitVec.toNat_ofNat]; omega]
    by_cases h : (i 0).val = 0 <;> simp [h]
  have hne : Scalar.cmpi .ne v1 v8 = 1#1 ↔ v1 ≠ v8 := by
    show BitVec.ofBool (v1 != v8) = 1#1 ↔ _
    by_cases h : v1 = v8
    · subst h; simp
    · rw [bne_iff_ne.mpr h]; simp [h]
  rw [← hz, ← hne]
  unfold Active k0_cond1
  show Scalar.cmpi .ne (Scalar.extui (Scalar.andi (Scalar.cmpi .slt (BitVec.ofNat 32 (i 0).val) (T1 (ValueIdx.ix1 0)))
      (Scalar.ori (Scalar.cmpi .eq (BitVec.ofNat 32 (i 0).val) 0#32) (Scalar.cmpi .ne v1 v8)))) 0#32 = 1#1 ↔ _
  generalize Scalar.cmpi .slt (BitVec.ofNat 32 (i 0).val) _ = b
  generalize Scalar.cmpi .eq (BitVec.ofNat 32 (i 0).val) 0#32 = d
  generalize Scalar.cmpi .ne v1 v8 = e
  revert b d e; decide

theorem inb_up (v r : ℕ) (h : v < 16) (hr : r + 512 ≤ 4096) : ∀ a, (![1, v, r, 0] : Fin 4 → ℕ) a + S1x1x512x1024.size a ≤ S2x16x4096x1024.size a := by
  intro a
  fin_cases a
  · show 1 + 1 ≤ 2; omega
  · show v + 1 ≤ 16; omega
  · show r + 512 ≤ 4096; omega
  · show 0 + 1024 ≤ 1024; omega

theorem inb_down (v r : ℕ) (h : v < 16) (hr : r + 128 ≤ 1024) : ∀ a, (![1, v, r, 0] : Fin 4 → ℕ) a + S1x1x128x4096.size a ≤ S2x16x1024x4096.size a := by
  intro a
  fin_cases a
  · show 1 + 1 ≤ 2; omega
  · show v + 1 ≤ 16; omega
  · show r + 128 ≤ 1024; omega
  · show 0 + 4096 ≤ 4096; omega

theorem chk_of_lt (i : grid0.Coords) (v1 v2 v8 : BitVec 32) (h : k0_cond1 i v1 v2 v8 = 1#1 → v1.toNat < 16) : k0_chk1 i v1 v2 v8 :=
  ⟨fun c => inb_up v1.toNat 0 (h c) (by decide), fun c => inb_up v1.toNat 512 (h c) (by decide), fun c => inb_up v1.toNat 1024 (h c) (by decide), fun c => inb_up v1.toNat 1536 (h c) (by decide), fun c => inb_up v1.toNat 2048 (h c) (by decide), fun c => inb_up v1.toNat 2560 (h c) (by decide), fun c => inb_up v1.toNat 3072 (h c) (by decide), fun c => inb_up v1.toNat 3584 (h c) (by decide), fun c => inb_down v1.toNat 0 (h c) (by decide), fun c => inb_down v1.toNat 128 (h c) (by decide), fun c => inb_down v1.toNat 256 (h c) (by decide), fun c => inb_down v1.toNat 384 (h c) (by decide), fun c => inb_down v1.toNat 512 (h c) (by decide), fun c => inb_down v1.toNat 640 (h c) (by decide), fun c => inb_down v1.toNat 768 (h c) (by decide), fun c => inb_down v1.toNat 896 (h c) (by decide)⟩

/-! ## What a point holds -/

/-- The resources of the loading beside the tables: the arrays of weights, the transfers' cells, the staging slots. -/
def stock (c : Dev nD) (q3 q4 : S2x16x4096x1024.Idx → F .f32) (q5 : S2x16x1024x4096.Idx → F .f32) : sProp 𝕄 :=
  iprop((∃ g : S3x512x1024.Idx → F .f32, ((Memref.whole cc0_scratch3).view.loc (c : Thread nD τ) ↦[Finset.univ]{fullShare} g)) ∗ (∃ g : S3x128x4096.Idx → F .f32, ((Memref.whole cc0_scratch4).view.loc (c : Thread nD τ) ↦[Finset.univ]{fullShare} g))
    ∗ ((Memref.whole main_arg3).view.loc (c : Thread nD τ) ↦[Finset.univ]{fullShare} q3)
    ∗ ((Memref.whole main_arg4).view.loc (c : Thread nD τ) ↦[Finset.univ]{fullShare} q4)
    ∗ ((Memref.whole main_arg5).view.loc (c : Thread nD τ) ↦[Finset.univ]{fullShare} q5)
    ∗ semVal ((c : Thread nD τ), SemLoc.dma ((cc0_scratch5.slice (Rect.unit (s := S3) ![0] S1.size inb_S3_S1_0)).squeeze S_ squeezes_S1_S_).sem) 0
    ∗ semVal ((c : Thread nD τ), SemLoc.dma ((cc0_scratch5.slice (Rect.unit (s := S3) ![1] S1.size inb_S3_S1_1)).squeeze S_ squeezes_S1_S_).sem) 0
    ∗ semVal ((c : Thread nD τ), SemLoc.dma ((cc0_scratch5.slice (Rect.unit (s := S3) ![2] S1.size inb_S3_S1_2)).squeeze S_ squeezes_S1_S_).sem) 0)

/-- The three weight buffers, satisfying `P`. -/
def weights (c : Dev nD) (P : (S4096x1024.Idx → F .bf16) → (S4096x1024.Idx → F .bf16) → (S1024x4096.Idx → F .bf16) → Prop) : sProp 𝕄 :=
  iprop(∃ (f0 f1 : S4096x1024.Idx → F .bf16) (f2 : S1024x4096.Idx → F .bf16), ((Memref.whole cc0_scratch0).view.loc (c : Thread nD τ) ↦[Finset.univ]{fullShare} f0) ∗ ((Memref.whole cc0_scratch1).view.loc (c : Thread nD τ) ↦[Finset.univ]{fullShare} f1) ∗ ((Memref.whole cc0_scratch2).view.loc (c : Thread nD τ) ↦[Finset.univ]{fullShare} f2) ∗ ⌜P f0 f1 f2⌝)

/-- The buffers hold expert `w`'s three matrices. -/
def Holds (w : BitVec 32) (q3 q4 : S2x16x4096x1024.Idx → F .f32) (q5 : S2x16x1024x4096.Idx → F .f32)
    (f0 f1 : S4096x1024.Idx → F .bf16) (f2 : S1024x4096.Idx → F .bf16) : Prop := f0 = upW w q3 ∧ f1 = upW w q4 ∧ f2 = downW w q5

/-- A whole array, dealt into three read tokens and the rest. -/
theorem deal (ℓ : Loc nD τ sig) (f : Buf (Elt F) ℓ) :
    (ℓ ↦[Finset.univ]{fullShare} f : sProp 𝕄) ⊣⊢ iprop((((ℓ ↦[Finset.univ]{Transfers.shareDrop fullShare 7} f)
      ∗ (ℓ ↦[Finset.univ]{Transfers.shareTokN fullShare 6} f)) ∗ (ℓ ↦[Finset.univ]{Transfers.shareTokN fullShare 5} f))
      ∗ (ℓ ↦[Finset.univ]{Transfers.shareTokN fullShare 4} f) ∗ bigSep (Finset.range 4) (fun i => ℓ ↦[Finset.univ]{Transfers.shareTokN fullShare i} f)) := by
  have step (k : ℕ) : (ℓ ↦[Finset.univ]{Transfers.shareDrop fullShare k} f : sProp 𝕄)
      ⊣⊢ iprop((ℓ ↦[Finset.univ]{Transfers.shareDrop fullShare (k + 1)} f) ∗ ℓ ↦[Finset.univ]{Transfers.shareTokN fullShare k} f) :=
    pointsTo_share (PosShare.mem_left_op_right _)
  have r := Transfers.pointsTo_toks_range (Ix := Unit) (Name := ℕ) (U := Pipeline.UD sig nD τ) (Lvl := ℕ) (ℓ := ℓ) (S := Finset.univ) (f := f) fullShare 4
  constructor
  · refine r.1.trans ?_
    iintro ⟨H, HT⟩
    ihave H := (step 4).1 $$ H
    icases H with ⟨H, H4⟩
    ihave H := (step 5).1 $$ H
    icases H with ⟨H, H5⟩
    ihave H := (step 6).1 $$ H
    icases H with ⟨H, H6⟩
    isplitl [H H6 H5]
    · isplitl [H H6]
      · isplitl [H]; · iexact H
        iexact H6
      iexact H5
    isplitl [H4]; · iexact H4
    iexact HT
  · iintro ⟨⟨⟨H, H6⟩, H5⟩, H4, HT⟩
    iapply r.2
    isplitr [HT]
    · iapply (step 4).2
      isplitr [H4]
      · iapply (step 5).2
        isplitr [H5]
        · iapply (step 6).2
          isplitl [H]; · iexact H
          iexact H6
        iexact H5
      iexact H4
    iexact HT

/-- The loading, continued: from the stock and the weight buffers at anything to the weight buffers at the expert's. -/
theorem load_cps (c : Dev nD) (i : grid0.Coords) (v1 v2 v8 : BitVec 32) (hw : k0_chk1 i v1 v2 v8) (h1 : k0_cond1 i v1 v2 v8 = 1#1)
    (arg3 : Memref sig .tc .vmem S256x2048 .i32) (harg3 : arg3.IsWhole) (arg7 : Memref sig .tc .vmem S256x4096 .f32) (harg7 : arg7.IsWhole)
    (W : Waits sig Unit) (q3 q4 : S2x16x4096x1024.Idx → F .f32) (q5 : S2x16x1024x4096.Idx → F .f32)
    (k : PUnit → Prog (TpuEff nD τ sig (Elt F) Λ₀ .tc) PUnit) (Q : PUnit → sProp 𝕄) :
    iprop(stock c q3 q4 q5 ∗ weights c (fun _ _ _ => True) ∗ owes (c : Thread nD τ) 0 W
      ∗ (iprop(stock c q3 q4 q5 ∗ weights c (Holds v1 q3 q4 q5) ∗ (∃ W' : Waits sig Unit, owes (c : Thread nD τ) 0 W'))
          -∗ wp frame (wpE (defs₀ (F := F)) Variants.none c none) Set.univ (k ⟨⟩) Q))
    ⊢ wp frame (wpE (defs₀ (F := F)) Variants.none c none) Set.univ (loadAll (F := F) i v1 v2 v8 hw h1 arg3 harg3 arg7 harg7 >>= k) Q := by
  rw [wp_bind]
  unfold stock weights
  iintro ⟨⟨⟨%g3, H3⟩, ⟨%g4, H4⟩, Hb3, Hb4, Hb5, Hd4, Hd5, Hd6⟩, ⟨%f0, %f1, %f2, H0, H1, H2, -⟩, HO, Hk⟩
  ihave Hb3 := (deal _ q3).1 $$ Hb3
  icases Hb3 with ⟨⟨⟨Hr3, Hq36⟩, Hq35⟩, Hq34, Ht3⟩
  ihave Hb4 := (deal _ q4).1 $$ Hb4
  icases Hb4 with ⟨⟨⟨Hr4, Hq46⟩, Hq45⟩, Hq44, Ht4⟩
  ihave Hb5 := (deal _ q5).1 $$ Hb5
  icases Hb5 with ⟨⟨⟨Hr5, Hq56⟩, Hq55⟩, Hq54, Ht5⟩
  ihave Hw := (load_wp c i v1 v2 v8 hw h1 arg3 harg3 arg7 harg7 W f0 f1 f2 g3 g4 q3 q4 q5) $$ [H0 H1 H2 H3 H4 Hq34 Hq35 Hq36 Hq44 Hq45 Hq46 Hq54 Hq55 Hq56 Hd4 Hd5 Hd6 HO]
  · isplitl [H0]; · iexact H0
    isplitl [H1]; · iexact H1
    isplitl [H2]; · iexact H2
    isplitl [H3]; · iexact H3
    isplitl [H4]; · iexact H4
    isplitl [Hq34]; · iexact Hq34
    isplitl [Hq35]; · iexact Hq35
    isplitl [Hq36]; · iexact Hq36
    isplitl [Hq44]; · iexact Hq44
    isplitl [Hq45]; · iexact Hq45
    isplitl [Hq46]; · iexact Hq46
    isplitl [Hq54]; · iexact Hq54
    isplitl [Hq55]; · iexact Hq55
    isplitl [Hq56]; · iexact Hq56
    isplitl [Hd4]; · iexact Hd4
    isplitl [Hd5]; · iexact Hd5
    isplitl [Hd6]; · iexact Hd6
    iexact HO
  iapply (wp_wand frame (wpE (defs₀ (F := F)) Variants.none c none)) $$ Hw
  iintro %_ ⟨⟨%e0, H0, %h0⟩, ⟨%e1, H1, %h1⟩, ⟨%e2, H2, %h2⟩, ⟨%e3, H3⟩, ⟨%e4, H4⟩, Hq34, Hq35, Hq36, Hq44, Hq45, Hq46, Hq54, Hq55, Hq56, Hd4, Hd5, Hd6, HO⟩
  iapply Hk
  isplitr [H0 H1 H2 HO]
  · isplitl [H3]; · iexists e3; iexact H3
    isplitl [H4]; · iexists e4; iexact H4
    isplitl [Hr3 Hq34 Hq35 Hq36 Ht3]
    · iapply (deal _ q3).2
      isplitl [Hr3 Hq36 Hq35]
      · isplitl [Hr3 Hq36]
        · isplitl [Hr3]; · iexact Hr3
          iexact Hq36
        iexact Hq35
      isplitl [Hq34]; · iexact Hq34
      iexact Ht3
    isplitl [Hr4 Hq44 Hq45 Hq46 Ht4]
    · iapply (deal _ q4).2
      isplitl [Hr4 Hq46 Hq45]
      · isplitl [Hr4 Hq46]
        · isplitl [Hr4]; · iexact Hr4
          iexact Hq46
        iexact Hq45
      isplitl [Hq44]; · iexact Hq44
      iexact Ht4
    isplitl [Hr5 Hq54 Hq55 Hq56 Ht5]
    · iapply (deal _ q5).2
      isplitl [Hr5 Hq56 Hq55]
      · isplitl [Hr5 Hq56]
        · isplitl [Hr5]; · iexact Hr5
          iexact Hq56
        iexact Hq55
      isplitl [Hq54]; · iexact Hq54
      iexact Ht5
    isplitl [Hd4]; · iexact Hd4
    isplitl [Hd5]; · iexact Hd5
    iexact Hd6
  isplitl [H0 H1 H2]
  · iexists e0, e1, e2
    isplitl [H0]; · iexact H0
    isplitl [H1]; · iexact H1
    isplitl [H2]; · iexact H2
    ipureintro; exact ⟨h0, h1, h2⟩
  iexact HO

/-! ## One point -/

/-- What the weight buffers hold when `n` points have run: the last point's expert, if its block held routed rows. -/
def After (T0 : S144.Idx → BitVec 32) (T1 : S1.Idx → BitVec 32) (q3 q4 : S2x16x4096x1024.Idx → F .f32) (q5 : S2x16x1024x4096.Idx → F .f32)
    (n : ℕ) (f0 f1 : S4096x1024.Idx → F .bf16) (f2 : S1024x4096.Idx → F .bf16) : Prop :=
  0 < n → Active T1 (n - 1) → Holds (blkE T0 (n - 1)) q3 q4 q5 f0 f1 f2

open Classical in
/-- The block stored at point `n`: the product of its rows with its expert's weights, or zeros past the routed rows. -/
def blockOut (T0 : S144.Idx → BitVec 32) (T1 : S1.Idx → BitVec 32) (q3 q4 : S2x16x4096x1024.Idx → F .f32) (q5 : S2x16x1024x4096.Idx → F .f32)
    (x3 : S256x2048.Idx → BitVec 32) (n : ℕ) : FVec F S256x4096 .f32 :=
  if Active T1 n then k0_pay1 x3 (upW (blkE T0 n) q3) (upW (blkE T0 n) q4) (downW (blkE T0 n) q5) else k0_pay2

/-- The product at a point whose weights are in place. -/
theorem compute_blk (c : Dev nD) (i : grid0.Coords) (T0 : S144.Idx → BitVec 32) (T1 : S1.Idx → BitVec 32)
    (arg3 : Memref sig .tc .vmem S256x2048 .i32) (harg3 : arg3.IsWhole) (arg7 : Memref sig .tc .vmem S256x4096 .f32) (harg7 : arg7.IsWhole)
    (x3 : S256x2048.Idx → BitVec 32) (q3 q4 : S2x16x4096x1024.Idx → F .f32) (q5 : S2x16x1024x4096.Idx → F .f32) (Q : PUnit → sProp 𝕄) :
    iprop(owns (c : Thread nD τ) arg3 fullShare x3 ∗ weights c (fun f0 f1 f2 => Active T1 (i 0).val → Holds (blkE T0 (i 0).val) q3 q4 q5 f0 f1 f2)
      ∗ (∃ d, owns (c : Thread nD τ) arg7 fullShare d)
      ∗ (iprop(owns (c : Thread nD τ) arg3 fullShare x3 ∗ weights c (After T0 T1 q3 q4 q5 ((i 0).val + 1))
        ∗ owns (c : Thread nD τ) arg7 fullShare (blockOut T0 T1 q3 q4 q5 x3 (i 0).val)) -∗ Q ⟨⟩))
    ⊢ wp frame (wpE (defs₀ (F := F)) Variants.none c none) Set.univ
      (compute i (T1 (ValueIdx.ix1 0)) arg3 arg7 (Memref.whole cc0_scratch0) (Memref.whole cc0_scratch1) (Memref.whole cc0_scratch2)) Q := by
  unfold weights
  iintro ⟨Hx, ⟨%f0, %f1, %f2, H0, H1, H2, %hP⟩, Ho, Hk⟩
  iapply (compute_wp c i (T1 (ValueIdx.ix1 0)) arg3 arg7 harg3 harg7 x3 f0 f1 f2 Q)
  isplitl [Hx]; · iexact Hx
  isplitl [H0]; · iexact H0
  isplitl [H1]; · iexact H1
  isplitl [H2]; · iexact H2
  isplitl [Ho]; · iexact Ho
  iintro ⟨Hx, H0, H1, H2, Ho⟩
  iapply Hk
  isplitl [Hx]; · iexact Hx
  isplitl [H0 H1 H2]
  · iexists f0, f1, f2
    isplitl [H0]; · iexact H0
    isplitl [H1]; · iexact H1
    isplitl [H2]; · iexact H2
    ipureintro
    intro _ ha
    exact hP ha
  have e : (if k0_cond2 i (T1 (ValueIdx.ix1 0)) = 1#1 then k0_pay1 x3 f0 f1 f2 else k0_pay2) = blockOut T0 T1 q3 q4 q5 x3 (i 0).val := by
    unfold blockOut
    by_cases ha : Active T1 (i 0).val
    · rw [if_pos ((cond2_iff i T1).mpr ha), if_pos ha]
      obtain ⟨h0, h1, h2⟩ := hP ha
      rw [h0, h1, h2]
    · rw [if_neg (fun h => ha ((cond2_iff i T1).mp h)), if_neg ha]
  rw [← e]
  iexact Ho

/-- The body after the tables are read. -/
theorem tail_wp (c : Dev nD) (i : grid0.Coords) (T0 : S144.Idx → BitVec 32) (T1 : S1.Idx → BitVec 32)
    (v1 v8 : BitVec 32) (e1 : v1 = blkE T0 (i 0).val) (e8 : v8 = blkE T0 ((i 0).val - 1))
    (hw : k0_chk1 i v1 (T1 (ValueIdx.ix1 0)) v8)
    (arg3 : Memref sig .tc .vmem S256x2048 .i32) (harg3 : arg3.IsWhole) (arg7 : Memref sig .tc .vmem S256x4096 .f32) (harg7 : arg7.IsWhole)
    (W : Waits sig Unit)
    (x3 : S256x2048.Idx → BitVec 32) (q3 q4 : S2x16x4096x1024.Idx → F .f32) (q5 : S2x16x1024x4096.Idx → F .f32) (Q : PUnit → sProp 𝕄) :
    iprop(stock c q3 q4 q5 ∗ weights c (After T0 T1 q3 q4 q5 (i 0).val) ∗ owes (c : Thread nD τ) 0 W
      ∗ owns (c : Thread nD τ) arg3 fullShare x3 ∗ (∃ d, owns (c : Thread nD τ) arg7 fullShare d)
      ∗ (iprop(stock c q3 q4 q5 ∗ weights c (After T0 T1 q3 q4 q5 ((i 0).val + 1)) ∗ (∃ W' : Waits sig Unit, owes (c : Thread nD τ) 0 W')
        ∗ owns (c : Thread nD τ) arg3 fullShare x3 ∗ owns (c : Thread nD τ) arg7 fullShare (blockOut T0 T1 q3 q4 q5 x3 (i 0).val)) -∗ Q ⟨⟩))
    ⊢ wp frame (wpE (defs₀ (F := F)) Variants.none c none) Set.univ
      (tail (F := F) i v1 (T1 (ValueIdx.ix1 0)) v8 hw arg3 harg3 arg7 harg7) Q := by
  by_cases h1 : k0_cond1 i v1 (T1 (ValueIdx.ix1 0)) v8 = 1#1
  · rw [tail, dif_pos h1]
    iintro ⟨Hs, Hw, HO, Hx, Ho, Hk⟩
    iapply (load_cps c i v1 (T1 (ValueIdx.ix1 0)) v8 hw h1 arg3 harg3 arg7 harg7 W q3 q4 q5 _ Q)
    isplitl [Hs]; · iexact Hs
    isplitl [Hw]
    · unfold weights
      icases Hw with ⟨%f0, %f1, %f2, H0, H1, H2, -⟩
      iexists f0, f1, f2
      isplitl [H0]; · iexact H0
      isplitl [H1]; · iexact H1
      isplitl [H2]; · iexact H2
      ipureintro; trivial
    isplitl [HO]; · iexact HO
    iintro ⟨Hs, Hw, HO⟩
    iapply (compute_blk c i T0 T1 arg3 harg3 arg7 harg7 x3 q3 q4 q5 Q)
    isplitl [Hx]; · iexact Hx
    isplitl [Hw]
    · unfold weights
      icases Hw with ⟨%f0, %f1, %f2, H0, H1, H2, %hP⟩
      iexists f0, f1, f2
      isplitl [H0]; · iexact H0
      isplitl [H1]; · iexact H1
      isplitl [H2]; · iexact H2
      ipureintro; intro _; rw [← e1]; exact hP
    isplitl [Ho]; · iexact Ho
    iintro ⟨Hx, Hw, Ho⟩
    iapply Hk
    isplitl [Hs]; · iexact Hs
    isplitl [Hw]; · iexact Hw
    isplitl [HO]; · iexact HO
    isplitl [Hx]; · iexact Hx
    iexact Ho
  · rw [tail, dif_neg h1]
    iintro ⟨Hs, Hw, HO, Hx, Ho, Hk⟩
    iapply (compute_blk c i T0 T1 arg3 harg3 arg7 harg7 x3 q3 q4 q5 Q)
    isplitl [Hx]; · iexact Hx
    isplitl [Hw]
    · unfold weights
      icases Hw with ⟨%f0, %f1, %f2, H0, H1, H2, %hP⟩
      iexists f0, f1, f2
      isplitl [H0]; · iexact H0
      isplitl [H1]; · iexact H1
      isplitl [H2]; · iexact H2
      ipureintro
      intro ha
      have hn : ¬((i 0).val = 0 ∨ v1 ≠ v8) := fun h => h1 ((cond1_iff i T1 v1 v8).mpr ⟨ha, h⟩)
      have hpos : 0 < (i 0).val := Nat.pos_of_ne_zero fun h => hn (Or.inl h)
      have hlt : (i 0).val < 144 := (i 0).isLt
      have e : v1 = v8 := by by_contra h; exact hn (Or.inr h)
      rw [← e1, e, e8]
      refine hP hpos (active_of_succ T1 _ (by omega) ?_)
      rw [Nat.sub_add_cancel hpos]; exact ha
    isplitl [Ho]; · iexact Ho
    iintro ⟨Hx, Hw, Ho⟩
    iapply Hk
    isplitl [Hs]; · iexact Hs
    isplitl [Hw]; · iexact Hw
    isplitl [HO]; · iexists W; iexact HO
    isplitl [Hx]; · iexact Hx
    iexact Ho

/-- The whole body: the tables are read, the rest follows. -/
theorem body_wp (c : Dev nD) (i : grid0.Coords) (T0 : S144.Idx → BitVec 32) (T1 : S1.Idx → BitVec 32)
    (hT : Active T1 (i 0).val → (blkE T0 (i 0).val).toNat < 16) (qs : PosShare TreeShare)
    (arg3 : Memref sig .tc .vmem S256x2048 .i32) (harg3 : arg3.IsWhole) (arg7 : Memref sig .tc .vmem S256x4096 .f32) (harg7 : arg7.IsWhole)
    (W : Waits sig Unit)
    (x3 : S256x2048.Idx → BitVec 32) (q3 q4 : S2x16x4096x1024.Idx → F .f32) (q5 : S2x16x1024x4096.Idx → F .f32) :
    iprop(((Memref.whole main_arg0).view.loc (c : Thread nD τ) ↦[Finset.univ]{qs} T0)
      ∗ ((Memref.whole main_arg1).view.loc (c : Thread nD τ) ↦[Finset.univ]{qs} T1)
      ∗ stock c q3 q4 q5 ∗ weights c (After T0 T1 q3 q4 q5 (i 0).val) ∗ owes (c : Thread nD τ) 0 W
      ∗ owns (c : Thread nD τ) arg3 fullShare x3 ∗ (∃ d, owns (c : Thread nD τ) arg7 fullShare d))
    ⊢ wp frame (wpE (defs₀ (F := F)) Variants.none c none) Set.univ
      (cc0_experts (F := F) i (Memref.whole main_arg0) (Memref.isWhole_whole _) (Memref.whole main_arg1) (Memref.isWhole_whole _) arg3 harg3 (Memref.whole main_arg3) (Memref.isWhole_whole _) (Memref.whole main_arg4) (Memref.isWhole_whole _) (Memref.whole main_arg5) (Memref.isWhole_whole _) arg7 harg7 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5)
      (fun _ : PUnit => (iprop(((Memref.whole main_arg0).view.loc (c : Thread nD τ) ↦[Finset.univ]{qs} T0)
      ∗ ((Memref.whole main_arg1).view.loc (c : Thread nD τ) ↦[Finset.univ]{qs} T1)
      ∗ stock c q3 q4 q5 ∗ weights c (After T0 T1 q3 q4 q5 ((i 0).val + 1)) ∗ (∃ W' : Waits sig Unit, owes (c : Thread nD τ) 0 W')
        ∗ owns (c : Thread nD τ) arg3 fullShare x3 ∗ owns (c : Thread nD τ) arg7 fullShare (blockOut T0 T1 q3 q4 q5 x3 (i 0).val)) : sProp 𝕄)) := by
  rw [experts_eq]
  iintro ⟨HT0, HT1, Hs, Hw, HO, Hx, Ho⟩
  sl_exec
  have hlt : (i 0).val < 144 := (i 0).isLt
  have e1 : body_wp.sl.r (F := F) i T0 = blkE T0 (i 0).val := by
    unfold body_wp.sl.r blkE
    refine congrArg T0 (funext fun a => ?_)
    fin_cases a
    apply Fin.ext
    show k0_off1 i 0 + 1 * 0 = (i 0).val % 144
    rw [k0_off1_eq, Nat.mod_eq_of_lt hlt]; rfl
  have e2 : body_wp.sl.r_1 (F := F) T1 = T1 (ValueIdx.ix1 0) := by
    unfold body_wp.sl.r_1
    refine congrArg T1 (funext fun a => ?_)
    fin_cases a
    rfl
  have e8 : body_wp.sl.r_2 (F := F) i T0 = blkE T0 ((i 0).val - 1) := by
    unfold body_wp.sl.r_2 blkE
    refine congrArg T0 (funext fun a => ?_)
    fin_cases a
    apply Fin.ext
    show k0_off2 i 0 + 1 * 0 = ((i 0).val - 1) % 144
    rw [off2_eq, Nat.mod_eq_of_lt (by omega)]; rfl
  have hw : k0_chk1 i (body_wp.sl.r (F := F) i T0) (body_wp.sl.r_1 (F := F) T1) (body_wp.sl.r_2 (F := F) i T0) :=
    chk_of_lt i _ _ _ fun h => by rw [e1]; rw [e2] at h; exact hT ((cond1_iff i T1 _ _).mp h).1
  iapply (wp_assume Variants.none (c : Thread nD τ) none Set.univ hw)
  generalize body_wp.sl.r (F := F) i T0 = v1 at *
  generalize body_wp.sl.r_2 (F := F) i T0 = v8 at *
  generalize body_wp.sl.r_1 (F := F) T1 = v2 at *
  subst e2
  iapply (tail_wp c i T0 T1 v1 v8 e1 e8 hw arg3 harg3 arg7 harg7 W x3 q3 q4 q5 _)
  isplitl [Hs]; · iexact Hs
  isplitl [Hw]; · iexact Hw
  isplitl [HO]; · iexact HO
  isplitl [Hx]; · iexact Hx
  isplitl [Ho]; · iexact Ho
  iintro ⟨Hs, Hw, HO, Hx, Ho⟩
  isplitl [HT0]; · iexact HT0
  isplitl [HT1]; · iexact HT1
  isplitl [Hs]; · iexact Hs
  isplitl [Hw]; · iexact Hw
  isplitl [HO]; · iexact HO
  isplitl [Hx]; · iexact Hx
  iexact Ho

end Cert.Kernel7Ideal.Moe
-- ==== Proof.Moe1.Run.lean ====
/- The experts' kernel's run: the invariant between the grid's points, the data of the pipeline, the run and the frame. -/
module
public import proofs.«01_k».proof.Proof.Moe1.Body
public import Idealize.ShloMosaic.Lib.Claim
@[expose] public section
set_option maxRecDepth 16384
noncomputable section
namespace Cert.Kernel7Ideal.Moe
open Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)
variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

/-- The arrays as launched. -/
abbrev V (c : Dev nD) (b : Ref sig .tc) : Buf (Elt F) ((c.tc : Thread nD τ).loc b) := m ((c.tc : Thread nD τ).loc b)

/-- The tables as launched. -/
abbrev T0 (c : Dev nD) : S144.Idx → BitVec 32 := V m c main_arg0
abbrev T1 (c : Dev nD) : S1.Idx → BitVec 32 := V m c main_arg1

/-- What the precondition says of the tables: at least one row block routed, and every routed block's word an expert's number. -/
structure Routed : Prop where
  blk : ∀ n, n < 144 → Active (T1 m 0) n → (blkE (T0 m 0) n).toNat < 16
  pos : 1 ≤ (T1 m 0 (ValueIdx.ix1 0)).toNat
  le : (T1 m 0 (ValueIdx.ix1 0)).toNat < 2147483648

/-- The tables the pipeline reads. -/
def pf : pre0.Contents (Elt F) := fun k => V m 0 (pre0.ref k)

theorem idx_S1 (j : S1.Idx) : j = ValueIdx.ix1 0 := by
  funext a; fin_cases a; exact Subsingleton.elim (α := Fin 1) _ _

theorem off_le (t : ℕ) (ht : t < 144) (n : BitVec 32) (h1 : 1 ≤ n.toNat) (h2 : n.toNat < 2147483648) :
    (Scalar.minsi (BitVec.ofNat 32 t) (Scalar.subi n 1#32)).toNat = min t (n.toNat - 1) := by
  show (if (BitVec.ofNat 32 t).slt (n - 1#32) then BitVec.ofNat 32 t else n - 1#32).toNat = _
  have e1 : (BitVec.ofNat 32 t).toNat = t := by rw [BitVec.toNat_ofNat]; omega
  have e2 : (n - 1#32).toNat = n.toNat - 1 := by
    rw [BitVec.toNat_sub]; simp only [BitVec.toNat_ofNat]; omega
  have i1 : (BitVec.ofNat 32 t).toInt = t := by rw [BitVec.toInt_eq_toNat_of_lt (by omega), e1]
  have i2 : (n - 1#32).toInt = ((n.toNat - 1 : ℕ) : ℤ) := by rw [BitVec.toInt_eq_toNat_of_lt (by omega), e2]
  rw [BitVec.slt, i1, i2]
  by_cases h : (t : ℤ) < ((n.toNat - 1 : ℕ) : ℤ)
  · rw [decide_eq_true h, if_pos rfl, e1]; omega
  · rw [decide_eq_false h, if_neg (by decide), e2]; omega

/-- The block of rows window 0 stages at a point: the point's own, or the last routed one past the end. -/
theorem transform_0_eq (hr : Routed m) (i : grid0.Coords) :
    cc0_transform_0 inb_S1_S1_0 numel1_S1 (pf m) i = ![min (i 0).val ((T1 m 0 (ValueIdx.ix1 0)).toNat - 1), 0] := by
  have h := off_le (i 0).val (i 0).isLt (T1 m 0 (ValueIdx.ix1 0)) hr.pos hr.le
  have e : (pf m).at 1 (Rect.unit (s := S1) ![0] S1.size inb_S1_S1_0) numel1_S1 = T1 m 0 (ValueIdx.ix1 0) :=
    congrArg (T1 m 0) (idx_S1 _)
  rw [← h, ← e]
  rfl

theorem ok_pf (hr : Routed m) : ok0 (pf m) := fun i => ⟨by
  rw [transform_0_eq m hr i]
  have hi : (i 0).val < 144 := (i 0).isLt
  intro a
  fin_cases a
  · show (min (i 0).val ((T1 m 0 (ValueIdx.ix1 0)).toNat - 1) + 1) * 256 ≤ 36864
    omega
  · show (0 + 1) * 2048 ≤ 2048
    omega, Or.inl rfl⟩

variable (hr : Routed m)

/-- The tables, admissible. -/
def adm (_ : Fin 1) : (pcfg0 (F := F)).Adm := ⟨pf m, ok_pf m hr⟩

/-- Window `w`'s block at point `t`, read off its array as launched. -/
def iblk (c : Dev nD) (w : Fin (cfg0 (adm m hr 0)).W) (t : Fin (cfg0 (adm m hr 0)).N) :
    (((cfg0 (adm m hr 0)).win w).xblock ((cfg0 (adm m hr 0)).grid.coords t)).Idx → Elt F ((cfg0 (adm m hr 0)).win w).elt :=
  (((cfg0 (adm m hr 0)).win w).blk t).view.read (Elt F) (V m c (Pipeline.arrRef spec0 w))

/-- What the core holds between the points, `n` of them run. -/
def Inv (c : Dev nD) (n : ℕ) : sProp 𝕄 :=
  iprop(((Memref.whole main_arg0).view.loc (c : Thread nD τ) ↦[Finset.univ]{fullShare.right} T0 m c) ∗ ((Memref.whole main_arg1).view.loc (c : Thread nD τ) ↦[Finset.univ]{fullShare.right} T1 m c)
    ∗ stock c (V m c main_arg3) (V m c main_arg4) (V m c main_arg5)
    ∗ weights c (After (T0 m c) (T1 m c) (V m c main_arg3) (V m c main_arg4) (V m c main_arg5) n)
    ∗ (∃ r, prngReg c r))

/-- What the block of rows at point `t` gives. -/
abbrev outAt (c : Dev nD) (t : Fin (cfg0 (adm m hr 0)).N) : FVec F S256x4096 .f32 :=
  blockOut (T0 m c) (T1 m c) (V m c main_arg3) (V m c main_arg4) (V m c main_arg5) (iblk m hr c 0 t) t.val

/-- The pipeline's data. -/
def dats (p : Fin 1) (c : Dev nD) : Dat τ (Elt F) Unit ℕ (Pipeline.UD sig nD τ) ℕ (Pipeline.pin (pcfgs (F := F)) (adm m hr) p) c where
  A w := V m c (Pipeline.arrRef spec0 w)
  after w t := match w with
    | ⟨0, _⟩ => iblk m hr c 0 t
    | ⟨1, _⟩ => outAt m hr c t
  Φ t := Inv m c t.val
  q _ := fullShare
  owed _ := 0

theorem A_eq (c : Dev nD) (w : Fin 2) : (dats m hr 0 c).A w = V m c (Pipeline.arrRef spec0 w) := by
  dsimp only [dats]
theorem after_0 (c : Dev nD) (t : Fin (cfg0 (adm m hr 0)).N) : (dats m hr 0 c).after 0 t = iblk m hr c 0 t := rfl
theorem after_1 (c : Dev nD) (t : Fin (cfg0 (adm m hr 0)).N) : (dats m hr 0 c).after 1 t = outAt m hr c t := rfl

theorem before_0 (c : Dev nD) (t : Fin (cfg0 (adm m hr 0)).N) (d) : (dats m hr 0 c).before 0 t d = iblk m hr c 0 t :=
  ((dats m hr 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

theorem coords_val : ∀ t : Fin grid0.N, (grid0.coords t 0).val = t.val := by decide +kernel

/-- What the body is called with at point `t`. -/
def bodyPre (c : Dev nD) (t : Fin (cfg0 (adm m hr 0)).N) : sProp 𝕄 :=
  iprop(Inv m c t.val ∗ (dats m hr 0 c).owesAt () t.castSucc
    ∗ (∃ d, owns (c : Thread nD τ) (((cfg0 (adm m hr 0)).win 0).stage ((cfg0 (adm m hr 0)).slots t 0)) fullShare ((dats m hr 0 c).before 0 t d))
    ∗ (∃ d, owns (c : Thread nD τ) (((cfg0 (adm m hr 0)).win 1).stage ((cfg0 (adm m hr 0)).slots t 1)) fullShare ((dats m hr 0 c).before 1 t d)))

/-- What it returns. -/
def bodyPost (c : Dev nD) (t : Fin (cfg0 (adm m hr 0)).N) : sProp 𝕄 :=
  iprop(Inv m c (t.val + 1) ∗ (dats m hr 0 c).owesAt () t.succ
    ∗ owns (c : Thread nD τ) (((cfg0 (adm m hr 0)).win 0).stage ((cfg0 (adm m hr 0)).slots t 0)) fullShare ((dats m hr 0 c).after 0 t)
    ∗ owns (c : Thread nD τ) (((cfg0 (adm m hr 0)).win 1).stage ((cfg0 (adm m hr 0)).slots t 1)) fullShare ((dats m hr 0 c).after 1 t))

/-- The body at point `t`. -/
abbrev bodyAt (t : Fin grid0.N) (s : (w : Fin 2) → Fin (spec0 w).nbuf) : Prog (TpuEff nD τ sig (Elt F) Λ₀ .tc) PUnit :=
  cc0_experts (F := F) (grid0.coords t) (Memref.whole main_arg0) (Memref.isWhole_whole _) (Memref.whole main_arg1) (Memref.isWhole_whole _) (spec0_0.stage (s 0)) (hstage0_0 ((s 0).cast nbuf0_0)) (Memref.whole main_arg3) (Memref.isWhole_whole _) (Memref.whole main_arg4) (Memref.isWhole_whole _) (Memref.whole main_arg5) (Memref.isWhole_whole _) (spec0_1.stage (s 1)) (hstage0_1 ((s 1).cast nbuf0_1)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5

theorem sound_body (c : Dev nD) (t : Fin (cfg0 (adm m hr 0)).N) :
    bodyPre m hr c t ⊢ wp frame (wpE (defs₀ (F := F)) Variants.none c none) Set.univ
      (bodyAt t ((cfg0 (adm m hr 0)).slots t)) (fun _ => bodyPost m hr c t) := by
  unfold bodyPre bodyPost Inv
  simp only [before_0]
  rw [after_0, after_1]
  iintro ⟨⟨HT0, HT1, Hs, Hw, Hp⟩, HO, ⟨%d0, Hx⟩, ⟨%d1, Ho⟩⟩
  unfold Dat.owesAt Pipeline.owesWithin
  icases HO with ⟨%W, -, HO⟩
  have hT : Active (T1 m c) (grid0.coords t 0).val → (blkE (T0 m c) (grid0.coords t 0).val).toNat < 16 := by
    obtain rfl : c = 0 := Subsingleton.elim _ _
    exact hr.blk _ (grid0.coords t 0).isLt
  have h := body_wp c (grid0.coords t) (T0 m c) (T1 m c) hT fullShare.right (spec0_0.stage ((cfg0 (adm m hr 0)).slots t 0)) (hstage0_0 (((cfg0 (adm m hr 0)).slots t 0).cast nbuf0_0))
    (spec0_1.stage ((cfg0 (adm m hr 0)).slots t 1)) (hstage0_1 (((cfg0 (adm m hr 0)).slots t 1).cast nbuf0_1)) W (iblk m hr c 0 t) (V m c main_arg3) (V m c main_arg4) (V m c main_arg5)
  rw [coords_val t] at h
  ihave Hb := h $$ [HT0 HT1 Hs Hw HO Hx Ho]
  · isplitl [HT0]; · iexact HT0
    isplitl [HT1]; · iexact HT1
    isplitl [Hs]; · iexact Hs
    isplitl [Hw]; · iexact Hw
    isplitl [HO]; · iexact HO
    isplitl [Hx]; · iexact Hx
    iexists _; iexact Ho
  iapply (wp_wand frame (wpE (defs₀ (F := F)) Variants.none c none)) $$ Hb
  iintro %_ ⟨HT0, HT1, Hs, Hw, ⟨%W', HO⟩, Hx, Ho⟩
  isplitl [HT0 HT1 Hs Hw Hp]
  · isplitl [HT0]; · iexact HT0
    isplitl [HT1]; · iexact HT1
    isplitl [Hs]; · iexact Hs
    isplitl [Hw]; · iexact Hw
    iexact Hp
  isplitl [HO]
  · iexists W'
    isplitr
    · ipureintro; exact fun _ _ => Or.inl trivial
    iexact HO
  isplitl [Hx]; · iexact Hx
  iexact Ho

theorem stores (i : grid0.Coords) (w : BitVec 32) : (!(k0_cond2 i w == 1#1) && !(k0_cond3 i w == 1#1)) = false := by
  by_cases h : k0_cond2 i w = 1#1
  · rw [beq_iff_eq.mpr h]; rfl
  · rw [beq_iff_eq.mpr ((cond3_iff _ _).mpr h)]; simp

/-- The output's window is never idle: every point stores its block, a product or zeros. -/
theorem idle_1 (t : Fin (cfg0 (adm m hr 0)).N) : (cfg0 (adm m hr 0)).idle 1 ((cfg0 (adm m hr 0)).grid.coords t) = false :=
  stores _ _

theorem body_obligation (c : Dev nD) :
    BodyObligationLoose (dats (F := F) m hr 0 c) (defs₀ (F := F)) Variants.none () Set.univ := fun t => by
  rw [bigSep_W0, bigSep_W0]
  refine triple_restated (sound_body m hr c t) ?_ ?_ fun _ => ?_
  · unfold defs₀; rw [Defs.onTc_tc]
  · exact .rfl
  · unfold bodyPost
    refine sep_mono .rfl (sep_mono .rfl (sep_mono .rfl ?_))
    rw [idle_1]
    exact .rfl

/-- The kernel's own transfer cells. -/
abbrev osem : Fin 3 → SemLoc sig := ![SemLoc.dma ((cc0_scratch5.slice (Rect.unit (s := S3) ![0] S1.size inb_S3_S1_0)).squeeze S_ squeezes_S1_S_).sem, SemLoc.dma ((cc0_scratch5.slice (Rect.unit (s := S3) ![1] S1.size inb_S3_S1_1)).squeeze S_ squeezes_S1_S_).sem, SemLoc.dma ((cc0_scratch5.slice (Rect.unit (s := S3) ![2] S1.size inb_S3_S1_2)).squeeze S_ squeezes_S1_S_).sem]

theorem osem_facts : Pipeline.OwnSemFacts spec0 osem := by decide

theorem ownSems (c : Dev nD) : (Pipeline.ownSems0 osem c : sProp 𝕄) = iprop(semVal ((c.tc : Thread nD τ), osem 0) 0 ∗ semVal ((c.tc : Thread nD τ), osem 1) 0 ∗ semVal ((c.tc : Thread nD τ), osem 2) 0) :=
  Pipeline.ownSems0_eq_of_list c osem [0, 1, 2] (by decide) (by decide)

theorem tables (c : Dev nD) : (Pipeline.prefHeld pre0 c (fun _ => fullShare.right) (pf m) : sProp 𝕄)
    = iprop((((c.tc : Thread nD τ).loc (pre0.ref 0)) ↦{fullShare.right} pf m 0) ∗ (((c.tc : Thread nD τ).loc (pre0.ref 1)) ↦{fullShare.right} pf m 1)) :=
  bigSep_univ_eq_bigSepL [(0 : Fin 2), (1 : Fin 2)] (by decide) (by decide) _

theorem rest (c : Dev nD) : bigSep (Pipeline.restRefsP sig pre0 spec0) (fun b => ((c.tc : Thread nD τ).loc b) ↦{fullShare} V m c b)
    = (iprop((((c : Thread nD τ).loc main_arg3) ↦{fullShare} V m c main_arg3) ∗ (((c : Thread nD τ).loc main_arg4) ↦{fullShare} V m c main_arg4)
      ∗ (((c : Thread nD τ).loc main_arg5) ↦{fullShare} V m c main_arg5)) : sProp 𝕄) :=
  unscopedRestP0_eq c (V m c)

theorem inv_in (c : Dev nD) : iprop(Pipeline.ΦD osem spec0 (Pipeline.restRefsP sig pre0 spec0) (V m) c ∗ Pipeline.ΦT pre0 (pf m) c) ⊢ Inv m c 0 := by
  obtain rfl : c = 0 := Subsingleton.elim _ _
  rw [Pipeline.ΦD_eq, scopedRest0_eq, ownSems, rest, show Pipeline.ΦT pre0 (pf m) 0 = _ from tables m 0]
  unfold Inv stock weights
  iintro ⟨⟨⟨⟨%f0, H0⟩, ⟨%f1, H1⟩, ⟨%f2, H2⟩, ⟨%f3, H3⟩, ⟨%f4, H4⟩⟩, Hp, ⟨Hd0, Hd1, Hd2⟩, ⟨Ha3, Ha4, Ha5⟩⟩, ⟨HT0, HT1⟩⟩
  isplitl [HT0]; · iexact HT0
  isplitl [HT1]; · iexact HT1
  isplitl [H3 H4 Ha3 Ha4 Ha5 Hd0 Hd1 Hd2]
  · isplitl [H3]; · iexists f3; iexact H3
    isplitl [H4]; · iexists f4; iexact H4
    isplitl [Ha3]; · iexact Ha3
    isplitl [Ha4]; · iexact Ha4
    isplitl [Ha5]; · iexact Ha5
    isplitl [Hd0]; · iexact Hd0
    isplitl [Hd1]; · iexact Hd1
    iexact Hd2
  isplitl [H0 H1 H2]
  · iexists f0, f1, f2
    isplitl [H0]; · iexact H0
    isplitl [H1]; · iexact H1
    isplitl [H2]; · iexact H2
    ipureintro; exact fun h => absurd h (Nat.lt_irrefl 0)
  iexact Hp

theorem inv_out (c : Dev nD) (n : ℕ) : Inv m c n ⊢ Pipeline.ΦD osem spec0 (Pipeline.restRefsP sig pre0 spec0) (V m) c := by
  rw [Pipeline.ΦD_eq, scopedRest0_eq, ownSems, rest]
  unfold Inv stock weights
  iintro ⟨-, -, ⟨⟨%f3, H3⟩, ⟨%f4, H4⟩, Ha3, Ha4, Ha5, Hd0, Hd1, Hd2⟩, ⟨%f0, %f1, %f2, H0, H1, H2, -⟩, Hp⟩
  isplitl [H0 H1 H2 H3 H4]
  · isplitl [H0]; · iexists f0; iexact H0
    isplitl [H1]; · iexists f1; iexact H1
    isplitl [H2]; · iexists f2; iexact H2
    isplitl [H3]; · iexists f3; iexact H3
    iexists f4; iexact H4
  isplitl [Hp]; · iexact Hp
  isplitl [Hd0 Hd1 Hd2]
  · isplitl [Hd0]; · iexact Hd0
    isplitl [Hd1]; · iexact Hd1
    iexact Hd2
  isplitl [Ha3]; · iexact Ha3
  isplitl [Ha4]; · iexact Ha4
  iexact Ha5

set_option backward.isDefEq.respectTransparency.types false in
set_option maxHeartbeats 800000 in
/-- The run: every array of the pipeline ends at what the data say, and every semaphore counter at zero. -/
theorem run_quiescent : θ_run defs (onTc (τ := τ) (main (F := F))) (s₀ m ρ)
    (fun r => (Pipeline.FramePost (Pipeline.pin (pcfgs (F := F)) (adm m hr)) (dats m hr) 0 (V m)) r ∧ r.2.sem = fun _ => 0) :=
  Pipeline.θ_run_frameP_dma (Q' := _) (pcfgs (F := F)) (adm m hr) (dats m hr) (0 : Fin 1) launch0 osem defs₀ Variants.none
    osem_facts (Pipeline.restRefsP sig pre0 spec0) (Finset.Subset.refl _) m ρ main
    (hbody := fun c => body_obligation m hr c) (hshare := fun c w => by unfold Dat.share; split <;> rfl)
    (howed := fun _ _ => rfl) (V := V m) (hmain := Pipeline.hmainP_region pcfgs 0 defs₀ Variants.none m main fun _ => rfl)
    (hA := fun c w => A_eq m hr c w)
    (hpf := fun c k => by obtain rfl : c = 0 := Subsingleton.elim _ _; rfl)
    (hin := fun c => inv_in m c) (hout := fun c => inv_out m c _)

/-- The run without the counters. -/
theorem run_main : θ_run defs (onTc (τ := τ) (main (F := F))) (s₀ m ρ)
    (Pipeline.FramePost (Pipeline.pin (pcfgs (F := F)) (adm m hr)) (dats m hr) 0 (V m)) :=
  (θ_run defs _ _).mono (fun _ h => h.1) (run_quiescent m ρ hr)

include hr in
/-- The frame, at any values. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨
      (h.1 c).2 main_arg0 (show main_arg0 ∈ Pipeline.restRefs sig spec0 from Pipeline.mem_restRefs_of main_arg0 (by decide) (by decide)),
      (h.1 c).2 main_arg1 (show main_arg1 ∈ Pipeline.restRefs sig spec0 from Pipeline.mem_restRefs_of main_arg1 (by decide) (by decide)),
      ((h.1 c).1 0).trans (((dats m hr 0 c).arrAt_in 0 rfl _).trans (A_eq m hr c 0)),
      (h.1 c).2 main_arg3 (show main_arg3 ∈ Pipeline.restRefs sig spec0 from Pipeline.mem_restRefs_of main_arg3 (by decide) (by decide)),
      (h.1 c).2 main_arg4 (show main_arg4 ∈ Pipeline.restRefs sig spec0 from Pipeline.mem_restRefs_of main_arg4 (by decide) (by decide)),
      (h.1 c).2 main_arg5 (show main_arg5 ∈ Pipeline.restRefs sig spec0 from Pipeline.mem_restRefs_of main_arg5 (by decide) (by decide))⟩, h.2⟩) (run_quiescent m ρ hr)

end Cert.Kernel7Ideal.Moe
-- ==== Proof.Moe1.Claims.lean ====
/- The experts' frames: the kernel's, its idealization's and the reference's, under the precondition on the tables. -/
module

public import proofs.«01_k».proof.Defs
public import proofs.«01_k».proof.Proof.Moe1.Run
public import proofs.«01_k».proof.Proof.Moe.Claims
public import proofs.«01_k».proof.Proof.Gen.Kernel7
public import proofs.«01_k».proof.Proof.Gen.Pre_routed
public import proofs.«01_k».proof.Proof.Gen.Reference7Ideal.Run
public import Idealize.ShloMosaic.Lib.Claim
public import Idealize.ShloMosaic.Lib.ReduceAll
public import Idealize.ShloMosaic.Lib.StableHlo.RunHlo

@[expose] public section

set_option maxRecDepth 16384

noncomputable section

namespace Cert.Kernel7Ideal.Moe

open Cert.Kernel6Ideal.Moe (word_range ge_one second_of_lt toNat_of_range)
open Idealize.ShloMosaic Idealize.SL.Sem

/-! ## The precondition, read -/

theorem routed_read {F : FTy → Type} [FloatOps F] (t0 : IVec Cert.Pre_routed.S144 32) (t1 : IVec Cert.Pre_routed.S1 32)
    (a2 a3 a4 a5) (h : Cert.Pre_routed.fn (F := F) t0 t1 a2 a3 a4 a5 = fun _ => 1#1) :
    (∀ n, n < 144 → Active t1 n → (blkE t0 n).toNat < 16) ∧ 1 ≤ (t1 (ValueIdx.ix1 0)).toNat ∧ (t1 (ValueIdx.ix1 0)).toNat < 2147483648 := by
  haveI : Subsingleton Cert.Pre_routed.S_.Idx := ⟨fun a b => funext fun i => i.elim0⟩
  have e := IntOp.andi_eq_one.mp (congrFun h ValueIdx.ix0)
  have e0 : ∀ n : Fin 144, IntOp.ori (Scalar.cmpi .sge (BitVec.ofNat 32 n.val) (t1 (ValueIdx.ix1 0)))
      (IntOp.andi (Scalar.cmpi .sge (t0 (ValueIdx.ix1 n)) 0#32) (Scalar.cmpi .slt (t0 (ValueIdx.ix1 n)) 16#32)) = 1#1 := fun n => by
    have k := Host.reduce_andi_all _ _ _ _ _ e.1 (ValueIdx.ix1 n)
    rw [show t1 (ValueIdx.ix1 0) = shapeCast Cert.Pre_routed.S_ t1 Cert.Pre_routed.Facts.shapeCasts_S1_S_ ValueIdx.ix0 from
      congrArg t1 (idx_S1 _).symm]
    exact k
  have e1 : Scalar.cmpi .sge (t1 (ValueIdx.ix1 0)) 1#32 = 1#1 := Host.reduce_andi_all _ _ _ _ _ e.2 _
  have r1 := ge_one _ e1
  have r2 := toNat_of_range (t1 (ValueIdx.ix1 0)) (by omega)
  refine ⟨fun n hn ha => ?_, by omega, by have := (t1 (ValueIdx.ix1 0)).toInt_lt; omega⟩
  have hb : blkE t0 n = t0 (ValueIdx.ix1 ⟨n, hn⟩) :=
    congrArg t0 (congrArg ValueIdx.ix1 (Fin.ext (Nat.mod_eq_of_lt hn)))
  rw [hb]
  have r := word_range _ _ _ (second_of_lt _ _ _ ha (e0 ⟨n, hn⟩))
  have r0 : (0 : ℤ) ≤ (t0 (ValueIdx.ix1 ⟨n, hn⟩)).toInt := r.1
  have r3 : (t0 (ValueIdx.ix1 ⟨n, hn⟩)).toInt < 16 := r.2
  have := toNat_of_range _ r0
  omega

theorem routed_ideal (m : (ℓ : Loc nD τ sig) → Buf (Elt Ideal) ℓ) (h : Cert.Pre_Kernel7Ideal m) : Routed (F := Ideal) m := by
  have r := routed_read _ _ _ _ _ _ (h 0)
  exact ⟨r.1, r.2.1, r.2.2⟩

theorem routed_bits (m : (ℓ : Loc nD τ sig) → Buf (Elt Bits) ℓ) (h : Cert.Pre_Kernel7 m) : Routed (F := Bits) m := by
  have r := routed_read _ _ _ _ _ _ (h 0)
  exact ⟨r.1, r.2.1, r.2.2⟩

/-! ## The frames -/

/-- The program as printed and its idealization have one table of bodies. -/
theorem bodies_eq : Cert.Kernel7.defs₀ (F := Bits) = Cert.Kernel7Ideal.defs₀ (F := Bits) := by
  unfold Cert.Kernel7.defs₀ Cert.Kernel7Ideal.defs₀
  refine congrArg Defs.onTc ?_
  funext a b
  match a, b with
  | 0, (t, s) =>
    show Cert.Kernel7.cc0_experts _ _ _ _ _ _ _ _ _ _ _ _ _ _ _ _ _ _ _ _ _ _ _ _ _ _ = Cert.Kernel7Ideal.cc0_experts _ _ _ _ _ _ _ _ _ _ _ _ _ _ _ _ _ _ _ _ _ _ _ _ _ _
    rfl

theorem defs_eq : Cert.Kernel7.defs (F := Bits) = Cert.Kernel7Ideal.defs (F := Bits) :=
  congrArg (Pipeline.defs Cert.Kernel7.pcfgs) bodies_eq

theorem frame_kernel : Cert.quiescent_Kernel7 := fun m ρ h =>
  Eq.mpr (congrArg (fun d => θ_run d (onTc (τ := Cert.Kernel7.τ) (Cert.Kernel7.main (F := Bits))) ⟨m, fun _ => 0, ρ⟩ _) defs_eq)
    (frame_any (F := Bits) m ρ (routed_bits m h))

theorem frame_ideal : Cert.quiescent_Kernel7Ideal := fun m ρ h => frame_any (F := Ideal) m ρ (routed_ideal m h)

theorem frame_reference : Cert.quiescent_Reference7Ideal := by
  intro m ρ _
  exact (θ_run Cert.Reference7Ideal.defs _ _).mono (fun r h => ⟨fun c => (h c).2, sem_eq_zero_of_no_sems (by decide) r.2⟩)
    (Cert.Reference7Ideal.Value.run m ρ)

theorem frame_reference_pre : Cert.quiescent_Reference7Ideal_pre_routed := by
  intro m ρ _
  exact (θ_run Cert.Reference7Ideal.defs _ _).mono (fun r h => ⟨fun c => (h c).2, sem_eq_zero_of_no_sems (by decide) r.2⟩)
    (Cert.Reference7Ideal.Value.run m ρ)

end Cert.Kernel7Ideal.Moe

end
-- ==== Proof.Moe1.RefRead.lean ====
/- The reference of the second layer's experts, read at an element. -/
module

public import proofs.«01_k».proof.Defs
public import proofs.«01_k».proof.Proof.Moe.RefRead
public import proofs.«01_k».proof.Proof.Gen.Reference7Ideal.Run
public import Idealize.ShloMosaic.Lib.Claim
public import Idealize.ShloMosaic.Lib.Pointwise

@[expose] public section

set_option maxRecDepth 16384

noncomputable section

namespace Cert.Proof.Experts1

open Cert.Proof.Experts (expertOf clamp_expert not_neg unpacked against through)
open Cert.Reference7Ideal Cert.Reference7Ideal.Gen Idealize.ShloMosaic Idealize.ShloMosaic.TcCoe Idealize.SL.Sem

theorem clamp_one : min ((1#32 : BitVec 32).toInt.toNat) (2 - 1) + 0 + 0 = 1 := by decide

theorem gather_up {α : Type} (x : S2x16x4096x1024.Idx → α) (idx : IVec S144x2 32) (n : Fin 144) (k : Fin 4096) (i : Fin 1024)
    (h0 : idx (ix2 n 0) = 1#32) (h1 : (idx (ix2 n 1)).toNat < 16) :
    Host.gather gather_S2x16x4096x1024_S144x2_S144x4096x1024_12_01_n_n_01_1_1140961024 x idx (ix3 n k i)
      = x (ix4 1 (expertOf (idx (ix2 n 1))) k i) := by
  have s0 : gather_S2x16x4096x1024_S144x2_S144x4096x1024_12_01_n_n_01_1_1140961024.siIdx (ix3 n k i) ⟨0, by decide⟩ = ix2 n 0 := by
    funext a; match a with | ⟨0, _⟩ => rfl | ⟨1, _⟩ => rfl
  have s1 : gather_S2x16x4096x1024_S144x2_S144x4096x1024_12_01_n_n_01_1_1140961024.siIdx (ix3 n k i) ⟨1, by decide⟩ = ix2 n 1 := by
    funext a; match a with | ⟨0, _⟩ => rfl | ⟨1, _⟩ => rfl
  refine congrArg x ?_
  funext a
  apply Fin.ext
  match a with
  | ⟨0, _⟩ =>
    show min ((idx (gather_S2x16x4096x1024_S144x2_S144x4096x1024_12_01_n_n_01_1_1140961024.siIdx (ix3 n k i) ⟨0, _⟩)).toInt.toNat) (2 - 1) + 0 + 0 = 1
    rw [s0, h0]
    exact clamp_one
  | ⟨1, _⟩ =>
    show min ((idx (gather_S2x16x4096x1024_S144x2_S144x4096x1024_12_01_n_n_01_1_1140961024.siIdx (ix3 n k i) ⟨1, _⟩)).toInt.toNat) (16 - 1) + 0 + 0 = _
    rw [s1]
    exact clamp_expert _ h1
  | ⟨2, _⟩ => show 0 + 0 + k.val = k.val; omega
  | ⟨3, _⟩ => show 0 + 0 + i.val = i.val; omega

theorem gather_down {α : Type} (x : S2x16x1024x4096.Idx → α) (idx : IVec S144x2 32) (n : Fin 144) (k : Fin 1024) (i : Fin 4096)
    (h0 : idx (ix2 n 0) = 1#32) (h1 : (idx (ix2 n 1)).toNat < 16) :
    Host.gather gather_S2x16x1024x4096_S144x2_S144x1024x4096_12_01_n_n_01_1_1110244096 x idx (ix3 n k i)
      = x (ix4 1 (expertOf (idx (ix2 n 1))) k i) := by
  have s0 : gather_S2x16x1024x4096_S144x2_S144x1024x4096_12_01_n_n_01_1_1110244096.siIdx (ix3 n k i) ⟨0, by decide⟩ = ix2 n 0 := by
    funext a; match a with | ⟨0, _⟩ => rfl | ⟨1, _⟩ => rfl
  have s1 : gather_S2x16x1024x4096_S144x2_S144x1024x4096_12_01_n_n_01_1_1110244096.siIdx (ix3 n k i) ⟨1, by decide⟩ = ix2 n 1 := by
    funext a; match a with | ⟨0, _⟩ => rfl | ⟨1, _⟩ => rfl
  refine congrArg x ?_
  funext a
  apply Fin.ext
  match a with
  | ⟨0, _⟩ =>
    show min ((idx (gather_S2x16x1024x4096_S144x2_S144x1024x4096_12_01_n_n_01_1_1110244096.siIdx (ix3 n k i) ⟨0, _⟩)).toInt.toNat) (2 - 1) + 0 + 0 = 1
    rw [s0, h0]
    exact clamp_one
  | ⟨1, _⟩ =>
    show min ((idx (gather_S2x16x1024x4096_S144x2_S144x1024x4096_12_01_n_n_01_1_1110244096.siIdx (ix3 n k i) ⟨1, _⟩)).toInt.toNat) (16 - 1) + 0 + 0 = _
    rw [s1]
    exact clamp_expert _ h1
  | ⟨2, _⟩ => show 0 + 0 + k.val = k.val; omega
  | ⟨3, _⟩ => show 0 + 0 + i.val = i.val; omega

/-- The table of starts the three gathers read: the layer, and the expert of the block. -/
def starts (a0 : IVec S144 32) : IVec S144x2 32 :=
  concatenate S144x2 1 [⟨S144x1, (broadcastInDim S144x1 ![0] bcast_S144_S144x1_0 (id (broadcastInDim S144 ![] bcast_S_S144 (constantI S_ 32 1#32))))⟩, ⟨S144x1, (broadcastInDim S144x1 ![0] bcast_S144_S144x1_0 (select (cmpi .slt a0 (broadcastInDim S144 ![] bcast_S_S144 (constantI S_ 32 0#32))) (addi a0 (broadcastInDim S144 ![] bcast_S_S144 (constantI S_ 32 16#32))) a0))⟩] concatenates_S144x1_S144x1_S144x2_d1

theorem starts_0 (a0 : IVec S144 32) (n : Fin 144) : starts a0 (ix2 n 0) = 1#32 := by
  pointwise [starts]
  rfl

theorem starts_1 (a0 : IVec S144 32) (n : Fin 144) (h : (a0 (ix1 n)).toNat < 16) : starts a0 (ix2 n 1) = a0 (ix1 n) := by
  have e : IntOp.cmpi CmpIPredicate.slt (a0 (ix1 n)) 0#32 = 0#1 := not_neg _ h
  pointwise [starts]
  rw [e]
  rfl

/-- The rows, unpacked: the low halves of the words in the first 2048 columns, the high halves in the rest. -/
def rows (a2 : IVec S36864x2048 32) : FVec Ideal S144x256x4096 .f32 :=
  shapeCast _ (concatenate S36864x4096 1 [⟨S36864x2048, (bitcastToFloat (F := Ideal) .f32 (Host.shli a2 (broadcastInDim S36864x2048 ![] bcast_S_S36864x2048 (constantI S_ 32 16#32))))⟩, ⟨S36864x2048, (bitcastToFloat (F := Ideal) .f32 (andi a2 (broadcastInDim S36864x2048 ![] bcast_S_S36864x2048 (constantI S_ 32 4294901760#32))))⟩] concatenates_S36864x2048_S36864x2048_S36864x4096_d1) shapeCasts_S36864x4096_S144x256x4096

/-- The rows through the gathered matrices, row block by row block. -/
def blocks (x : FVec Ideal S144x256x4096 .f32) (g3 g4 : FVec Ideal S144x4096x1024 .f32) (g5 : FVec Ideal S144x1024x4096 .f32) : FVec Ideal S144x256x4096 .f32 :=
  Host.dotGeneral dot_S144x256x1024_S144x1024x4096_S144x256x4096_2_1_1_2_0_0 none (mulf (mulf (Host.dotGeneral dot_S144x256x4096_S144x4096x1024_S144x256x1024_2_1_1_2_0_0 none x g3) (Host.divf (broadcastInDim S144x256x1024 ![] bcast_S_S144x256x1024 (constant S_ .f32 0x3F800000#32)) (addf (broadcastInDim S144x256x1024 ![] bcast_S_S144x256x1024 (constant S_ .f32 0x3F800000#32)) (Host.exp (Host.negf (Host.dotGeneral dot_S144x256x4096_S144x4096x1024_S144x256x1024_2_1_1_2_0_0 none x g3)))))) (Host.dotGeneral dot_S144x256x4096_S144x4096x1024_S144x256x1024_2_1_1_2_0_0 none x g4)) g5

/-- The reference's term over the arguments. -/
def REF (a0 : IVec S144 32) (a1 : IVec S1 32) (a2 : IVec S36864x2048 32) (a3 a4 : FVec Ideal S2x16x4096x1024 .f32) (a5 : FVec Ideal S2x16x1024x4096 .f32) : FVec Ideal S36864x4096 .f32 :=
  shapeCast _ (select (broadcastInDim S144x256x4096 ![0, 1, 2] bcast_S144x1x1_S144x256x4096_0_1_2 (cmpi .slt (broadcastInDim S144x1x1 ![0] bcast_S144_S144x1x1_0 (iotaInDim S144 32 0)) (broadcastInDim S144x1x1 ![] bcast_S_S144x1x1 (shapeCast _ a1 shapeCasts_S1_S_))))
    (blocks (rows a2) (Host.gather gather_S2x16x4096x1024_S144x2_S144x4096x1024_12_01_n_n_01_1_1140961024 a3 (starts a0)) (Host.gather gather_S2x16x4096x1024_S144x2_S144x4096x1024_12_01_n_n_01_1_1140961024 a4 (starts a0)) (Host.gather gather_S2x16x1024x4096_S144x2_S144x1024x4096_12_01_n_n_01_1_1110244096 a5 (starts a0)))
    (broadcastInDim S144x256x4096 ![] bcast_S_S144x256x4096 (id (constant S_ .f32 0x00000000#32)))) shapeCasts_S144x256x4096_S36864x4096

/-- The experts' result: every row of a block in use through the block's expert, zero in the blocks past the last. -/
def out (a0 : IVec S144 32) (a1 : IVec S1 32) (a2 : IVec S36864x2048 32) (a3 a4 : FVec Ideal S2x16x4096x1024 .f32) (a5 : FVec Ideal S2x16x1024x4096 .f32)
    (r : Fin 36864) (j : Fin 4096) : EReal :=
  Scalar.select (IntOp.cmpi CmpIPredicate.slt (BitVec.ofNat 32 (r.val / 256)) (a1 (ix1 0)))
    (through (unpacked fun k => a2 (ix2 r k)) (fun k i => a3 (ix4 1 (expertOf (a0 (ix1 ⟨r.val / 256, by omega⟩))) k i))
      (fun k i => a4 (ix4 1 (expertOf (a0 (ix1 ⟨r.val / 256, by omega⟩))) k i)) (fun i j => a5 (ix4 1 (expertOf (a0 (ix1 ⟨r.val / 256, by omega⟩))) i j)) j) 0

theorem rows_at (a2 : IVec S36864x2048 32) (r : Fin 36864) (k : Fin 4096) (n : Fin 144) (q : Fin 256) (h : n.val * 256 + q.val = r.val) :
    rows a2 (ix3 n q k) = unpacked (fun k => a2 (ix2 r k)) k := by
  obtain ⟨r, hr⟩ := r
  dsimp only at h
  subst h
  pointwise [rows, unpacked]

theorem blocks_at (x : FVec Ideal S144x256x4096 .f32) (g3 g4 : FVec Ideal S144x4096x1024 .f32) (g5 : FVec Ideal S144x1024x4096 .f32) (n : Fin 144) (q : Fin 256) (j : Fin 4096) :
    blocks x g3 g4 g5 (ix3 n q j) = through (fun k => x (ix3 n q k)) (fun k i => g3 (ix3 n k i)) (fun k i => g4 (ix3 n k i)) (fun i j => g5 (ix3 n i j)) j := by
  pointwise [blocks, through, against]

theorem ref_at (a0 : IVec S144 32) (a1 : IVec S1 32) (a2 : IVec S36864x2048 32) (a3 a4 : FVec Ideal S2x16x4096x1024 .f32) (a5 : FVec Ideal S2x16x1024x4096 .f32)
    (r : Fin 36864) (j : Fin 4096)
    (h : IntOp.cmpi CmpIPredicate.slt (BitVec.ofNat 32 (r.val / 256)) (a1 (ix1 0)) = 1#1 → (a0 (ix1 ⟨r.val / 256, by omega⟩)).toNat < 16) :
    REF a0 a1 a2 a3 a4 a5 (ix2 r j) = out a0 a1 a2 a3 a4 a5 r j := by
  pointwise [REF]
  rw [blocks_at]
  unfold out
  have z : (0 : EReal) = Ideal.ofBits .f32 0#32 := by pointwise
  by_cases ha : IntOp.cmpi CmpIPredicate.slt (BitVec.ofNat 32 (r.val / 256)) (a1 (ix1 0)) = 1#1
  swap
  · exact (if_neg ha).trans (z.symm.trans (if_neg ha).symm)
  have hs : starts a0 (ix2 ⟨r.val / 256, by omega⟩ 1) = a0 (ix1 ⟨r.val / 256, by omega⟩) := starts_1 a0 _ (h ha)
  have hl : (starts a0 (ix2 ⟨r.val / 256, by omega⟩ 1)).toNat < 16 := by rw [hs]; exact h ha
  have ex : (fun k => rows a2 (ix3 ⟨r.val / 256, by omega⟩ ⟨r.val % 256, by omega⟩ k)) = unpacked fun k => a2 (ix2 r k) :=
    funext fun k => rows_at a2 r k _ _ (by dsimp only; omega)
  have e3 : (fun k i => Host.gather gather_S2x16x4096x1024_S144x2_S144x4096x1024_12_01_n_n_01_1_1140961024 a3 (starts a0) (ix3 ⟨r.val / 256, by omega⟩ k i))
      = fun k i => a3 (ix4 1 (expertOf (a0 (ix1 ⟨r.val / 256, by omega⟩))) k i) := by
    funext k i; rw [gather_up _ _ _ _ _ (starts_0 a0 _) hl, hs]
  have e4 : (fun k i => Host.gather gather_S2x16x4096x1024_S144x2_S144x4096x1024_12_01_n_n_01_1_1140961024 a4 (starts a0) (ix3 ⟨r.val / 256, by omega⟩ k i))
      = fun k i => a4 (ix4 1 (expertOf (a0 (ix1 ⟨r.val / 256, by omega⟩))) k i) := by
    funext k i; rw [gather_up _ _ _ _ _ (starts_0 a0 _) hl, hs]
  have e5 : (fun i j => Host.gather gather_S2x16x1024x4096_S144x2_S144x1024x4096_12_01_n_n_01_1_1110244096 a5 (starts a0) (ix3 ⟨r.val / 256, by omega⟩ i j))
      = fun i j => a5 (ix4 1 (expertOf (a0 (ix1 ⟨r.val / 256, by omega⟩))) i j) := by
    funext k i; rw [gather_down _ _ _ _ _ (starts_0 a0 _) hl, hs]
  rw [ex, e3, e4, e5]
  exact congrArg (Scalar.select _ _) z.symm

theorem REF_eq (m : (ℓ : Loc nD τ sig) → Buf (Elt Ideal) ℓ) (c : Dev nD) : Cert.Reference7Ideal.Value.res_main_v52 m c
    = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := rfl

end Cert.Proof.Experts1

end
-- ==== Proof.Moe1.Pay.lean ====
/- What one point of the experts' kernel computes, read at an element. -/
module

public import proofs.«01_k».proof.Proof.Moe1.RefRead
public import proofs.«01_k».proof.Proof.Moe1.Body

@[expose] public section

set_option maxRecDepth 16384

noncomputable section

namespace Cert.Proof.Experts1

open Cert.Proof.Experts (expertOf unpacked against through)
open Cert.Kernel7Ideal Cert.Kernel7Ideal.Gen Idealize.ShloMosaic Idealize.ShloMosaic.TcCoe Idealize.SL.Sem

/-- The block of rows, unpacked. -/
def cols (x3 : IVec S256x2048 32) : FVec Ideal S256x4096 .bf16 :=
  concatenate S256x4096 1 [⟨S256x2048, (truncf .bf16 (bitcastToFloat .f32 (shli x3 (broadcast S256x2048 16#32)) : FVec Ideal S256x2048 .f32) bitsLt_bf16_f32 : FVec Ideal S256x2048 .bf16)⟩, ⟨S256x2048, (truncf .bf16 (bitcastToFloat .f32 (andi x3 (broadcast S256x2048 4294901760#32)) : FVec Ideal S256x2048 .f32) bitsLt_bf16_f32 : FVec Ideal S256x2048 .bf16)⟩] concatenates_S256x2048_S256x2048_S256x4096_d1

/-- The unpacked block through the matrices. -/
def gated (x : FVec Ideal S256x4096 .bf16) (u v : FVec Ideal S4096x1024 .bf16) (d : FVec Ideal S1024x4096 .bf16) : FVec Ideal S256x4096 .f32 :=
  matmul dot_S256x1024_S1024x4096_S256x4096_1_0_0_1_n_n none (truncf .bf16 (mulf (mulf (matmul dot_S256x4096_S4096x1024_S256x1024_1_0_0_1_n_n none x u (constant S256x1024 .f32 0x00000000#32)) (logistic (matmul dot_S256x4096_S4096x1024_S256x1024_1_0_0_1_n_n none x u (constant S256x1024 .f32 0x00000000#32)))) (matmul dot_S256x4096_S4096x1024_S256x1024_1_0_0_1_n_n none x v (constant S256x1024 .f32 0x00000000#32))) bitsLt_bf16_f32) d (constant S256x4096 .f32 0x00000000#32)

theorem pay_eq (x3 : IVec S256x2048 32) (u v : FVec Ideal S4096x1024 .bf16) (d : FVec Ideal S1024x4096 .bf16) :
    k0_pay1 (F := Ideal) x3 u v d = gated (cols x3) u v d := rfl

theorem shl_eq (w : BitVec 32) : IntOp.shli .vector w 16#32 = IntOp.shli .host w 16#32 := rfl

theorem cols_at (x3 : IVec S256x2048 32) (q : Fin 256) (k : Fin 4096) : cols x3 (ix2 q k) = unpacked (fun k => x3 (ix2 q k)) k := by
  pointwise [cols, unpacked, shl_eq]

theorem gated_at (x : FVec Ideal S256x4096 .bf16) (u v : FVec Ideal S4096x1024 .bf16) (d : FVec Ideal S1024x4096 .bf16) (q : Fin 256) (j : Fin 4096) :
    gated x u v d (ix2 q j) = through (fun k => x (ix2 q k)) (fun k i => u (ix2 k i)) (fun k i => v (ix2 k i)) (fun i j => d (ix2 i j)) j := by
  pointwise [gated, through, against]
  rfl

theorem pay_at (x3 : IVec S256x2048 32) (u v : FVec Ideal S4096x1024 .bf16) (d : FVec Ideal S1024x4096 .bf16) (q : Fin 256) (j : Fin 4096) :
    k0_pay1 (F := Ideal) x3 u v d (ix2 q j)
      = through (unpacked fun k => x3 (ix2 q k)) (fun k i => u (ix2 k i)) (fun k i => v (ix2 k i)) (fun i j => d (ix2 i j)) j := by
  rw [pay_eq, gated_at]
  refine congrArg (fun x => through x _ _ _ j) ?_
  exact funext fun k => cols_at x3 q k

theorem zeros_at (q : Fin 256) (j : Fin 4096) : (k0_pay2 (F := Ideal)) (ix2 q j) = 0 := by
  pointwise [k0_pay2]

end Cert.Proof.Experts1

end
-- ==== Proof.Moe1.Value.lean ====
/- The experts' result: the array the kernel leaves is the one function of the arguments the reference computes. -/
module

public import proofs.«01_k».proof.Proof.Moe1.Pay
public import proofs.«01_k».proof.Proof.Moe.Value
public import proofs.«01_k».proof.Proof.Moe1.Claims
public import Idealize.ShloMosaic.Lib.Pipeline.ValueKit

@[expose] public section

set_option maxRecDepth 16384

noncomputable section

namespace Cert.Proof.Experts1

open Cert.Proof.Experts (expertOf unpacked against through active_lt)
open Cert.Kernel7Ideal Cert.Kernel7Ideal.Gen Cert.Kernel7Ideal.Moe Idealize.ShloMosaic Idealize.ShloMosaic.TcCoe Idealize.SL.Sem
open Idealize.ShloMosaic.Pipeline (Dat)

variable (m : (ℓ : Loc nD τ sig) → Buf (Elt Ideal) ℓ) (ρ : Dev nD → PrngReg) (hr : Routed (F := Ideal) m)

theorem index4 : ∀ t : Fin grid0.N, cc0_transform_4 (grid0.coords t) = ![t.val, 0] := by decide +kernel

theorem index_1 (t : Fin (cfg0 (adm m hr 0)).N) : ((cfg0 (adm m hr 0)).win 1).index t = ![t.val, 0] := index4 t

theorem index_0 (t : Fin (cfg0 (adm m hr 0)).N) :
    ((cfg0 (adm m hr 0)).win 0).index t = ![min t.val ((T1 m 0 (ix1 0)).toNat - 1), 0] :=
  (transform_0_eq m hr (grid0.coords t)).trans (by rw [coords_val]; rfl)

theorem flush_1 (t : Fin (cfg0 (adm m hr 0)).N) : ((cfg0 (adm m hr 0)).win 1).flush t = true := by
  have h : t.val + 1 = grid0.N ∨ ∃ h : t.val + 1 < grid0.N, ((cfg0 (adm m hr 0)).win 1).index ⟨t.val + 1, h⟩ ≠ ((cfg0 (adm m hr 0)).win 1).index t := by
    by_cases e : t.val + 1 = grid0.N
    · exact .inl e
    · refine .inr ⟨lt_of_le_of_ne t.isLt e, fun h => ?_⟩
      rw [index_1, index_1] at h
      have := congrFun h 0
      change t.val + 1 = t.val at this
      omega
  unfold Pipeline.Window.flush
  rw [show ((cfg0 (adm m hr 0)).win 1).isOut = true from rfl, Bool.true_and, Bool.or_eq_true]
  rcases h with h | h
  · exact .inl (decide_eq_true h)
  · exact .inr (decide_eq_true h)

theorem covers_1 : ((cfg0 (adm m hr 0)).win 1).Covers := by
  refine ⟨fun a => ?_, fun β => ?_⟩
  · show 0 < S256x4096.size a
    exact (show ∀ a : Fin 2, 0 < S256x4096.size a by decide) a
  · have b0 : (β (0 : Fin 2)).val < 144 := Nat.lt_of_lt_of_eq (β (0 : Fin 2)).isLt (show ((36864 : ℕ) + 256 - 1) / 256 = 144 by norm_num)
    have b1 : (β (1 : Fin 2)).val < 1 := Nat.lt_of_lt_of_eq (β (1 : Fin 2)).isLt (show ((4096 : ℕ) + 4096 - 1) / 4096 = 1 by norm_num)
    refine ⟨⟨(β (0 : Fin 2)).val, b0⟩, flush_1 m hr _, fun a => ⟨?_, .inl rfl⟩⟩
    rw [index_1]
    match a with
    | ⟨0, _⟩ => rfl
    | ⟨1, _⟩ => exact (Nat.lt_one_iff.mp b1).symm

/-- The result as an array. -/
def OUT (a0 : IVec S144 32) (a1 : IVec S1 32) (a2 : IVec S36864x2048 32) (a3 a4 : FVec Ideal S2x16x4096x1024 .f32) (a5 : FVec Ideal S2x16x1024x4096 .f32) :
    FVec Ideal S36864x4096 .f32 := fun y => out a0 a1 a2 a3 a4 a5 (y 0) (y 1)

theorem block_0 (c : Dev nD) (t : Fin (cfg0 (adm m hr 0)).N) (ht : t.val ≤ (T1 m 0 (ix1 0)).toNat - 1) (q : Fin 256) (k : Fin 2048) (r : Fin 36864)
    (h : r.val = t.val * 256 + q.val) : iblk m hr c 0 t (ix2 q k) = m ((c : Thread nD τ).loc main_arg2) (ix2 r k) := by
  have e := index_0 m hr t
  rw [Nat.min_eq_left ht] at e
  blk_ext! [iblk, e, h]

/-- The word of a block, read at the block's own place in the table. -/
theorem word_at (t0 : IVec S144 32) (n : Fin 144) : blkE t0 n.val = t0 (ix1 n) := by
  unfold blkE
  refine congrArg t0 (congrArg ValueIdx.ix1 (Fin.ext ?_))
  exact Nat.mod_eq_of_lt n.isLt

theorem blockOut_at (t0 : IVec S144 32) (t1 : IVec S1 32) (a2 : IVec S36864x2048 32) (q3 q4 : FVec Ideal S2x16x4096x1024 .f32) (q5 : FVec Ideal S2x16x1024x4096 .f32)
    (x3 : IVec S256x2048 32) (n : ℕ) (q : Fin 256) (j : Fin 4096) (r : Fin 36864) (h : r.val = n * 256 + q.val)
    (hx : Active t1 n → ∀ k : Fin 2048, x3 (ix2 q k) = a2 (ix2 r k)) :
    blockOut (F := Ideal) t0 t1 q3 q4 q5 x3 n (ix2 q j) = out t0 t1 a2 q3 q4 q5 r j := by
  have e : r.val / 256 = n := by omega
  subst e
  have hb := word_at t0 ⟨r.val / 256, by omega⟩
  dsimp only at hb
  unfold blockOut out
  by_cases ha : Active t1 (r.val / 256)
  · rw [if_pos ha, pay_at, show IntOp.cmpi CmpIPredicate.slt (BitVec.ofNat 32 (r.val / 256)) (t1 (ix1 0)) = 1#1 from ha, hb]
    rw [show (fun k : Fin 2048 => x3 (ix2 q k)) = fun k => a2 (ix2 r k) from funext fun k => hx ha k]
    rfl
  · rw [if_neg ha, zeros_at]
    refine (if_neg ?_).symm
    exact ha

theorem point (c : Dev nD) (t : Fin (cfg0 (adm m hr 0)).N) (q : Fin 256) (j : Fin 4096) (r : Fin 36864) (h : r.val = t.val * 256 + q.val) :
    outAt m hr c t (ix2 q j) = out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) r j := by
  obtain rfl : c = 0 := Subsingleton.elim _ _
  refine blockOut_at _ _ _ _ _ _ _ _ q j r h fun ha k => block_0 m hr 0 t (Nat.le_sub_one_of_lt (active_lt _ _ t.isLt hr.le ha)) q k r h

theorem arr (c : Dev nD) : (dats m hr 0 c).arrAt 1 (cfg0 (adm m hr 0)).N
    = OUT (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m hr 0 c).arrAt_eq_of_covers 1 _ (covers_1 m hr) fun t hf y => ?_
  blk_simp
  rw [after_1]
  have y0 : (y (0 : Fin 2)).val < 256 := (y (0 : Fin 2)).isLt
  have ht : t.val < 144 := t.isLt
  have ey : y = ix2 (y (0 : Fin 2)) (y (1 : Fin 2)) := by
    funext a; match a with | ⟨0, _⟩ => rfl | ⟨1, _⟩ => rfl
  refine Eq.trans (congrArg (outAt m hr c t) ey) ((point m hr c t _ _ ⟨t.val * 256 + (y (0 : Fin 2)).val, by omega⟩ rfl).trans ?_)
  have e : ((Pipeline.pin (pcfgs (F := Ideal)) (adm m hr) 0).win 1).index t = ![t.val, 0] := index_1 m hr t
  unfold OUT
  refine congrArg₂ (out _ _ _ _ _ _) (Fin.ext ?_) (Fin.ext ?_)
  · blk_simp [e]
  · blk_simp [e]

/-- The run with the result named and the arguments unchanged. -/
theorem run_blocks : θ_run defs (onTc (τ := τ) (main (F := Ideal))) ⟨m, fun _ => 0, ρ⟩ fun r => ∀ c : Dev nD,
      r.2.mem ((c : Thread nD τ).loc main_v0) = (dats m hr 0 c).arrAt 1 (cfg0 (adm m hr 0)).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1 1,
      (h c).2 main_arg0 (show main_arg0 ∈ Pipeline.restRefs sig spec0 from Pipeline.mem_restRefs_of main_arg0 (by decide) (by decide)),
      (h c).2 main_arg1 (show main_arg1 ∈ Pipeline.restRefs sig spec0 from Pipeline.mem_restRefs_of main_arg1 (by decide) (by decide)),
      ((h c).1 0).trans (((dats m hr 0 c).arrAt_in 0 rfl _).trans (A_eq m hr c 0)),
      (h c).2 main_arg3 (show main_arg3 ∈ Pipeline.restRefs sig spec0 from Pipeline.mem_restRefs_of main_arg3 (by decide) (by decide)),
      (h c).2 main_arg4 (show main_arg4 ∈ Pipeline.restRefs sig spec0 from Pipeline.mem_restRefs_of main_arg4 (by decide) (by decide)),
      (h c).2 main_arg5 (show main_arg5 ∈ Pipeline.restRefs sig spec0 from Pipeline.mem_restRefs_of main_arg5 (by decide) (by decide))⟩) (run_main m ρ hr)

/-- The reference's result as the same function. -/
theorem ref_eq (a0 : IVec S144 32) (a1 : IVec S1 32) (a2 : IVec S36864x2048 32) (a3 a4 : FVec Ideal S2x16x4096x1024 .f32) (a5 : FVec Ideal S2x16x1024x4096 .f32)
    (h : ∀ n : Fin 144, IntOp.cmpi CmpIPredicate.slt (BitVec.ofNat 32 n.val) (a1 (ix1 0)) = 1#1 → (a0 (ix1 n)).toNat < 16) : REF a0 a1 a2 a3 a4 a5 = OUT a0 a1 a2 a3 a4 a5 := by
  funext y
  have ey : y = ix2 (y (0 : Fin 2)) (y (1 : Fin 2)) := by
    funext a; match a with | ⟨0, _⟩ => rfl | ⟨1, _⟩ => rfl
  refine (congrArg (REF a0 a1 a2 a3 a4 a5) ey).trans ?_
  have y0 : (y (0 : Fin 2)).val < 36864 := (y (0 : Fin 2)).isLt
  exact ref_at a0 a1 a2 a3 a4 a5 ⟨(y (0 : Fin 2)).val, y0⟩ (y (1 : Fin 2)) (h ⟨(y (0 : Fin 2)).val / 256, by omega⟩)

/-- The reference's term over the kernel's arguments. -/
theorem res_eq (m' : (ℓ : Loc Cert.Reference7Ideal.nD Cert.Reference7Ideal.τ Cert.Reference7Ideal.sig) → Buf (Elt Ideal) ℓ)
    (m : (ℓ : Loc nD τ sig) → Buf (Elt Ideal) ℓ)
    (h : m' (((0 : Dev nD).tc : Thread Cert.Reference7Ideal.nD Cert.Reference7Ideal.τ).loc Cert.Reference7Ideal.main_arg0) = m (((0 : Dev nD).tc : Thread nD τ).loc main_arg0)
      ∧ m' (((0 : Dev nD).tc : Thread Cert.Reference7Ideal.nD Cert.Reference7Ideal.τ).loc Cert.Reference7Ideal.main_arg1) = m (((0 : Dev nD).tc : Thread nD τ).loc main_arg1)
      ∧ m' (((0 : Dev nD).tc : Thread Cert.Reference7Ideal.nD Cert.Reference7Ideal.τ).loc Cert.Reference7Ideal.main_arg2) = m (((0 : Dev nD).tc : Thread nD τ).loc main_arg2)
      ∧ m' (((0 : Dev nD).tc : Thread Cert.Reference7Ideal.nD Cert.Reference7Ideal.τ).loc Cert.Reference7Ideal.main_arg3) = m (((0 : Dev nD).tc : Thread nD τ).loc main_arg3)
      ∧ m' (((0 : Dev nD).tc : Thread Cert.Reference7Ideal.nD Cert.Reference7Ideal.τ).loc Cert.Reference7Ideal.main_arg4) = m (((0 : Dev nD).tc : Thread nD τ).loc main_arg4)
      ∧ m' (((0 : Dev nD).tc : Thread Cert.Reference7Ideal.nD Cert.Reference7Ideal.τ).loc Cert.Reference7Ideal.main_arg5) = m (((0 : Dev nD).tc : Thread nD τ).loc main_arg5)) :
    Cert.Reference7Ideal.Value.res_main_v52 m' 0
      = REF (m (((0 : Dev nD).tc : Thread nD τ).loc main_arg0)) (m (((0 : Dev nD).tc : Thread nD τ).loc main_arg1)) (m (((0 : Dev nD).tc : Thread nD τ).loc main_arg2))
          (m (((0 : Dev nD).tc : Thread nD τ).loc main_arg3)) (m (((0 : Dev nD).tc : Thread nD τ).loc main_arg4)) (m (((0 : Dev nD).tc : Thread nD τ).loc main_arg5)) := by
  refine (REF_eq m' 0).trans ?_
  rw [h.1, h.2.1, h.2.2.1, h.2.2.2.1, h.2.2.2.2.1, h.2.2.2.2.2]

theorem algebraic : Cert.algebraic_Kernel7Ideal_Reference7Ideal := by
  intro m g m' g' hpre hagree
  have hr := routed_ideal m hpre
  refine ⟨fun c => OUT (m (((c : Dev nD).tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)), ?_, ?_⟩
  · exact θ_run_mono (run_blocks m g hr) fun r h c => ⟨(h c).1.trans (arr m hr c), (h c).2⟩
  · refine θ_run_mono (Cert.Reference7Ideal.Value.run m' g') fun r h c => ⟨(h c).1.trans ?_, (h c).2⟩
    have hc : c = 0 := Subsingleton.elim _ _
    subst hc
    exact (res_eq m' m (hagree 0)).trans (ref_eq _ _ _ _ _ _ fun n ha => (congrArg BitVec.toNat (word_at _ n)).symm.trans_lt (hr.blk n.val n.isLt ha))

end Cert.Proof.Experts1

end
-- ==== Proof.V.Prefix.lean ====
module

public import proofs.«01_k».proof.Defs
public import proofs.«01_k».proof.Proof.Gen.Kernel11Ideal.Frame
public import proofs.«01_k».proof.Proof.Gen.Reference11Ideal.Run
public import Idealize.ShloMosaic.Lib.Claim
public import Idealize.ShloMosaic.Lib.Pointwise
public import Idealize.ShloMosaic.Lib.Pipeline.ValueKit

@[expose] public section

set_option maxRecDepth 16384

noncomputable section

/-! Sums over the first positions: as eleven rotations that double the number of positions summed, and as one window of the whole length. -/
namespace Cert.Proof.Prefix

open Cert.Kernel11Ideal Cert.Kernel11Ideal.Gen Idealize.ShloMosaic Idealize.ShloMosaic.TcCoe Idealize.SL.Sem

/-- The sum of the `n` positions that end at `j`. -/
def win (f : Fin 2048 → EReal) (n j : Nat) : EReal := ∑ i : Fin 2048, if i.val ≤ j ∧ j < i.val + n then f i else 0

theorem win_one (f : Fin 2048 → EReal) (j : Fin 2048) : win f 1 j.val = f j := by
  unfold win
  rw [Finset.sum_eq_single j]
  · exact if_pos ⟨le_refl _, Nat.lt_succ_self _⟩
  · intro i _ hi
    exact if_neg fun h => hi (Fin.ext (by omega))
  · intro h
    exact absurd (Finset.mem_univ _) h

theorem win_double (f : Fin 2048 → EReal) (n j : Nat) :
    win f (n + n) j = win f n j + if n ≤ j then win f n (j - n) else 0 := by
  unfold win
  by_cases hn : n ≤ j
  · rw [if_pos hn, ← Finset.sum_add_distrib]
    refine Finset.sum_congr rfl fun i _ => ?_
    by_cases h1 : i.val ≤ j ∧ j < i.val + n
    · rw [if_pos h1, if_pos (by omega), if_neg (by omega), add_zero]
    · by_cases h2 : i.val ≤ j - n ∧ j - n < i.val + n
      · rw [if_neg h1, if_pos h2, if_pos (by omega), zero_add]
      · rw [if_neg h1, if_neg h2, if_neg (by omega), zero_add]
  · rw [if_neg hn, add_zero]
    refine Finset.sum_congr rfl fun i _ => ?_
    by_cases h1 : i.val ≤ j ∧ j < i.val + n
    · rw [if_pos h1, if_pos (by omega)]
    · rw [if_neg h1, if_neg (by omega)]

theorem win_all (f : Fin 2048 → EReal) (j : Fin 2048) : win f 2048 j.val = ∑ i : Fin 2048, if i.val ≤ j.val then f i else 0 := by
  unfold win
  refine Finset.sum_congr rfl fun i _ => ?_
  have := j.isLt
  by_cases h : i.val ≤ j.val
  · rw [if_pos h, if_pos (by omega)]
  · rw [if_neg h, if_neg (by omega)]

/-- One doubling step: the array plus itself rotated by `d`, the rotation's first `d` positions replaced by zero. -/
def rot (d : BitVec 32) (x : FVec Ideal S16x2048 .f32) : FVec Ideal S16x2048 .f32 :=
  addf x (select (cmpi .sge (iota .tc S16x2048 32 [1] iota_S16x2048_d1_w32) (broadcast S16x2048 d))
    (dynamicRotate 1 d none x rotates_S16x2048_d1) (broadcast S16x2048 (Scalar.ofBits .f32 0x00000000#32)))

theorem rot_apply (n : Nat) (hn : n ≤ 1024) (x : FVec Ideal S16x2048 .f32) (h : Fin 16) (j : Fin 2048) :
    rot (BitVec.ofNat 32 n) x (ix2 h j) = (x (ix2 h j) : EReal) + if n ≤ j.val then x (ix2 h ⟨j.val - n, by omega⟩) else (0 : EReal) := by
  have hj := j.isLt
  pointwise [rot]
  refine congrArg (fun e : EReal => (x (ix2 h j) : EReal) + e) ?_
  rw [WordCmp.cmpi_sge_ofNat (by show j.val < 2147483648; omega) (by show n < 2147483648; omega), BitVec.toNat_ofNat]
  by_cases hn' : n ≤ j.val
  · rw [if_pos hn', show decide (n ≤ j.val) = true from decide_eq_true hn']
    refine (if_pos rfl).trans (congrArg (fun k => (x (ix2 h k) : EReal)) (Fin.ext ?_))
    show (j.val + 2048 - n % 2 ^ 32 % 2048) % 2048 = j.val - n
    omega
  · rw [if_neg hn', show decide (n ≤ j.val) = false from decide_eq_false hn']
    exact if_neg (by decide)

theorem rot_win (n : Nat) (hn : n ≤ 1024) (x : FVec Ideal S16x2048 .f32) (f : Fin 16 → Fin 2048 → EReal)
    (hx : ∀ h j, (x (ix2 h j) : EReal) = win (f h) n j.val) (h : Fin 16) (j : Fin 2048) :
    (rot (BitVec.ofNat 32 n) x (ix2 h j) : EReal) = win (f h) (n + n) j.val := by
  rw [win_double]
  refine (rot_apply n hn x h j).trans ?_
  rw [hx h j]
  by_cases hj : n ≤ j.val
  · rw [if_pos hj, if_pos hj]
    exact congrArg (fun e : EReal => win (f h) n j.val + e) (hx h ⟨j.val - n, by omega⟩)
  · rw [if_neg hj, if_neg hj]

/-- The eleven steps. -/
def steps (x : FVec Ideal S16x2048 .f32) : FVec Ideal S16x2048 .f32 :=
  rot 1024#32 (rot 512#32 (rot 256#32 (rot 128#32 (rot 64#32 (rot 32#32 (rot 16#32 (rot 8#32 (rot 4#32 (rot 2#32 (rot 1#32 x))))))))))

theorem steps_apply (x : FVec Ideal S16x2048 .f32) (h : Fin 16) (j : Fin 2048) :
    (steps x (ix2 h j) : EReal) = ∑ i : Fin 2048, if i.val ≤ j.val then (x (ix2 h i) : EReal) else 0 := by
  refine Eq.trans ?_ (win_all (fun i => x (ix2 h i)) j)
  have h0 : ∀ h j, (x (ix2 h j) : EReal) = win (fun i => x (ix2 h i)) 1 j.val := fun h j => (win_one (fun i => x (ix2 h i)) j).symm
  exact rot_win 1024 (by decide) _ (fun h i => x (ix2 h i)) (rot_win 512 (by decide) _ (fun h i => x (ix2 h i)) (rot_win 256 (by decide) _ (fun h i => x (ix2 h i))
    (rot_win 128 (by decide) _ (fun h i => x (ix2 h i)) (rot_win 64 (by decide) _ (fun h i => x (ix2 h i)) (rot_win 32 (by decide) _ (fun h i => x (ix2 h i))
    (rot_win 16 (by decide) _ (fun h i => x (ix2 h i)) (rot_win 8 (by decide) _ (fun h i => x (ix2 h i)) (rot_win 4 (by decide) _ (fun h i => x (ix2 h i))
    (rot_win 2 (by decide) _ (fun h i => x (ix2 h i)) (rot_win 1 (by decide) x (fun h i => x (ix2 h i)) h0)))))))))) h j

theorem foldl_add {α : Type} (l : List α) (g : α → EReal) (a : EReal) : l.foldl (fun r n => r + g n) a = a + (l.map g).sum := by
  induction l generalizing a with
  | nil => simp
  | cons n l ih => rw [List.foldl_cons, ih, List.map_cons, List.sum_cons, add_assoc]

/-- A window of the whole length of the middle axis, padded low by one less, as a sum over the window's positions. -/
theorem window_sum {B N M H : Nat} {u : Shape} (x : (⟨3, ![B, N, H]⟩ : Shape).Idx → EReal) (v : u.Idx → EReal)
    (hw : (⟨3, ![B, N, H]⟩ : Shape).ReduceWindows (![1, N, 1] : Fin 3 → Nat) ![1, 1, 1] ![0, M, 0] ![0, 0, 0] ⟨3, ![B, N, H]⟩) (hu : 0 < u.numel)
    (hv : v (Shape.Idx.first hu) = 0) (b : Fin B) (t : Fin N) (h : Fin H) :
    Host.reduceWindow (fun a b : EReal => a + b) ![1, N, 1] ![1, 1, 1] ![0, M, 0] ![0, 0, 0] x v hw hu (ix3 b t h)
      = ∑ w : Fin N, if hk : M ≤ t.val + w.val ∧ t.val + w.val - M < N then x (ix3 b ⟨t.val + w.val - M, hk.2⟩ h) else 0 := by
  unfold Host.reduceWindow
  dsimp only
  rw [foldl_add, hv, zero_add, ← Fin.sum_univ_def]
  let W : Shape := ⟨3, ![1, N, 1]⟩
  let T : W.Idx → EReal := fun k => if hk : M ≤ t.val + (k 1).val ∧ t.val + (k 1).val - M < N then x (ix3 b ⟨t.val + (k 1).val - M, hk.2⟩ h) else 0
  refine (Finset.sum_congr rfl fun n _ => (?_ : _ = T (W.rowMajor.symm n))).trans ?_
  · have hb := b.isLt
    have hh := h.isLt
    have k0 : (W.rowMajor.symm n 0).val = 0 := Nat.lt_one_iff.mp (W.rowMajor.symm n 0).isLt
    have k2 : (W.rowMajor.symm n 2).val = 0 := Nat.lt_one_iff.mp (W.rowMajor.symm n 2).isLt
    by_cases hk : M ≤ t.val + (W.rowMajor.symm n 1).val ∧ t.val + (W.rowMajor.symm n 1).val - M < N
    · refine (dif_pos fun a => ?_).trans (Eq.trans ?_ (dif_pos hk).symm)
      · match a with
        | ⟨0, _⟩ =>
          show 0 ≤ b.val * 1 + (W.rowMajor.symm n 0).val ∧ b.val * 1 + (W.rowMajor.symm n 0).val - 0 < B
          omega
        | ⟨1, _⟩ =>
          show M ≤ t.val * 1 + (W.rowMajor.symm n 1).val ∧ t.val * 1 + (W.rowMajor.symm n 1).val - M < N
          omega
        | ⟨2, _⟩ =>
          show 0 ≤ h.val * 1 + (W.rowMajor.symm n 2).val ∧ h.val * 1 + (W.rowMajor.symm n 2).val - 0 < H
          omega
      · refine congrArg x (funext fun a => Fin.ext ?_)
        match a with
        | ⟨0, _⟩ =>
          show b.val * 1 + (W.rowMajor.symm n 0).val - 0 = b.val
          omega
        | ⟨1, _⟩ =>
          show t.val * 1 + (W.rowMajor.symm n 1).val - M = t.val + (W.rowMajor.symm n 1).val - M
          omega
        | ⟨2, _⟩ =>
          show h.val * 1 + (W.rowMajor.symm n 2).val - 0 = h.val
          omega
    · refine (dif_neg fun hin => hk ?_).trans (show T _ = 0 from dif_neg hk).symm
      have h1 : M ≤ t.val * 1 + (W.rowMajor.symm n 1).val ∧ t.val * 1 + (W.rowMajor.symm n 1).val - M < N := hin 1
      omega
  refine (Equiv.sum_comp W.rowMajor.symm T).trans ?_
  let e : Fin N ≃ W.Idx := ⟨fun w => ix3 (0 : Fin 1) w (0 : Fin 1), fun k => k 1, fun _ => rfl, fun k => by
    refine Eq.trans ?_ (ix3_eta k)
    exact congrArg₂ (fun p q => ix3 p (k 1) q) (Subsingleton.elim (α := Fin 1) _ _) (Subsingleton.elim (α := Fin 1) _ _)⟩
  exact (Equiv.sum_comp e T).symm

/-- The positions of a window of the whole length that are not padding are those up to its own. -/
theorem shift_sum (f : Fin 2048 → EReal) (t : Fin 2048) :
    (∑ w : Fin 2048, if hk : 2047 ≤ t.val + w.val ∧ t.val + w.val - 2047 < 2048 then f ⟨t.val + w.val - 2047, hk.2⟩ else 0)
      = ∑ i : Fin 2048, if i.val ≤ t.val then f i else 0 := by
  refine Eq.trans ?_ (Equiv.sum_comp (Equiv.addRight (Fin.ofNat 2048 (t.val + 1))) fun i : Fin 2048 => if i.val ≤ t.val then f i else 0)
  refine Finset.sum_congr rfl fun w _ => ?_
  have hi : (w + Fin.ofNat 2048 (t.val + 1)).val = (w.val + (t.val + 1) % 2048) % 2048 := by rw [Fin.val_add]; rfl
  rw [Equiv.coe_addRight]
  have ht := t.isLt
  have hw := w.isLt
  by_cases hl : 2047 ≤ t.val + w.val
  · rw [dif_pos ⟨hl, by omega⟩, if_pos (by rw [hi]; omega)]
    exact congrArg f (Fin.ext (by rw [hi]; show t.val + w.val - 2047 = _; omega))
  · rw [dif_neg (fun h => hl h.1), if_neg (by rw [hi]; omega)]

/-- The reference's window over the whole length, padded low, sums the positions up to its own. -/
theorem window_apply (x : FVec Ideal Cert.Reference11Ideal.S8x2048x16 .f32) (v : FVec Ideal Cert.Reference11Ideal.S_ .f32) (hw) (hu)
    (hv : (v (Shape.Idx.first hu) : EReal) = 0) (b : Fin 8) (t : Fin 2048) (h : Fin 16) :
    (Host.reduceWindowAdd (t := Cert.Reference11Ideal.S8x2048x16) ![1, 2048, 1] ![1, 1, 1] ![0, 2047, 0] ![0, 0, 0] x v hw hu (ix3 b t h) : EReal)
      = ∑ i : Fin 2048, if i.val ≤ t.val then (x (ix3 b i h) : EReal) else 0 := by
  unfold Host.reduceWindowAdd
  rw [Ideal.hostReduceWindowAdd_def]
  unfold Ideal.hostReduceWindowAdd
  exact (window_sum (B := 8) (N := 2048) (M := 2047) (H := 16) x v hw hu hv b t h).trans (shift_sum (fun i => x (ix3 b i h)) t)

end Cert.Proof.Prefix

end
-- ==== Proof.V.EvenPrep.lean ====
module

public import proofs.«01_k».proof.Proof.V.Prefix

@[expose] public section

set_option maxRecDepth 16384

noncomputable section

/-! What the even layer's attentions take from its small projections: the normalized latent, the accumulated log forget gates,
the indexer's key in either half of a row, and the indexer's weights. -/
namespace Cert.Proof.EvenPrep

open Cert.Kernel11Ideal Cert.Kernel11Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The reference's five results over the arguments. -/
def REF3 (z : FVec Ideal S8x2048x640 .f32) (g : FVec Ideal S1x256 .f32) : FVec Ideal S8x2048x256 .bf16 :=
  truncf .bf16 (mulf (mulf (extractStridedSlice Cert.Reference11Ideal.S8x2048x256 ![0, 0, 0] z Cert.Reference11Ideal.Gen.slices_S8x2048x640_S8x2048x256_0_0_0) (broadcastInDim Cert.Reference11Ideal.S8x2048x256 ![0, 1, 2] Cert.Reference11Ideal.Gen.bcast_S8x2048x1_S8x2048x256_0_1_2 (Host.rsqrt (addf (Host.divf (broadcastInDim Cert.Reference11Ideal.S8x2048x1 ![0, 1] Cert.Reference11Ideal.Gen.bcast_S8x2048_S8x2048x1_0_1 (Host.reduceAdd (mulf (extractStridedSlice Cert.Reference11Ideal.S8x2048x256 ![0, 0, 0] z Cert.Reference11Ideal.Gen.slices_S8x2048x640_S8x2048x256_0_0_0) (extractStridedSlice Cert.Reference11Ideal.S8x2048x256 ![0, 0, 0] z Cert.Reference11Ideal.Gen.slices_S8x2048x640_S8x2048x256_0_0_0)) (constant Cert.Reference11Ideal.S_ .f32 0x00000000#32) Cert.Reference11Ideal.Gen.reducesTo_S8x2048x256_S8x2048_d2 Cert.Reference11Ideal.Gen.h_S_)) (broadcastInDim Cert.Reference11Ideal.S8x2048x1 ![] Cert.Reference11Ideal.Gen.bcast_S_S8x2048x1 (constant Cert.Reference11Ideal.S_ .f32 0x43800000#32))) (broadcastInDim Cert.Reference11Ideal.S8x2048x1 ![] Cert.Reference11Ideal.Gen.bcast_S_S8x2048x1 (constant Cert.Reference11Ideal.S_ .f32 0x358637BD#32)))))) (broadcastInDim Cert.Reference11Ideal.S8x2048x256 ![0, 1, 2] Cert.Reference11Ideal.Gen.bcast_S1x1x256_S8x2048x256_0_1_2 (broadcastInDim Cert.Reference11Ideal.S1x1x256 ![2] Cert.Reference11Ideal.Gen.bcast_S256_S1x1x256_2 (shapeCast _ g Cert.Reference11Ideal.Gen.shapeCasts_S1x256_S256)))) Cert.Reference11Ideal.Gen.bitsLt_bf16_f32

abbrev biased (z : FVec Ideal S8x2048x640 .f32) (b : FVec Ideal S1x16 .f32) : FVec Ideal Cert.Reference11Ideal.S8x2048x16 .f32 :=
  addf (extractStridedSlice Cert.Reference11Ideal.S8x2048x16 ![0, 0, 256] z Cert.Reference11Ideal.Gen.slices_S8x2048x640_S8x2048x16_0_0_256) (broadcastInDim Cert.Reference11Ideal.S8x2048x16 ![0, 1, 2] Cert.Reference11Ideal.Gen.bcast_S1x1x16_S8x2048x16_0_1_2 (broadcastInDim Cert.Reference11Ideal.S1x1x16 ![2] Cert.Reference11Ideal.Gen.bcast_S16_S1x1x16_2 (shapeCast _ b Cert.Reference11Ideal.Gen.shapeCasts_S1x16_S16)))

def gate (z : FVec Ideal S8x2048x640 .f32) (b : FVec Ideal S1x16 .f32) : FVec Ideal Cert.Reference11Ideal.S8x2048x16 .f32 :=
  Host.negf (select (cmpf .une (subf (Host.negf (biased z b)) (broadcastInDim Cert.Reference11Ideal.S8x2048x16 ![] Cert.Reference11Ideal.Gen.bcast_S_S8x2048x16 (constant Cert.Reference11Ideal.S_ .f32 0x00000000#32))) (subf (Host.negf (biased z b)) (broadcastInDim Cert.Reference11Ideal.S8x2048x16 ![] Cert.Reference11Ideal.Gen.bcast_S_S8x2048x16 (constant Cert.Reference11Ideal.S_ .f32 0x00000000#32)))) (addf (Host.negf (biased z b)) (broadcastInDim Cert.Reference11Ideal.S8x2048x16 ![] Cert.Reference11Ideal.Gen.bcast_S_S8x2048x16 (constant Cert.Reference11Ideal.S_ .f32 0x00000000#32))) (addf (maximumf (Host.negf (biased z b)) (broadcastInDim Cert.Reference11Ideal.S8x2048x16 ![] Cert.Reference11Ideal.Gen.bcast_S_S8x2048x16 (constant Cert.Reference11Ideal.S_ .f32 0x00000000#32))) (Host.log1p (Host.exp (Host.negf (Host.absf (subf (Host.negf (biased z b)) (broadcastInDim Cert.Reference11Ideal.S8x2048x16 ![] Cert.Reference11Ideal.Gen.bcast_S_S8x2048x16 (constant Cert.Reference11Ideal.S_ .f32 0x00000000#32)))))))))

def REF4 (z : FVec Ideal S8x2048x640 .f32) (b : FVec Ideal S1x16 .f32) : FVec Ideal S8x16x2048 .f32 :=
  Host.negf (transpose Cert.Reference11Ideal.S8x16x2048 [0, 2, 1] (Host.reduceWindowAdd ![1, 2048, 1] ![1, 1, 1] ![0, 2047, 0] ![0, 0, 0] (gate z b) (broadcastInDim Cert.Reference11Ideal.S_ ![] Cert.Reference11Ideal.Gen.bcast_S_S_ (constant Cert.Reference11Ideal.S_ .f32 0x00000000#32)) Cert.Reference11Ideal.Gen.reduceWindows_S8x2048x16_S8x2048x16_w1s1p0_0_w2048s1p2047_0_w1s1p0_0 Cert.Reference11Ideal.Gen.h_S_) Cert.Reference11Ideal.Gen.transposes_S8x2048x16_S8x16x2048_0_2_1)

def REF5 (z : FVec Ideal S8x2048x640 .f32) : FVec Ideal S8x2048x128 .bf16 :=
  truncf .bf16 (concatenate Cert.Reference11Ideal.S8x2048x128 2 [⟨Cert.Reference11Ideal.S8x2048x64, (extractStridedSlice Cert.Reference11Ideal.S8x2048x64 ![0, 0, 384] z Cert.Reference11Ideal.Gen.slices_S8x2048x640_S8x2048x64_0_0_384)⟩, ⟨Cert.Reference11Ideal.S8x2048x64, (broadcastInDim Cert.Reference11Ideal.S8x2048x64 ![] Cert.Reference11Ideal.Gen.bcast_S_S8x2048x64 (constant Cert.Reference11Ideal.S_ .f32 0x00000000#32))⟩] Cert.Reference11Ideal.Gen.concatenates_S8x2048x64_S8x2048x64_S8x2048x128_d2) Cert.Reference11Ideal.Gen.bitsLt_bf16_f32

def REF6 (z : FVec Ideal S8x2048x640 .f32) : FVec Ideal S8x2048x128 .bf16 :=
  truncf .bf16 (concatenate Cert.Reference11Ideal.S8x2048x128 2 [⟨Cert.Reference11Ideal.S8x2048x64, (broadcastInDim Cert.Reference11Ideal.S8x2048x64 ![] Cert.Reference11Ideal.Gen.bcast_S_S8x2048x64 (constant Cert.Reference11Ideal.S_ .f32 0x00000000#32))⟩, ⟨Cert.Reference11Ideal.S8x2048x64, (extractStridedSlice Cert.Reference11Ideal.S8x2048x64 ![0, 0, 384] z Cert.Reference11Ideal.Gen.slices_S8x2048x640_S8x2048x64_0_0_384)⟩] Cert.Reference11Ideal.Gen.concatenates_S8x2048x64_S8x2048x64_S8x2048x128_d2) Cert.Reference11Ideal.Gen.bitsLt_bf16_f32

def REF7 (z : FVec Ideal S8x2048x640 .f32) : FVec Ideal S8x2048x32 .f32 :=
  mulf (mulf (extractStridedSlice Cert.Reference11Ideal.S8x2048x32 ![0, 0, 512] z Cert.Reference11Ideal.Gen.slices_S8x2048x640_S8x2048x32_0_0_512) (broadcastInDim Cert.Reference11Ideal.S8x2048x32 ![] Cert.Reference11Ideal.Gen.bcast_S_S8x2048x32 (constant Cert.Reference11Ideal.S_ .f32 0x3E3504F3#32))) (broadcastInDim Cert.Reference11Ideal.S8x2048x32 ![] Cert.Reference11Ideal.Gen.bcast_S_S8x2048x32 (constant Cert.Reference11Ideal.S_ .f32 0x3E000000#32))

theorem idx : ∀ t : Fin cfg0.N, (cfg0.win 0).index t = ![(grid0.coords t 0).val, 0, 0]
    ∧ (cfg0.win 1).index t = ![0, 0] ∧ (cfg0.win 2).index t = ![0, 0]
    ∧ (cfg0.win 3).index t = ![(grid0.coords t 0).val, 0, 0] ∧ (cfg0.win 4).index t = ![(grid0.coords t 0).val, 0, 0]
    ∧ (cfg0.win 5).index t = ![(grid0.coords t 0).val, 0, 0] ∧ (cfg0.win 6).index t = ![(grid0.coords t 0).val, 0, 0]
    ∧ (cfg0.win 7).index t = ![(grid0.coords t 0).val, 0, 0] := by
  decide +kernel

/-- The weight and the bias as the host prepares them. -/
theorem weight (c : Dev nD) : V m c main_v2
    = (shapeCast S1x256 (shapeCast S256 (m ((c : Thread nD τ).loc main_arg1)) shapeCasts_S1x256_S256 : FVec Ideal S256 .f32) shapeCasts_S256_S1x256 : FVec Ideal S1x256 .f32) := by
  unfold V
  after_results <;> rfl

theorem bias (c : Dev nD) : V m c main_v3
    = (shapeCast S16x1 (shapeCast S16 (m ((c : Thread nD τ).loc main_arg2)) shapeCasts_S1x16_S16 : FVec Ideal S16 .f32) shapeCasts_S16_S16x1 : FVec Ideal S16x1 .f32) := by
  unfold V
  after_results <;> rfl

theorem weight_at (c : Dev nD) (t : Fin cfg0.N) (k : Fin 256) :
    iblk m c 1 t (ix2 0 k) = m ((c : Thread nD τ).loc main_arg1) (ix2 0 k) := by
  refine Eq.trans ?_ ((congrFun (weight m c) (ix2 0 k)).trans (by pointwise))
  blk_ext! [iblk, idx t]

theorem bias_at (c : Dev nD) (t : Fin cfg0.N) (h : Fin 16) :
    iblk m c 2 t (ix2 h 0) = m ((c : Thread nD τ).loc main_arg2) (ix2 0 h) := by
  refine Eq.trans ?_ ((congrFun (bias m c) (ix2 h 0)).trans (by pointwise))
  blk_ext! [iblk, idx t]

theorem input_at (c : Dev nD) (t : Fin cfg0.N) (r : Fin 2048) (k : Fin 640) (b : Fin 8) (i : Fin 2048) (l : Fin 640) (hb : b.val = (grid0.coords t 0).val)
    (hi : i.val = r.val) (hl : l.val = k.val) :
    iblk m c 0 t (ix3 0 r k) = m ((c : Thread nD τ).loc main_arg0) (ix3 b i l) := by
  blk_ext! [iblk, V, idx t, hi, hb, hl]

theorem point3 (c : Dev nD) (t : Fin cfg0.N) (y) : k0_pay5 (iblk m c 0 t) (iblk m c 1 t) y
    = REF3 (m ((c : Thread nD τ).loc main_arg0)) (m ((c : Thread nD τ).loc main_arg1)) (((cfg0.win 3).blk t).view.emb y) := by
  idx_vars y
  have h0 : (((cfg0.win 3).blk t).view.emb (ix3 y0 y1 y2) 0).val = (grid0.coords t 0).val := by blk_simp [idx t]
  have h1 : (((cfg0.win 3).blk t).view.emb (ix3 y0 y1 y2) 1).val = y1.val := by blk_simp [idx t]
  have h2 : (((cfg0.win 3).blk t).view.emb (ix3 y0 y1 y2) 2) = y2 := Fin.ext (by blk_simp [idx t])
  pointwise [REF3, k0_pay5, k0_pay4]
  refine congrArg₂ (fun a b : EReal => a * b) (congrArg₂ (fun a b : EReal => a * b) ?_ (congrArg (fun s : EReal => Ideal.rsqrt (Ideal.div s _ + _)) ?_)) ?_
  · exact input_at m c t _ _ _ _ _ h0 h1 (congrArg (fun k : Fin 256 => k.val) h2)
  · exact Finset.sum_congr rfl fun k _ => congrArg₂ (fun a b : EReal => a * b) (input_at m c t _ _ _ _ _ h0 h1 rfl) (input_at m c t _ _ _ _ _ h0 h1 rfl)
  · exact (weight_at m c t y2).trans (congrArg (fun k => m ((c : Thread nD τ).loc main_arg1) (ix2 0 k)) h2.symm)

/-- The kernel's log forget gate of a head at a row. -/
def lsig (z : Vec Ideal S1x2048x640 .f32) (b : Vec Ideal S16x1 .f32) : FVec Ideal S16x2048 .f32 :=
  subf (broadcast S16x2048 (Scalar.ofBits .f32 0x00000000#32)) (select (k0_pay9 z b) (k0_pay10 z b) (addf (k0_pay7 z b) (k0_pay11 z b)))

theorem scan (z : Vec Ideal S1x2048x640 .f32) (b : Vec Ideal S16x1 .f32) :
    k0_pay13 (iota .tc S16x2048 32 [1] iota_S16x2048_d1_w32) (k0_pay12 (k0_pay7 z b) (k0_pay9 z b) (k0_pay10 z b) (k0_pay11 z b))
      = shapeCast S1x16x2048 (subf (broadcast S16x2048 (Scalar.ofBits .f32 0x00000000#32)) (Prefix.steps (lsig z b))) shapeCasts_S16x2048_S1x16x2048 := rfl

theorem lsig_at (c : Dev nD) (t : Fin cfg0.N) (h : Fin 16) (r : Fin 2048) (b : Fin 8) (hb : b.val = (grid0.coords t 0).val) :
    lsig (iblk m c 0 t) (iblk m c 2 t) (ix2 h r) = gate (m ((c : Thread nD τ).loc main_arg0)) (m ((c : Thread nD τ).loc main_arg2)) (ix3 b r h) := by
  have hx := (input_at m c t r ⟨256 + h.val, by omega⟩ b r ⟨256 + h.val, by omega⟩ hb rfl rfl)
  have hy := bias_at m c t h
  pointwise [lsig, gate, biased, k0_pay4, k0_pay6, k0_pay7, k0_pay8, k0_pay9, k0_pay10, k0_pay11]
  have zs : ∀ x : EReal, 0 - x = -x := zero_sub
  rw [hx, hy]
  simp only [zs]

theorem REF4_apply (z : FVec Ideal S8x2048x640 .f32) (b : FVec Ideal S1x16 .f32) (i : Fin 8) (h : Fin 16) (t : Fin 2048) :
    REF4 z b (ix3 i h t) = -(∑ r : Fin 2048, if r.val ≤ t.val then (gate z b (ix3 i r h) : EReal) else 0) := by
  refine Eq.trans ?_ (congrArg (fun e : EReal => -e) (Prefix.window_apply (gate z b) (broadcastInDim Cert.Reference11Ideal.S_ ![] Cert.Reference11Ideal.Gen.bcast_S_S_ (constant Cert.Reference11Ideal.S_ .f32 0x00000000#32)) Cert.Reference11Ideal.Gen.reduceWindows_S8x2048x16_S8x2048x16_w1s1p0_0_w2048s1p2047_0_w1s1p0_0 Cert.Reference11Ideal.Gen.h_S_ (by pointwise) i t h))
  pointwise [REF4]

theorem point4 (c : Dev nD) (t : Fin cfg0.N) (y) :
    k0_pay13 (iota .tc S16x2048 32 [1] iota_S16x2048_d1_w32) (k0_pay12 (k0_pay7 (iblk m c 0 t) (iblk m c 2 t)) (k0_pay9 (iblk m c 0 t) (iblk m c 2 t))
        (k0_pay10 (iblk m c 0 t) (iblk m c 2 t)) (k0_pay11 (iblk m c 0 t) (iblk m c 2 t))) y
      = REF4 (m ((c : Thread nD τ).loc main_arg0)) (m ((c : Thread nD τ).loc main_arg2)) (((cfg0.win 4).blk t).view.emb y) := by
  rw [scan]
  idx_vars y
  have h0 : (((cfg0.win 4).blk t).view.emb (ix3 y0 y1 y2) 0).val = (grid0.coords t 0).val := by blk_simp [idx t]
  have h1 : (((cfg0.win 4).blk t).view.emb (ix3 y0 y1 y2) 1) = y1 := Fin.ext (by blk_simp [idx t])
  have h2 : (((cfg0.win 4).blk t).view.emb (ix3 y0 y1 y2) 2) = y2 := Fin.ext (by blk_simp [idx t])
  have he : ((cfg0.win 4).blk t).view.emb (ix3 y0 y1 y2) = ix3 (((cfg0.win 4).blk t).view.emb (ix3 y0 y1 y2) 0) y1 y2 :=
    (ix3_eta _).symm.trans (congrArg₂ (fun p q => ix3 _ p q) h1 h2)
  refine Eq.trans ?_ (congrArg (REF4 (m ((c : Thread nD τ).loc main_arg0)) (m ((c : Thread nD τ).loc main_arg2))) he).symm
  refine Eq.trans ?_ (REF4_apply _ _ _ y1 y2).symm
  pointwise
  rw [Prefix.steps_apply]
  refine (zero_sub (_ : EReal)).trans (congrArg (fun e : EReal => -e) (Finset.sum_congr rfl fun r _ => ?_))
  rw [lsig_at m c t y1 r _ h0]

theorem point5 (c : Dev nD) (t : Fin cfg0.N) (y) : k0_pay1 (k0_pay16 (k0_pay17 (iblk m c 0 t) (iblk m c 1 t) (iblk m c 2 t))) y
    = REF5 (m ((c : Thread nD τ).loc main_arg0)) (((cfg0.win 5).blk t).view.emb y) := by
  idx_vars y
  have h0 : (((cfg0.win 5).blk t).view.emb (ix3 y0 y1 y2) 0).val = (grid0.coords t 0).val := by blk_simp [idx t]
  have h1 : (((cfg0.win 5).blk t).view.emb (ix3 y0 y1 y2) 1).val = y1.val := by blk_simp [idx t]
  have h2 : (((cfg0.win 5).blk t).view.emb (ix3 y0 y1 y2) 2) = y2 := Fin.ext (by blk_simp [idx t])
  pointwise [REF5, k0_pay1, k0_pay16, k0_pay14, k0_pay15, k0_pay17, k0_pay4]
  by_cases h : y2.val < 64
  · refine (dif_pos h).trans (Eq.trans ?_ (dif_pos (by rw [h2]; exact h)).symm)
    exact input_at m c t _ _ _ _ _ h0 h1 (congrArg (fun k : Fin 128 => 384 + k.val) h2)
  · refine (dif_neg h).trans (Eq.symm (dif_neg ?_))
    rw [h2]
    exact h

theorem point7 (c : Dev nD) (t : Fin cfg0.N) (y) : k0_pay3 (k0_pay17 (iblk m c 0 t) (iblk m c 1 t) (iblk m c 2 t)) y
    = REF7 (m ((c : Thread nD τ).loc main_arg0)) (((cfg0.win 7).blk t).view.emb y) := by
  idx_vars y
  have h0 : (((cfg0.win 7).blk t).view.emb (ix3 y0 y1 y2) 0).val = (grid0.coords t 0).val := by blk_simp [idx t]
  have h1 : (((cfg0.win 7).blk t).view.emb (ix3 y0 y1 y2) 1).val = y1.val := by blk_simp [idx t]
  have h2 : (((cfg0.win 7).blk t).view.emb (ix3 y0 y1 y2) 2) = y2 := Fin.ext (by blk_simp [idx t])
  pointwise [REF7, k0_pay3, k0_pay17, k0_pay4]
  refine congrArg (fun e : EReal => e * _ * _) ?_
  exact input_at m c t _ _ _ _ _ h0 h1 (congrArg (fun k : Fin 32 => 512 + k.val) h2)

theorem point6 (c : Dev nD) (t : Fin cfg0.N) (y) : k0_pay2 (k0_pay14 (k0_pay17 (iblk m c 0 t) (iblk m c 1 t) (iblk m c 2 t))) k0_pay15 y
    = REF6 (m ((c : Thread nD τ).loc main_arg0)) (((cfg0.win 6).blk t).view.emb y) := by
  idx_vars y
  have h0 : (((cfg0.win 6).blk t).view.emb (ix3 y0 y1 y2) 0).val = (grid0.coords t 0).val := by blk_simp [idx t]
  have h1 : (((cfg0.win 6).blk t).view.emb (ix3 y0 y1 y2) 1).val = y1.val := by blk_simp [idx t]
  have h2 : (((cfg0.win 6).blk t).view.emb (ix3 y0 y1 y2) 2) = y2 := Fin.ext (by blk_simp [idx t])
  pointwise [REF6, k0_pay2, k0_pay14, k0_pay15, k0_pay17, k0_pay4]
  by_cases h : y2.val < 64
  · refine (dif_pos h).trans (Eq.symm (dif_pos ?_))
    rw [h2]
    exact h
  · refine (dif_neg h).trans (Eq.trans ?_ (dif_neg (by rw [h2]; exact h)).symm)
    exact input_at m c t _ _ _ _ _ h0 h1 (congrArg (fun k : Fin 128 => 384 + (k.val - 64)) h2)

theorem arr3 (c : Dev nD) : (dats m 0 c).arrAt 3 cfg0.N = REF3 (m ((c : Thread nD τ).loc main_arg0)) (m ((c : Thread nD τ).loc main_arg1)) := by
  refine (dats m 0 c).arrAt_eq_of_covers 3 _ (by decide +kernel) fun t hf y => ?_
  blk_simp
  rw [after0_3]
  frame_out
  exact point3 m c t y

theorem arr4 (c : Dev nD) : (dats m 0 c).arrAt 4 cfg0.N = REF4 (m ((c : Thread nD τ).loc main_arg0)) (m ((c : Thread nD τ).loc main_arg2)) := by
  refine (dats m 0 c).arrAt_eq_of_covers 4 _ (by decide +kernel) fun t hf y => ?_
  blk_simp
  rw [after0_4]
  frame_out
  exact point4 m c t y

theorem arr5 (c : Dev nD) : (dats m 0 c).arrAt 5 cfg0.N = REF5 (m ((c : Thread nD τ).loc main_arg0)) := by
  refine (dats m 0 c).arrAt_eq_of_covers 5 _ (by decide +kernel) fun t hf y => ?_
  blk_simp
  rw [after0_5]
  frame_out
  exact point5 m c t y

theorem arr6 (c : Dev nD) : (dats m 0 c).arrAt 6 cfg0.N = REF6 (m ((c : Thread nD τ).loc main_arg0)) := by
  refine (dats m 0 c).arrAt_eq_of_covers 6 _ (by decide +kernel) fun t hf y => ?_
  blk_simp
  rw [after0_6]
  frame_out
  exact point6 m c t y

theorem arr7 (c : Dev nD) : (dats m 0 c).arrAt 7 cfg0.N = REF7 (m ((c : Thread nD τ).loc main_arg0)) := by
  refine (dats m 0 c).arrAt_eq_of_covers 7 _ (by decide +kernel) fun t hf y => ?_
  blk_simp
  rw [after0_7]
  frame_out
  exact point7 m c t y

/-- The run of the preparation: its five arrays are what the grid's points write, the arguments stay. -/
theorem run_blocks : θ_run defs (onTc (τ := τ) (main (F := Ideal))) ⟨m, fun _ => 0, ρ⟩ fun r => ∀ c : Dev nD,
      r.2.mem ((c : Thread nD τ).loc main_v4_0) = (dats m 0 c).arrAt 3 cfg0.N ∧ r.2.mem ((c : Thread nD τ).loc main_v4_1) = (dats m 0 c).arrAt 4 cfg0.N
      ∧ r.2.mem ((c : Thread nD τ).loc main_v4_2) = (dats m 0 c).arrAt 5 cfg0.N ∧ r.2.mem ((c : Thread nD τ).loc main_v4_3) = (dats m 0 c).arrAt 6 cfg0.N
      ∧ r.2.mem ((c : Thread nD τ).loc main_v4_4) = (dats m 0 c).arrAt 7 cfg0.N ∧ r.2.mem ((c : Thread nD τ).loc main_arg0) = m ((c : Thread nD τ).loc main_arg0)
      ∧ r.2.mem ((c : Thread nD τ).loc main_arg1) = m ((c : Thread nD τ).loc main_arg1) ∧ r.2.mem ((c : Thread nD τ).loc main_arg2) = m ((c : Thread nD τ).loc main_arg2) := by
  refine (θ_run defs _ _).mono (fun r h c => ?_) (run_main m ρ)
  obtain ⟨harr, hrest⟩ := h c
  exact ⟨harr 3, harr 4, harr 5, harr 6, harr 7, (harr 0).trans (((dats m 0 c).arrAt_in 0 rfl _).trans ((A_eq m c 0).trans (V_main_arg0 m c))),
    (hrest main_arg1 (Pipeline.mem_restRefs_of main_arg1 (by decide) (by decide))).trans (V_main_arg1 m c),
    (hrest main_arg2 (Pipeline.mem_restRefs_of main_arg2 (by decide) (by decide))).trans (V_main_arg2 m c)⟩

theorem algebraic : Cert.algebraic_Kernel11Ideal_Reference11Ideal := by
  intro m g m' g' _ hagree
  refine ⟨fun c => REF3 (m ((c.tc : Thread nD τ).loc main_arg0)) (m ((c.tc : Thread nD τ).loc main_arg1)), fun c => REF4 (m ((c.tc : Thread nD τ).loc main_arg0)) (m ((c.tc : Thread nD τ).loc main_arg2)), fun c => REF5 (m ((c.tc : Thread nD τ).loc main_arg0)), fun c => REF6 (m ((c.tc : Thread nD τ).loc main_arg0)), fun c => REF7 (m ((c.tc : Thread nD τ).loc main_arg0)),
    θ_run_mono (run_blocks m g) fun r hr c => ?_, θ_run_mono (Cert.Reference11Ideal.Value.run m' g') fun r hr c => ?_⟩
  · obtain ⟨h3, h4, h5, h6, h7, hargs⟩ := hr c
    exact ⟨h3.trans (arr3 m c), h4.trans (arr4 m c), h5.trans (arr5 m c), h6.trans (arr6 m c), h7.trans (arr7 m c), hargs⟩
  · obtain ⟨h3, h4, h5, h6, h7, hargs⟩ := hr c
    obtain ⟨g0, g1, g2⟩ := hagree c
    exact ⟨h3.trans (congrArg₂ REF3 g0 g1), h4.trans (congrArg₂ REF4 g0 g2), h5.trans (congrArg REF5 g0), h6.trans (congrArg REF6 g0), h7.trans (congrArg REF7 g0), hargs⟩

end Cert.Proof.EvenPrep

end
-- ==== Proof.V.Ada.lean ====
module

public import proofs.«01_k».proof.Defs
public import proofs.«01_k».proof.Proof.Gen.Kernel8Ideal.Value
public import proofs.«01_k».proof.Proof.Gen.Reference8Ideal.Run
public import Idealize.ShloMosaic.Lib.Claim
public import Idealize.ShloMosaic.Lib.Pointwise
public import Idealize.ShloMosaic.Lib.Pipeline.ValueKit

@[expose] public section

set_option maxRecDepth 16384

noncomputable section

/-! The modulation of both layers: the activated conditioning times the weight, plus the bias. -/
namespace Cert.Proof.Ada

open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The activated conditioning, as the reference writes it. -/
abbrev act (c : FVec Ideal S8x4096 .f32) : FVec Ideal S8x4096 .f32 :=
  mulf c (Host.divf (broadcastInDim Cert.Reference8Ideal.S8x4096 ![] Cert.Reference8Ideal.Gen.bcast_S_S8x4096 (constant Cert.Reference8Ideal.S_ .f32 0x3F800000#32)) (addf (broadcastInDim Cert.Reference8Ideal.S8x4096 ![] Cert.Reference8Ideal.Gen.bcast_S_S8x4096 (constant Cert.Reference8Ideal.S_ .f32 0x3F800000#32)) (Host.exp (Host.negf c))))

/-- The modulation, element by element. -/
def out (c : FVec Ideal S8x4096 .f32) (w : FVec Ideal S2x4096x24576 .f32) (b : FVec Ideal S2x24576 .f32) : FVec Ideal S2x8x24576 .f32 :=
  fun j => (∑ k : Fin 4096, (act c (ix2 (j 1) k) : EReal) * w (ix3 (j 0) k (j 2))) + b (ix2 (j 0) (j 2))

/-- The reference's term over the arguments. -/
def REF (c : FVec Ideal S8x4096 .f32) (w : FVec Ideal S2x4096x24576 .f32) (b : FVec Ideal S2x24576 .f32) : FVec Ideal S2x8x24576 .f32 :=
  concatenate Cert.Reference8Ideal.S2x8x24576 0 [⟨Cert.Reference8Ideal.S1x8x24576, (broadcastInDim Cert.Reference8Ideal.S1x8x24576 ![1, 2] Cert.Reference8Ideal.Gen.bcast_S8x24576_S1x8x24576_1_2 (addf (Host.dotGeneral Cert.Reference8Ideal.dot_S8x4096_S4096x24576_S8x24576_1_0_0_1_n_n none (act c) (shapeCast _ (extractStridedSlice Cert.Reference8Ideal.S1x4096x24576 ![0, 0, 0] w Cert.Reference8Ideal.Gen.slices_S2x4096x24576_S1x4096x24576_0_0_0) Cert.Reference8Ideal.Gen.shapeCasts_S1x4096x24576_S4096x24576)) (broadcastInDim Cert.Reference8Ideal.S8x24576 ![0, 1] Cert.Reference8Ideal.Gen.bcast_S1x24576_S8x24576_0_1 (broadcastInDim Cert.Reference8Ideal.S1x24576 ![1] Cert.Reference8Ideal.Gen.bcast_S24576_S1x24576_1 (shapeCast _ (extractStridedSlice Cert.Reference8Ideal.S1x24576 ![0, 0] b Cert.Reference8Ideal.Gen.slices_S2x24576_S1x24576_0_0) Cert.Reference8Ideal.Gen.shapeCasts_S1x24576_S24576)))))⟩, ⟨Cert.Reference8Ideal.S1x8x24576, (broadcastInDim Cert.Reference8Ideal.S1x8x24576 ![1, 2] Cert.Reference8Ideal.Gen.bcast_S8x24576_S1x8x24576_1_2 (addf (Host.dotGeneral Cert.Reference8Ideal.dot_S8x4096_S4096x24576_S8x24576_1_0_0_1_n_n none (act c) (shapeCast _ (extractStridedSlice Cert.Reference8Ideal.S1x4096x24576 ![1, 0, 0] w Cert.Reference8Ideal.Gen.slices_S2x4096x24576_S1x4096x24576_1_0_0) Cert.Reference8Ideal.Gen.shapeCasts_S1x4096x24576_S4096x24576)) (broadcastInDim Cert.Reference8Ideal.S8x24576 ![0, 1] Cert.Reference8Ideal.Gen.bcast_S1x24576_S8x24576_0_1 (broadcastInDim Cert.Reference8Ideal.S1x24576 ![1] Cert.Reference8Ideal.Gen.bcast_S24576_S1x24576_1 (shapeCast _ (extractStridedSlice Cert.Reference8Ideal.S1x24576 ![1, 0] b Cert.Reference8Ideal.Gen.slices_S2x24576_S1x24576_1_0) Cert.Reference8Ideal.Gen.shapeCasts_S1x24576_S24576)))))⟩] Cert.Reference8Ideal.Gen.concatenates_S1x8x24576_S1x8x24576_S2x8x24576_d0

theorem idx : ∀ t : Fin cfg0.N, (cfg0.win 0).index t = ![0, 0]
    ∧ (cfg0.win 1).index t = ![(grid0.coords t 0).val, 0, (grid0.coords t 1).val]
    ∧ (cfg0.win 2).index t = ![(grid0.coords t 0).val, 0, (grid0.coords t 1).val]
    ∧ (cfg0.win 3).index t = ![(grid0.coords t 0).val, 0, (grid0.coords t 1).val] := by
  decide +kernel

/-- The bias as the host prepares it. -/
theorem bias (c : Dev nD) : V m c main_v0
    = (shapeCast S2x1x24576 (m ((c : Thread nD τ).loc main_arg2)) shapeCasts_S2x24576_S2x1x24576 : FVec Ideal S2x1x24576 .f32) := by
  unfold V
  after_results <;> rfl

theorem bias_apply (b : FVec Ideal S2x24576 .f32) (l : Fin 2) (i : Fin 24576) :
    (shapeCast S2x1x24576 b shapeCasts_S2x24576_S2x1x24576 : FVec Ideal S2x1x24576 .f32) (ix3 l 0 i) = b (ix2 l i) := by
  pointwise

theorem bias_at (c : Dev nD) (t : Fin cfg0.N) (j : Fin 512) (l : Fin 2) (i : Fin 24576) (hl : l.val = (grid0.coords t 0).val)
    (hi : i.val = (grid0.coords t 1).val * 512 + j.val) :
    iblk m c 2 t (ix3 0 0 j) = m ((c : Thread nD τ).loc main_arg2) (ix2 l i) := by
  refine Eq.trans ?_ ((congrFun (bias m c) (ix3 l 0 i)).trans (bias_apply _ l i))
  blk_ext! [iblk, idx t, hi, hl]

theorem input (c : Dev nD) (t : Fin cfg0.N) (b : Fin 8) (k : Fin 4096) :
    iblk m c 0 t (ix2 b k) = m ((c : Thread nD τ).loc main_arg0) (ix2 b k) := by
  blk_ext! [iblk, V, idx t]

theorem point (c : Dev nD) (t : Fin cfg0.N) (y) : k0_pay1 (iblk m c 0 t) (iblk m c 1 t) (iblk m c 2 t) y
    = out (m ((c : Thread nD τ).loc main_arg0)) (m ((c : Thread nD τ).loc main_arg1)) (m ((c : Thread nD τ).loc main_arg2)) (((cfg0.win 3).blk t).view.emb y) := by
  idx_vars y
  pointwise [out, act, k0_pay1]
  refine congrArg₂ (fun a b : EReal => a + b) ?_ ?_
  · refine Finset.sum_congr (M := EReal) rfl fun k _ => ?_
    refine congrArg₂ (fun a b : EReal => a * b) ?_ ?_
    · rw [input m c t y1 k, show (((cfg0.win 3).blk t).view.emb (ix3 y0 y1 y2) 1) = y1 from Fin.ext (by blk_simp [idx t])]
      rfl
    · blk_ext! [iblk, V, idx t]
  · refine bias_at m c t y2 _ _ ?_ ?_ <;> blk_simp [idx t]

theorem arr (c : Dev nD) : (dats m 0 c).arrAt 3 cfg0.N = out (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  exact point m c t y

theorem ref (c : FVec Ideal S8x4096 .f32) (w : FVec Ideal S2x4096x24576 .f32) (b : FVec Ideal S2x24576 .f32) : REF c w b = out c w b := by
  funext j
  idx_vars j
  pointwise [REF, out, act]
  split_ifs with h
  · obtain rfl : j0 = 0 := Fin.ext (by simpa using h)
    rfl
  · obtain rfl : j0 = 1 := Fin.ext (by have := j0.isLt; simp; omega)
    rfl

theorem algebraic : Cert.algebraic_Kernel8Ideal_Reference8Ideal := by
  pair_intro
  · run_from Cert.Kernel8Ideal.Value.run_blocks m g
  · run_from Cert.Reference8Ideal.Value.run m' g'
    rw [arr m c, (hagree c).2.2]
    exact ref _ _ _

end Cert.Proof.Ada

end
-- ==== Proof.V.Small.lean ====
module

public import proofs.«01_k».proof.Defs
public import proofs.«01_k».proof.Proof.Gen.Kernel9Ideal.Value
public import proofs.«01_k».proof.Proof.Gen.Reference9Ideal.Run
public import Idealize.ShloMosaic.Lib.Claim
public import Idealize.ShloMosaic.Lib.Pointwise
public import Idealize.ShloMosaic.Lib.Pipeline.ValueKit

@[expose] public section

set_option maxRecDepth 16384

noncomputable section

/-! The small projections of the even layer, packed side by side in padded columns. -/
namespace Cert.Proof.Small

open Cert.Kernel9Ideal Cert.Kernel9Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Whether a packed column takes a weight column; the other packed columns are zero. -/
abbrev used (j : Nat) : Prop := j < 272 ∨ (384 ≤ j ∧ j < 448) ∨ (512 ≤ j ∧ j < 544)

/-- The weight column that a used packed column takes. -/
def col (j : Fin 640) : Fin 10608 :=
  ⟨if j.val < 256 then 8208 + j.val else if j.val < 384 then 5888 + j.val else if j.val < 480 then 10128 + j.val
    else if j.val < 544 then 10064 + j.val else 0, by split_ifs <;> omega⟩

/-- The packed projection, element by element. -/
def proj (h : FVec Ideal S8x2048x4096 .bf16) (w : FVec Ideal S1x4096x10608 .f32) : FVec Ideal S8x2048x640 .f32 :=
  fun j => if used (j 2).val then ∑ k : Fin 4096, (h (ix3 (j 0) (j 1) k) : EReal) * w (ix3 0 k (col (j 2))) else (0 : EReal)

/-- The reference's one contraction with the whole weight. -/
abbrev all (h : FVec Ideal S8x2048x4096 .bf16) (w : FVec Ideal S1x4096x10608 .f32) : FVec Ideal Cert.Reference9Ideal.S8x2048x10608 .f32 :=
  (Host.dotGeneral Cert.Reference9Ideal.dot_S8x2048x4096_S4096x10608_S8x2048x10608_2_0_01_1_n_n none (extf .f32 h Cert.Reference9Ideal.Gen.bitsLt_bf16_f32) (shapeCast _ w Cert.Reference9Ideal.Gen.shapeCasts_S1x4096x10608_S4096x10608))

/-- The reference's term over the two arguments. -/
def REF (h : FVec Ideal S8x2048x4096 .bf16) (w : FVec Ideal S1x4096x10608 .f32) : FVec Ideal S8x2048x640 .f32 :=
  (concatenate Cert.Reference9Ideal.S8x2048x640 2 [⟨Cert.Reference9Ideal.S8x2048x256, ((extractStridedSlice Cert.Reference9Ideal.S8x2048x256 ![0, 0, 8208] (all h w) Cert.Reference9Ideal.Gen.slices_S8x2048x10608_S8x2048x256_0_0_8208) : FVec Ideal Cert.Reference9Ideal.S8x2048x256 .f32)⟩, ⟨Cert.Reference9Ideal.S8x2048x128, ((pad Cert.Reference9Ideal.S8x2048x128 ![0, 0, 0] ![0, 0, 112] ![0, 0, 0] (extractStridedSlice Cert.Reference9Ideal.S8x2048x16 ![0, 0, 6144] (all h w) Cert.Reference9Ideal.Gen.slices_S8x2048x10608_S8x2048x16_0_0_6144) (sitofp .f32 (constantI Cert.Reference9Ideal.S_ 32 0#32)) Cert.Reference9Ideal.Gen.pads_S8x2048x16_S8x2048x128_000_000_01120 Cert.Reference9Ideal.Gen.h_S_) : FVec Ideal Cert.Reference9Ideal.S8x2048x128 .f32)⟩, ⟨Cert.Reference9Ideal.S8x2048x128, ((pad Cert.Reference9Ideal.S8x2048x128 ![0, 0, 0] ![0, 0, 64] ![0, 0, 0] (extractStridedSlice Cert.Reference9Ideal.S8x2048x64 ![0, 0, 10512] (all h w) Cert.Reference9Ideal.Gen.slices_S8x2048x10608_S8x2048x64_0_0_10512) (sitofp .f32 (constantI Cert.Reference9Ideal.S_ 32 0#32)) Cert.Reference9Ideal.Gen.pads_S8x2048x64_S8x2048x128_000_000_0640 Cert.Reference9Ideal.Gen.h_S_) : FVec Ideal Cert.Reference9Ideal.S8x2048x128 .f32)⟩, ⟨Cert.Reference9Ideal.S8x2048x128, ((pad Cert.Reference9Ideal.S8x2048x128 ![0, 0, 0] ![0, 0, 96] ![0, 0, 0] (extractStridedSlice Cert.Reference9Ideal.S8x2048x32 ![0, 0, 10576] (all h w) Cert.Reference9Ideal.Gen.slices_S8x2048x10608_S8x2048x32_0_0_10576) (sitofp .f32 (constantI Cert.Reference9Ideal.S_ 32 0#32)) Cert.Reference9Ideal.Gen.pads_S8x2048x32_S8x2048x128_000_000_0960 Cert.Reference9Ideal.Gen.h_S_) : FVec Ideal Cert.Reference9Ideal.S8x2048x128 .f32)⟩] Cert.Reference9Ideal.Gen.concatenates_S8x2048x256_S8x2048x128_S8x2048x128_S8x2048x128_S8x2048x640_d2 : FVec Ideal Cert.Reference9Ideal.S8x2048x640 .f32)

theorem idx : ∀ t : Fin cfg0.N, (cfg0.win 0).index t = ![(grid0.coords t 0).val, (grid0.coords t 1).val, 0]
    ∧ (cfg0.win 1).index t = ![0, (grid0.coords t 2).val]
    ∧ (cfg0.win 2).index t = ![(grid0.coords t 0).val, (grid0.coords t 1).val, (grid0.coords t 2).val] := by
  decide +kernel

/-- The weight as the host packs it, in terms of the whole weight. -/
def PACK (w : FVec Ideal S1x4096x10608 .f32) : FVec Ideal S4096x640 .bf16 :=
  truncf .bf16 (concatenate S4096x640 1
    [⟨S4096x256, (extractStridedSlice S4096x256 ![0, 8208] (shapeCast S4096x10608 w shapeCasts_S1x4096x10608_S4096x10608) slices_S4096x10608_S4096x256_0_8208 : FVec Ideal S4096x256 .f32)⟩,
     ⟨S4096x128, (pad S4096x128 ![0, 0] ![0, 112] ![0, 0] (extractStridedSlice S4096x16 ![0, 6144] (shapeCast S4096x10608 w shapeCasts_S1x4096x10608_S4096x10608) slices_S4096x10608_S4096x16_0_6144 : FVec Ideal S4096x16 .f32) (sitofp .f32 (constantI S_ 32 0#32)) pads_S4096x16_S4096x128_000_01120 h_S_ : FVec Ideal S4096x128 .f32)⟩,
     ⟨S4096x128, (pad S4096x128 ![0, 0] ![0, 64] ![0, 0] (extractStridedSlice S4096x64 ![0, 10512] (shapeCast S4096x10608 w shapeCasts_S1x4096x10608_S4096x10608) slices_S4096x10608_S4096x64_0_10512 : FVec Ideal S4096x64 .f32) (sitofp .f32 (constantI S_ 32 0#32)) pads_S4096x64_S4096x128_000_0640 h_S_ : FVec Ideal S4096x128 .f32)⟩,
     ⟨S4096x128, (pad S4096x128 ![0, 0] ![0, 96] ![0, 0] (extractStridedSlice S4096x32 ![0, 10576] (shapeCast S4096x10608 w shapeCasts_S1x4096x10608_S4096x10608) slices_S4096x10608_S4096x32_0_10576 : FVec Ideal S4096x32 .f32) (sitofp .f32 (constantI S_ 32 0#32)) pads_S4096x32_S4096x128_000_0960 h_S_ : FVec Ideal S4096x128 .f32)⟩]
    concatenates_S4096x256_S4096x128_S4096x128_S4096x128_S4096x640_d1 : FVec Ideal S4096x640 .f32) bitsLt_bf16_f32

theorem packed (c : Dev nD) : V m c main_v9 = PACK (m ((c : Thread nD τ).loc main_arg1)) := by
  unfold V
  simp only [hostOps0, hostOps0_1, hostOps0_2, hostOps0_3, hostOps0_4, hostOps0_5, hostOps0_6, List.flatten_cons, List.flatten_nil, List.append_nil, List.cons_append,
    List.nil_append, StableHlo.TRef.binary, StableHlo.TRef.unary, StableHlo.TRef.toBuf, StableHlo.TRef.ofBuf, cast_eq]
  after_results <;> rfl

theorem zero_word : (FloatOps.sitofp .f32 0#32 : Ideal .f32) = (0 : EReal) := by
  show ((((0#32 : BitVec 32).toInt : ℤ) : ℝ) : EReal) = 0
  simp

theorem PACK_apply (w : FVec Ideal S1x4096x10608 .f32) (k : Fin 4096) (i : Fin 640) :
    PACK w (ix2 k i) = if used i.val then w (ix3 0 k (col i)) else (0 : EReal) := by
  pointwise [PACK]
  simp only [zero_word]
  by_cases hu : used i.val
  · refine Eq.trans ?_ (if_pos hu).symm
    split_ifs <;> first
      | (exfalso; omega)
      | exact congrArg (fun i => w (ix3 0 k i)) (Fin.ext (by simp only [col]; split_ifs <;> omega))
  · refine Eq.trans ?_ (if_neg hu).symm
    split_ifs <;> first
      | rfl
      | (exfalso; omega)

/-- The block of packed weights that a point reads, in terms of the whole weight. -/
theorem weight_at (c : Dev nD) (t : Fin cfg0.N) (k : Fin 4096) (j : Fin 640) (i : Fin 640)
    (hi : i.val = (grid0.coords t 2).val * 640 + j.val) :
    iblk m c 1 t (ix2 k j) = if used i.val then m ((c : Thread nD τ).loc main_arg1) (ix3 0 k (col i)) else (0 : EReal) := by
  refine Eq.trans ?_ ((congrFun (packed m c) (ix2 k i)).trans (PACK_apply _ k i))
  blk_ext! [iblk, idx t, hi]

theorem sum_used (h : FVec Ideal S8x2048x4096 .bf16) (w : FVec Ideal S1x4096x10608 .f32) (b : Fin 8) (r : Fin 2048) (i : Fin 640) :
    (∑ k : Fin 4096, (h (ix3 b r k) : EReal) * (if used i.val then w (ix3 0 k (col i)) else (0 : EReal))) = proj h w (ix3 b r i) := by
  by_cases hu : used i.val
  · refine Eq.trans ?_ (if_pos hu : proj h w (ix3 b r i) = _).symm
    exact Finset.sum_congr rfl fun k _ => by rw [if_pos hu]; rfl
  · refine Eq.trans ?_ (if_neg hu : proj h w (ix3 b r i) = _).symm
    exact Finset.sum_eq_zero fun k _ => by rw [if_neg hu, mul_zero]

theorem point (c : Dev nD) (t : Fin cfg0.N) (y) : k0_pay1 (iblk m c 0 t) (iblk m c 1 t) y
    = proj (m ((c : Thread nD τ).loc main_arg0)) (m ((c : Thread nD τ).loc main_arg1)) (((cfg0.win 2).blk t).view.emb y) := by
  idx_vars y
  refine Eq.trans ?_ (sum_used _ _ _ _ _)
  pointwise [k0_pay1]
  refine Finset.sum_congr (M := EReal) rfl fun k _ => ?_
  refine congrArg₂ (fun a b : EReal => a * b) ?_ ?_
  · blk_ext! [iblk, V, idx t]
  · refine weight_at m c t k y2 _ ?_
    blk_simp [idx t]

theorem arr (c : Dev nD) : (dats m 0 c).arrAt 2 cfg0.N = proj (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

theorem ref (h : FVec Ideal S8x2048x4096 .bf16) (w : FVec Ideal S1x4096x10608 .f32) :
    REF h w = proj h w := by
  funext j
  idx_vars j
  pointwise [REF, proj]
  simp only [zero_word]
  by_cases hu : used j2.val
  · refine Eq.trans ?_ (if_pos hu).symm
    split_ifs <;> first
      | (exfalso; omega)
      | (refine Finset.sum_congr rfl fun k _ => congrArg (fun i => (h (ix3 j0 j1 k) : EReal) * w (ix3 0 k i)) (Fin.ext ?_)
         simp only [col]; split_ifs <;> omega)
  · refine Eq.trans ?_ (if_neg hu).symm
    split_ifs <;> first
      | rfl
      | (exfalso; omega)

theorem algebraic : Cert.algebraic_Kernel9Ideal_Reference9Ideal := by
  pair_intro
  · run_from Cert.Kernel9Ideal.Value.run_blocks m g
  · run_from Cert.Reference9Ideal.Value.run m' g'
    rw [arr m c]
    exact ref _ _

end Cert.Proof.Small

end
-- ==== Proof.V.NormMod.lean ====
module

public import proofs.«01_k».proof.Defs
public import proofs.«01_k».proof.Proof.Gen.Kernel10Ideal.Value
public import proofs.«01_k».proof.Proof.Gen.Reference10Ideal.Run
public import Idealize.ShloMosaic.Lib.Claim
public import Idealize.ShloMosaic.Lib.Pointwise
public import Idealize.ShloMosaic.Lib.Pipeline.ValueKit

@[expose] public section

set_option maxRecDepth 16384

noncomputable section

/-! The first normalization of layer 0, scaled and shifted by the modulation. -/
namespace Cert.Proof.NormMod

open Cert.Kernel10Ideal Cert.Kernel10Ideal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The reference's term over the arguments. -/
def REF (x : FVec Ideal S8x2048x4096 .f32) (g : FVec Ideal S2x4096 .f32) (s : FVec Ideal S2x8x24576 .f32) : FVec Ideal S8x2048x4096 .bf16 :=
  truncf .bf16 (addf (mulf (mulf (mulf x (broadcastInDim Cert.Reference10Ideal.S8x2048x4096 ![0, 1, 2] Cert.Reference10Ideal.Gen.bcast_S8x2048x1_S8x2048x4096_0_1_2 (Host.rsqrt (addf (Host.divf (broadcastInDim Cert.Reference10Ideal.S8x2048x1 ![0, 1] Cert.Reference10Ideal.Gen.bcast_S8x2048_S8x2048x1_0_1 (Host.reduceAdd (mulf x x) (constant Cert.Reference10Ideal.S_ .f32 0x00000000#32) Cert.Reference10Ideal.Gen.reducesTo_S8x2048x4096_S8x2048_d2 Cert.Reference10Ideal.Gen.h_S_)) (broadcastInDim Cert.Reference10Ideal.S8x2048x1 ![] Cert.Reference10Ideal.Gen.bcast_S_S8x2048x1 (constant Cert.Reference10Ideal.S_ .f32 0x45800000#32))) (broadcastInDim Cert.Reference10Ideal.S8x2048x1 ![] Cert.Reference10Ideal.Gen.bcast_S_S8x2048x1 (constant Cert.Reference10Ideal.S_ .f32 0x358637BD#32)))))) (broadcastInDim Cert.Reference10Ideal.S8x2048x4096 ![0, 1, 2] Cert.Reference10Ideal.Gen.bcast_S1x1x4096_S8x2048x4096_0_1_2 (broadcastInDim Cert.Reference10Ideal.S1x1x4096 ![2] Cert.Reference10Ideal.Gen.bcast_S4096_S1x1x4096_2 (shapeCast _ (extractStridedSlice Cert.Reference10Ideal.S1x4096 ![0, 0] g Cert.Reference10Ideal.Gen.slices_S2x4096_S1x4096_0_0) Cert.Reference10Ideal.Gen.shapeCasts_S1x4096_S4096)))) (broadcastInDim Cert.Reference10Ideal.S8x2048x4096 ![0, 1, 2] Cert.Reference10Ideal.Gen.bcast_S8x1x4096_S8x2048x4096_0_1_2 (addf (broadcastInDim Cert.Reference10Ideal.S8x1x4096 ![] Cert.Reference10Ideal.Gen.bcast_S_S8x1x4096 (constant Cert.Reference10Ideal.S_ .f32 0x3F800000#32)) (broadcastInDim Cert.Reference10Ideal.S8x1x4096 ![0, 2] Cert.Reference10Ideal.Gen.bcast_S8x4096_S8x1x4096_0_2 (extractStridedSlice Cert.Reference10Ideal.S8x4096 ![0, 4096] (shapeCast _ (extractStridedSlice Cert.Reference10Ideal.S1x8x24576 ![0, 0, 0] s Cert.Reference10Ideal.Gen.slices_S2x8x24576_S1x8x24576_0_0_0) Cert.Reference10Ideal.Gen.shapeCasts_S1x8x24576_S8x24576) Cert.Reference10Ideal.Gen.slices_S8x24576_S8x4096_0_4096))))) (broadcastInDim Cert.Reference10Ideal.S8x2048x4096 ![0, 1, 2] Cert.Reference10Ideal.Gen.bcast_S8x1x4096_S8x2048x4096_0_1_2 (broadcastInDim Cert.Reference10Ideal.S8x1x4096 ![0, 2] Cert.Reference10Ideal.Gen.bcast_S8x4096_S8x1x4096_0_2 (extractStridedSlice Cert.Reference10Ideal.S8x4096 ![0, 0] (shapeCast _ (extractStridedSlice Cert.Reference10Ideal.S1x8x24576 ![0, 0, 0] s Cert.Reference10Ideal.Gen.slices_S2x8x24576_S1x8x24576_0_0_0) Cert.Reference10Ideal.Gen.shapeCasts_S1x8x24576_S8x24576) Cert.Reference10Ideal.Gen.slices_S8x24576_S8x4096_0_0)))) Cert.Reference10Ideal.Gen.bitsLt_bf16_f32

theorem idx : ∀ t : Fin cfg0.N, (cfg0.win 0).index t = ![(grid0.coords t 0).val, (grid0.coords t 1).val, 0]
    ∧ (cfg0.win 1).index t = ![0, 0]
    ∧ (cfg0.win 2).index t = ![(grid0.coords t 0).val, 0, 1]
    ∧ (cfg0.win 3).index t = ![(grid0.coords t 0).val, 0, 0]
    ∧ (cfg0.win 4).index t = ![(grid0.coords t 0).val, (grid0.coords t 1).val, 0] := by
  decide +kernel

/-- The weight and the modulation as the host prepares them. -/
theorem weight (c : Dev nD) : V m c main_v5
    = (shapeCast S1x4096 (shapeCast S4096 (extractStridedSlice S1x4096 ![0, 0] (m ((c : Thread nD τ).loc main_arg1)) slices_S2x4096_S1x4096_0_0 : FVec Ideal S1x4096 .f32)
        shapeCasts_S1x4096_S4096 : FVec Ideal S4096 .f32) shapeCasts_S4096_S1x4096 : FVec Ideal S1x4096 .f32) := by
  unfold V
  after_results <;> rfl

theorem mods (c : Dev nD) : V m c main_v4
    = (shapeCast S8x1x24576 (shapeCast S8x24576 (extractStridedSlice S1x8x24576 ![0, 0, 0] (m ((c : Thread nD τ).loc main_arg2)) slices_S2x8x24576_S1x8x24576_0_0_0 : FVec Ideal S1x8x24576 .f32)
        shapeCasts_S1x8x24576_S8x24576 : FVec Ideal S8x24576 .f32) shapeCasts_S8x24576_S8x1x24576 : FVec Ideal S8x1x24576 .f32) := by
  unfold V
  after_results <;> rfl

theorem weight_at (c : Dev nD) (t : Fin cfg0.N) (k : Fin 4096) :
    iblk m c 1 t (ix2 0 k) = m ((c : Thread nD τ).loc main_arg1) (ix2 0 k) := by
  refine Eq.trans ?_ ((congrFun (weight m c) (ix2 0 k)).trans (by pointwise))
  blk_ext! [iblk, idx t]

theorem scale_at (c : Dev nD) (t : Fin cfg0.N) (j : Fin 4096) (b : Fin 8) (i : Fin 24576) (hb : b.val = (grid0.coords t 0).val)
    (hi : i.val = 4096 + j.val) :
    iblk m c 2 t (ix3 0 0 j) = m ((c : Thread nD τ).loc main_arg2) (ix3 0 b i) := by
  refine Eq.trans ?_ ((congrFun (mods m c) (ix3 b 0 i)).trans (by pointwise))
  blk_ext! [iblk, idx t, hi, hb]

theorem shift_at (c : Dev nD) (t : Fin cfg0.N) (j : Fin 4096) (b : Fin 8) (i : Fin 24576) (hb : b.val = (grid0.coords t 0).val)
    (hi : i.val = j.val) :
    iblk m c 3 t (ix3 0 0 j) = m ((c : Thread nD τ).loc main_arg2) (ix3 0 b i) := by
  refine Eq.trans ?_ ((congrFun (mods m c) (ix3 b 0 i)).trans (by pointwise))
  blk_ext! [iblk, idx t, hi, hb]

theorem input_at (c : Dev nD) (t : Fin cfg0.N) (r : Fin 256) (k : Fin 4096) (b : Fin 8) (i : Fin 2048) (hb : b.val = (grid0.coords t 0).val)
    (hi : i.val = (grid0.coords t 1).val * 256 + r.val) :
    iblk m c 0 t (ix3 0 r k) = m ((c : Thread nD τ).loc main_arg0) (ix3 b i k) := by
  blk_ext! [iblk, V, idx t, hi, hb]

theorem point (c : Dev nD) (t : Fin cfg0.N) (y) : k0_pay1 (iblk m c 0 t) (iblk m c 1 t) (iblk m c 2 t) (iblk m c 3 t) y
    = REF (m ((c : Thread nD τ).loc main_arg0)) (m ((c : Thread nD τ).loc main_arg1)) (m ((c : Thread nD τ).loc main_arg2)) (((cfg0.win 4).blk t).view.emb y) := by
  idx_vars y
  have h0 : (((cfg0.win 4).blk t).view.emb (ix3 y0 y1 y2) 0).val = (grid0.coords t 0).val := by blk_simp [idx t]
  have h1 : (((cfg0.win 4).blk t).view.emb (ix3 y0 y1 y2) 1).val = (grid0.coords t 1).val * 256 + y1.val := by blk_simp [idx t]
  have h2 : (((cfg0.win 4).blk t).view.emb (ix3 y0 y1 y2) 2) = y2 := Fin.ext (by blk_simp [idx t])
  have hx (k : Fin 4096) := input_at m c t y1 k (((cfg0.win 4).blk t).view.emb (ix3 y0 y1 y2) 0) (((cfg0.win 4).blk t).view.emb (ix3 y0 y1 y2) 1) h0 h1
  pointwise [REF, k0_pay1]
  refine congrArg₂ (fun a b : EReal => a + b) (congrArg₂ (fun a b : EReal => a * b) (congrArg₂ (fun a b : EReal => a * b)
    (congrArg₂ (fun a b : EReal => a * b) ?_ (congrArg (fun s : EReal => Ideal.rsqrt (Ideal.div s _ + _)) ?_)) ?_) (congrArg (fun s : EReal => 1 + s) ?_)) ?_
  · refine (hx y2).trans (congrArg _ ?_)
    exact (congrArg (fun k => ix3 _ _ k) h2.symm).trans (ix3_eta _)
  · exact Finset.sum_congr rfl fun k _ => congrArg₂ (fun a b : EReal => a * b) (hx k) (hx k)
  · exact (weight_at m c t y2).trans (congrArg (fun k => m ((c : Thread nD τ).loc main_arg1) (ix2 0 k)) h2.symm)
  · exact scale_at m c t y2 _ _ h0 (congrArg (fun k : Fin 4096 => 4096 + k.val) h2)
  · exact shift_at m c t y2 _ _ h0 (congrArg (fun k : Fin 4096 => k.val) h2)

theorem arr (c : Dev nD) : (dats m 0 c).arrAt 4 cfg0.N = REF (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  frame_out
  exact point m c t y

theorem algebraic : Cert.algebraic_Kernel10Ideal_Reference10Ideal := by
  pair_intro
  · run_from Cert.Kernel10Ideal.Value.run_blocks m g
  · run_from Cert.Reference10Ideal.Value.run m' g'
    rw [arr m c]
    rfl

end Cert.Proof.NormMod

end
-- ==== Proof.Fox.Finite.lean ====
/- What the precondition of the attention says: the queries, the keys and the biases are real numbers. -/
module

public import proofs.«01_k».proof.Defs
public import Idealize.ShloMosaic.Lib.ReduceAll
public import Idealize.ShloMosaic.Lib.Pointwise
public import Idealize.ShloMosaic.Lib.Decide

@[expose] public section

set_option maxRecDepth 16384

noncomputable section

namespace Cert.Proof.Fox

open Cert.Pre_finite_scores Idealize.ShloMosaic

/-- The side conditions of the precondition's own operations. -/
instance preFacts : Cert.Pre_finite_scores.Facts where
  slices_S8x2048x10240_S8x2048x4096_0_0_0 := by decide
  bitsLt_bf16_f32 := by decide
  bcast_S_S8x2048x4096 := by decide
  reducesTo_S8x2048x4096_S_d0_1_2 := by decide
  h_S_ := by decide
  bcast_S_S8x16x2048 := by decide
  reducesTo_S8x16x2048_S_d0_1_2 := by decide

theorem posInf : Ideal.ofBits .f32 0x7F800000#32 = ⊤ := by simp [Ideal.ofBits, Ideal.ieee]

/-- A number whose size is below +∞ is real. -/
theorem real_of_lt (x : EReal) (h : Ideal.cmp .olt (max x (-x)) ⊤ = 1#1) : ∃ r : ℝ, x = (r : EReal) := by
  induction x using EReal.rec with
  | bot => simp [Ideal.cmp] at h
  | coe a => exact ⟨a, rfl⟩
  | top => simp [Ideal.cmp] at h

theorem entry_z (z : FVec Ideal S8x2048x10240 .bf16) (b : Fin 8) (s : Fin 2048) (i : Fin 4096)
    (h : cmpf .olt (Host.absf (extf .f32 (extractStridedSlice S8x2048x4096 ![0, 0, 0] z Facts.slices_S8x2048x10240_S8x2048x4096_0_0_0 : FVec Ideal S8x2048x4096 .bf16) Facts.bitsLt_bf16_f32 : FVec Ideal S8x2048x4096 .f32))
      (broadcastInDim S8x2048x4096 ![] Facts.bcast_S_S8x2048x4096 (constant S_ .f32 0x7F800000#32 : FVec Ideal S_ .f32)) (ix3 b s i) = 1#1) :
    ∃ r : ℝ, (z (ix3 b s ⟨i.val, by omega⟩) : EReal) = (r : EReal) := by
  refine real_of_lt _ (Eq.trans ?_ h)
  pointwise
  rw [posInf]
  rfl

theorem entry_neg (neg : FVec Ideal S8x16x2048 .f32) (b : Fin 8) (g : Fin 16) (s : Fin 2048)
    (h : cmpf .olt (Host.absf neg) (broadcastInDim S8x16x2048 ![] Facts.bcast_S_S8x16x2048 (constant S_ .f32 0x7F800000#32 : FVec Ideal S_ .f32)) (ix3 b g s) = 1#1) :
    ∃ r : ℝ, (neg (ix3 b g s) : EReal) = (r : EReal) := by
  refine real_of_lt _ (Eq.trans ?_ h)
  pointwise
  rw [posInf]
  rfl

/-- The precondition, read: the queries' and keys' columns and the biases are real. -/
theorem finite (z : FVec Ideal S8x2048x10240 .bf16) (neg : FVec Ideal S8x16x2048 .f32)
    (h : Cert.Pre_finite_scores.fn z neg = fun _ => 1#1) :
    (∀ (b : Fin 8) (s : Fin 2048) (i : Fin 4096), ∃ r : ℝ, (z (ix3 b s ⟨i.val, by omega⟩) : EReal) = (r : EReal))
      ∧ ∀ (b : Fin 8) (g : Fin 16) (s : Fin 2048), ∃ r : ℝ, (neg (ix3 b g s) : EReal) = (r : EReal) := by
  haveI : Subsingleton S_.Idx := ⟨fun a b => funext fun i => i.elim0⟩
  have e := IntOp.andi_eq_one.mp (congrFun h ix0)
  exact ⟨fun b s i => entry_z z b s i (Host.reduce_andi_all _ _ _ _ _ e.1 _),
    fun b g s => entry_neg neg b g s (Host.reduce_andi_all _ _ _ _ _ e.2 _)⟩

end Cert.Proof.Fox

end
-- ==== Proof.Fox.Loop.lean ====
/- The attention kernel's outer loop, over query blocks: what one trip stores, and the invariant that collects the
   stores of the trips before it. The inner loops, over key blocks, are gone through by their generated invariants. -/
module

public import proofs.«01_k».proof.Proof.Gen.KernelIdeal.Loops
public import proofs.«01_k».proof.Proof.Gen.KernelIdeal.Frame
public import Idealize.ShloMosaic.Lib.Exec
public import Idealize.ShloMosaic.Lib.Tactic

@[expose] public section

set_option maxRecDepth 8192

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Trip

variable (c : Dev nD) (i : grid0.Coords)
  (arg2 : Memref sig .tc .vmem S1x2048x512 .bf16) (harg2 : arg2.IsWhole)
  (arg3 : Memref sig .tc .vmem S1x2048x512 .bf16) (harg3 : arg3.IsWhole)
  (arg4 : Memref sig .tc .vmem S1x2048x512 .bf16) (harg4 : arg4.IsWhole)
  (arg5 : Memref sig .tc .vmem S1x4x4x512 .f32) (harg5 : arg5.IsWhole)
  (arg6 : Memref sig .tc .vmem S1x2048x512 .bf16) (harg6 : arg6.IsWhole)
  (X2 : BufTy.Contents (Elt F) arg2.view.ty) (X3 : BufTy.Contents (Elt F) arg3.view.ty)
  (X4 : BufTy.Contents (Elt F) arg4.view.ty) (X5 : BufTy.Contents (Elt F) arg5.view.ty)

/-- What a trip holds: the four input buffers at their contents and the output buffer at `f`. -/
abbrev held (f : BufTy.Contents (Elt F) arg6.view.ty) : sProp 𝕄 :=
  iprop((arg2.view.loc (c : Thread nD τ) ↦[arg2.view.set]{fullShare} X2)
    ∗ (arg3.view.loc (c : Thread nD τ) ↦[arg3.view.set]{fullShare} X3)
    ∗ (arg4.view.loc (c : Thread nD τ) ↦[arg4.view.set]{fullShare} X4)
    ∗ (arg5.view.loc (c : Thread nD τ) ↦[arg5.view.set]{fullShare} X5)
    ∗ (arg6.view.loc (c : Thread nD τ) ↦[arg6.view.set]{fullShare} f))

set_option maxHeartbeats 4000000 in
/-- One query block: the list of stores it makes, whatever the output buffer held. -/
@[irreducible] def trip (k : Fin k0_t1_loop.trips) :
    { L : List (View.Piece (Elt F) S1x2048x512 .bf16) // ∀ f : BufTy.Contents (Elt F) arg6.view.ty,
      held c arg2 arg3 arg4 arg5 arg6 X2 X3 X4 X5 f
      ⊢ wp frame (wpE (defs₀ (F := F)) Variants.none (c : Thread nD τ) none) Set.univ
          (k0_t1_body (F := F) i arg2 harg2 arg3 harg3 arg4 harg4 arg5 harg5 arg6 harg6 k ())
          (fun _ => held c arg2 arg3 arg4 arg5 arg6 X2 X3 X4 X5 (arg6.view.writes (Elt F) f L)) } := by
  refine ⟨?_, fun f => ?run⟩
  case run =>
    unfold k0_t1_body
    iintro ⟨H2, H3, H4, H5, H6⟩
    sl_exec
    sl_step
    sl_close

/-- The stores of the trips before `k`, last first. -/
def stored : ℕ → List (View.Piece (Elt F) S1x2048x512 .bf16)
  | 0 => []
  | k + 1 =>
    if h : k < k0_t1_loop.trips then
      (trip c i arg2 harg2 arg3 harg3 arg4 harg4 arg5 harg5 arg6 harg6 X2 X3 X4 X5 ⟨k, h⟩).1 ++ stored k
    else stored k

theorem stored_succ (k : Fin k0_t1_loop.trips) :
    stored c i arg2 harg2 arg3 harg3 arg4 harg4 arg5 harg5 arg6 harg6 X2 X3 X4 X5 (k.val + 1)
      = (trip c i arg2 harg2 arg3 harg3 arg4 harg4 arg5 harg5 arg6 harg6 X2 X3 X4 X5 k).1
        ++ stored c i arg2 harg2 arg3 harg3 arg4 harg4 arg5 harg5 arg6 harg6 X2 X3 X4 X5 k.val := by
  rw [stored.eq_2]; exact dif_pos k.isLt

set_option warn.classDefReducibility false in
/-- The loop by its invariant: before trip `k` the output buffer has received the stores of the trips before `k`. -/
@[sl_loop] def loopInv (f₀ : BufTy.Contents (Elt F) arg6.view.ty) :
    LoopInvTy_k0_t1 (F := F) Unit ℕ (UR sig nD τ) ℕ Variants.none c none Set.univ
      i arg2 harg2 arg3 harg3 arg4 harg4 arg5 harg5 arg6 harg6 where
  inv k _ := held c arg2 arg3 arg4 arg5 arg6 X2 X3 X4 X5 (arg6.view.writes (Elt F) f₀
    (stored c i arg2 harg2 arg3 harg3 arg4 harg4 arg5 harg5 arg6 harg6 X2 X3 X4 X5 k))
  step k _ := by
    rw [stored_succ, View.writes_append]
    iintro H
    iapply (wp_wand_r Idealize.ShloMosaic.frame (wpE (defs₀ (F := F)) Variants.none (c : Thread nD τ) none) Set.univ)
    isplitl [H]
    · iapply (trip c i arg2 harg2 arg3 harg3 arg4 harg4 arg5 harg5 arg6 harg6 X2 X3 X4 X5 k).2 _
      iexact H
    · iintro %_ H'
      iexact H'

end Trip

end Cert.Proof.Fox

end
-- ==== Proof.Fox.Step.lean ====
/- The attention kernel's arithmetic as functions of the blocks it reads: one key block's update of a head's running
   maximum, denominator and numerator; the masked update of the diagonal block with the final quotient; and the list of
   stores of one query block in these terms. -/
module

public import proofs.«01_k».proof.Proof.Fox.Loop

@[expose] public section

set_option maxRecDepth 8192

noncomputable section

namespace Cert.Proof.Fox

open Cert.KernelIdeal Cert.KernelIdeal.Gen
open Idealize.ShloMosaic Idealize.ShloMosaic.TcCoe

variable {F : FTy → Type} [FloatOps F]

/-- One head's running maximum, denominator and numerator over a block of 512 queries. -/
abbrev Acc (F : FTy → Type) [FloatOps F] : Type := FVec F S512x1 .f32 × FVec F S512x1 .f32 × FVec F S512x128 .f32

/-- The running values before any key: maximum −∞, sums zero. -/
def start : Acc F := (k0_pay48, k0_pay49, k0_pay50)

/-- One key block: keys `kb`, values `vb`, biases `nb`. -/
def step (q : FVec F S512x128 .bf16) (kb vb : Vec F S1x512x128 .bf16) (nb : Vec F S1x1x1x512 .f32) (a : Acc F) : Acc F :=
  (k0_pay7 q a.1 kb nb, k0_pay10 q a.1 a.2.1 kb nb, k0_pay11 q a.1 a.2.2 kb vb nb)

/-- The diagonal key block, masked, and the quotient numerator over denominator. -/
def finish (q : FVec F S512x128 .bf16) (kb vb : Vec F S1x512x128 .bf16) (nb : Vec F S1x1x1x512 .f32) (a : Acc F) :
    FVec F S1x512x128 .bf16 :=
  k0_pay2 (k0_pay82 k0_pay1 q a.1 a.2.1 kb nb) (k0_pay83 k0_pay1 q a.1 a.2.2 kb vb nb)

/-- Rows of query block `k`, columns of head `h`. -/
def qBlk (x : Vec F S1x2048x512 .bf16) (k : Fin k0_t1_loop.trips) : Fin 4 → Vec F S1x512x128 .bf16
  | 0 => View.ld x (Rect.unit (s := S1x2048x512) (k0_off1 k) S1x512x128.size (k0_off1_inb k))
  | 1 => View.ld x (Rect.unit (s := S1x2048x512) (k0_off2 k) S1x512x128.size (k0_off2_inb k))
  | 2 => View.ld x (Rect.unit (s := S1x2048x512) (k0_off3 k) S1x512x128.size (k0_off3_inb k))
  | 3 => View.ld x (Rect.unit (s := S1x2048x512) (k0_off4 k) S1x512x128.size (k0_off4_inb k))

/-- Rows of key block `n`, columns of head `h`. -/
def kBlk (x : Vec F S1x2048x512 .bf16) (k : Fin k0_t1_loop.trips) (n : Fin (k0_t2_loop k).trips) :
    Fin 4 → Vec F S1x512x128 .bf16
  | 0 => View.ld x (Rect.unit (s := S1x2048x512) (k0_off5 k n) S1x512x128.size (k0_off5_inb k n))
  | 1 => View.ld x (Rect.unit (s := S1x2048x512) (k0_off7 k n) S1x512x128.size (k0_off7_inb k n))
  | 2 => View.ld x (Rect.unit (s := S1x2048x512) (k0_off9 k n) S1x512x128.size (k0_off9_inb k n))
  | 3 => View.ld x (Rect.unit (s := S1x2048x512) (k0_off11 k n) S1x512x128.size (k0_off11_inb k n))

/-- The biases of key block `n`, head `h`. -/
def nBlk (x : Vec F S1x4x4x512 .f32) (k : Fin k0_t1_loop.trips) (n : Fin (k0_t2_loop k).trips) :
    Fin 4 → Vec F S1x1x1x512 .f32
  | 0 => View.ld x (Rect.unit (s := S1x4x4x512) (k0_off6 k n) S1x1x1x512.size (k0_off6_inb k n))
  | 1 => View.ld x (Rect.unit (s := S1x4x4x512) (k0_off8 k n) S1x1x1x512.size (k0_off8_inb k n))
  | 2 => View.ld x (Rect.unit (s := S1x4x4x512) (k0_off10 k n) S1x1x1x512.size (k0_off10_inb k n))
  | 3 => View.ld x (Rect.unit (s := S1x4x4x512) (k0_off12 k n) S1x1x1x512.size (k0_off12_inb k n))

/-- The biases of the diagonal key block of query block `k`, head `h`. -/
def dBlk (x : Vec F S1x4x4x512 .f32) (k : Fin k0_t1_loop.trips) : Fin 4 → Vec F S1x1x1x512 .f32
  | 0 => View.ld x (Rect.unit (s := S1x4x4x512) (k0_off21 k) S1x1x1x512.size (k0_off21_inb k))
  | 1 => View.ld x (Rect.unit (s := S1x4x4x512) (k0_off22 k) S1x1x1x512.size (k0_off22_inb k))
  | 2 => View.ld x (Rect.unit (s := S1x4x4x512) (k0_off23 k) S1x1x1x512.size (k0_off23_inb k))
  | 3 => View.ld x (Rect.unit (s := S1x4x4x512) (k0_off24 k) S1x1x1x512.size (k0_off24_inb k))

section Blocks

variable (x2 x3 x4 : Vec F S1x2048x512 .bf16) (x5 : Vec F S1x4x4x512 .f32) (k : Fin k0_t1_loop.trips)

/-- Head `h`'s running values after `n` key blocks. -/
def accs (h : Fin 4) : ℕ → Acc F
  | 0 => start
  | n + 1 =>
    if hn : n < (k0_t2_loop k).trips then
      step (k0_pay44 (qBlk x2 k h)) (kBlk x3 k ⟨n, hn⟩ h) (kBlk x4 k ⟨n, hn⟩ h) (nBlk x5 k ⟨n, hn⟩ h) (accs h n)
    else accs h n

theorem accs_succ (h : Fin 4) (n : Fin (k0_t2_loop k).trips) :
    accs x2 x3 x4 x5 k h (n.val + 1)
      = step (k0_pay44 (qBlk x2 k h)) (kBlk x3 k n h) (kBlk x4 k n h) (nBlk x5 k n h) (accs x2 x3 x4 x5 k h n.val) := by
  rw [accs.eq_2]; exact dif_pos n.isLt

/-- What head `h` stores for query block `k`. -/
def outBlk (h : Fin 4) : FVec F S1x512x128 .bf16 :=
  finish (k0_pay44 (qBlk x2 k h)) (qBlk x3 k h) (qBlk x4 k h) (dBlk x5 k h) (accs x2 x3 x4 x5 k h (k0_t2_loop k).trips)

/-- The stores of query block `k`, last first. -/
def pieces : List (View.Piece (Elt F) S1x2048x512 .bf16) :=
  [⟨Rect.unit (s := S1x2048x512) (k0_off4 k) S1x512x128.size (k0_off4_inb k), outBlk x2 x3 x4 x5 k 3⟩,
   ⟨Rect.unit (s := S1x2048x512) (k0_off3 k) S1x512x128.size (k0_off3_inb k), outBlk x2 x3 x4 x5 k 2⟩,
   ⟨Rect.unit (s := S1x2048x512) (k0_off2 k) S1x512x128.size (k0_off2_inb k), outBlk x2 x3 x4 x5 k 1⟩,
   ⟨Rect.unit (s := S1x2048x512) (k0_off1 k) S1x512x128.size (k0_off1_inb k), outBlk x2 x3 x4 x5 k 0⟩]

end Blocks

/-- The twelve running values of the four heads in the order the loop carries them. -/
abbrev pack (a : Fin 4 → Acc F) :
    FVec F S512x1 .f32 × FVec F S512x1 .f32 × FVec F S512x128 .f32 × FVec F S512x1 .f32 × FVec F S512x1 .f32 × FVec F S512x128 .f32 × FVec F S512x1 .f32 × FVec F S512x1 .f32 × FVec F S512x128 .f32 × FVec F S512x1 .f32 × FVec F S512x1 .f32 × FVec F S512x128 .f32 :=
  ((a 0).1, (a 0).2.1, (a 0).2.2, (a 1).1, (a 1).2.1, (a 1).2.2, (a 2).1, (a 2).2.1, (a 2).2.2, (a 3).1, (a 3).2.1, (a 3).2.2)

/-- The key blocks before query block `k` number `k`. -/
theorem trips2 (k : Fin k0_t1_loop.trips) : (k0_t2_loop k).trips = k.val := by revert k; decide

/-- The remainder loop makes no trip. -/
theorem trips3 (k : Fin k0_t1_loop.trips) : (k0_t3_loop k).trips = 0 := by revert k; decide

section Trip

variable (c : Dev nD) (i : grid0.Coords)
  (arg2 : Memref sig .tc .vmem S1x2048x512 .bf16) (harg2 : arg2.IsWhole)
  (arg3 : Memref sig .tc .vmem S1x2048x512 .bf16) (harg3 : arg3.IsWhole)
  (arg4 : Memref sig .tc .vmem S1x2048x512 .bf16) (harg4 : arg4.IsWhole)
  (arg5 : Memref sig .tc .vmem S1x4x4x512 .f32) (harg5 : arg5.IsWhole)
  (arg6 : Memref sig .tc .vmem S1x2048x512 .bf16) (harg6 : arg6.IsWhole)
  (X2 : BufTy.Contents (Elt F) arg2.view.ty) (X3 : BufTy.Contents (Elt F) arg3.view.ty)
  (X4 : BufTy.Contents (Elt F) arg4.view.ty) (X5 : BufTy.Contents (Elt F) arg5.view.ty)

/-- A trip of the loop over key blocks updates each head by `step`. -/
theorem tripR_eq (c0 c1 : BitVec 32) (k : Fin k0_t1_loop.trips) (x2 : Vec F S1x2048x512 .bf16)
    (n : Fin (k0_t2_loop k).trips) (a : Fin 4 → Acc F) :
    tripR_k0_t2 Variants.none c none i arg2 harg2 arg3 harg3 arg4 harg4 arg5 harg5 arg6 harg6 c0 c1 k
        (qBlk x2 k 0) (qBlk x2 k 1) (qBlk x2 k 2) (qBlk x2 k 3) X3 X4 X5 n (pack a)
      = pack fun h => step (k0_pay44 (qBlk x2 k h)) (kBlk (arg3.view.read (Elt F) X3) k n h)
          (kBlk (arg4.view.read (Elt F) X4) k n h) (nBlk (arg5.view.read (Elt F) X5) k n h) (a h) := by
  unfold tripR_k0_t2 trip_k0_t2
  rfl

/-- The loop over key blocks carries the four heads' running values. -/
theorem st_eq (c0 c1 : BitVec 32) (k : Fin k0_t1_loop.trips) (x2 : Vec F S1x2048x512 .bf16)
    (n : ℕ) (hn : n ≤ (k0_t2_loop k).trips) :
    st_k0_t2 Variants.none c none i arg2 harg2 arg3 harg3 arg4 harg4 arg5 harg5 arg6 harg6 c0 c1 k
        (qBlk x2 k 0) (qBlk x2 k 1) (qBlk x2 k 2) (qBlk x2 k 3) X3 X4 X5 (pack fun _ => start) n
      = pack fun h => accs x2 (arg3.view.read (Elt F) X3) (arg4.view.read (Elt F) X4) (arg5.view.read (Elt F) X5) k h n := by
  induction n with
  | zero => rfl
  | succ n ih =>
    have e := st_k0_t2_succ Variants.none c none i arg2 harg2 arg3 harg3 arg4 harg4 arg5 harg5 arg6 harg6 c0 c1 k
      (qBlk x2 k 0) (qBlk x2 k 1) (qBlk x2 k 2) (qBlk x2 k 3) X3 X4 X5 (pack fun _ => start) ⟨n, hn⟩
    refine e.trans ?_
    rw [ih (Nat.le_of_lt hn), tripR_eq]
    congr 1; funext h
    exact (accs_succ x2 _ _ _ k h ⟨n, hn⟩).symm

/-- The stores of a query block from the heads' running values after the earlier key blocks. -/
def piecesOf (x2 x3 x4 : Vec F S1x2048x512 .bf16) (x5 : Vec F S1x4x4x512 .f32) (k : Fin k0_t1_loop.trips)
    (a : FVec F S512x1 .f32 × FVec F S512x1 .f32 × FVec F S512x128 .f32 × FVec F S512x1 .f32 × FVec F S512x1 .f32 × FVec F S512x128 .f32 × FVec F S512x1 .f32 × FVec F S512x1 .f32 × FVec F S512x128 .f32 × FVec F S512x1 .f32 × FVec F S512x1 .f32 × FVec F S512x128 .f32) :
    List (View.Piece (Elt F) S1x2048x512 .bf16) :=
  [⟨Rect.unit (s := S1x2048x512) (k0_off4 k) S1x512x128.size (k0_off4_inb k),
      finish (k0_pay44 (qBlk x2 k 3)) (qBlk x3 k 3) (qBlk x4 k 3) (dBlk x5 k 3) (a.2.2.2.2.2.2.2.2.2.1, a.2.2.2.2.2.2.2.2.2.2.1, a.2.2.2.2.2.2.2.2.2.2.2)⟩,
   ⟨Rect.unit (s := S1x2048x512) (k0_off3 k) S1x512x128.size (k0_off3_inb k),
      finish (k0_pay44 (qBlk x2 k 2)) (qBlk x3 k 2) (qBlk x4 k 2) (dBlk x5 k 2) (a.2.2.2.2.2.2.1, a.2.2.2.2.2.2.2.1, a.2.2.2.2.2.2.2.2.1)⟩,
   ⟨Rect.unit (s := S1x2048x512) (k0_off2 k) S1x512x128.size (k0_off2_inb k),
      finish (k0_pay44 (qBlk x2 k 1)) (qBlk x3 k 1) (qBlk x4 k 1) (dBlk x5 k 1) (a.2.2.2.1, a.2.2.2.2.1, a.2.2.2.2.2.1)⟩,
   ⟨Rect.unit (s := S1x2048x512) (k0_off1 k) S1x512x128.size (k0_off1_inb k),
      finish (k0_pay44 (qBlk x2 k 0)) (qBlk x3 k 0) (qBlk x4 k 0) (dBlk x5 k 0) (a.1, a.2.1, a.2.2.1)⟩]

set_option maxHeartbeats 4000000 in
theorem trip_of (k : Fin k0_t1_loop.trips) :
    (trip c i arg2 harg2 arg3 harg3 arg4 harg4 arg5 harg5 arg6 harg6 X2 X3 X4 X5 k).1
      = piecesOf (arg2.view.read (Elt F) X2) (arg3.view.read (Elt F) X3) (arg4.view.read (Elt F) X4) (arg5.view.read (Elt F) X5) k
          (st_k0_t3 Variants.none c none i arg2 harg2 arg3 harg3 arg4 harg4 arg5 harg5 arg6 harg6 0#32 1#32 k
            (qBlk (arg2.view.read (Elt F) X2) k 0) (qBlk (arg2.view.read (Elt F) X2) k 1) (qBlk (arg2.view.read (Elt F) X2) k 2) (qBlk (arg2.view.read (Elt F) X2) k 3)
            (Scalar.addi 0#32 (Scalar.muli (Scalar.divsi (Scalar.subi (Scf.iv 0#32 1#32 k) 0#32) 1#32) 1#32)) X3 X4 X5
            (st_k0_t2 Variants.none c none i arg2 harg2 arg3 harg3 arg4 harg4 arg5 harg5 arg6 harg6 0#32 1#32 k
              (qBlk (arg2.view.read (Elt F) X2) k 0) (qBlk (arg2.view.read (Elt F) X2) k 1) (qBlk (arg2.view.read (Elt F) X2) k 2) (qBlk (arg2.view.read (Elt F) X2) k 3)
              X3 X4 X5 (pack fun _ => start) (k0_t2_loop k).trips)
            (k0_t3_loop k).trips) := by
  unfold trip
  rfl

/-- One trip's stores. -/
theorem trip_eq (k : Fin k0_t1_loop.trips) :
    (trip c i arg2 harg2 arg3 harg3 arg4 harg4 arg5 harg5 arg6 harg6 X2 X3 X4 X5 k).1
      = pieces (arg2.view.read (Elt F) X2) (arg3.view.read (Elt F) X3) (arg4.view.read (Elt F) X4) (arg5.view.read (Elt F) X5) k := by
  rw [trip_of, trips3, st_k0_t3.eq_1, st_eq (hn := le_rfl)]
  rfl

end Trip

end Cert.Proof.Fox

end
-- ==== Proof.Fox.Run.lean ====
/- The attention kernel's body, its run and its frame: what the output's staging buffer holds after the body is the
   sixteen stores (four query blocks, four heads) over the blocks the body is given, and they cover the buffer. -/
module

public import proofs.«01_k».proof.Proof.Fox.Step
public import Idealize.ShloMosaic.Lib.Pipeline.FrameBody
public import Idealize.ShloMosaic.Lib.Claim

@[expose] public section

set_option maxRecDepth 16384

noncomputable section

namespace Cert.Proof.Fox

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The loop makes four trips. -/
theorem trips1 : k0_t1_loop.trips = 4 := by decide

theorem off1_eq : ∀ k : Fin k0_t1_loop.trips, k0_off1 k = ![0, 512 * k.val, 0] := by decide
theorem off2_eq : ∀ k : Fin k0_t1_loop.trips, k0_off2 k = ![0, 512 * k.val, 128] := by decide
theorem off3_eq : ∀ k : Fin k0_t1_loop.trips, k0_off3 k = ![0, 512 * k.val, 256] := by decide
theorem off4_eq : ∀ k : Fin k0_t1_loop.trips, k0_off4 k = ![0, 512 * k.val, 384] := by decide

section Blocks

variable (x2 x3 x4 : Vec F S1x2048x512 .bf16) (x5 : Vec F S1x4x4x512 .f32)

/-- The stores of the query blocks before `k`, last first. -/
def piecesTo : ℕ → List (View.Piece (Elt F) S1x2048x512 .bf16)
  | 0 => []
  | k + 1 => if h : k < k0_t1_loop.trips then pieces x2 x3 x4 x5 ⟨k, h⟩ ++ piecesTo k else piecesTo k

theorem mem_piecesTo (k : Fin k0_t1_loop.trips) (n : ℕ) (hn : k.val < n) (p) (hp : p ∈ pieces x2 x3 x4 x5 k) :
    p ∈ piecesTo x2 x3 x4 x5 n := by
  induction n with
  | zero => omega
  | succ n ih =>
    rw [piecesTo.eq_2]
    by_cases e : k.val = n
    · subst e
      rw [dif_pos k.isLt]; exact List.mem_append_left _ hp
    · have := ih (by omega)
      split
      · exact List.mem_append_right _ this
      · exact this

theorem of_mem_piecesTo (n : ℕ) (p) (hp : p ∈ piecesTo x2 x3 x4 x5 n) :
    ∃ k : Fin k0_t1_loop.trips, p ∈ pieces x2 x3 x4 x5 k := by
  induction n with
  | zero => rw [piecesTo.eq_1] at hp; exact absurd hp List.not_mem_nil
  | succ n ih =>
    rw [piecesTo.eq_2] at hp
    split at hp
    · rcases List.mem_append.mp hp with h | h
      · exact ⟨_, h⟩
      · exact ih h
    · exact ih hp

/-- What the output's buffer holds after the body. -/
def out (x2 x3 x4 : Vec F S1x2048x512 .bf16) (x5 : Vec F S1x4x4x512 .f32) : Vec F S1x2048x512 .bf16 :=
  View.canon (piecesTo x2 x3 x4 x5 k0_t1_loop.trips)

theorem mem_unit {off : Fin 3 → ℕ} {inb} {k h : ℕ} (e : off = ![0, 512 * k, 128 * h]) (y : S1x2048x512.Idx)
    (hk : (y 1).val / 512 = k) (hh : (y 2).val / 128 = h) :
    y ∈ (Rect.unit (s := S1x2048x512) off S1x512x128.size inb).set := by
  subst e
  refine Rect.mem_set_unit.mpr fun a => ?_
  have h0 := (y 0).isLt
  have e0 : S1x2048x512.size 0 = 1 := rfl
  fin_cases a
  · show 0 ≤ (y 0).val ∧ (y 0).val < 0 + 1
    omega
  · show 512 * k ≤ (y 1).val ∧ (y 1).val < 512 * k + 512
    omega
  · show 128 * h ≤ (y 2).val ∧ (y 2).val < 128 * h + 128
    omega

/-- The stores cover the buffer: index `y` lies in the store of query block `y 1 / 512`, head `y 2 / 128`. -/
theorem cover (y : S1x2048x512.Idx) :
    ∃ pc ∈ piecesTo x2 x3 x4 x5 k0_t1_loop.trips, y ∈ pc.1.set := by
  have h1 : (y 1).val < 2048 := (y 1).isLt
  have h2 : (y 2).val < 512 := (y 2).isLt
  have hk : (y 1).val / 512 < k0_t1_loop.trips := by rw [trips1]; omega
  have mem := mem_piecesTo x2 x3 x4 x5 ⟨_, hk⟩ k0_t1_loop.trips hk
  have hh : (y 2).val / 128 = 0 ∨ (y 2).val / 128 = 1 ∨ (y 2).val / 128 = 2 ∨ (y 2).val / 128 = 3 := by omega
  have four : ∃ pc ∈ pieces x2 x3 x4 x5 ⟨_, hk⟩, y ∈ pc.1.set := by
    unfold pieces
    generalize outBlk x2 x3 x4 x5 ⟨_, hk⟩ 0 = b0
    generalize outBlk x2 x3 x4 x5 ⟨_, hk⟩ 1 = b1
    generalize outBlk x2 x3 x4 x5 ⟨_, hk⟩ 2 = b2
    generalize outBlk x2 x3 x4 x5 ⟨_, hk⟩ 3 = b3
    rcases hh with hh | hh | hh | hh
    · exact ⟨_, .tail _ (.tail _ (.tail _ (.head _))), mem_unit (inb := k0_off1_inb ⟨_, hk⟩) (off1_eq ⟨_, hk⟩) y rfl hh⟩
    · exact ⟨_, .tail _ (.tail _ (.head _)), mem_unit (inb := k0_off2_inb ⟨_, hk⟩) (off2_eq ⟨_, hk⟩) y rfl hh⟩
    · exact ⟨_, .tail _ (.head _), mem_unit (inb := k0_off3_inb ⟨_, hk⟩) (off3_eq ⟨_, hk⟩) y rfl hh⟩
    · exact ⟨_, .head _, mem_unit (inb := k0_off4_inb ⟨_, hk⟩) (off4_eq ⟨_, hk⟩) y rfl hh⟩
  obtain ⟨pc, hpc, hy⟩ := four
  exact ⟨pc, mem pc hpc, hy⟩

end Blocks

/-! ## The body -/

section Body

variable (c : Dev nD) (i : grid0.Coords)
  (arg2 : Memref sig .tc .vmem S1x2048x512 .bf16) (harg2 : arg2.IsWhole)
  (arg3 : Memref sig .tc .vmem S1x2048x512 .bf16) (harg3 : arg3.IsWhole)
  (arg4 : Memref sig .tc .vmem S1x2048x512 .bf16) (harg4 : arg4.IsWhole)
  (arg5 : Memref sig .tc .vmem S1x4x4x512 .f32) (harg5 : arg5.IsWhole)
  (arg6 : Memref sig .tc .vmem S1x2048x512 .bf16) (harg6 : arg6.IsWhole)

theorem stored_eq (X2 : BufTy.Contents (Elt F) arg2.view.ty) (X3 : BufTy.Contents (Elt F) arg3.view.ty)
    (X4 : BufTy.Contents (Elt F) arg4.view.ty) (X5 : BufTy.Contents (Elt F) arg5.view.ty) (n : ℕ) :
    stored c i arg2 harg2 arg3 harg3 arg4 harg4 arg5 harg5 arg6 harg6 X2 X3 X4 X5 n
      = piecesTo (arg2.view.read (Elt F) X2) (arg3.view.read (Elt F) X3) (arg4.view.read (Elt F) X4) (arg5.view.read (Elt F) X5) n := by
  induction n with
  | zero => rfl
  | succ n ih =>
    rw [stored.eq_2, piecesTo.eq_2]
    split
    · rw [trip_eq, ih]
    · exact ih

set_option maxHeartbeats 1000000 in
/-- The body on whole buffers: the inputs unchanged, the output's at `out` of the inputs'. -/
theorem sound_kernel (x2 x3 x4 : Vec F S1x2048x512 .bf16) (x5 : Vec F S1x4x4x512 .f32) (K : PUnit → sProp 𝕄) :
    iprop(owns (c : Thread nD τ) arg2 fullShare x2 ∗ owns (c : Thread nD τ) arg3 fullShare x3
        ∗ owns (c : Thread nD τ) arg4 fullShare x4 ∗ owns (c : Thread nD τ) arg5 fullShare x5
        ∗ (∃ d, owns (c : Thread nD τ) arg6 fullShare d)
        ∗ (iprop(owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (out x2 x3 x4 x5)) -∗ K ⟨⟩))
      ⊢ wp frame (wpE (defs₀ (F := F)) Variants.none c none) Set.univ
          (cc0_fox_attention i arg2 harg2 arg3 harg3 arg4 harg4 arg5 harg5 arg6 harg6) K := by
  simp only [cc0_fox_attention_eq_skeleton]; unfold cc0_fox_attention_skel
  unfold owns
  iintro ⟨⟨%f2, %hf2, H2⟩, ⟨%f3, %hf3, H3⟩, ⟨%f4, %hf4, H4⟩, ⟨%f5, %hf5, H5⟩, ⟨%d6, %f6, -, H6⟩, Hk⟩
  subst hf2 hf3 hf4 hf5
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  rw [stored_eq]
  exact View.read_writes_eq_canon _ _ _ (cover _ _ _ _)

end Body

/-! ## The run -/

variable (m : (ℓ : Loc nD τ sig) → Buf (Elt F) ℓ) (ρ : Dev nD → PrngReg)

/-- The pipeline's data: each input's buffer keeps its block, the output's holds `out` of the input blocks; the three
    windows on the one array deal its share among them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out (iblk m c 0 t) (iblk m c 1 t) (iblk m c 2 t) (iblk m c 3 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = out (iblk m c 0 t) (iblk m c 1 t) (iblk m c 2 t) (iblk m c 3 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run: every array of the pipeline ends at what the data say, and every semaphore counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The run without the counters. -/
theorem run_main : θ_run defs (onTc (τ := τ) (main (F := F))) (s₀ m ρ) (Pipeline.FramePost cfgs (dats m) 0 (V m)) :=
  (θ_run defs _ _).mono (fun _ h => h.1) (run_quiescent m ρ)

/-- The frame, at any values. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_quiescent m ρ))

end Cert.Proof.Fox

end
-- ==== Proof.Fox.Math.lean ====
/- The running softmax over extended reals: a maximum, a denominator and a numerator carried over blocks of keys are those
   of all the keys so far, and their quotient is the softmax-weighted sum, whatever real number all scores are shifted by.
   A masked key has score −∞. -/
module

public import Idealize.ShloMosaic.PureOps.Ideal

@[expose] public section

noncomputable section

namespace Cert.Proof.Fox

open Idealize.ShloMosaic

theorem ereal_cases (x : EReal) (h : x ≠ ⊤) : x = ⊥ ∨ ∃ a : ℝ, x = (a : EReal) := by
  induction x using EReal.rec with
  | bot => exact .inl rfl
  | coe a => exact .inr ⟨a, rfl⟩
  | top => exact absurd rfl h

theorem mul_sum_of {ι : Type} (c : EReal) (h0 : 0 ≤ c) (ht : c ≠ ⊤) (S : Finset ι) (f : ι → EReal) :
    c * ∑ s ∈ S, f s = ∑ s ∈ S, c * f s := by
  classical
  induction S using Finset.induction with
  | empty => simp
  | insert a S ha ih =>
    rw [Finset.sum_insert ha, Finset.sum_insert ha, EReal.left_distrib_of_nonneg_of_ne_top h0 ht, ih]

/-- The exponential of a score less a real maximum. -/
theorem exp_sub_real {x : EReal} (hx : x ≠ ⊤) (μ : ℝ) : ∃ e : ℝ, 0 ≤ e ∧ Ideal.exp (x - (μ : EReal)) = (e : EReal) := by
  rcases ereal_cases x hx with rfl | ⟨a, rfl⟩
  · exact ⟨0, le_rfl, by rw [EReal.bot_sub, Ideal.exp_bot]; rfl⟩
  · exact ⟨Real.exp (a - μ), (Real.exp_pos _).le, by rw [← EReal.coe_sub, Ideal.exp_coe]⟩

theorem exp_bot_sub (μ : EReal) : Ideal.exp (⊥ - μ) = 0 := by rw [EReal.bot_sub, Ideal.exp_bot]

/-- Moving a term from one maximum to a later one. -/
theorem corr_mul {x m : EReal} (μ : ℝ) (hx : x ≤ m) (hm : m ≤ (μ : EReal)) :
    Ideal.exp (m - (μ : EReal)) * Ideal.exp (x - m) = Ideal.exp (x - (μ : EReal)) := by
  have hm' : m ≠ ⊤ := fun h => by subst h; exact absurd (le_antisymm le_top hm) (EReal.coe_ne_top μ)
  rcases ereal_cases m hm' with rfl | ⟨a, rfl⟩
  · rw [le_bot_iff.mp hx, EReal.bot_sub, EReal.bot_sub, Ideal.exp_bot, zero_mul]
  · have hx' : x ≠ ⊤ := fun h => by subst h; exact absurd (le_antisymm le_top hx) (EReal.coe_ne_top a)
    rcases ereal_cases x hx' with rfl | ⟨b, rfl⟩
    · rw [EReal.bot_sub, EReal.bot_sub, Ideal.exp_bot, mul_zero]
    · rw [← EReal.coe_sub, ← EReal.coe_sub, ← EReal.coe_sub, Ideal.exp_coe, Ideal.exp_coe, Ideal.exp_coe, ← EReal.coe_mul,
        ← Real.exp_add]
      congr 2; ring

/-- The denominator over the first `N` keys at maximum `m`. -/
def den (r : ℕ → EReal) (N : ℕ) (m : EReal) : EReal := ∑ s ∈ Finset.range N, Ideal.exp (r s - m)

/-- The numerator. -/
def num (r v : ℕ → EReal) (N : ℕ) (m : EReal) : EReal := ∑ s ∈ Finset.range N, Ideal.exp (r s - m) * v s

/-- The maximum. -/
def top (r : ℕ → EReal) (N : ℕ) : EReal := (Finset.range N).sup r

theorem le_top_of (r : ℕ → EReal) {N s : ℕ} (h : s < N) : r s ≤ top r N := Finset.le_sup (Finset.mem_range.mpr h)

theorem top_ne_top (r : ℕ → EReal) (hr : ∀ s, r s ≠ ⊤) (N : ℕ) : top r N ≠ ⊤ := by
  unfold top
  rcases Nat.eq_zero_or_pos N with rfl | h
  · simp
  · obtain ⟨s, -, hs⟩ := Finset.exists_mem_eq_sup (Finset.range N) ⟨0, Finset.mem_range.mpr h⟩ r
    rw [hs]; exact hr s

theorem top_step (r : ℕ → EReal) (N B : ℕ) :
    max (top r N) (Finset.univ.fold max ⊥ (fun j : Fin B => r (N + j.val))) = top r (N + B) := by
  have e : (Finset.univ.fold max ⊥ (fun j : Fin B => r (N + j.val))) = Finset.univ.sup (fun j : Fin B => r (N + j.val)) := rfl
  rw [e]
  refine le_antisymm (max_le ?_ ?_) ?_
  · exact Finset.sup_mono (Finset.range_mono (Nat.le_add_right _ _))
  · exact Finset.sup_le fun j _ => le_top_of r (by omega)
  · refine Finset.sup_le fun s hs => ?_
    have hs := Finset.mem_range.mp hs
    by_cases h : s < N
    · exact (le_top_of r h).trans (le_max_left _ _)
    · refine le_trans ?_ (le_max_right _ _)
      have := Finset.le_sup (f := fun j : Fin B => r (N + j.val)) (Finset.mem_univ ⟨s - N, by omega⟩)
      rwa [show N + (s - N) = s by omega] at this

theorem top_real (r : ℕ → EReal) (hr : ∀ s, r s ≠ ⊤) {N s : ℕ} (hs : s < N) (h : r s ≠ ⊥) : ∃ μ : ℝ, top r N = (μ : EReal) := by
  rcases ereal_cases _ (top_ne_top r hr N) with e | e
  · have := le_top_of r hs
    rw [e, le_bot_iff] at this
    exact absurd this h
  · exact e

theorem den_step (r : ℕ → EReal) (N B : ℕ) (hr : ∀ s, r s ≠ ⊤) (hB : ∃ s < N + B, r s ≠ ⊥) :
    Ideal.exp (top r N - top r (N + B)) * den r N (top r N) + ∑ j : Fin B, Ideal.exp (r (N + j.val) - top r (N + B))
      = den r (N + B) (top r (N + B)) := by
  obtain ⟨s, hs, h⟩ := hB
  obtain ⟨μ, hμ⟩ := top_real r hr hs h
  have hle : top r N ≤ top r (N + B) := Finset.sup_mono (Finset.range_mono (Nat.le_add_right _ _))
  obtain ⟨e, he, hc⟩ := exp_sub_real (top_ne_top r hr N) μ
  rw [hμ] at hle ⊢
  unfold den
  rw [mul_sum_of _ (by rw [hc]; exact EReal.coe_nonneg.mpr he) (by rw [hc]; exact EReal.coe_ne_top e), Finset.sum_range_add,
    ← Finset.sum_range (fun j => Ideal.exp (r (N + j) - (μ : EReal)))]
  congr 1
  exact Finset.sum_congr rfl fun s hs => corr_mul μ (le_top_of r (Finset.mem_range.mp hs)) hle

theorem num_step (r v : ℕ → EReal) (N B : ℕ) (hr : ∀ s, r s ≠ ⊤) (hB : ∃ s < N + B, r s ≠ ⊥) :
    Ideal.exp (top r N - top r (N + B)) * num r v N (top r N)
        + ∑ j : Fin B, Ideal.exp (r (N + j.val) - top r (N + B)) * v (N + j.val)
      = num r v (N + B) (top r (N + B)) := by
  obtain ⟨s, hs, h⟩ := hB
  obtain ⟨μ, hμ⟩ := top_real r hr hs h
  have hle : top r N ≤ top r (N + B) := Finset.sup_mono (Finset.range_mono (Nat.le_add_right _ _))
  obtain ⟨e, he, hc⟩ := exp_sub_real (top_ne_top r hr N) μ
  rw [hμ] at hle ⊢
  unfold num
  rw [mul_sum_of _ (by rw [hc]; exact EReal.coe_nonneg.mpr he) (by rw [hc]; exact EReal.coe_ne_top e), Finset.sum_range_add,
    ← Finset.sum_range (fun j => Ideal.exp (r (N + j) - (μ : EReal)) * v (N + j))]
  congr 1
  exact Finset.sum_congr rfl fun s hs => by rw [← mul_assoc, corr_mul μ (le_top_of r (Finset.mem_range.mp hs)) hle]

theorem den_pos (r : ℕ → EReal) (hr : ∀ s, r s ≠ ⊤) (N : ℕ) (μ : ℝ) (s : ℕ) (hs : s < N) (hsm : r s = (μ : EReal)) :
    ∃ L : ℝ, 0 < L ∧ den r N (μ : EReal) = (L : EReal) := by
  choose e he h using fun s => exp_sub_real (hr s) μ
  refine ⟨∑ s ∈ Finset.range N, e s, ?_, ?_⟩
  · refine Finset.sum_pos' (fun s _ => he s) ⟨s, Finset.mem_range.mpr hs, ?_⟩
    have := h s
    rw [hsm, ← EReal.coe_sub, Ideal.exp_coe, EReal.coe_eq_coe_iff] at this
    rw [← this]; exact Real.exp_pos _
  · unfold den
    simp only [h]
    generalize Finset.range N = S
    classical
    induction S using Finset.induction with
    | empty => simp
    | insert a S ha ih => rw [Finset.sum_insert ha, Finset.sum_insert ha, EReal.coe_add, ih]

/-- The quotient of numerator by denominator is the softmax-weighted sum over all `T` keys of the shifted scores, when the
    keys past the first `N` are masked. -/
theorem quotient (r v : ℕ → EReal) (c : ℝ) (N T : ℕ) (hNT : N ≤ T) (hr : ∀ s, r s ≠ ⊤)
    (hbot : ∀ s, N ≤ s → r s = ⊥) (hne : ∃ s < N, r s ≠ ⊥) :
    Ideal.div (num r v N (top r N)) (den r N (top r N))
      = ∑ s : Fin T, v s.val * Ideal.div (Ideal.exp (r s.val + (c : EReal) - Finset.univ.fold max ⊥ (fun u : Fin T => r u.val + (c : EReal))))
          (∑ u : Fin T, Ideal.exp (r u.val + (c : EReal) - Finset.univ.fold max ⊥ (fun u : Fin T => r u.val + (c : EReal)))) := by
  obtain ⟨s₁, hs₁, h₁⟩ := hne
  obtain ⟨μ, hμ⟩ := top_real r hr hs₁ h₁
  obtain ⟨s₀, hs₀, e₀⟩ := Finset.exists_mem_eq_sup (Finset.range N) ⟨s₁, Finset.mem_range.mpr hs₁⟩ r
  have hs₀ := Finset.mem_range.mp hs₀
  have e₀ : r s₀ = (μ : EReal) := e₀.symm.trans hμ
  have hmx : Finset.univ.fold max ⊥ (fun u : Fin T => r u.val + (c : EReal)) = ((μ + c : ℝ) : EReal) := by
    show Finset.univ.sup (fun u : Fin T => r u.val + (c : EReal)) = _
    refine le_antisymm (Finset.sup_le fun u _ => ?_) ?_
    · rw [EReal.coe_add, ← hμ]
      by_cases h : u.val < N
      · exact add_le_add_left (le_top_of r h) _
      · rw [hbot _ (by omega), EReal.bot_add]; exact bot_le
    · rw [EReal.coe_add, ← e₀]
      exact Finset.le_sup (f := fun u : Fin T => r u.val + (c : EReal)) (Finset.mem_univ ⟨s₀, by omega⟩)
  have hsh : ∀ s, r s + (c : EReal) - ((μ + c : ℝ) : EReal) = r s - (μ : EReal) := fun s => by
    rcases ereal_cases _ (hr s) with h | ⟨a, h⟩
    · rw [h, EReal.bot_add, EReal.bot_sub, EReal.bot_sub]
    · rw [h, ← EReal.coe_add, ← EReal.coe_sub, ← EReal.coe_sub]; congr 1; ring
  obtain ⟨L, hL, hden⟩ := den_pos r hr N μ s₀ hs₀ e₀
  have hL0 : (L : EReal) ≠ 0 := fun h => hL.ne' (by exact_mod_cast h)
  have hz : ∀ s, N ≤ s → Ideal.exp (r s - (μ : EReal)) = 0 := fun s h => by rw [hbot s h, exp_bot_sub]
  have ext : ∀ f : ℕ → EReal, (∀ s, N ≤ s → f s = 0) → ∑ s : Fin T, f s.val = ∑ s ∈ Finset.range N, f s := fun f hf => by
    rw [← Finset.sum_range f]
    exact (Finset.sum_subset (Finset.range_mono hNT) fun s _ hs => hf s (by simpa using hs)).symm
  rw [hmx]
  simp only [hsh]
  have hLT : ∑ u : Fin T, Ideal.exp (r u.val - (μ : EReal)) = (L : EReal) :=
    (ext (fun s => Ideal.exp (r s - (μ : EReal))) hz).trans hden
  rw [hLT, hμ, hden]
  have hd : ∀ x : EReal, Ideal.div x (L : EReal) = x * (L : EReal)⁻¹ := fun x => if_neg hL0
  simp only [hd]
  rw [ext (fun s => v s * (Ideal.exp (r s - (μ : EReal)) * (L : EReal)⁻¹)) (fun s h => by rw [hz s h, zero_mul, mul_zero]),
    mul_comm, ← EReal.coe_inv]
  unfold num
  rw [mul_sum_of _ (EReal.coe_nonneg.mpr (inv_nonneg.mpr hL.le)) (EReal.coe_ne_top _)]
  exact Finset.sum_congr rfl fun s _ => by rw [mul_comm (v s), ← mul_assoc, mul_comm (Ideal.exp _)]

end Cert.Proof.Fox

end
-- ==== Proof.Fox.Head.lean ====
/- One head's output at a query row: the running values after each key block are those of the keys so far, and the stored
   value is the quotient of the numerator by the denominator over all keys up to the diagonal block's end. -/
module

public import proofs.«01_k».proof.Proof.Fox.Run
public import proofs.«01_k».proof.Proof.Fox.Math
public import Idealize.ShloMosaic.Lib.Pointwise
public import Idealize.ShloMosaic.Lib.WordCmp
public import Idealize.ShloMosaic.Lib.Pipeline.ValueKit

@[expose] public section

set_option maxRecDepth 16384

noncomputable section

namespace Cert.Proof.Fox

open Cert.KernelIdeal Cert.KernelIdeal.Gen
open Idealize.ShloMosaic Idealize.ShloMosaic.TcCoe

theorem minusInf : Ideal.ofBits .f32 0xFF800000#32 = ⊥ := by simp [Ideal.ofBits, Ideal.ieee]
theorem zeroWord : Ideal.ofBits .f32 0x00000000#32 = 0 := by simp [Ideal.ofBits, Ideal.ieee]

/-! ## One block of keys -/

section Step

variable (q : FVec Ideal S512x128 .bf16) (kb vb : Vec Ideal S1x512x128 .bf16) (nb : Vec Ideal S1x1x1x512 .f32)
  (M L : FVec Ideal S512x1 .f32) (A : FVec Ideal S512x128 .f32) (i j : Fin 512) (d : Fin 128)

theorem pay6_at : k0_pay6 q kb nb (ix2 i j)
    = (∑ e : Fin 128, (q (ix2 i e) : EReal) * kb (ix3 0 j e)) * Ideal.ofBits .f32 0x3DB504F3#32 + nb (ix4 0 0 0 j) := by
  pointwise [k0_pay6]

theorem pay7_at : k0_pay7 q M kb nb (ix2 i 0)
    = max (M (ix2 i 0)) (Finset.univ.fold max ⊥ (fun j : Fin 512 => (k0_pay6 q kb nb (ix2 i j) : EReal))) := by
  rw [← minusInf]
  pointwise [k0_pay7]

theorem pay10_at : k0_pay10 q M L kb nb (ix2 i 0)
    = Ideal.exp ((M (ix2 i 0) : EReal) - k0_pay7 q M kb nb (ix2 i 0)) * L (ix2 i 0)
      + ∑ j : Fin 512, Ideal.exp ((k0_pay6 q kb nb (ix2 i j) : EReal) - k0_pay7 q M kb nb (ix2 i 0)) := by
  pointwise [k0_pay10, k0_pay9, k0_pay8]

theorem pay11_at : k0_pay11 q M A kb vb nb (ix2 i d)
    = Ideal.exp ((M (ix2 i 0) : EReal) - k0_pay7 q M kb nb (ix2 i 0)) * A (ix2 i d)
      + ∑ j : Fin 512, Ideal.exp ((k0_pay6 q kb nb (ix2 i j) : EReal) - k0_pay7 q M kb nb (ix2 i 0)) * vb (ix3 0 j d) := by
  pointwise [k0_pay11, k0_pay9, k0_pay8]

theorem pay78_at : k0_pay78 k0_pay1 q kb nb (ix2 i j)
    = Scalar.select (IntOp.cmpi CmpIPredicate.sge (BitVec.ofNat 32 i.val) (BitVec.ofNat 32 j.val))
        ((∑ e : Fin 128, (q (ix2 i e) : EReal) * kb (ix3 0 j e)) * Ideal.ofBits .f32 0x3DB504F3#32 + nb (ix4 0 0 0 j)) (⊥ : EReal) := by
  rw [← minusInf]
  pointwise [k0_pay78, k0_pay1]

theorem pay79_at (w) : k0_pay79 w q M kb nb (ix2 i 0)
    = max (M (ix2 i 0)) (Finset.univ.fold max ⊥ (fun j : Fin 512 => (k0_pay78 w q kb nb (ix2 i j) : EReal))) := by
  rw [← minusInf]
  pointwise [k0_pay79]

theorem pay82_at (w) : k0_pay82 w q M L kb nb (ix2 i 0)
    = Ideal.exp ((M (ix2 i 0) : EReal) - k0_pay79 w q M kb nb (ix2 i 0)) * L (ix2 i 0)
      + ∑ j : Fin 512, Ideal.exp ((k0_pay78 w q kb nb (ix2 i j) : EReal) - k0_pay79 w q M kb nb (ix2 i 0)) := by
  pointwise [k0_pay82, k0_pay81, k0_pay80]

theorem pay83_at (w) : k0_pay83 w q M A kb vb nb (ix2 i d)
    = Ideal.exp ((M (ix2 i 0) : EReal) - k0_pay79 w q M kb nb (ix2 i 0)) * A (ix2 i d)
      + ∑ j : Fin 512, Ideal.exp ((k0_pay78 w q kb nb (ix2 i j) : EReal) - k0_pay79 w q M kb nb (ix2 i 0)) * vb (ix3 0 j d) := by
  pointwise [k0_pay83, k0_pay81, k0_pay80]

theorem pay2_at : k0_pay2 L A (ix3 0 i d) = Ideal.div (A (ix2 i d)) (L (ix2 i 0)) := by
  pointwise [k0_pay2]

theorem pay44_at (x : Vec Ideal S1x512x128 .bf16) : k0_pay44 x (ix2 i d) = x (ix3 0 i d) := by
  pointwise [k0_pay44]

/-- The running values at row `i`, column `d` are those of the first `N` keys. -/
def Good (r v : ℕ → EReal) (i : Fin 512) (d : Fin 128) (N : ℕ) (a : Acc Ideal) : Prop :=
  a.1 (ix2 i 0) = top r N ∧ a.2.1 (ix2 i 0) = den r N (top r N) ∧ a.2.2 (ix2 i d) = num r v N (top r N)

theorem good_start (r v : ℕ → EReal) : Good r v i d 0 (start (F := Ideal)) := by
  refine ⟨?_, ?_, ?_⟩
  · show Ideal.ofBits .f32 0xFF800000#32 = _
    rw [minusInf]; rfl
  · show Ideal.ofBits .f32 0x00000000#32 = _
    rw [zeroWord]; rfl
  · show Ideal.ofBits .f32 0x00000000#32 = _
    rw [zeroWord]; rfl

theorem good_step (r v : ℕ → EReal) (N : ℕ) (a : Acc Ideal) (hr : ∀ s, r s ≠ ⊤) (h0 : r 0 ≠ ⊥) (ha : Good r v i d N a)
    (hs : ∀ j : Fin 512, (k0_pay6 q kb nb (ix2 i j) : EReal) = r (N + j.val))
    (hv : ∀ j : Fin 512, (vb (ix3 0 j d) : EReal) = v (N + j.val)) : Good r v i d (N + 512) (step q kb vb nb a) := by
  obtain ⟨hm, hl, hn⟩ := ha
  have hB : ∃ s < N + 512, r s ≠ ⊥ := ⟨0, by omega, h0⟩
  have h7 : k0_pay7 q a.1 kb nb (ix2 i 0) = top r (N + 512) := by
    rw [pay7_at, hm, ← top_step r N 512]; simp only [hs]
  refine ⟨h7, ?_, ?_⟩
  · refine (pay10_at q kb nb a.1 a.2.1 i).trans ?_
    rw [h7, hm, hl, ← den_step r N 512 hr hB]; simp only [hs]
  · refine (pay11_at q kb vb nb a.1 a.2.2 i d).trans ?_
    rw [h7, hm, hn, ← num_step r v N 512 hr hB]; simp only [hs, hv]

theorem finish_at (r v : ℕ → EReal) (N : ℕ) (a : Acc Ideal) (hr : ∀ s, r s ≠ ⊤) (h0 : r 0 ≠ ⊥) (ha : Good r v i d N a)
    (hs : ∀ j : Fin 512, (k0_pay78 k0_pay1 q kb nb (ix2 i j) : EReal) = r (N + j.val))
    (hv : ∀ j : Fin 512, (vb (ix3 0 j d) : EReal) = v (N + j.val)) :
    finish q kb vb nb a (ix3 0 i d)
      = Ideal.div (num r v (N + 512) (top r (N + 512))) (den r (N + 512) (top r (N + 512))) := by
  obtain ⟨hm, hl, hn⟩ := ha
  have hB : ∃ s < N + 512, r s ≠ ⊥ := ⟨0, by omega, h0⟩
  have h7 : k0_pay79 k0_pay1 q a.1 kb nb (ix2 i 0) = top r (N + 512) := by
    rw [pay79_at, hm, ← top_step r N 512]; simp only [hs]
  have hL : k0_pay82 k0_pay1 q a.1 a.2.1 kb nb (ix2 i 0) = den r (N + 512) (top r (N + 512)) := by
    refine (pay82_at q kb nb a.1 a.2.1 i _).trans ?_
    rw [h7, hm, hl, ← den_step r N 512 hr hB]; simp only [hs]
  have hA : k0_pay83 k0_pay1 q a.1 a.2.2 kb vb nb (ix2 i d) = num r v (N + 512) (top r (N + 512)) := by
    refine (pay83_at q kb vb nb a.1 a.2.2 i d _).trans ?_
    rw [h7, hm, hn, ← num_step r v N 512 hr hB]; simp only [hs, hv]
  unfold finish
  rw [pay2_at, hL, hA]

end Step

/-! ## The blocks at an index -/

theorem off5_eq : ∀ (k : Fin k0_t1_loop.trips) (n : Fin (k0_t2_loop k).trips), k0_off5 k n = ![0, 512 * n.val, 0] := by decide
theorem off7_eq : ∀ (k : Fin k0_t1_loop.trips) (n : Fin (k0_t2_loop k).trips), k0_off7 k n = ![0, 512 * n.val, 128] := by decide
theorem off9_eq : ∀ (k : Fin k0_t1_loop.trips) (n : Fin (k0_t2_loop k).trips), k0_off9 k n = ![0, 512 * n.val, 256] := by decide
theorem off11_eq : ∀ (k : Fin k0_t1_loop.trips) (n : Fin (k0_t2_loop k).trips), k0_off11 k n = ![0, 512 * n.val, 384] := by decide
theorem off6_eq : ∀ (k : Fin k0_t1_loop.trips) (n : Fin (k0_t2_loop k).trips), k0_off6 k n = ![0, 0, n.val, 0] := by decide
theorem off8_eq : ∀ (k : Fin k0_t1_loop.trips) (n : Fin (k0_t2_loop k).trips), k0_off8 k n = ![0, 1, n.val, 0] := by decide
theorem off10_eq : ∀ (k : Fin k0_t1_loop.trips) (n : Fin (k0_t2_loop k).trips), k0_off10 k n = ![0, 2, n.val, 0] := by decide
theorem off12_eq : ∀ (k : Fin k0_t1_loop.trips) (n : Fin (k0_t2_loop k).trips), k0_off12 k n = ![0, 3, n.val, 0] := by decide
theorem off21_eq : ∀ k : Fin k0_t1_loop.trips, k0_off21 k = ![0, 0, k.val, 0] := by decide
theorem off22_eq : ∀ k : Fin k0_t1_loop.trips, k0_off22 k = ![0, 1, k.val, 0] := by decide
theorem off23_eq : ∀ k : Fin k0_t1_loop.trips, k0_off23 k = ![0, 2, k.val, 0] := by decide
theorem off24_eq : ∀ k : Fin k0_t1_loop.trips, k0_off24 k = ![0, 3, k.val, 0] := by decide

theorem ld3 (x : Vec Ideal S1x2048x512 .bf16) {off : Fin 3 → ℕ} {inb} {A B : ℕ} (e : off = ![0, A, B]) (i : Fin 512) (d : Fin 128)
    (r : Fin 2048) (c : Fin 512) (hr : r.val = A + i.val) (hc : c.val = B + d.val) :
    View.ld x (Rect.unit (s := S1x2048x512) off S1x512x128.size inb) (ix3 0 i d) = x (ix3 0 r c) := by
  subst e
  refine congrArg x (funext fun a => Fin.ext ?_)
  refine (Rect.idx_unit_val _ _ _ _ _).trans ?_
  fin_cases a
  · rfl
  · exact hr.symm
  · exact hc.symm

theorem ld4 (x : Vec Ideal S1x4x4x512 .f32) {off : Fin 4 → ℕ} {inb} {H n : ℕ} (e : off = ![0, H, n, 0]) (j : Fin 512)
    (h : Fin 4) (n' : Fin 4) (hh : h.val = H) (hn : n'.val = n) :
    View.ld x (Rect.unit (s := S1x4x4x512) off S1x1x1x512.size inb) (ix4 0 0 0 j) = x (ix4 0 h n' j) := by
  subst e
  refine congrArg x (funext fun a => Fin.ext ?_)
  refine (Rect.idx_unit_val _ _ _ _ _).trans ?_
  fin_cases a
  · rfl
  · exact hh.symm
  · exact hn.symm
  · exact Nat.zero_add _

section Blocks

variable (x x2 x3 x4 : Vec Ideal S1x2048x512 .bf16) (x5 : Vec Ideal S1x4x4x512 .f32) (k : Fin k0_t1_loop.trips)

theorem qBlk_at (h : Fin 4) (i : Fin 512) (d : Fin 128) (r : Fin 2048) (c : Fin 512) (hr : r.val = 512 * k.val + i.val)
    (hc : c.val = 128 * h.val + d.val) : qBlk x k h (ix3 0 i d) = x (ix3 0 r c) := by
  match h, hc with
  | 0, hc => exact ld3 x (off1_eq k) i d r c hr hc
  | 1, hc => exact ld3 x (off2_eq k) i d r c hr hc
  | 2, hc => exact ld3 x (off3_eq k) i d r c hr hc
  | 3, hc => exact ld3 x (off4_eq k) i d r c hr hc

theorem kBlk_at (n : Fin (k0_t2_loop k).trips) (h : Fin 4) (i : Fin 512) (d : Fin 128) (r : Fin 2048) (c : Fin 512)
    (hr : r.val = 512 * n.val + i.val) (hc : c.val = 128 * h.val + d.val) : kBlk x k n h (ix3 0 i d) = x (ix3 0 r c) := by
  match h, hc with
  | 0, hc => exact ld3 x (off5_eq k n) i d r c hr hc
  | 1, hc => exact ld3 x (off7_eq k n) i d r c hr hc
  | 2, hc => exact ld3 x (off9_eq k n) i d r c hr hc
  | 3, hc => exact ld3 x (off11_eq k n) i d r c hr hc

theorem nBlk_at (n : Fin (k0_t2_loop k).trips) (h : Fin 4) (j : Fin 512) (n' : Fin 4) (hn : n'.val = n.val) :
    nBlk x5 k n h (ix4 0 0 0 j) = x5 (ix4 0 h n' j) := by
  match h with
  | 0 => exact ld4 x5 (off6_eq k n) j 0 n' rfl hn
  | 1 => exact ld4 x5 (off8_eq k n) j 1 n' rfl hn
  | 2 => exact ld4 x5 (off10_eq k n) j 2 n' rfl hn
  | 3 => exact ld4 x5 (off12_eq k n) j 3 n' rfl hn

theorem dBlk_at (h : Fin 4) (j : Fin 512) (n' : Fin 4) (hn : n'.val = k.val) :
    dBlk x5 k h (ix4 0 0 0 j) = x5 (ix4 0 h n' j) := by
  match h with
  | 0 => exact ld4 x5 (off21_eq k) j 0 n' rfl hn
  | 1 => exact ld4 x5 (off22_eq k) j 1 n' rfl hn
  | 2 => exact ld4 x5 (off23_eq k) j 2 n' rfl hn
  | 3 => exact ld4 x5 (off24_eq k) j 3 n' rfl hn

/-! ## The head's output -/

/-- The score of key `s` for row `t` of head `h`, over the blocks. -/
def raw (h : Fin 4) (t s : Fin 2048) : EReal :=
  (∑ e : Fin 128, (x2 (ix3 0 t ⟨128 * h.val + e.val, by omega⟩) : EReal) * x3 (ix3 0 s ⟨128 * h.val + e.val, by omega⟩))
    * Ideal.ofBits .f32 0x3DB504F3#32 + x5 (ix4 0 h ⟨s.val / 512, by omega⟩ ⟨s.val % 512, by omega⟩)

theorem outBlk_at (h : Fin 4) (i : Fin 512) (d : Fin 128) (t : Fin 2048) (ht : t.val = 512 * k.val + i.val) (r v : ℕ → EReal)
    (hr : ∀ s, r s ≠ ⊤) (h0 : r 0 ≠ ⊥) (hrs : ∀ s : Fin 2048, s.val ≤ t.val → r s.val = raw x2 x3 x5 h t s)
    (hrb : ∀ s, t.val < s → r s = ⊥) (hv : ∀ s : Fin 2048, v s.val = x4 (ix3 0 s ⟨128 * h.val + d.val, by omega⟩)) :
    outBlk x2 x3 x4 x5 k h (ix3 0 i d)
      = Ideal.div (num r v (512 * k.val + 512) (top r (512 * k.val + 512))) (den r (512 * k.val + 512) (top r (512 * k.val + 512))) := by
  have hk : k.val < 4 := lt_of_lt_of_eq k.isLt trips1
  have hq : ∀ e : Fin 128, k0_pay44 (qBlk x2 k h) (ix2 i e) = x2 (ix3 0 t ⟨128 * h.val + e.val, by omega⟩) := fun e => by
    rw [pay44_at]; exact qBlk_at x2 k h i e _ _ ht rfl
  have acc : ∀ n, n ≤ k.val → Good r v i d (512 * n) (accs x2 x3 x4 x5 k h n) := by
    intro n
    induction n with
    | zero => intro _; exact good_start i d r v
    | succ n ih =>
      intro hn
      have hn' : n < (k0_t2_loop k).trips := by rw [trips2]; omega
      have hnk : n < k.val := hn
      rw [accs_succ x2 x3 x4 x5 k h ⟨n, hn'⟩]
      refine good_step _ _ _ _ i d r v (512 * n) _ hr h0 (ih (by omega)) (fun j => ?_) (fun j => ?_)
      · have hj := j.isLt
        rw [pay6_at]
        refine Eq.trans ?_ (hrs ⟨512 * n + j.val, by omega⟩ (by rw [ht]; show 512 * n + j.val ≤ _; omega)).symm
        unfold raw
        rw [nBlk_at x5 k ⟨n, hn'⟩ h j ⟨n, by omega⟩ rfl]
        refine congrArg₂ (fun a b : EReal => a * Ideal.ofBits .f32 0x3DB504F3#32 + b) ?_ ?_
        · exact Finset.sum_congr (M := EReal) rfl fun e _ =>
            congrArg₂ (fun a b : EReal => a * b) (hq e) (kBlk_at x3 k ⟨n, hn'⟩ h j e _ _ rfl rfl)
        · exact congrArg₂ (fun a b => (x5 (ix4 0 h a b) : EReal)) (Fin.ext (by show n = (512 * n + j.val) / 512; omega))
            (Fin.ext (by show j.val = (512 * n + j.val) % 512; omega))
      · have hj := j.isLt
        exact (kBlk_at x4 k ⟨n, hn'⟩ h j d ⟨512 * n + j.val, by omega⟩ _ rfl rfl).trans (hv ⟨512 * n + j.val, by omega⟩).symm
  unfold outBlk
  have hacc : Good r v i d (512 * k.val) (accs x2 x3 x4 x5 k h (k0_t2_loop k).trips) := by
    rw [trips2]; exact acc _ le_rfl
  refine finish_at _ _ _ _ i d r v (512 * k.val) _ hr h0 hacc (fun j => ?_) (fun j => ?_)
  · have hj := j.isLt
    rw [pay78_at]
    by_cases hji : j.val ≤ i.val
    · rw [(WordCmp.cmpi_sge_ofNat_eq_one_iff (lt_trans i.isLt (by decide)) (lt_trans j.isLt (by decide))).mpr hji]
      refine Eq.trans ?_ (hrs ⟨512 * k.val + j.val, by omega⟩ (by rw [ht]; show 512 * k.val + j.val ≤ _; omega)).symm
      unfold raw
      rw [dBlk_at x5 k h j ⟨k.val, hk⟩ rfl]
      refine congrArg₂ (fun a b : EReal => a * Ideal.ofBits .f32 0x3DB504F3#32 + b) ?_ ?_
      · exact Finset.sum_congr (M := EReal) rfl fun e _ =>
          congrArg₂ (fun a b : EReal => a * b) (hq e) (qBlk_at x3 k h j e _ _ rfl rfl)
      · exact congrArg₂ (fun a b => (x5 (ix4 0 h a b) : EReal)) (Fin.ext (by show k.val = (512 * k.val + j.val) / 512; omega))
          (Fin.ext (by show j.val = (512 * k.val + j.val) % 512; omega))
    · rw [hrb (512 * k.val + j.val) (by omega), (WordCmp.cmpi_sge_ofNat_eq_zero_iff (lt_trans i.isLt (by decide)) (lt_trans j.isLt (by decide))).mpr hji]
      rfl
  · have hj := j.isLt
    exact (qBlk_at x4 k h j d ⟨512 * k.val + j.val, by omega⟩ _ rfl rfl).trans (hv ⟨512 * k.val + j.val, by omega⟩).symm

end Blocks

end Cert.Proof.Fox

end
-- ==== Proof.Fox.Point.lean ====
/- The attention kernel's blocks: which part of the arrays each window's block is, which store the output's entry
   comes from, and what the run leaves in the result array. -/
module

public import proofs.«01_k».proof.Proof.Fox.Run
public import Idealize.ShloMosaic.Lib.Pointwise
public import Idealize.ShloMosaic.Lib.Pipeline.Value
public import Idealize.ShloMosaic.Lib.Pipeline.ValueKit

@[expose] public section

set_option maxRecDepth 16384

noncomputable section

namespace Cert.Proof.Fox

open Cert.KernelIdeal Cert.KernelIdeal.Gen Idealize.ShloMosaic Idealize.ShloMosaic.TcCoe Idealize.SL.Sem
open Idealize.ShloMosaic.Pipeline (Dat)

section Blocks

variable {F : FTy → Type} [FloatOps F]

theorem piece_at {α : Type} {off : Fin 3 → ℕ} {inb} {k h : ℕ} (e : off = ![0, 512 * k, 128 * h]) (w : S1x512x128.Idx → α)
    (y : S1x2048x512.Idx) (v : α)
    (hw : ∀ (i : Fin 512) (d : Fin 128), (y 1).val = 512 * k + i.val → (y 2).val = 128 * h + d.val → w (ix3 0 i d) = v)
    (x : S1x512x128.Idx) (hx : (Rect.unit (s := S1x2048x512) off S1x512x128.size inb).idx x = y) : w x = v := by
  subst e
  have h1 := Rect.idx_unit_val (s := S1x2048x512) ![0, 512 * k, 128 * h] S1x512x128.size inb x 1
  have h2 := Rect.idx_unit_val (s := S1x2048x512) ![0, 512 * k, 128 * h] S1x512x128.size inb x 2
  rw [hx] at h1 h2
  have ex : x = ix3 0 (x 1) (x 2) := by
    funext a
    match a with
    | 0 => exact Fin.ext (Nat.lt_one_iff.mp (x 0).isLt)
    | 1 => rfl
    | 2 => rfl
  rw [ex]
  exact hw (x 1) (x 2) h1 h2

variable (x2 x3 x4 : Vec F S1x2048x512 .bf16) (x5 : Vec F S1x4x4x512 .f32)

/-- The output's entry is the one entry of the store it lies in. -/
theorem out_at (y : S1x2048x512.Idx) (v : Elt F .bf16)
    (H : ∀ (k : Fin k0_t1_loop.trips) (h : Fin 4) (i : Fin 512) (d : Fin 128), (y 1).val = 512 * k.val + i.val →
      (y 2).val = 128 * h.val + d.val → outBlk x2 x3 x4 x5 k h (ix3 0 i d) = v) : out x2 x3 x4 x5 y = v := by
  refine View.canon_eq_of_allAt _ y v (cover x2 x3 x4 x5 y) fun p hp x hx => ?_
  obtain ⟨k, hk⟩ := of_mem_piecesTo _ _ _ _ _ _ hp
  clear hp
  have H0 := H k 0
  have H1 := H k 1
  have H2 := H k 2
  have H3 := H k 3
  clear H
  unfold pieces at hk
  generalize outBlk x2 x3 x4 x5 k 0 = b0 at hk H0
  generalize outBlk x2 x3 x4 x5 k 1 = b1 at hk H1
  generalize outBlk x2 x3 x4 x5 k 2 = b2 at hk H2
  generalize outBlk x2 x3 x4 x5 k 3 = b3 at hk H3
  simp only [List.mem_cons, List.not_mem_nil, or_false] at hk
  rcases hk with rfl | rfl | rfl | rfl
  · exact piece_at (inb := k0_off4_inb k) (off4_eq k) b3 y v H3 x hx
  · exact piece_at (inb := k0_off3_inb k) (off3_eq k) b2 y v H2 x hx
  · exact piece_at (inb := k0_off2_inb k) (off2_eq k) b1 y v H1 x hx
  · exact piece_at (inb := k0_off1_inb k) (off1_eq k) b0 y v H0 x hx

end Blocks

/-- The windows' block indices: batch row, group of four heads. -/
theorem idx : ∀ t : Fin cfg0.N, (cfg0.win 0).index t = ![(grid0.coords t 0).val, 0, (grid0.coords t 1).val]
    ∧ (cfg0.win 1).index t = ![(grid0.coords t 0).val, 0, 4 + (grid0.coords t 1).val]
    ∧ (cfg0.win 2).index t = ![(grid0.coords t 0).val, 0, 8 + (grid0.coords t 1).val]
    ∧ (cfg0.win 3).index t = ![(grid0.coords t 0).val, (grid0.coords t 1).val, 0, 0]
    ∧ (cfg0.win 4).index t = ![(grid0.coords t 0).val, 0, (grid0.coords t 1).val] := by
  decide +kernel

section Arrays

variable {F : FTy → Type} [FloatOps F]
variable (m : (ℓ : Loc nD τ sig) → Buf (Elt F) ℓ) (ρ : Dev nD → PrngReg)

/-- The run with the result array named, the arguments unchanged. -/
theorem run_blocks : θ_run defs (onTc (τ := τ) (main (F := F))) ⟨m, fun _ => 0, ρ⟩ fun r => ∀ c : Dev nD,
      r.2.mem ((c : Thread nD τ).loc main_v1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 4,
      ((h c).1 2).trans (((dats m 0 c).arrAt_in 2 rfl _).trans ((A_eq m c 2).trans (V_main_arg0 m c))),
      ((h c).2 main_arg1 (Pipeline.mem_restRefs_of main_arg1 (by decide) (by decide))).trans (V_main_arg1 m c)⟩)
    (run_main m ρ)

/-- The biases as the host regroups them. -/
theorem biases (c : Dev nD) : V m c main_v0
    = shapeCast S8x16x4x512 (m ((c : Thread nD τ).loc main_arg1)) shapeCasts_S8x16x2048_S8x16x4x512 := by
  unfold V
  after_results <;> rfl

end Arrays

variable (m : (ℓ : Loc nD τ sig) → Buf (Elt Ideal) ℓ)

theorem q_at (c : Dev nD) (t : Fin cfg0.N) (s : Fin 2048) (e : Fin 512) (b : Fin 8) (i : Fin 10240)
    (hb : b.val = (grid0.coords t 0).val) (hi : i.val = (grid0.coords t 1).val * 512 + e.val) :
    iblk m c 0 t (ix3 0 s e) = m ((c : Thread nD τ).loc main_arg0) (ix3 b s i) := by
  refine Eq.trans ?_ (congrFun (V_main_arg0 m c) (ix3 b s i))
  blk_ext! [iblk, idx t, hi, hb]

theorem k_at (c : Dev nD) (t : Fin cfg0.N) (s : Fin 2048) (e : Fin 512) (b : Fin 8) (i : Fin 10240)
    (hb : b.val = (grid0.coords t 0).val) (hi : i.val = (4 + (grid0.coords t 1).val) * 512 + e.val) :
    iblk m c 1 t (ix3 0 s e) = m ((c : Thread nD τ).loc main_arg0) (ix3 b s i) := by
  refine Eq.trans ?_ (congrFun (V_main_arg0 m c) (ix3 b s i))
  blk_ext! [iblk, idx t, hi, hb]

theorem v_at (c : Dev nD) (t : Fin cfg0.N) (s : Fin 2048) (e : Fin 512) (b : Fin 8) (i : Fin 10240)
    (hb : b.val = (grid0.coords t 0).val) (hi : i.val = (8 + (grid0.coords t 1).val) * 512 + e.val) :
    iblk m c 2 t (ix3 0 s e) = m ((c : Thread nD τ).loc main_arg0) (ix3 b s i) := by
  refine Eq.trans ?_ (congrFun (V_main_arg0 m c) (ix3 b s i))
  blk_ext! [iblk, idx t, hi, hb]

theorem bias_apply (neg : FVec Ideal S8x16x2048 .f32) (b : Fin 8) (g : Fin 16) (n : Fin 4) (j : Fin 512) (s : Fin 2048)
    (hs : s.val = n.val * 512 + j.val) :
    (shapeCast S8x16x4x512 neg shapeCasts_S8x16x2048_S8x16x4x512 : FVec Ideal S8x16x4x512 .f32) (ix4 b g n j) = neg (ix3 b g s) := by
  obtain ⟨s, h⟩ := s
  dsimp only at hs
  subst hs
  pointwise

theorem b_at (c : Dev nD) (t : Fin cfg0.N) (h n : Fin 4) (j : Fin 512) (b : Fin 8) (g : Fin 16) (s : Fin 2048)
    (hb : b.val = (grid0.coords t 0).val) (hg : g.val = (grid0.coords t 1).val * 4 + h.val) (hs : s.val = n.val * 512 + j.val) :
    iblk m c 3 t (ix4 0 h n j) = m ((c : Thread nD τ).loc main_arg1) (ix3 b g s) := by
  refine Eq.trans ?_ ((congrFun (biases m c) (ix4 b g n j)).trans (bias_apply _ b g n j s hs))
  blk_ext! [iblk, idx t, hg, hb]

end Cert.Proof.Fox

end
-- ==== Proof.Fox.Ref.lean ====
/- The reference's term of the attention at an index: the softmax-weighted sum of the values, a masked score −∞. -/
module

public import proofs.«01_k».proof.Proof.Fox.Math
public import proofs.«01_k».proof.Proof.Gen.ReferenceIdeal.Run
public import Idealize.ShloMosaic.Lib.WordCmp
public import Idealize.ShloMosaic.Lib.Pointwise

@[expose] public section

set_option maxRecDepth 16384

noncomputable section

namespace Cert.Proof.Fox

open Idealize.ShloMosaic Idealize.ShloMosaic.TcCoe
open Cert.ReferenceIdeal Cert.ReferenceIdeal.Gen

/-- The reference's masked scores. -/
def SC (z : FVec Ideal S8x2048x10240 .bf16) (neg : FVec Ideal S8x16x2048 .f32) : FVec Ideal S8x16x2048x2048 .f32 :=
  select (broadcastInDim S8x16x2048x2048 ![2, 3] bcast_S2048x2048_S8x16x2048x2048_2_3 (cmpi .sge (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0))))) (subf (addf (mulf (Host.dotGeneral dot_S8x2048x16x128_S8x2048x16x128_S8x16x2048x2048_3_3_1_1_02_02 none (shapeCast _ (extractStridedSlice S8x2048x2048 ![0, 0, 0] (extf .f32 z bitsLt_bf16_f32) slices_S8x2048x10240_S8x2048x2048_0_0_0) shapeCasts_S8x2048x2048_S8x2048x16x128) (shapeCast _ (extractStridedSlice S8x2048x2048 ![0, 0, 2048] (extf .f32 z bitsLt_bf16_f32) slices_S8x2048x10240_S8x2048x2048_0_0_2048) shapeCasts_S8x2048x2048_S8x2048x16x128)) (broadcastInDim S8x16x2048x2048 ![] bcast_S_S8x16x2048x2048 (constant S_ .f32 0x3DB504F3#32))) (broadcastInDim S8x16x2048x2048 ![0, 1, 2, 3] bcast_S8x16x2048x1_S8x16x2048x2048_0_1_2_3 (broadcastInDim S8x16x2048x1 ![0, 1, 2] bcast_S8x16x2048_S8x16x2048x1_0_1_2 (Host.negf neg)))) (broadcastInDim S8x16x2048x2048 ![0, 1, 2, 3] bcast_S8x16x1x2048_S8x16x2048x2048_0_1_2_3 (broadcastInDim S8x16x1x2048 ![0, 1, 3] bcast_S8x16x2048_S8x16x1x2048_0_1_3 (Host.negf neg)))) (broadcastInDim S8x16x2048x2048 ![] bcast_S_S8x16x2048x2048 (id (constant S_ .f32 0xFF800000#32)))

/-- Their maxima over the keys. -/
def MX (z : FVec Ideal S8x2048x10240 .bf16) (neg : FVec Ideal S8x16x2048 .f32) : FVec Ideal S8x16x2048 .f32 :=
  maximumf (broadcastInDim S8x16x2048 ![] bcast_S_S8x16x2048 (constant S_ .f32 0xFF800000#32)) (Host.reduce FloatOps.maximumf (SC z neg) (constant S_ .f32 0xFF800000#32) reducesTo_S8x16x2048x2048_S8x16x2048_d3 h_S_)

/-- The exponentials. -/
def EX (z : FVec Ideal S8x2048x10240 .bf16) (neg : FVec Ideal S8x16x2048 .f32) : FVec Ideal S8x16x2048x2048 .f32 :=
  Host.exp (subf (SC z neg) (broadcastInDim S8x16x2048x2048 ![0, 1, 2, 3] bcast_S8x16x2048x1_S8x16x2048x2048_0_1_2_3 (broadcastInDim S8x16x2048x1 ![0, 1, 2] bcast_S8x16x2048_S8x16x2048x1_0_1_2 (MX z neg))))

/-- The reference's term over the arguments. -/
def REF (z : FVec Ideal S8x2048x10240 .bf16) (neg : FVec Ideal S8x16x2048 .f32) : FVec Ideal S8x2048x2048 .bf16 :=
  truncf .bf16 (shapeCast _ (transpose S8x2048x16x128 [0, 3, 1, 2] (Host.dotGeneral dot_S8x2048x16x128_S8x16x2048x2048_S8x16x128x2048_1_3_3_2_02_01 none (shapeCast _ (extractStridedSlice S8x2048x2048 ![0, 0, 4096] (extf .f32 z bitsLt_bf16_f32) slices_S8x2048x10240_S8x2048x2048_0_0_4096) shapeCasts_S8x2048x2048_S8x2048x16x128) (Host.divf (EX z neg) (broadcastInDim S8x16x2048x2048 ![0, 1, 2, 3] bcast_S8x16x2048x1_S8x16x2048x2048_0_1_2_3 (broadcastInDim S8x16x2048x1 ![0, 1, 2] bcast_S8x16x2048_S8x16x2048x1_0_1_2 (Host.reduceAdd (EX z neg) (constant S_ .f32 0x00000000#32) reducesTo_S8x16x2048x2048_S8x16x2048_d3 h_S_))))) transposes_S8x16x128x2048_S8x2048x16x128_0_3_1_2) shapeCasts_S8x2048x16x128_S8x2048x2048) bitsLt_bf16_f32

theorem negInf : Ideal.ofBits .f32 0xFF800000#32 = ⊥ := by simp [Ideal.ofBits, Ideal.ieee]

/-- The score of key `s` for query `t` without the query's own bias, −∞ past the query. -/
def score (z : FVec Ideal S8x2048x10240 .bf16) (neg : FVec Ideal S8x16x2048 .f32) (b : Fin 8) (g : Fin 16) (t : Fin 2048) (s : ℕ) : EReal :=
  if s ≤ t.val then
    (∑ e : Fin 128, (z (ix3 b t ⟨g.val * 128 + e.val, by omega⟩) : EReal) * z (ix3 b (Fin.ofNat 2048 s) ⟨2048 + (g.val * 128 + e.val), by omega⟩))
      * Ideal.ofBits .f32 0x3DB504F3#32 + neg (ix3 b g (Fin.ofNat 2048 s))
  else ⊥

theorem sge_one (a b : ℕ) (ha : a < 2048) (hb : b < 2048) :
    IntOp.cmpi CmpIPredicate.sge (BitVec.ofNat 32 a) (BitVec.ofNat 32 b) = 1#1 ↔ b ≤ a := by
  exact WordCmp.cmpi_sge_ofNat_eq_one_iff (lt_trans ha (by decide)) (lt_trans hb (by decide))

theorem sge_zero (a b : ℕ) (ha : a < 2048) (hb : b < 2048) :
    IntOp.cmpi CmpIPredicate.sge (BitVec.ofNat 32 a) (BitVec.ofNat 32 b) = 0#1 ↔ a < b := by
  rw [← Nat.not_le]
  exact WordCmp.cmpi_sge_ofNat_eq_zero_iff (lt_trans ha (by decide)) (lt_trans hb (by decide))

theorem SC_at (z : FVec Ideal S8x2048x10240 .bf16) (neg : FVec Ideal S8x16x2048 .f32) (b : Fin 8) (g : Fin 16) (t s : Fin 2048) :
    SC z neg (ix4 b g t s) = score z neg b g t s.val + -(neg (ix3 b g t) : EReal) := by
  have hs : Fin.ofNat 2048 s.val = s := Fin.ext (Nat.mod_eq_of_lt s.isLt)
  unfold score
  rw [hs]
  pointwise [SC]
  have hn : (id (constant S_ FTy.f32 4286578688#32 : FVec Ideal S_ .f32) ix0 : EReal) = ⊥ := negInf
  rw [hn]
  by_cases h : s.val ≤ t.val
  · rw [if_pos h, show IntOp.cmpi CmpIPredicate.sge (BitVec.ofNat 32 t.val) (BitVec.ofNat 32 s.val) = 1#1 from
      (sge_one _ _ t.isLt s.isLt).mpr h]
    refine (?_ : (_ : EReal) = _)
    show (_ : EReal) + -_ - -_ = _
    rw [sub_eq_add_neg, neg_neg, add_right_comm]
  · rw [if_neg h, show IntOp.cmpi CmpIPredicate.sge (BitVec.ofNat 32 t.val) (BitVec.ofNat 32 s.val) = 0#1 from
      (sge_zero _ _ t.isLt s.isLt).mpr (Nat.lt_of_not_le h), EReal.bot_add]
    rfl

/-- A maximum over the last axis from −∞, over any extents. -/
theorem reduce_max_bot {n0 n1 n2 n3 : Nat} (x : FVec Ideal ⟨4, ![n0, n1, n2, n3]⟩ .f32)
    (h : (⟨4, ![n0, n1, n2, n3]⟩ : Shape).ReducesTo [3] ⟨3, ![n0, n1, n2]⟩) (hu : 0 < S_.numel) (b : Fin n0) (g : Fin n1) (t : Fin n2) :
    Host.reduce FloatOps.maximumf x (constant S_ .f32 0xFF800000#32 : FVec Ideal S_ .f32) h hu (ix3 b g t)
      = Finset.univ.fold (max : EReal → EReal → EReal) ⊥ (fun s : Fin n3 => (x (ix4 b g t s) : EReal)) := by
  rw [Host.reduce_eq_fold, Shape.ReducesTo.fold_fiber_r4_a3]
  exact congrArg (fun i => Finset.univ.fold (max : EReal → EReal → EReal) i (fun s : Fin n3 => (x (ix4 b g t s) : EReal))) negInf

theorem max_bot_at (y : FVec Ideal S8x16x2048 .f32) (b : Fin 8) (g : Fin 16) (t : Fin 2048) :
    maximumf (broadcastInDim S8x16x2048 ![] bcast_S_S8x16x2048 (constant S_ .f32 0xFF800000#32)) y (ix3 b g t) = y (ix3 b g t) := by
  pointwise
  rw [negInf]
  exact max_eq_right bot_le

theorem MX_at (z : FVec Ideal S8x2048x10240 .bf16) (neg : FVec Ideal S8x16x2048 .f32) (b : Fin 8) (g : Fin 16) (t : Fin 2048) :
    MX z neg (ix3 b g t) = Finset.univ.fold max ⊥ (fun s : Fin 2048 => (SC z neg (ix4 b g t s) : EReal)) :=
  (max_bot_at _ b g t).trans (reduce_max_bot (SC z neg) _ _ b g t)

theorem EX_at (z : FVec Ideal S8x2048x10240 .bf16) (neg : FVec Ideal S8x16x2048 .f32) (b : Fin 8) (g : Fin 16) (t s : Fin 2048) :
    EX z neg (ix4 b g t s) = Ideal.exp ((SC z neg (ix4 b g t s) : EReal) - MX z neg (ix3 b g t)) := by
  pointwise [EX]

theorem REF_at (z : FVec Ideal S8x2048x10240 .bf16) (neg : FVec Ideal S8x16x2048 .f32) (b : Fin 8) (t c : Fin 2048) :
    REF z neg (ix3 b t c) = ∑ s : Fin 2048, (z (ix3 b s ⟨4096 + c.val, by omega⟩) : EReal)
      * Ideal.div (EX z neg (ix4 b ⟨c.val / 128, by omega⟩ t s)) (∑ u : Fin 2048, (EX z neg (ix4 b ⟨c.val / 128, by omega⟩ t u) : EReal)) := by
  pointwise [REF]

theorem res_eq (m : (ℓ : Loc nD τ sig) → Buf (Elt Ideal) ℓ) (c : Dev nD) :
    Value.res_main_v38 m c = REF (m ((c.tc : Thread nD τ).loc main_arg0)) (m ((c.tc : Thread nD τ).loc main_arg1)) := by
  rfl

end Cert.Proof.Fox

end
-- ==== Proof.Fox.Value.lean ====
/- The attention's value: what the kernel leaves in the result array is the reference's softmax-weighted sum. -/
module

public import proofs.«01_k».proof.Proof.Fox.Finite
public import proofs.«01_k».proof.Proof.Fox.Head
public import proofs.«01_k».proof.Proof.Fox.Point
public import proofs.«01_k».proof.Proof.Fox.Ref

@[expose] public section

set_option maxRecDepth 16384

noncomputable section

namespace Cert.Proof.Fox

open Cert.KernelIdeal Cert.KernelIdeal.Gen Idealize.ShloMosaic Idealize.ShloMosaic.TcCoe Idealize.SL.Sem
open Idealize.ShloMosaic.Pipeline (Dat)

theorem real_add {x y : EReal} (hx : ∃ r : ℝ, x = (r : EReal)) (hy : ∃ r : ℝ, y = (r : EReal)) : ∃ r : ℝ, x + y = (r : EReal) := by
  obtain ⟨a, rfl⟩ := hx
  obtain ⟨b, rfl⟩ := hy
  exact ⟨a + b, rfl⟩

theorem real_mul {x y : EReal} (hx : ∃ r : ℝ, x = (r : EReal)) (hy : ∃ r : ℝ, y = (r : EReal)) : ∃ r : ℝ, x * y = (r : EReal) := by
  obtain ⟨a, rfl⟩ := hx
  obtain ⟨b, rfl⟩ := hy
  exact ⟨a * b, (EReal.coe_mul a b).symm⟩

theorem real_sum {n : ℕ} (f : Fin n → EReal) (h : ∀ e, ∃ r : ℝ, f e = (r : EReal)) : ∃ r : ℝ, ∑ e, f e = (r : EReal) :=
  Finset.sum_induction f (fun x => ∃ r : ℝ, x = (r : EReal)) (fun _ _ => real_add) ⟨0, rfl⟩ fun e _ => h e

/-- The scale of the scores is real. -/
theorem scale_real : ∃ r : ℝ, Ideal.ofBits .f32 0x3DB504F3#32 = (r : EReal) := by
  show ∃ r : ℝ, Ideal.ieee 8 23 0x3DB504F3#32 = (r : EReal)
  unfold Ideal.ieee
  dsimp only
  rw [if_neg (by decide), if_neg (by decide)]
  exact ⟨_, rfl⟩

section Scores

variable (z : FVec Ideal S8x2048x10240 .bf16) (neg : FVec Ideal S8x16x2048 .f32)
  (hz : ∀ (b : Fin 8) (s : Fin 2048) (i : Fin 4096), ∃ r : ℝ, (z (ix3 b s ⟨i.val, by omega⟩) : EReal) = (r : EReal))
  (hn : ∀ (b : Fin 8) (g : Fin 16) (s : Fin 2048), ∃ r : ℝ, (neg (ix3 b g s) : EReal) = (r : EReal))

include hz hn

theorem score_real (b : Fin 8) (g : Fin 16) (t : Fin 2048) (s : ℕ) (h : s ≤ t.val) : ∃ r : ℝ, score z neg b g t s = (r : EReal) := by
  unfold score
  rw [if_pos h]
  exact real_add (real_mul (real_sum _ fun e => real_mul (hz b t ⟨g.val * 128 + e.val, by omega⟩)
    (hz b _ ⟨2048 + (g.val * 128 + e.val), by omega⟩)) scale_real) (hn b g _)

theorem score_ne_top (b : Fin 8) (g : Fin 16) (t : Fin 2048) (s : ℕ) : score z neg b g t s ≠ ⊤ := by
  by_cases h : s ≤ t.val
  · obtain ⟨r, e⟩ := score_real z neg hz hn b g t s h
    rw [e]; exact EReal.coe_ne_top r
  · unfold score; rw [if_neg h]; exact bot_ne_top

theorem score_zero (b : Fin 8) (g : Fin 16) (t : Fin 2048) : score z neg b g t 0 ≠ ⊥ := by
  obtain ⟨r, e⟩ := score_real z neg hz hn b g t 0 (Nat.zero_le _)
  rw [e]; exact EReal.coe_ne_bot r

/-- The value of key `s` in column `c` of the output. -/
def val (b : Fin 8) (c : Fin 2048) (s : ℕ) : EReal := z (ix3 b (Fin.ofNat 2048 s) ⟨4096 + c.val, by omega⟩)

omit hz hn in
theorem score_masked (b : Fin 8) (g : Fin 16) (t : Fin 2048) (s : ℕ) (h : t.val < s) : score z neg b g t s = ⊥ := by
  unfold score; exact if_neg (Nat.not_le.mpr h)

/-- The running sums over the first `N` keys, at least the query's own, divide to the reference's entry. -/
theorem quotient_ref (b : Fin 8) (g : Fin 16) (t c : Fin 2048) (hg : g.val = c.val / 128) (N : ℕ) (ht : t.val < N) (hN : N ≤ 2048) :
    Ideal.div (num (score z neg b g t) (val z b c) N (top (score z neg b g t) N)) (den (score z neg b g t) N (top (score z neg b g t) N))
      = REF z neg (ix3 b t c) := by
  obtain ⟨r, hr⟩ := hn b g t
  have hc : -(neg (ix3 b g t) : EReal) = ((-r : ℝ) : EReal) := by rw [hr]; rfl
  have eg : (⟨c.val / 128, by omega⟩ : Fin 16) = g := Fin.ext hg.symm
  rw [quotient (score z neg b g t) (val z b c) (-r) N 2048 hN (score_ne_top z neg hz hn b g t)
    (fun s hs => score_masked z neg b g t s (lt_of_lt_of_le ht hs)) ⟨0, by omega, score_zero z neg hz hn b g t⟩, REF_at, eg]
  simp only [EX_at, MX_at, SC_at, hc]
  refine Finset.sum_congr (M := EReal) rfl fun s _ => congrArg (fun a : EReal => a * _) ?_
  unfold val
  rw [show Fin.ofNat 2048 s.val = s from Fin.ext (Nat.mod_eq_of_lt s.isLt)]

end Scores

variable (m : (ℓ : Loc nD τ sig) → Buf (Elt Ideal) ℓ)

theorem raw_eq (c : Dev nD) (t : Fin cfg0.N) (h : Fin 4) (b : Fin 8) (g : Fin 16) (hb : b.val = (grid0.coords t 0).val)
    (hg : g.val = (grid0.coords t 1).val * 4 + h.val) (u s : Fin 2048) (hs : s.val ≤ u.val) :
    score (m ((c : Thread nD τ).loc main_arg0)) (m ((c : Thread nD τ).loc main_arg1)) b g u s.val
      = raw (iblk m c 0 t) (iblk m c 1 t) (iblk m c 3 t) h u s := by
  unfold score raw
  rw [if_pos hs, show Fin.ofNat 2048 s.val = s from Fin.ext (Nat.mod_eq_of_lt s.isLt)]
  refine congrArg₂ (fun x y : EReal => x + y) (congrArg (fun x : EReal => x * _) (Finset.sum_congr (M := EReal) rfl fun e _ =>
    congrArg₂ (fun x y : EReal => x * y) (q_at m c t u _ b _ hb ?_).symm (k_at m c t s _ b _ hb ?_).symm))
    (b_at m c t h _ _ b g s hb hg ?_).symm
  · show g.val * 128 + e.val = (grid0.coords t 1).val * 512 + (128 * h.val + e.val); omega
  · show 2048 + (g.val * 128 + e.val) = (4 + (grid0.coords t 1).val) * 512 + (128 * h.val + e.val); omega
  · show s.val = s.val / 512 * 512 + s.val % 512; omega

theorem emb_out (t : Fin cfg0.N) (y : S1x2048x512.Idx) (b : Fin 8) (u i : Fin 2048) (hb : b.val = (grid0.coords t 0).val)
    (hu : u.val = (y 1).val) (hi : i.val = (grid0.coords t 1).val * 512 + (y 2).val) :
    ((cfg0.win 4).blk t).view.emb y = ix3 b u i := by
  idx_vars y
  blk_ext! [idx t, hb, hu, hi]

theorem point (c : Dev nD) (t : Fin cfg0.N) (y : S1x2048x512.Idx)
    (hpre : Cert.Pre_finite_scores.fn (F := Ideal) (m ((c : Thread nD τ).loc main_arg0)) (m ((c : Thread nD τ).loc main_arg1)) = fun _ => 1#1) :
    out (iblk m c 0 t) (iblk m c 1 t) (iblk m c 2 t) (iblk m c 3 t) y
      = REF (m ((c : Thread nD τ).loc main_arg0)) (m ((c : Thread nD τ).loc main_arg1)) (((cfg0.win 4).blk t).view.emb y) := by
  obtain ⟨hz, hn⟩ := finite _ _ hpre
  have h0 : (grid0.coords t 0).val < 8 := (grid0.coords t 0).isLt
  have h1 : (grid0.coords t 1).val < 4 := (grid0.coords t 1).isLt
  have hy1 : (y 1).val < 2048 := (y 1).isLt
  have hy2 : (y 2).val < 512 := (y 2).isLt
  refine out_at _ _ _ _ y _ fun k h i d e1 e2 => ?_
  have hk : k.val < 4 := lt_of_lt_of_eq k.isLt trips1
  rw [emb_out t y ⟨_, h0⟩ ⟨_, hy1⟩ ⟨(grid0.coords t 1).val * 512 + (y 2).val, by omega⟩ rfl rfl rfl,
    ← quotient_ref _ _ hz hn ⟨_, h0⟩ ⟨(grid0.coords t 1).val * 4 + h.val, by omega⟩ ⟨_, hy1⟩ _
      (by show _ = ((grid0.coords t 1).val * 512 + (y 2).val) / 128; dsimp only; omega) (512 * k.val + 512)
      (by dsimp only; omega) (by omega)]
  refine outBlk_at _ _ _ _ k h i d ⟨_, hy1⟩ e1 _ _ (score_ne_top _ _ hz hn _ _ _) (score_zero _ _ hz hn _ _ _)
    (raw_eq m c t h _ _ rfl rfl _) (score_masked _ _ _ _ _) fun s => ?_
  unfold val
  rw [show Fin.ofNat 2048 s.val = s from Fin.ext (Nat.mod_eq_of_lt s.isLt)]
  refine (v_at m c t s _ _ _ rfl ?_).symm
  show 4096 + ((grid0.coords t 1).val * 512 + (y 2).val) = (8 + (grid0.coords t 1).val) * 512 + (128 * h.val + d.val)
  omega

/-- What the run leaves in the result array. -/
theorem arr (c : Dev nD)
    (hpre : Cert.Pre_finite_scores.fn (F := Ideal) (m ((c : Thread nD τ).loc main_arg0)) (m ((c : Thread nD τ).loc main_arg1)) = fun _ => 1#1) :
    (dats m 0 c).arrAt 4 cfg0.N = REF (m ((c : Thread nD τ).loc main_arg0)) (m ((c : Thread nD τ).loc main_arg1)) := by
  refine (dats m 0 c).arrAt_eq_of_covers 4 _ (by decide +kernel) fun t hf y => ?_
  blk_simp
  rw [after_4]
  exact point m c t y hpre

end Cert.Proof.Fox

end
-- ==== Proof.Fox.Claims.lean ====
/- The attention's claims: the frames of the kernel, of its idealization and of the reference, and the equality of
   their results under the precondition. -/
module

public import proofs.«01_k».proof.Proof.Fox.Value
public import proofs.«01_k».proof.Proof.Gen.Kernel
public import Idealize.ShloMosaic.Lib.StableHlo.RunHlo

@[expose] public section

set_option maxRecDepth 16384

noncomputable section

namespace Cert.Proof.Fox

open Idealize.ShloMosaic Idealize.SL.Sem

/-- The program as printed and its idealization have one table of bodies. -/
theorem bodies_eq : Cert.Kernel.defs₀ (F := Bits) = Cert.KernelIdeal.defs₀ (F := Bits) := by
  unfold Cert.Kernel.defs₀ Cert.KernelIdeal.defs₀
  refine congrArg Defs.onTc ?_
  funext a b
  match a, b with
  | 0, (t, s) =>
    show Cert.Kernel.cc0_fox_attention _ _ _ _ _ _ _ _ _ _ _ = Cert.KernelIdeal.cc0_fox_attention _ _ _ _ _ _ _ _ _ _ _
    rfl

theorem defs_eq : Cert.Kernel.defs (F := Bits) = Cert.KernelIdeal.defs (F := Bits) :=
  congrArg (Pipeline.defs Cert.Kernel.pcfgs) bodies_eq

theorem frame_kernel : Cert.quiescent_Kernel := fun m ρ _ =>
  Eq.mpr (congrArg (fun d => θ_run d (onTc (τ := Cert.Kernel.τ) (Cert.Kernel.main (F := Bits))) ⟨m, fun _ => 0, ρ⟩ _) defs_eq)
    (frame_any (F := Bits) m ρ)

theorem frame_ideal : Cert.quiescent_KernelIdeal := fun m ρ _ => frame_any (F := Ideal) m ρ

theorem frame_ideal_pre : Cert.quiescent_KernelIdeal_pre_finite_scores := fun m ρ _ => frame_any (F := Ideal) m ρ

theorem frame_reference : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run m ρ)

theorem frame_reference_pre : Cert.quiescent_ReferenceIdeal_pre_finite_scores := fun m ρ _ => frame_reference m ρ trivial

theorem algebraic : Cert.algebraic_KernelIdeal_ReferenceIdeal_pre_finite_scores := by
  pair_intro
  · run_from run_blocks m g
  · run_from Cert.ReferenceIdeal.Value.run m' g'
    rw [arr m c (hpre c)]
    exact (res_eq m' c).trans (by rw [(hagree c).1, (hagree c).2])

end Cert.Proof.Fox

end
-- ==== Proof.lean ====
module

public import proofs.«01_k».proof.Defs
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.V.ShortConv
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.V.OddOut
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.V.InProj
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.V.EvenOut
public import proofs.«01_k».proof.Proof.Moe.Claims
public import proofs.«01_k».proof.Proof.Moe.Value
public import proofs.«01_k».proof.Proof.Gen.Reference6Ideal.Run
public import proofs.«01_k».proof.Proof.Moe1.Claims
public import proofs.«01_k».proof.Proof.Moe1.Value
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Reference11Ideal.Run
public import proofs.«01_k».proof.Proof.V.EvenPrep
public import proofs.«01_k».proof.Proof.V.Ada
public import proofs.«01_k».proof.Proof.V.Small
public import proofs.«01_k».proof.Proof.V.NormMod
public import proofs.«01_k».proof.Proof.Fox.Claims
public import Idealize.ShloMosaic.Lib.Claim
public import Idealize.ShloMosaic.Lib.StableHlo.RunHlo

@[expose] public section

set_option maxRecDepth 16384

namespace Cert.Proof

open Idealize.ShloMosaic Idealize.SL.Sem

theorem frame_reference2 : Cert.quiescent_Reference2Ideal := by
  intro m ρ _
  exact (θ_run Cert.Reference2Ideal.defs _ _).mono (fun r h => ⟨fun c => (h c).2, sem_eq_zero_of_no_sems (by decide) r.2⟩)
    (Cert.Reference2Ideal.Value.run m ρ)

theorem frame_reference3 : Cert.quiescent_Reference3Ideal := by
  intro m ρ _
  exact (θ_run Cert.Reference3Ideal.defs _ _).mono (fun r h => ⟨fun c => (h c).2, sem_eq_zero_of_no_sems (by decide) r.2⟩)
    (Cert.Reference3Ideal.Value.run m ρ)

theorem frame_reference4 : Cert.quiescent_Reference4Ideal := by
  intro m ρ _
  exact (θ_run Cert.Reference4Ideal.defs _ _).mono (fun r h => ⟨fun c => (h c).2, sem_eq_zero_of_no_sems (by decide) r.2⟩)
    (Cert.Reference4Ideal.Value.run m ρ)

theorem frame_reference5 : Cert.quiescent_Reference5Ideal := by
  intro m ρ _
  exact (θ_run Cert.Reference5Ideal.defs _ _).mono (fun r h => ⟨fun c => (h c).2, sem_eq_zero_of_no_sems (by decide) r.2⟩)
    (Cert.Reference5Ideal.Value.run m ρ)

theorem frame_reference8 : Cert.quiescent_Reference8Ideal := by
  intro m ρ _
  exact (θ_run Cert.Reference8Ideal.defs _ _).mono (fun r h => ⟨fun c => (h c).2, sem_eq_zero_of_no_sems (by decide) r.2⟩)
    (Cert.Reference8Ideal.Value.run m ρ)

theorem frame_reference9 : Cert.quiescent_Reference9Ideal := by
  intro m ρ _
  exact (θ_run Cert.Reference9Ideal.defs _ _).mono (fun r h => ⟨fun c => (h c).2, sem_eq_zero_of_no_sems (by decide) r.2⟩)
    (Cert.Reference9Ideal.Value.run m ρ)

theorem frame_reference10 : Cert.quiescent_Reference10Ideal := by
  intro m ρ _
  exact (θ_run Cert.Reference10Ideal.defs _ _).mono (fun r h => ⟨fun c => (h c).2, sem_eq_zero_of_no_sems (by decide) r.2⟩)
    (Cert.Reference10Ideal.Value.run m ρ)

theorem frame_reference11 : Cert.quiescent_Reference11Ideal := by
  intro m ρ _
  exact (θ_run Cert.Reference11Ideal.defs _ _).mono (fun r h => ⟨fun c => (h c).2.2.2.2.2, sem_eq_zero_of_no_sems (by decide) r.2⟩)
    (Cert.Reference11Ideal.Value.run m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Fox.preFacts, Cert.Pre_routed.Gen.facts,
  Fox.frame_kernel,
  Fox.frame_ideal,
  Fox.frame_ideal_pre,
  Fox.frame_reference,
  Fox.frame_reference_pre,
  fun m ρ _ => Cert.Kernel2.Gen.frame m ρ,
  fun m ρ _ => Cert.Kernel2Ideal.Gen.frame m ρ,
  frame_reference2,
  fun m ρ _ => Cert.Kernel3.Gen.frame m ρ,
  fun m ρ _ => Cert.Kernel3Ideal.Gen.frame m ρ,
  frame_reference3,
  fun m ρ _ => Cert.Kernel4.Gen.frame m ρ,
  fun m ρ _ => Cert.Kernel4Ideal.Gen.frame m ρ,
  frame_reference4,
  fun m ρ _ => Cert.Kernel5.Gen.frame m ρ,
  fun m ρ _ => Cert.Kernel5Ideal.Gen.frame m ρ,
  frame_reference5,
  Cert.Kernel6Ideal.Moe.frame_kernel,
  Cert.Kernel6Ideal.Moe.frame_ideal,
  Cert.Kernel6Ideal.Moe.frame_reference,
  Cert.Kernel6Ideal.Moe.frame_reference_pre,
  Cert.Kernel7Ideal.Moe.frame_kernel,
  Cert.Kernel7Ideal.Moe.frame_ideal,
  Cert.Kernel7Ideal.Moe.frame_reference,
  Cert.Kernel7Ideal.Moe.frame_reference_pre,
  fun m ρ _ => Cert.Kernel8.Gen.frame m ρ,
  fun m ρ _ => Cert.Kernel8Ideal.Gen.frame m ρ,
  frame_reference8,
  fun m ρ _ => Cert.Kernel9.Gen.frame m ρ,
  fun m ρ _ => Cert.Kernel9Ideal.Gen.frame m ρ,
  frame_reference9,
  fun m ρ _ => Cert.Kernel10.Gen.frame m ρ,
  fun m ρ _ => Cert.Kernel10Ideal.Gen.frame m ρ,
  frame_reference10,
  fun m ρ _ => Cert.Kernel11.Gen.frame m ρ,
  fun m ρ _ => Cert.Kernel11Ideal.Gen.frame m ρ,
  frame_reference11,
  trivial,
  Fox.algebraic,
  trivial,
  ShortConv.algebraic,
  trivial,
  OddOut.algebraic,
  trivial,
  InProj.algebraic,
  trivial,
  EvenOut.algebraic,
  trivial,
  Experts.algebraic,
  trivial,
  Experts1.algebraic,
  trivial,
  Ada.algebraic,
  trivial,
  Small.algebraic,
  trivial,
  NormMod.algebraic,
  trivial,
  EvenPrep.algebraic⟩

end Cert.Proof

end
